-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_with_ones_row [hPre_finite_with_ones_row : Cert.Pre_finite_with_ones_row.Facts] (m : (ℓ : Loc Cert.KernelIdeal.nD Cert.KernelIdeal.τ Cert.KernelIdeal.sig) → Buf (Elt Ideal) ℓ) : Prop :=
  ∀ c : Dev Cert.KernelIdeal.nD,
    (Cert.Pre_finite_with_ones_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_with_ones_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_with_ones_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_with_ones_row [hPre_finite_with_ones_row : Cert.Pre_finite_with_ones_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_with_ones_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_with_ones_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_with_ones_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_with_ones_row [hKernelIdeal : Cert.KernelIdeal.Facts] [hPre_finite_with_ones_row : Cert.Pre_finite_with_ones_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_with_ones_row m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_with_ones_row [hReferenceIdeal : Cert.ReferenceIdeal.Facts] [hPre_finite_with_ones_row : Cert.Pre_finite_with_ones_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_with_ones_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_with_ones_row [hKernelIdeal : Cert.KernelIdeal.Facts] [hReferenceIdeal : Cert.ReferenceIdeal.Facts] [hPre_finite_with_ones_row : Cert.Pre_finite_with_ones_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_with_ones_row m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v86) = v0 c
          ∧ r.2.mem ((c.tc : Thread Cert.Reference5Ideal.nD Cert.Reference5Ideal.τ).loc Cert.Reference5Ideal.main_v88) = v1 c
          ∧ r.2.mem ((c.tc : Thread Cert.Reference5Ideal.nD Cert.Reference5Ideal.τ).loc Cert.Reference5Ideal.main_v91) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  IdealRules.named_const.Statement Cert.Kernel6Ideal.κ "rate" .f32 0xC138AA3B#32 (((-8) * (Real.log 2)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v82) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_with_ones_row : Cert.Pre_finite_with_ones_row.Facts),
    quiescent_Kernel (hKernel := hKernel)
    ∧ quiescent_KernelIdeal (hKernelIdeal := hKernelIdeal)
    ∧ quiescent_KernelIdeal_pre_finite_with_ones_row (hKernelIdeal := hKernelIdeal) (hPre_finite_with_ones_row := hPre_finite_with_ones_row)
    ∧ quiescent_ReferenceIdeal (hReferenceIdeal := hReferenceIdeal)
    ∧ quiescent_ReferenceIdeal_pre_finite_with_ones_row (hReferenceIdeal := hReferenceIdeal) (hPre_finite_with_ones_row := hPre_finite_with_ones_row)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_with_ones_row (hKernelIdeal := hKernelIdeal) (hReferenceIdeal := hReferenceIdeal) (hPre_finite_with_ones_row := hPre_finite_with_ones_row)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_with_ones_row.lean ====
abbrev S1024x33280 : Shape := ⟨2, ![1024, 33280]⟩
abbrev S130x256x256 : Shape := ⟨3, ![130, 256, 256]⟩
abbrev S4x130x80x256 : Shape := ⟨4, ![4, 130, 80, 256]⟩
abbrev S_ : Shape := ⟨0, ![]⟩
abbrev S4x130x1x256 : Shape := ⟨4, ![4, 130, 1, 256]⟩

class Facts : Prop where
  bitsLt_bf16_f32 : FTy.bits .bf16 < FTy.bits .f32
  bcast_S_S1024x33280 : S_.BroadcastsInDim S1024x33280 (![] : Fin 0 → Fin S1024x33280.rank)
  bcast_S_S130x256x256 : S_.BroadcastsInDim S130x256x256 (![] : Fin 0 → Fin S130x256x256.rank)
  slices_S4x130x80x256_S4x130x1x256_0_0_64_0 : S4x130x80x256.Slices ![0, 0, 64, 0] S4x130x1x256
  bcast_S_S4x130x1x256 : S_.BroadcastsInDim S4x130x1x256 (![] : Fin 0 → Fin S4x130x1x256.rank)

variable [Facts]

def fn {F : FTy → Type} [FloatOps F] (main_arg0 : FVec F S1024x33280 .bf16) (main_arg1 : FVec F S130x256x256 .bf16) (main_arg2 : FVec F S4x130x80x256 .bf16) : IVec S1024x33280 1 × IVec S130x256x256 1 × IVec S4x130x1x256 1 :=
  let main_v0 : FVec F S1024x33280 .f32 := (extf .f32 · bitsLt_bf16_f32) main_arg0
  let main_v1 : FVec F S1024x33280 .f32 := Host.absf main_v0
  let main_cst : FVec F S_ .f32 := constant S_ .f32 0x7F800000#32
  let main_v2 : FVec F S1024x33280 .f32 := broadcastInDim S1024x33280 ![] bcast_S_S1024x33280 main_cst
  let main_v3 : IVec S1024x33280 1 := cmpf .olt main_v1 main_v2
  let main_v4 : FVec F S130x256x256 .f32 := (extf .f32 · bitsLt_bf16_f32) main_arg1
  let main_v5 : FVec F S130x256x256 .f32 := Host.absf main_v4
  let main_cst_0 : FVec F S_ .f32 := constant S_ .f32 0x7F800000#32
  let main_v6 : FVec F S130x256x256 .f32 := broadcastInDim S130x256x256 ![] bcast_S_S130x256x256 main_cst_0
  let main_v7 : IVec S130x256x256 1 := cmpf .olt main_v5 main_v6
  let main_v8 : FVec F S4x130x1x256 .bf16 := (extractStridedSlice S4x130x1x256 ![0, 0, 64, 0] · slices_S4x130x80x256_S4x130x1x256_0_0_64_0) main_arg2
  let main_v9 : FVec F S4x130x1x256 .f32 := (extf .f32 · bitsLt_bf16_f32) main_v8
  let main_cst_1 : FVec F S_ .f32 := constant S_ .f32 0x3F800000#32
  let main_v10 : FVec F S4x130x1x256 .f32 := broadcastInDim S4x130x1x256 ![] bcast_S_S4x130x1x256 main_cst_1
  let main_v11 : IVec S4x130x1x256 1 := cmpf .oeq main_v9 main_v10
  (main_v3, main_v7, main_v11)
-- ==== Kernel.lean ====
abbrev S1024x33280 : Shape := ⟨2, ![1024, 33280]⟩
abbrev S130x256x256 : Shape := ⟨3, ![130, 256, 256]⟩
abbrev S4x130x80x256 : Shape := ⟨4, ![4, 130, 80, 256]⟩
abbrev S33280x1024 : Shape := ⟨2, ![33280, 1024]⟩
abbrev S256x3328 : Shape := ⟨2, ![256, 3328]⟩
abbrev S65x256x256 : Shape := ⟨3, ![65, 256, 256]⟩
abbrev S1x65x80x256 : Shape := ⟨4, ![1, 65, 80, 256]⟩
abbrev S3328x256 : Shape := ⟨2, ![3328, 256]⟩
abbrev S52x256x256 : Shape := ⟨3, ![52, 256, 256]⟩
abbrev S16x80x1024 : Shape := ⟨3, ![16, 80, 1024]⟩
abbrev S4x1024x256 : Shape := ⟨3, ![4, 1024, 256]⟩
abbrev S64x256 : Shape := ⟨2, ![64, 256]⟩
abbrev S1x64x256 : Shape := ⟨3, ![1, 64, 256]⟩
abbrev S1x1x80x256 : Shape := ⟨4, ![1, 1, 80, 256]⟩
abbrev S80x256 : Shape := ⟨2, ![80, 256]⟩
abbrev S1x80x256 : Shape := ⟨3, ![1, 80, 256]⟩
abbrev S1x256 : Shape := ⟨2, ![1, 256]⟩
abbrev S4x256x256 : Shape := ⟨3, ![4, 256, 256]⟩
abbrev S1024x256 : Shape := ⟨2, ![1024, 256]⟩
abbrev S1x256x256 : Shape := ⟨3, ![1, 256, 256]⟩
abbrev S256x256 : Shape := ⟨2, ![256, 256]⟩
abbrev S1x1024x256 : Shape := ⟨3, ![1, 1024, 256]⟩
abbrev S256 : Shape := ⟨1, ![256]⟩
abbrev S1x80x1024 : Shape := ⟨3, ![1, 80, 1024]⟩
abbrev S80x1024 : Shape := ⟨2, ![80, 1024]⟩
abbrev S1x128x256 : Shape := ⟨3, ![1, 128, 256]⟩
abbrev S128x256 : Shape := ⟨2, ![128, 256]⟩
abbrev S1x1x80x128 : Shape := ⟨4, ![1, 1, 80, 128]⟩
abbrev S80x128 : Shape := ⟨2, ![80, 128]⟩
abbrev S256x64 : Shape := ⟨2, ![256, 64]⟩

abbrev nBuf : Space → Nat
  | .hbm => 4
  | .vmem => 12
  | .smem => 0
  | _ => 0

abbrev bufTy : (tb : Table) → Fin (tcTables nBuf tb) → BufTy
  | .hbm, ⟨0, _⟩ => ⟨S1024x33280, .bf16⟩
  | .hbm, ⟨1, _⟩ => ⟨S130x256x256, .bf16⟩
  | .hbm, ⟨2, _⟩ => ⟨S4x130x80x256, .bf16⟩
  | .hbm, ⟨3, _⟩ => ⟨S33280x1024, .bf16⟩
  | .local _ .vmem, ⟨0, _⟩ => ⟨S256x3328, .bf16⟩
  | .local _ .vmem, ⟨1, _⟩ => ⟨S256x3328, .bf16⟩
  | .local _ .vmem, ⟨2, _⟩ => ⟨S65x256x256, .bf16⟩
  | .local _ .vmem, ⟨3, _⟩ => ⟨S65x256x256, .bf16⟩
  | .local _ .vmem, ⟨4, _⟩ => ⟨S1x65x80x256, .bf16⟩
  | .local _ .vmem, ⟨5, _⟩ => ⟨S1x65x80x256, .bf16⟩
  | .local _ .vmem, ⟨6, _⟩ => ⟨S3328x256, .bf16⟩
  | .local _ .vmem, ⟨7, _⟩ => ⟨S3328x256, .bf16⟩
  | .local _ .vmem, ⟨8, _⟩ => ⟨S52x256x256, .bf16⟩
  | .local _ .vmem, ⟨9, _⟩ => ⟨S16x80x1024, .bf16⟩
  | .local _ .vmem, ⟨10, _⟩ => ⟨S4x1024x256, .f32⟩
  | .local _ .vmem, ⟨11, _⟩ => ⟨S4x1024x256, .f32⟩
  | _, _ => ⟨S1024x33280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 5], ![false, false, false]⟩

def k0_mult1 (i : grid0.Coords) : BitVec 32 :=
  let arg1 : BitVec 32 := BitVec.ofNat 32 (i 1).val
  let c64_i32 : BitVec 32 := 64#32
  let v4 : BitVec 32 := Scalar.muli arg1 c64_i32
  v4
def k0_off1 (i : grid0.Coords) : Fin 3 → Nat :=
  let c0_4 : Index := 0#32
  let arg1 : BitVec 32 := BitVec.ofNat 32 (i 1).val
  let c64_i32 : BitVec 32 := 64#32
  let v4 : BitVec 32 := Scalar.muli arg1 c64_i32
  let v5 : BitVec 32 := v4
  let v7 : Index := Scalar.indexCast v5
  let c0_5 : Index := 0#32
  ![0, v7.toNat, 0]
def k0_off2 (i : grid0.Coords) : Fin 3 → Nat :=
  let c1 : Index := 1#32
  let arg1 : BitVec 32 := BitVec.ofNat 32 (i 1).val
  let c64_i32 : BitVec 32 := 64#32
  let v4 : BitVec 32 := Scalar.muli arg1 c64_i32
  let v5 : BitVec 32 := v4
  let v12 : Index := Scalar.indexCast v5
  let c0_7 : Index := 0#32
  ![1, v12.toNat, 0]
def k0_off3 (i : grid0.Coords) : Fin 3 → Nat :=
  let c2 : Index := 2#32
  let arg1 : BitVec 32 := BitVec.ofNat 32 (i 1).val
  let c64_i32 : BitVec 32 := 64#32
  let v4 : BitVec 32 := Scalar.muli arg1 c64_i32
  let v5 : BitVec 32 := v4
  let v17 : Index := Scalar.indexCast v5
  let c0_9 : Index := 0#32
  ![2, v17.toNat, 0]
def k0_off4 (i : grid0.Coords) : Fin 3 → Nat :=
  let c3 : Index := 3#32
  let arg1 : BitVec 32 := BitVec.ofNat 32 (i 1).val
  let c64_i32 : BitVec 32 := 64#32
  let v4 : BitVec 32 := Scalar.muli arg1 c64_i32
  let v5 : BitVec 32 := v4
  let v22 : Index := Scalar.indexCast v5
  let c0_11 : Index := 0#32
  ![3, v22.toNat, 0]
def k0_off5 (i : grid0.Coords) : Fin 3 → Nat :=
  let c4 : Index := 4#32
  let arg1 : BitVec 32 := BitVec.ofNat 32 (i 1).val
  let c64_i32 : BitVec 32 := 64#32
  let v4 : BitVec 32 := Scalar.muli arg1 c64_i32
  let v5 : BitVec 32 := v4
  let v27 : Index := Scalar.indexCast v5
  let c0_13 : Index := 0#32
  ![4, v27.toNat, 0]
def k0_off6 (i : grid0.Coords) : Fin 3 → Nat :=
  let c5 : Index := 5#32
  let arg1 : BitVec 32 := BitVec.ofNat 32 (i 1).val
  let c64_i32 : BitVec 32 := 64#32
  let v4 : BitVec 32 := Scalar.muli arg1 c64_i32
  let v5 : BitVec 32 := v4
  let v32 : Index := Scalar.indexCast v5
  let c0_16 : Index := 0#32
  ![5, v32.toNat, 0]
def k0_off7 (i : grid0.Coords) : Fin 3 → Nat :=
  let c6 : Index := 6#32
  let arg1 : BitVec 32 := BitVec.ofNat 32 (i 1).val
  let c64_i32 : BitVec 32 := 64#32
  let v4 : BitVec 32 := Scalar.muli arg1 c64_i32
  let v5 : BitVec 32 := v4
  let v37 : Index := Scalar.indexCast v5
  let c0_19 : Index := 0#32
  ![6, v37.toNat, 0]
def k0_off8 (i : grid0.Coords) : Fin 3 → Nat :=
  let c7 : Index := 7#32
  let arg1 : BitVec 32 := BitVec.ofNat 32 (i 1).val
  let c64_i32 : BitVec 32 := 64#32
  let v4 : BitVec 32 := Scalar.muli arg1 c64_i32
  let v5 : BitVec 32 := v4
  let v42 : Index := Scalar.indexCast v5
  let c0_22 : Index := 0#32
  ![7, v42.toNat, 0]
def k0_off9 (i : grid0.Coords) : Fin 3 → Nat :=
  let c8 : Index := 8#32
  let arg1 : BitVec 32 := BitVec.ofNat 32 (i 1).val
  let c64_i32 : BitVec 32 := 64#32
  let v4 : BitVec 32 := Scalar.muli arg1 c64_i32
  let v5 : BitVec 32 := v4
  let v47 : Index := Scalar.indexCast v5
  let c0_24 : Index := 0#32
  ![8, v47.toNat, 0]
def k0_off10 (i : grid0.Coords) : Fin 3 → Nat :=
  let c9 : Index := 9#32
  let arg1 : BitVec 32 := BitVec.ofNat 32 (i 1).val
  let c64_i32 : BitVec 32 := 64#32
  let v4 : BitVec 32 := Scalar.muli arg1 c64_i32
  let v5 : BitVec 32 := v4
  let v52 : Index := Scalar.indexCast v5
  let c0_27 : Index := 0#32
  ![9, v52.toNat, 0]
def k0_off11 (i : grid0.Coords) : Fin 3 → Nat :=
  let c10 : Index := 10#32
  let arg1 : BitVec 32 := BitVec.ofNat 32 (i 1).val
  let c64_i32 : BitVec 32 := 64#32
  let v4 : BitVec 32 := Scalar.muli arg1 c64_i32
  let v5 : BitVec 32 := v4
  let v57 : Index := Scalar.indexCast v5
  let c0_30 : Index := 0#32
  ![10, v57.toNat, 0]
def k0_off12 (i : grid0.Coords) : Fin 3 → Nat :=
  let c11 : Index := 11#32
  let arg1 : BitVec 32 := BitVec.ofNat 32 (i 1).val
  let c64_i32 : BitVec 32 := 64#32
  let v4 : BitVec 32 := Scalar.muli arg1 c64_i32
  let v5 : BitVec 32 := v4
  let v62 : Index := Scalar.indexCast v5
  let c0_33 : Index := 0#32
  ![11, v62.toNat, 0]
def k0_off13 (i : grid0.Coords) : Fin 3 → Nat :=
  let c12 : Index := 12#32
  let arg1 : BitVec 32 := BitVec.ofNat 32 (i 1).val
  let c64_i32 : BitVec 32 := 64#32
  let v4 : BitVec 32 := Scalar.muli arg1 c64_i32
  let v5 : BitVec 32 := v4
  let v67 : Index := Scalar.indexCast v5
  let c0_35 : Index := 0#32
  ![12, v67.toNat, 0]
def k0_off14 (i : grid0.Coords) : Fin 3 → Nat :=
  let c13 : Index := 13#32
  let arg1 : BitVec 32 := BitVec.ofNat 32 (i 1).val
  let c64_i32 : BitVec 32 := 64#32
  let v4 : BitVec 32 := Scalar.muli arg1 c64_i32
  let v5 : BitVec 32 := v4
  let v72 : Index := Scalar.indexCast v5
  let c0_38 : Index := 0#32
  ![13, v72.toNat, 0]
def k0_off15 (i : grid0.Coords) : Fin 3 → Nat :=
  let c14 : Index := 14#32
  let arg1 : BitVec 32 := BitVec.ofNat 32 (i 1).val
  let c64_i32 : BitVec 32 := 64#32
  let v4 : BitVec 32 := Scalar.muli arg1 c64_i32
  let v5 : BitVec 32 := v4
  let v77 : Index := Scalar.indexCast v5
  let c0_41 : Index := 0#32
  ![14, v77.toNat, 0]
def k0_off16 (i : grid0.Coords) : Fin 3 → Nat :=
  let c15 : Index := 15#32
  let arg1 : BitVec 32 := BitVec.ofNat 32 (i 1).val
  let c64_i32 : BitVec 32 := 64#32
  let v4 : BitVec 32 := Scalar.muli arg1 c64_i32
  let v5 : BitVec 32 := v4
  let v82 : Index := Scalar.indexCast v5
  let c0_44 : Index := 0#32
  ![15, v82.toNat, 0]
def k0_off17 (i : grid0.Coords) : Fin 3 → Nat :=
  let c16 : Index := 16#32
  let arg1 : BitVec 32 := BitVec.ofNat 32 (i 1).val
  let c64_i32 : BitVec 32 := 64#32
  let v4 : BitVec 32 := Scalar.muli arg1 c64_i32
  let v5 : BitVec 32 := v4
  let v87 : Index := Scalar.indexCast v5
  let c0_46 : Index := 0#32
  ![16, v87.toNat, 0]
def k0_off18 (i : grid0.Coords) : Fin 3 → Nat :=
  let c17 : Index := 17#32
  let arg1 : BitVec 32 := BitVec.ofNat 32 (i 1).val
  let c64_i32 : BitVec 32 := 64#32
  let v4 : BitVec 32 := Scalar.muli arg1 c64_i32
  let v5 : BitVec 32 := v4
  let v92 : Index := Scalar.indexCast v5
  let c0_49 : Index := 0#32
  ![17, v92.toNat, 0]
def k0_off19 (i : grid0.Coords) : Fin 3 → Nat :=
  let c18 : Index := 18#32
  let arg1 : BitVec 32 := BitVec.ofNat 32 (i 1).val
  let c64_i32 : BitVec 32 := 64#32
  let v4 : BitVec 32 := Scalar.muli arg1 c64_i32
  let v5 : BitVec 32 := v4
  let v97 : Index := Scalar.indexCast v5
  let c0_52 : Index := 0#32
  ![18, v97.toNat, 0]
def k0_off20 (i : grid0.Coords) : Fin 3 → Nat :=
  let c19 : Index := 19#32
  let arg1 : BitVec 32 := BitVec.ofNat 32 (i 1).val
  let c64_i32 : BitVec 32 := 64#32
  let v4 : BitVec 32 := Scalar.muli arg1 c64_i32
  let v5 : BitVec 32 := v4
  let v102 : Index := Scalar.indexCast v5
  let c0_55 : Index := 0#32
  ![19, v102.toNat, 0]
def k0_off21 (i : grid0.Coords) : Fin 3 → Nat :=
  let c20 : Index := 20#32
  let arg1 : BitVec 32 := BitVec.ofNat 32 (i 1).val
  let c64_i32 : BitVec 32 := 64#32
  let v4 : BitVec 32 := Scalar.muli arg1 c64_i32
  let v5 : BitVec 32 := v4
  let v107 : Index := Scalar.indexCast v5
  let c0_57 : Index := 0#32
  ![20, v107.toNat, 0]
def k0_off22 (i : grid0.Coords) : Fin 3 → Nat :=
  let c21 : Index := 21#32
  let arg1 : BitVec 32 := BitVec.ofNat 32 (i 1).val
  let c64_i32 : BitVec 32 := 64#32
  let v4 : BitVec 32 := Scalar.muli arg1 c64_i32
  let v5 : BitVec 32 := v4
  let v112 : Index := Scalar.indexCast v5
  let c0_60 : Index := 0#32
  ![21, v112.toNat, 0]
def k0_off23 (i : grid0.Coords) : Fin 3 → Nat :=
  let c22 : Index := 22#32
  let arg1 : BitVec 32 := BitVec.ofNat 32 (i 1).val
  let c64_i32 : BitVec 32 := 64#32
  let v4 : BitVec 32 := Scalar.muli arg1 c64_i32
  let v5 : BitVec 32 := v4
  let v117 : Index := Scalar.indexCast v5
  let c0_63 : Index := 0#32
  ![22, v117.toNat, 0]
def k0_off24 (i : grid0.Coords) : Fin 3 → Nat :=
  let c23 : Index := 23#32
  let arg1 : BitVec 32 := BitVec.ofNat 32 (i 1).val
  let c64_i32 : BitVec 32 := 64#32
  let v4 : BitVec 32 := Scalar.muli arg1 c64_i32
  let v5 : BitVec 32 := v4
  let v122 : Index := Scalar.indexCast v5
  let c0_66 : Index := 0#32
  ![23, v122.toNat, 0]
def k0_off25 (i : grid0.Coords) : Fin 3 → Nat :=
  let c24 : Index := 24#32
  let arg1 : BitVec 32 := BitVec.ofNat 32 (i 1).val
  let c64_i32 : BitVec 32 := 64#32
  let v4 : BitVec 32 := Scalar.muli arg1 c64_i32
  let v5 : BitVec 32 := v4
  let v127 : Index := Scalar.indexCast v5
  let c0_68 : Index := 0#32
  ![24, v127.toNat, 0]
def k0_off26 (i : grid0.Coords) : Fin 3 → Nat :=
  let c25 : Index := 25#32
  let arg1 : BitVec 32 := BitVec.ofNat 32 (i 1).val
  let c64_i32 : BitVec 32 := 64#32
  let v4 : BitVec 32 := Scalar.muli arg1 c64_i32
  let v5 : BitVec 32 := v4
  let v132 : Index := Scalar.indexCast v5
  let c0_71 : Index := 0#32
  ![25, v132.toNat, 0]
def k0_off27 (i : grid0.Coords) : Fin 3 → Nat :=
  let c26 : Index := 26#32
  let arg1 : BitVec 32 := BitVec.ofNat 32 (i 1).val
  let c64_i32 : BitVec 32 := 64#32
  let v4 : BitVec 32 := Scalar.muli arg1 c64_i32
  let v5 : BitVec 32 := v4
  let v137 : Index := Scalar.indexCast v5
  let c0_74 : Index := 0#32
  ![26, v137.toNat, 0]
def k0_off28 (i : grid0.Coords) : Fin 3 → Nat :=
  let c27 : Index := 27#32
  let arg1 : BitVec 32 := BitVec.ofNat 32 (i 1).val
  let c64_i32 : BitVec 32 := 64#32
  let v4 : BitVec 32 := Scalar.muli arg1 c64_i32
  let v5 : BitVec 32 := v4
  let v142 : Index := Scalar.indexCast v5
  let c0_77 : Index := 0#32
  ![27, v142.toNat, 0]
def k0_off29 (i : grid0.Coords) : Fin 3 → Nat :=
  let c28 : Index := 28#32
  let arg1 : BitVec 32 := BitVec.ofNat 32 (i 1).val
  let c64_i32 : BitVec 32 := 64#32
  let v4 : BitVec 32 := Scalar.muli arg1 c64_i32
  let v5 : BitVec 32 := v4
  let v147 : Index := Scalar.indexCast v5
  let c0_79 : Index := 0#32
  ![28, v147.toNat, 0]
def k0_off30 (i : grid0.Coords) : Fin 3 → Nat :=
  let c29 : Index := 29#32
  let arg1 : BitVec 32 := BitVec.ofNat 32 (i 1).val
  let c64_i32 : BitVec 32 := 64#32
  let v4 : BitVec 32 := Scalar.muli arg1 c64_i32
  let v5 : BitVec 32 := v4
  let v152 : Index := Scalar.indexCast v5
  let c0_82 : Index := 0#32
  ![29, v152.toNat, 0]
def k0_off31 (i : grid0.Coords) : Fin 3 → Nat :=
  let c30 : Index := 30#32
  let arg1 : BitVec 32 := BitVec.ofNat 32 (i 1).val
  let c64_i32 : BitVec 32 := 64#32
  let v4 : BitVec 32 := Scalar.muli arg1 c64_i32
  let v5 : BitVec 32 := v4
  let v157 : Index := Scalar.indexCast v5
  let c0_85 : Index := 0#32
  ![30, v157.toNat, 0]
def k0_off32 (i : grid0.Coords) : Fin 3 → Nat :=
  let c31 : Index := 31#32
  let arg1 : BitVec 32 := BitVec.ofNat 32 (i 1).val
  let c64_i32 : BitVec 32 := 64#32
  let v4 : BitVec 32 := Scalar.muli arg1 c64_i32
  let v5 : BitVec 32 := v4
  let v162 : Index := Scalar.indexCast v5
  let c0_88 : Index := 0#32
  ![31, v162.toNat, 0]
def k0_off33 (i : grid0.Coords) : Fin 3 → Nat :=
  let c32 : Index := 32#32
  let arg1 : BitVec 32 := BitVec.ofNat 32 (i 1).val
  let c64_i32 : BitVec 32 := 64#32
  let v4 : BitVec 32 := Scalar.muli arg1 c64_i32
  let v5 : BitVec 32 := v4
  let v167 : Index := Scalar.indexCast v5
  let c0_90 : Index := 0#32
  ![32, v167.toNat, 0]
def k0_off34 (i : grid0.Coords) : Fin 3 → Nat :=
  let c33 : Index := 33#32
  let arg1 : BitVec 32 := BitVec.ofNat 32 (i 1).val
  let c64_i32 : BitVec 32 := 64#32
  let v4 : BitVec 32 := Scalar.muli arg1 c64_i32
  let v5 : BitVec 32 := v4
  let v172 : Index := Scalar.indexCast v5
  let c0_93 : Index := 0#32
  ![33, v172.toNat, 0]
def k0_off35 (i : grid0.Coords) : Fin 3 → Nat :=
  let c34 : Index := 34#32
  let arg1 : BitVec 32 := BitVec.ofNat 32 (i 1).val
  let c64_i32 : BitVec 32 := 64#32
  let v4 : BitVec 32 := Scalar.muli arg1 c64_i32
  let v5 : BitVec 32 := v4
  let v177 : Index := Scalar.indexCast v5
  let c0_96 : Index := 0#32
  ![34, v177.toNat, 0]
def k0_off36 (i : grid0.Coords) : Fin 3 → Nat :=
  let c35 : Index := 35#32
  let arg1 : BitVec 32 := BitVec.ofNat 32 (i 1).val
  let c64_i32 : BitVec 32 := 64#32
  let v4 : BitVec 32 := Scalar.muli arg1 c64_i32
  let v5 : BitVec 32 := v4
  let v182 : Index := Scalar.indexCast v5
  let c0_99 : Index := 0#32
  ![35, v182.toNat, 0]
def k0_off37 (i : grid0.Coords) : Fin 3 → Nat :=
  let c36 : Index := 36#32
  let arg1 : BitVec 32 := BitVec.ofNat 32 (i 1).val
  let c64_i32 : BitVec 32 := 64#32
  let v4 : BitVec 32 := Scalar.muli arg1 c64_i32
  let v5 : BitVec 32 := v4
  let v187 : Index := Scalar.indexCast v5
  let c0_101 : Index := 0#32
  ![36, v187.toNat, 0]
def k0_off38 (i : grid0.Coords) : Fin 3 → Nat :=
  let c37 : Index := 37#32
  let arg1 : BitVec 32 := BitVec.ofNat 32 (i 1).val
  let c64_i32 : BitVec 32 := 64#32
  let v4 : BitVec 32 := Scalar.muli arg1 c64_i32
  let v5 : BitVec 32 := v4
  let v192 : Index := Scalar.indexCast v5
  let c0_104 : Index := 0#32
  ![37, v192.toNat, 0]
def k0_off39 (i : grid0.Coords) : Fin 3 → Nat :=
  let c38 : Index := 38#32
  let arg1 : BitVec 32 := BitVec.ofNat 32 (i 1).val
  let c64_i32 : BitVec 32 := 64#32
  let v4 : BitVec 32 := Scalar.muli arg1 c64_i32
  let v5 : BitVec 32 := v4
  let v197 : Index := Scalar.indexCast v5
  let c0_107 : Index := 0#32
  ![38, v197.toNat, 0]
def k0_off40 (i : grid0.Coords) : Fin 3 → Nat :=
  let c39 : Index := 39#32
  let arg1 : BitVec 32 := BitVec.ofNat 32 (i 1).val
  let c64_i32 : BitVec 32 := 64#32
  let v4 : BitVec 32 := Scalar.muli arg1 c64_i32
  let v5 : BitVec 32 := v4
  let v202 : Index := Scalar.indexCast v5
  let c0_110 : Index := 0#32
  ![39, v202.toNat, 0]
def k0_off41 (i : grid0.Coords) : Fin 3 → Nat :=
  let c40 : Index := 40#32
  let arg1 : BitVec 32 := BitVec.ofNat 32 (i 1).val
  let c64_i32 : BitVec 32 := 64#32
  let v4 : BitVec 32 := Scalar.muli arg1 c64_i32
  let v5 : BitVec 32 := v4
  let v207 : Index := Scalar.indexCast v5
  let c0_112 : Index := 0#32
  ![40, v207.toNat, 0]
def k0_off42 (i : grid0.Coords) : Fin 3 → Nat :=
  let c41 : Index := 41#32
  let arg1 : BitVec 32 := BitVec.ofNat 32 (i 1).val
  let c64_i32 : BitVec 32 := 64#32
  let v4 : BitVec 32 := Scalar.muli arg1 c64_i32
  let v5 : BitVec 32 := v4
  let v212 : Index := Scalar.indexCast v5
  let c0_115 : Index := 0#32
  ![41, v212.toNat, 0]
def k0_off43 (i : grid0.Coords) : Fin 3 → Nat :=
  let c42 : Index := 42#32
  let arg1 : BitVec 32 := BitVec.ofNat 32 (i 1).val
  let c64_i32 : BitVec 32 := 64#32
  let v4 : BitVec 32 := Scalar.muli arg1 c64_i32
  let v5 : BitVec 32 := v4
  let v217 : Index := Scalar.indexCast v5
  let c0_118 : Index := 0#32
  ![42, v217.toNat, 0]
def k0_off44 (i : grid0.Coords) : Fin 3 → Nat :=
  let c43 : Index := 43#32
  let arg1 : BitVec 32 := BitVec.ofNat 32 (i 1).val
  let c64_i32 : BitVec 32 := 64#32
  let v4 : BitVec 32 := Scalar.muli arg1 c64_i32
  let v5 : BitVec 32 := v4
  let v222 : Index := Scalar.indexCast v5
  let c0_121 : Index := 0#32
  ![43, v222.toNat, 0]
def k0_off45 (i : grid0.Coords) : Fin 3 → Nat :=
  let c44 : Index := 44#32
  let arg1 : BitVec 32 := BitVec.ofNat 32 (i 1).val
  let c64_i32 : BitVec 32 := 64#32
  let v4 : BitVec 32 := Scalar.muli arg1 c64_i32
  let v5 : BitVec 32 := v4
  let v227 : Index := Scalar.indexCast v5
  let c0_123 : Index := 0#32
  ![44, v227.toNat, 0]
def k0_off46 (i : grid0.Coords) : Fin 3 → Nat :=
  let c45 : Index := 45#32
  let arg1 : BitVec 32 := BitVec.ofNat 32 (i 1).val
  let c64_i32 : BitVec 32 := 64#32
  let v4 : BitVec 32 := Scalar.muli arg1 c64_i32
  let v5 : BitVec 32 := v4
  let v232 : Index := Scalar.indexCast v5
  let c0_126 : Index := 0#32
  ![45, v232.toNat, 0]
def k0_off47 (i : grid0.Coords) : Fin 3 → Nat :=
  let c46 : Index := 46#32
  let arg1 : BitVec 32 := BitVec.ofNat 32 (i 1).val
  let c64_i32 : BitVec 32 := 64#32
  let v4 : BitVec 32 := Scalar.muli arg1 c64_i32
  let v5 : BitVec 32 := v4
  let v237 : Index := Scalar.indexCast v5
  let c0_129 : Index := 0#32
  ![46, v237.toNat, 0]
def k0_off48 (i : grid0.Coords) : Fin 3 → Nat :=
  let c47 : Index := 47#32
  let arg1 : BitVec 32 := BitVec.ofNat 32 (i 1).val
  let c64_i32 : BitVec 32 := 64#32
  let v4 : BitVec 32 := Scalar.muli arg1 c64_i32
  let v5 : BitVec 32 := v4
  let v242 : Index := Scalar.indexCast v5
  let c0_132 : Index := 0#32
  ![47, v242.toNat, 0]
def k0_off49 (i : grid0.Coords) : Fin 3 → Nat :=
  let c48 : Index := 48#32
  let arg1 : BitVec 32 := BitVec.ofNat 32 (i 1).val
  let c64_i32 : BitVec 32 := 64#32
  let v4 : BitVec 32 := Scalar.muli arg1 c64_i32
  let v5 : BitVec 32 := v4
  let v247 : Index := Scalar.indexCast v5
  let c0_134 : Index := 0#32
  ![48, v247.toNat, 0]
def k0_off50 (i : grid0.Coords) : Fin 3 → Nat :=
  let c49 : Index := 49#32
  let arg1 : BitVec 32 := BitVec.ofNat 32 (i 1).val
  let c64_i32 : BitVec 32 := 64#32
  let v4 : BitVec 32 := Scalar.muli arg1 c64_i32
  let v5 : BitVec 32 := v4
  let v252 : Index := Scalar.indexCast v5
  let c0_137 : Index := 0#32
  ![49, v252.toNat, 0]
def k0_off51 (i : grid0.Coords) : Fin 3 → Nat :=
  let c50 : Index := 50#32
  let arg1 : BitVec 32 := BitVec.ofNat 32 (i 1).val
  let c64_i32 : BitVec 32 := 64#32
  let v4 : BitVec 32 := Scalar.muli arg1 c64_i32
  let v5 : BitVec 32 := v4
  let v257 : Index := Scalar.indexCast v5
  let c0_140 : Index := 0#32
  ![50, v257.toNat, 0]
def k0_off52 (i : grid0.Coords) : Fin 3 → Nat :=
  let c51 : Index := 51#32
  let arg1 : BitVec 32 := BitVec.ofNat 32 (i 1).val
  let c64_i32 : BitVec 32 := 64#32
  let v4 : BitVec 32 := Scalar.muli arg1 c64_i32
  let v5 : BitVec 32 := v4
  let v262 : Index := Scalar.indexCast v5
  let c0_143 : Index := 0#32
  ![51, v262.toNat, 0]
@[reducible] def k0_t1_loop : Scf.Loop 32 :=
  let c0_i32_197 : BitVec 32 := 0#32
  let c25_i32 : BitVec 32 := 25#32
  let v317 : BitVec 32 := Scalar.addi c0_i32_197 c25_i32
  let c1_i32 : BitVec 32 := 1#32
  ⟨c0_i32_197, v317, c1_i32⟩
def k0_off53 (k0_t1 : Fin k0_t1_loop.trips) (c1_i32_812 : BitVec 32) : Fin 3 → Nat :=
  let c8_i32 : BitVec 32 := 8#32
  let c0_i32_197 : BitVec 32 := 0#32
  let c1_i32 : BitVec 32 := 1#32
  let arg11 : BitVec 32 := Scf.iv c0_i32_197 c1_i32 k0_t1
  let v1267 : BitVec 32 := Scalar.muli c8_i32 arg11
  let v1268 : BitVec 32 := Scalar.addi v1267 c1_i32_812
  let c1_i32_813 : BitVec 32 := 1#32
  let v1269 : BitVec 32 := Scalar.subi v1268 c1_i32_813
  let c16_i32_814 : BitVec 32 := 16#32
  let c0_i32_815 : BitVec 32 := 0#32
  let v1270 : BitVec 1 := Scalar.cmpi .eq c16_i32_814 c0_i32_815
  let c1_i32_816 : BitVec 32 := 1#32
  let v1271 : BitVec 32 := Scalar.select v1270 c1_i32_816 c16_i32_814
  let v1272 : BitVec 32 := Scalar.remsi v1269 v1271
  let c0_i32_818 : BitVec 32 := 0#32
  let v1274 : BitVec 1 := Scalar.cmpi .slt v1272 c0_i32_818
  let c0_i32_819 : BitVec 32 := 0#32
  let v1275 : BitVec 1 := Scalar.cmpi .slt v1271 c0_i32_819
  let v1276 : BitVec 1 := Scalar.xori v1274 v1275
  let c0_i32_817 : BitVec 32 := 0#32
  let v1273 : BitVec 1 := Scalar.cmpi .ne v1272 c0_i32_817
  let v1277 : BitVec 1 := Scalar.andi v1276 v1273
  let v1278 : BitVec 32 := Scalar.addi v1272 v1271
  let v1279 : BitVec 32 := Scalar.select v1277 v1278 v1272
  let v1280 : Index := Scalar.indexCast v1279
  let c0_820 : Index := 0#32
  let c0_821 : Index := 0#32
  ![v1280.toNat, 0, 0]
def k0_off54 (k0_t1 : Fin k0_t1_loop.trips) (c1_i32_812 : BitVec 32) : Fin 3 → Nat :=
  let c8_i32 : BitVec 32 := 8#32
  let c0_i32_197 : BitVec 32 := 0#32
  let c1_i32 : BitVec 32 := 1#32
  let arg11 : BitVec 32 := Scf.iv c0_i32_197 c1_i32 k0_t1
  let v1267 : BitVec 32 := Scalar.muli c8_i32 arg11
  let v1268 : BitVec 32 := Scalar.addi v1267 c1_i32_812
  let c16_i32_832 : BitVec 32 := 16#32
  let c0_i32_833 : BitVec 32 := 0#32
  let v1305 : BitVec 1 := Scalar.cmpi .eq c16_i32_832 c0_i32_833
  let c1_i32_834 : BitVec 32 := 1#32
  let v1306 : BitVec 32 := Scalar.select v1305 c1_i32_834 c16_i32_832
  let v1307 : BitVec 32 := Scalar.remsi v1268 v1306
  let c0_i32_836 : BitVec 32 := 0#32
  let v1309 : BitVec 1 := Scalar.cmpi .slt v1307 c0_i32_836
  let c0_i32_837 : BitVec 32 := 0#32
  let v1310 : BitVec 1 := Scalar.cmpi .slt v1306 c0_i32_837
  let v1311 : BitVec 1 := Scalar.xori v1309 v1310
  let c0_i32_835 : BitVec 32 := 0#32
  let v1308 : BitVec 1 := Scalar.cmpi .ne v1307 c0_i32_835
  let v1312 : BitVec 1 := Scalar.andi v1311 v1308
  let v1313 : BitVec 32 := Scalar.addi v1307 v1306
  let v1314 : BitVec 32 := Scalar.select v1312 v1313 v1307
  let c4_i32 : BitVec 32 := 4#32
  let v1315 : BitVec 32 := Scalar.muli v1314 c4_i32
  let v1316 : Index := Scalar.indexCast v1315
  let c0_838 : Index := 0#32
  let c0_839 : Index := 0#32
  ![v1316.toNat, 0, 0]
def k0_off55 (k0_t1 : Fin k0_t1_loop.trips) (c1_i32_812 : BitVec 32) (c0_i32_841 : BitVec 32) : Fin 3 → Nat :=
  let c8_i32 : BitVec 32 := 8#32
  let c0_i32_197 : BitVec 32 := 0#32
  let c1_i32 : BitVec 32 := 1#32
  let arg11 : BitVec 32 := Scf.iv c0_i32_197 c1_i32 k0_t1
  let v1267 : BitVec 32 := Scalar.muli c8_i32 arg11
  let v1268 : BitVec 32 := Scalar.addi v1267 c1_i32_812
  let c0_i32_826 : BitVec 32 := 0#32
  let v1289 : BitVec 1 := Scalar.cmpi .sgt v1268 c0_i32_826
  let v1290 : BitVec 32 := Scalar.extui v1289
  let c0_i32_827 : BitVec 32 := 0#32
  let v1291 : BitVec 1 := Scalar.cmpi .slt v1268 c0_i32_827
  let v1292 : BitVec 32 := Scalar.extui v1291
  let v1293 : BitVec 32 := Scalar.subi v1290 v1292
  let c16_i32_825 : BitVec 32 := 16#32
  let c0_i32_828 : BitVec 32 := 0#32
  let v1294 : BitVec 1 := Scalar.cmpi .sgt c16_i32_825 c0_i32_828
  let v1295 : BitVec 32 := Scalar.extui v1294
  let c0_i32_829 : BitVec 32 := 0#32
  let v1296 : BitVec 1 := Scalar.cmpi .slt c16_i32_825 c0_i32_829
  let v1297 : BitVec 32 := Scalar.extui v1296
  let v1298 : BitVec 32 := Scalar.subi v1295 v1297
  let v1299 : BitVec 1 := Scalar.cmpi .ne v1293 v1298
  let v1300 : BitVec 32 := Scalar.remsi v1268 c16_i32_825
  let c0_i32_830 : BitVec 32 := 0#32
  let v1301 : BitVec 1 := Scalar.cmpi .ne v1300 c0_i32_830
  let v1302 : BitVec 1 := Scalar.andi v1299 v1301
  let v1288 : BitVec 32 := Scalar.divsi v1268 c16_i32_825
  let c1_i32_831 : BitVec 32 := 1#32
  let v1303 : BitVec 32 := Scalar.subi v1288 c1_i32_831
  let v1304 : BitVec 32 := Scalar.select v1302 v1303 v1288
  let c4_i32_840 : BitVec 32 := 4#32
  let v1319 : BitVec 32 := Scalar.muli v1304 c4_i32_840
  let v1320 : BitVec 32 := Scalar.addi v1319 c0_i32_841
  let v1321 : Index := Scalar.indexCast v1320
  let c0_842 : Index := 0#32
  let c0_843 : Index := 0#32
  ![v1321.toNat, 0, 0]
def k0_cond2 (k0_t1 : Fin k0_t1_loop.trips) : BitVec 1 :=
  let c8_i32 : BitVec 32 := 8#32
  let c0_i32_197 : BitVec 32 := 0#32
  let c1_i32 : BitVec 32 := 1#32
  let arg11 : BitVec 32 := Scf.iv c0_i32_197 c1_i32 k0_t1
  let v1267 : BitVec 32 := Scalar.muli c8_i32 arg11
  let c8_i32_1826 : BitVec 32 := 8#32
  let v3168 : BitVec 32 := Scalar.addi v1267 c8_i32_1826
  let c1_i32_1827 : BitVec 32 := 1#32
  let v3169 : BitVec 32 := Scalar.subi v3168 c1_i32_1827
  let c16_i32_1828 : BitVec 32 := 16#32
  let c0_i32_1829 : BitVec 32 := 0#32
  let v3170 : BitVec 1 := Scalar.cmpi .eq c16_i32_1828 c0_i32_1829
  let c1_i32_1830 : BitVec 32 := 1#32
  let v3171 : BitVec 32 := Scalar.select v3170 c1_i32_1830 c16_i32_1828
  let v3172 : BitVec 32 := Scalar.remsi v3169 v3171
  let c0_i32_1832 : BitVec 32 := 0#32
  let v3174 : BitVec 1 := Scalar.cmpi .slt v3172 c0_i32_1832
  let c0_i32_1833 : BitVec 32 := 0#32
  let v3175 : BitVec 1 := Scalar.cmpi .slt v3171 c0_i32_1833
  let v3176 : BitVec 1 := Scalar.xori v3174 v3175
  let c0_i32_1831 : BitVec 32 := 0#32
  let v3173 : BitVec 1 := Scalar.cmpi .ne v3172 c0_i32_1831
  let v3177 : BitVec 1 := Scalar.andi v3176 v3173
  let v3178 : BitVec 32 := Scalar.addi v3172 v3171
  let v3179 : BitVec 32 := Scalar.select v3177 v3178 v3172
  let c15_i32 : BitVec 32 := 15#32
  let v3180 : BitVec 1 := Scalar.cmpi .eq v3179 c15_i32
  let v3181 : BitVec 32 := Scalar.extui v3180
  let c0_i32_1834 : BitVec 32 := 0#32
  let v3182 : BitVec 1 := Scalar.cmpi .ne v3181 c0_i32_1834
  v3182

def k0_off56 (k0_t1 : Fin k0_t1_loop.trips) (c0_i32_1852 : BitVec 32) : Fin 3 → Nat :=
  let c8_i32 : BitVec 32 := 8#32
  let c0_i32_197 : BitVec 32 := 0#32
  let c1_i32 : BitVec 32 := 1#32
  let arg11 : BitVec 32 := Scf.iv c0_i32_197 c1_i32 k0_t1
  let v1267 : BitVec 32 := Scalar.muli c8_i32 arg11
  let c8_i32_1835 : BitVec 32 := 8#32
  let v3183 : BitVec 32 := Scalar.addi v1267 c8_i32_1835
  let c1_i32_1836 : BitVec 32 := 1#32
  let v3184 : BitVec 32 := Scalar.subi v3183 c1_i32_1836
  let c0_i32_1838 : BitVec 32 := 0#32
  let v3186 : BitVec 1 := Scalar.cmpi .sgt v3184 c0_i32_1838
  let v3187 : BitVec 32 := Scalar.extui v3186
  let c0_i32_1839 : BitVec 32 := 0#32
  let v3188 : BitVec 1 := Scalar.cmpi .slt v3184 c0_i32_1839
  let v3189 : BitVec 32 := Scalar.extui v3188
  let v3190 : BitVec 32 := Scalar.subi v3187 v3189
  let c16_i32_1837 : BitVec 32 := 16#32
  let c0_i32_1840 : BitVec 32 := 0#32
  let v3191 : BitVec 1 := Scalar.cmpi .sgt c16_i32_1837 c0_i32_1840
  let v3192 : BitVec 32 := Scalar.extui v3191
  let c0_i32_1841 : BitVec 32 := 0#32
  let v3193 : BitVec 1 := Scalar.cmpi .slt c16_i32_1837 c0_i32_1841
  let v3194 : BitVec 32 := Scalar.extui v3193
  let v3195 : BitVec 32 := Scalar.subi v3192 v3194
  let v3196 : BitVec 1 := Scalar.cmpi .ne v3190 v3195
  let v3197 : BitVec 32 := Scalar.remsi v3184 c16_i32_1837
  let c0_i32_1842 : BitVec 32 := 0#32
  let v3198 : BitVec 1 := Scalar.cmpi .ne v3197 c0_i32_1842
  let v3199 : BitVec 1 := Scalar.andi v3196 v3198
  let v3185 : BitVec 32 := Scalar.divsi v3184 c16_i32_1837
  let c1_i32_1843 : BitVec 32 := 1#32
  let v3200 : BitVec 32 := Scalar.subi v3185 c1_i32_1843
  let v3201 : BitVec 32 := Scalar.select v3199 v3200 v3185
  let c4_i32_1851 : BitVec 32 := 4#32
  let v3206 : BitVec 32 := Scalar.muli v3201 c4_i32_1851
  let v3207 : BitVec 32 := Scalar.addi v3206 c0_i32_1852
  let v3208 : Index := Scalar.indexCast v3207
  let c0_1853 : Index := 0#32
  let c0_1854 : Index := 0#32
  ![v3208.toNat, 0, 0]
def k0_mult2 (k0_t1 : Fin k0_t1_loop.trips) : BitVec 32 :=
  let c8_i32 : BitVec 32 := 8#32
  let c0_i32_197 : BitVec 32 := 0#32
  let c1_i32 : BitVec 32 := 1#32
  let arg11 : BitVec 32 := Scf.iv c0_i32_197 c1_i32 k0_t1
  let v1267 : BitVec 32 := Scalar.muli c8_i32 arg11
  let c8_i32_1835 : BitVec 32 := 8#32
  let v3183 : BitVec 32 := Scalar.addi v1267 c8_i32_1835
  let c1_i32_1836 : BitVec 32 := 1#32
  let v3184 : BitVec 32 := Scalar.subi v3183 c1_i32_1836
  let c0_i32_1838 : BitVec 32 := 0#32
  let v3186 : BitVec 1 := Scalar.cmpi .sgt v3184 c0_i32_1838
  let v3187 : BitVec 32 := Scalar.extui v3186
  let c0_i32_1839 : BitVec 32 := 0#32
  let v3188 : BitVec 1 := Scalar.cmpi .slt v3184 c0_i32_1839
  let v3189 : BitVec 32 := Scalar.extui v3188
  let v3190 : BitVec 32 := Scalar.subi v3187 v3189
  let c16_i32_1837 : BitVec 32 := 16#32
  let c0_i32_1840 : BitVec 32 := 0#32
  let v3191 : BitVec 1 := Scalar.cmpi .sgt c16_i32_1837 c0_i32_1840
  let v3192 : BitVec 32 := Scalar.extui v3191
  let c0_i32_1841 : BitVec 32 := 0#32
  let v3193 : BitVec 1 := Scalar.cmpi .slt c16_i32_1837 c0_i32_1841
  let v3194 : BitVec 32 := Scalar.extui v3193
  let v3195 : BitVec 32 := Scalar.subi v3192 v3194
  let v3196 : BitVec 1 := Scalar.cmpi .ne v3190 v3195
  let v3197 : BitVec 32 := Scalar.remsi v3184 c16_i32_1837
  let c0_i32_1842 : BitVec 32 := 0#32
  let v3198 : BitVec 1 := Scalar.cmpi .ne v3197 c0_i32_1842
  let v3199 : BitVec 1 := Scalar.andi v3196 v3198
  let v3185 : BitVec 32 := Scalar.divsi v3184 c16_i32_1837
  let c1_i32_1843 : BitVec 32 := 1#32
  let v3200 : BitVec 32 := Scalar.subi v3185 c1_i32_1843
  let v3201 : BitVec 32 := Scalar.select v3199 v3200 v3185
  let c256_i32 : BitVec 32 := 256#32
  let v3236 : BitVec 32 := Scalar.muli v3201 c256_i32
  v3236
def k0_off57 (k0_t1 : Fin k0_t1_loop.trips) : Fin 2 → Nat :=
  let c8_i32 : BitVec 32 := 8#32
  let c0_i32_197 : BitVec 32 := 0#32
  let c1_i32 : BitVec 32 := 1#32
  let arg11 : BitVec 32 := Scf.iv c0_i32_197 c1_i32 k0_t1
  let v1267 : BitVec 32 := Scalar.muli c8_i32 arg11
  let c8_i32_1835 : BitVec 32 := 8#32
  let v3183 : BitVec 32 := Scalar.addi v1267 c8_i32_1835
  let c1_i32_1836 : BitVec 32 := 1#32
  let v3184 : BitVec 32 := Scalar.subi v3183 c1_i32_1836
  let c0_i32_1838 : BitVec 32 := 0#32
  let v3186 : BitVec 1 := Scalar.cmpi .sgt v3184 c0_i32_1838
  let v3187 : BitVec 32 := Scalar.extui v3186
  let c0_i32_1839 : BitVec 32 := 0#32
  let v3188 : BitVec 1 := Scalar.cmpi .slt v3184 c0_i32_1839
  let v3189 : BitVec 32 := Scalar.extui v3188
  let v3190 : BitVec 32 := Scalar.subi v3187 v3189
  let c16_i32_1837 : BitVec 32 := 16#32
  let c0_i32_1840 : BitVec 32 := 0#32
  let v3191 : BitVec 1 := Scalar.cmpi .sgt c16_i32_1837 c0_i32_1840
  let v3192 : BitVec 32 := Scalar.extui v3191
  let c0_i32_1841 : BitVec 32 := 0#32
  let v3193 : BitVec 1 := Scalar.cmpi .slt c16_i32_1837 c0_i32_1841
  let v3194 : BitVec 32 := Scalar.extui v3193
  let v3195 : BitVec 32 := Scalar.subi v3192 v3194
  let v3196 : BitVec 1 := Scalar.cmpi .ne v3190 v3195
  let v3197 : BitVec 32 := Scalar.remsi v3184 c16_i32_1837
  let c0_i32_1842 : BitVec 32 := 0#32
  let v3198 : BitVec 1 := Scalar.cmpi .ne v3197 c0_i32_1842
  let v3199 : BitVec 1 := Scalar.andi v3196 v3198
  let v3185 : BitVec 32 := Scalar.divsi v3184 c16_i32_1837
  let c1_i32_1843 : BitVec 32 := 1#32
  let v3200 : BitVec 32 := Scalar.subi v3185 c1_i32_1843
  let v3201 : BitVec 32 := Scalar.select v3199 v3200 v3185
  let c256_i32 : BitVec 32 := 256#32
  let v3236 : BitVec 32 := Scalar.muli v3201 c256_i32
  let v3237 : BitVec 32 := v3236
  let v3238 : Index := Scalar.indexCast v3237
  let c0_1860 : Index := 0#32
  ![v3238.toNat, 0]
def k0_mult3 (k0_t1 : Fin k0_t1_loop.trips) : BitVec 32 :=
  let c8_i32 : BitVec 32 := 8#32
  let c0_i32_197 : BitVec 32 := 0#32
  let c1_i32 : BitVec 32 := 1#32
  let arg11 : BitVec 32 := Scf.iv c0_i32_197 c1_i32 k0_t1
  let v1267 : BitVec 32 := Scalar.muli c8_i32 arg11
  let c8_i32_1835 : BitVec 32 := 8#32
  let v3183 : BitVec 32 := Scalar.addi v1267 c8_i32_1835
  let c1_i32_1836 : BitVec 32 := 1#32
  let v3184 : BitVec 32 := Scalar.subi v3183 c1_i32_1836
  let c0_i32_1838 : BitVec 32 := 0#32
  let v3186 : BitVec 1 := Scalar.cmpi .sgt v3184 c0_i32_1838
  let v3187 : BitVec 32 := Scalar.extui v3186
  let c0_i32_1839 : BitVec 32 := 0#32
  let v3188 : BitVec 1 := Scalar.cmpi .slt v3184 c0_i32_1839
  let v3189 : BitVec 32 := Scalar.extui v3188
  let v3190 : BitVec 32 := Scalar.subi v3187 v3189
  let c16_i32_1837 : BitVec 32 := 16#32
  let c0_i32_1840 : BitVec 32 := 0#32
  let v3191 : BitVec 1 := Scalar.cmpi .sgt c16_i32_1837 c0_i32_1840
  let v3192 : BitVec 32 := Scalar.extui v3191
  let c0_i32_1841 : BitVec 32 := 0#32
  let v3193 : BitVec 1 := Scalar.cmpi .slt c16_i32_1837 c0_i32_1841
  let v3194 : BitVec 32 := Scalar.extui v3193
  let v3195 : BitVec 32 := Scalar.subi v3192 v3194
  let v3196 : BitVec 1 := Scalar.cmpi .ne v3190 v3195
  let v3197 : BitVec 32 := Scalar.remsi v3184 c16_i32_1837
  let c0_i32_1842 : BitVec 32 := 0#32
  let v3198 : BitVec 1 := Scalar.cmpi .ne v3197 c0_i32_1842
  let v3199 : BitVec 1 := Scalar.andi v3196 v3198
  let v3185 : BitVec 32 := Scalar.divsi v3184 c16_i32_1837
  let c1_i32_1843 : BitVec 32 := 1#32
  let v3200 : BitVec 32 := Scalar.subi v3185 c1_i32_1843
  let v3201 : BitVec 32 := Scalar.select v3199 v3200 v3185
  let c256_i32_1870 : BitVec 32 := 256#32
  let v3270 : BitVec 32 := Scalar.muli v3201 c256_i32_1870
  v3270
def k0_off58 (k0_t1 : Fin k0_t1_loop.trips) : Fin 2 → Nat :=
  let c8_i32 : BitVec 32 := 8#32
  let c0_i32_197 : BitVec 32 := 0#32
  let c1_i32 : BitVec 32 := 1#32
  let arg11 : BitVec 32 := Scf.iv c0_i32_197 c1_i32 k0_t1
  let v1267 : BitVec 32 := Scalar.muli c8_i32 arg11
  let c8_i32_1835 : BitVec 32 := 8#32
  let v3183 : BitVec 32 := Scalar.addi v1267 c8_i32_1835
  let c1_i32_1836 : BitVec 32 := 1#32
  let v3184 : BitVec 32 := Scalar.subi v3183 c1_i32_1836
  let c0_i32_1838 : BitVec 32 := 0#32
  let v3186 : BitVec 1 := Scalar.cmpi .sgt v3184 c0_i32_1838
  let v3187 : BitVec 32 := Scalar.extui v3186
  let c0_i32_1839 : BitVec 32 := 0#32
  let v3188 : BitVec 1 := Scalar.cmpi .slt v3184 c0_i32_1839
  let v3189 : BitVec 32 := Scalar.extui v3188
  let v3190 : BitVec 32 := Scalar.subi v3187 v3189
  let c16_i32_1837 : BitVec 32 := 16#32
  let c0_i32_1840 : BitVec 32 := 0#32
  let v3191 : BitVec 1 := Scalar.cmpi .sgt c16_i32_1837 c0_i32_1840
  let v3192 : BitVec 32 := Scalar.extui v3191
  let c0_i32_1841 : BitVec 32 := 0#32
  let v3193 : BitVec 1 := Scalar.cmpi .slt c16_i32_1837 c0_i32_1841
  let v3194 : BitVec 32 := Scalar.extui v3193
  let v3195 : BitVec 32 := Scalar.subi v3192 v3194
  let v3196 : BitVec 1 := Scalar.cmpi .ne v3190 v3195
  let v3197 : BitVec 32 := Scalar.remsi v3184 c16_i32_1837
  let c0_i32_1842 : BitVec 32 := 0#32
  let v3198 : BitVec 1 := Scalar.cmpi .ne v3197 c0_i32_1842
  let v3199 : BitVec 1 := Scalar.andi v3196 v3198
  let v3185 : BitVec 32 := Scalar.divsi v3184 c16_i32_1837
  let c1_i32_1843 : BitVec 32 := 1#32
  let v3200 : BitVec 32 := Scalar.subi v3185 c1_i32_1843
  let v3201 : BitVec 32 := Scalar.select v3199 v3200 v3185
  let c256_i32_1870 : BitVec 32 := 256#32
  let v3270 : BitVec 32 := Scalar.muli v3201 c256_i32_1870
  let v3271 : BitVec 32 := v3270
  let v3272 : Index := Scalar.indexCast v3271
  let c64_1871 : Index := 64#32
  ![v3272.toNat, 64]
def k0_mult4 (k0_t1 : Fin k0_t1_loop.trips) : BitVec 32 :=
  let c8_i32 : BitVec 32 := 8#32
  let c0_i32_197 : BitVec 32 := 0#32
  let c1_i32 : BitVec 32 := 1#32
  let arg11 : BitVec 32 := Scf.iv c0_i32_197 c1_i32 k0_t1
  let v1267 : BitVec 32 := Scalar.muli c8_i32 arg11
  let c8_i32_1835 : BitVec 32 := 8#32
  let v3183 : BitVec 32 := Scalar.addi v1267 c8_i32_1835
  let c1_i32_1836 : BitVec 32 := 1#32
  let v3184 : BitVec 32 := Scalar.subi v3183 c1_i32_1836
  let c0_i32_1838 : BitVec 32 := 0#32
  let v3186 : BitVec 1 := Scalar.cmpi .sgt v3184 c0_i32_1838
  let v3187 : BitVec 32 := Scalar.extui v3186
  let c0_i32_1839 : BitVec 32 := 0#32
  let v3188 : BitVec 1 := Scalar.cmpi .slt v3184 c0_i32_1839
  let v3189 : BitVec 32 := Scalar.extui v3188
  let v3190 : BitVec 32 := Scalar.subi v3187 v3189
  let c16_i32_1837 : BitVec 32 := 16#32
  let c0_i32_1840 : BitVec 32 := 0#32
  let v3191 : BitVec 1 := Scalar.cmpi .sgt c16_i32_1837 c0_i32_1840
  let v3192 : BitVec 32 := Scalar.extui v3191
  let c0_i32_1841 : BitVec 32 := 0#32
  let v3193 : BitVec 1 := Scalar.cmpi .slt c16_i32_1837 c0_i32_1841
  let v3194 : BitVec 32 := Scalar.extui v3193
  let v3195 : BitVec 32 := Scalar.subi v3192 v3194
  let v3196 : BitVec 1 := Scalar.cmpi .ne v3190 v3195
  let v3197 : BitVec 32 := Scalar.remsi v3184 c16_i32_1837
  let c0_i32_1842 : BitVec 32 := 0#32
  let v3198 : BitVec 1 := Scalar.cmpi .ne v3197 c0_i32_1842
  let v3199 : BitVec 1 := Scalar.andi v3196 v3198
  let v3185 : BitVec 32 := Scalar.divsi v3184 c16_i32_1837
  let c1_i32_1843 : BitVec 32 := 1#32
  let v3200 : BitVec 32 := Scalar.subi v3185 c1_i32_1843
  let v3201 : BitVec 32 := Scalar.select v3199 v3200 v3185
  let c256_i32_1881 : BitVec 32 := 256#32
  let v3304 : BitVec 32 := Scalar.muli v3201 c256_i32_1881
  v3304
def k0_off59 (k0_t1 : Fin k0_t1_loop.trips) : Fin 2 → Nat :=
  let c8_i32 : BitVec 32 := 8#32
  let c0_i32_197 : BitVec 32 := 0#32
  let c1_i32 : BitVec 32 := 1#32
  let arg11 : BitVec 32 := Scf.iv c0_i32_197 c1_i32 k0_t1
  let v1267 : BitVec 32 := Scalar.muli c8_i32 arg11
  let c8_i32_1835 : BitVec 32 := 8#32
  let v3183 : BitVec 32 := Scalar.addi v1267 c8_i32_1835
  let c1_i32_1836 : BitVec 32 := 1#32
  let v3184 : BitVec 32 := Scalar.subi v3183 c1_i32_1836
  let c0_i32_1838 : BitVec 32 := 0#32
  let v3186 : BitVec 1 := Scalar.cmpi .sgt v3184 c0_i32_1838
  let v3187 : BitVec 32 := Scalar.extui v3186
  let c0_i32_1839 : BitVec 32 := 0#32
  let v3188 : BitVec 1 := Scalar.cmpi .slt v3184 c0_i32_1839
  let v3189 : BitVec 32 := Scalar.extui v3188
  let v3190 : BitVec 32 := Scalar.subi v3187 v3189
  let c16_i32_1837 : BitVec 32 := 16#32
  let c0_i32_1840 : BitVec 32 := 0#32
  let v3191 : BitVec 1 := Scalar.cmpi .sgt c16_i32_1837 c0_i32_1840
  let v3192 : BitVec 32 := Scalar.extui v3191
  let c0_i32_1841 : BitVec 32 := 0#32
  let v3193 : BitVec 1 := Scalar.cmpi .slt c16_i32_1837 c0_i32_1841
  let v3194 : BitVec 32 := Scalar.extui v3193
  let v3195 : BitVec 32 := Scalar.subi v3192 v3194
  let v3196 : BitVec 1 := Scalar.cmpi .ne v3190 v3195
  let v3197 : BitVec 32 := Scalar.remsi v3184 c16_i32_1837
  let c0_i32_1842 : BitVec 32 := 0#32
  let v3198 : BitVec 1 := Scalar.cmpi .ne v3197 c0_i32_1842
  let v3199 : BitVec 1 := Scalar.andi v3196 v3198
  let v3185 : BitVec 32 := Scalar.divsi v3184 c16_i32_1837
  let c1_i32_1843 : BitVec 32 := 1#32
  let v3200 : BitVec 32 := Scalar.subi v3185 c1_i32_1843
  let v3201 : BitVec 32 := Scalar.select v3199 v3200 v3185
  let c256_i32_1881 : BitVec 32 := 256#32
  let v3304 : BitVec 32 := Scalar.muli v3201 c256_i32_1881
  let v3305 : BitVec 32 := v3304
  let v3306 : Index := Scalar.indexCast v3305
  let c128_1882 : Index := 128#32
  ![v3306.toNat, 128]
def k0_mult5 (k0_t1 : Fin k0_t1_loop.trips) : BitVec 32 :=
  let c8_i32 : BitVec 32 := 8#32
  let c0_i32_197 : BitVec 32 := 0#32
  let c1_i32 : BitVec 32 := 1#32
  let arg11 : BitVec 32 := Scf.iv c0_i32_197 c1_i32 k0_t1
  let v1267 : BitVec 32 := Scalar.muli c8_i32 arg11
  let c8_i32_1835 : BitVec 32 := 8#32
  let v3183 : BitVec 32 := Scalar.addi v1267 c8_i32_1835
  let c1_i32_1836 : BitVec 32 := 1#32
  let v3184 : BitVec 32 := Scalar.subi v3183 c1_i32_1836
  let c0_i32_1838 : BitVec 32 := 0#32
  let v3186 : BitVec 1 := Scalar.cmpi .sgt v3184 c0_i32_1838
  let v3187 : BitVec 32 := Scalar.extui v3186
  let c0_i32_1839 : BitVec 32 := 0#32
  let v3188 : BitVec 1 := Scalar.cmpi .slt v3184 c0_i32_1839
  let v3189 : BitVec 32 := Scalar.extui v3188
  let v3190 : BitVec 32 := Scalar.subi v3187 v3189
  let c16_i32_1837 : BitVec 32 := 16#32
  let c0_i32_1840 : BitVec 32 := 0#32
  let v3191 : BitVec 1 := Scalar.cmpi .sgt c16_i32_1837 c0_i32_1840
  let v3192 : BitVec 32 := Scalar.extui v3191
  let c0_i32_1841 : BitVec 32 := 0#32
  let v3193 : BitVec 1 := Scalar.cmpi .slt c16_i32_1837 c0_i32_1841
  let v3194 : BitVec 32 := Scalar.extui v3193
  let v3195 : BitVec 32 := Scalar.subi v3192 v3194
  let v3196 : BitVec 1 := Scalar.cmpi .ne v3190 v3195
  let v3197 : BitVec 32 := Scalar.remsi v3184 c16_i32_1837
  let c0_i32_1842 : BitVec 32 := 0#32
  let v3198 : BitVec 1 := Scalar.cmpi .ne v3197 c0_i32_1842
  let v3199 : BitVec 1 := Scalar.andi v3196 v3198
  let v3185 : BitVec 32 := Scalar.divsi v3184 c16_i32_1837
  let c1_i32_1843 : BitVec 32 := 1#32
  let v3200 : BitVec 32 := Scalar.subi v3185 c1_i32_1843
  let v3201 : BitVec 32 := Scalar.select v3199 v3200 v3185
  let c256_i32_1892 : BitVec 32 := 256#32
  let v3338 : BitVec 32 := Scalar.muli v3201 c256_i32_1892
  v3338
def k0_off60 (k0_t1 : Fin k0_t1_loop.trips) : Fin 2 → Nat :=
  let c8_i32 : BitVec 32 := 8#32
  let c0_i32_197 : BitVec 32 := 0#32
  let c1_i32 : BitVec 32 := 1#32
  let arg11 : BitVec 32 := Scf.iv c0_i32_197 c1_i32 k0_t1
  let v1267 : BitVec 32 := Scalar.muli c8_i32 arg11
  let c8_i32_1835 : BitVec 32 := 8#32
  let v3183 : BitVec 32 := Scalar.addi v1267 c8_i32_1835
  let c1_i32_1836 : BitVec 32 := 1#32
  let v3184 : BitVec 32 := Scalar.subi v3183 c1_i32_1836
  let c0_i32_1838 : BitVec 32 := 0#32
  let v3186 : BitVec 1 := Scalar.cmpi .sgt v3184 c0_i32_1838
  let v3187 : BitVec 32 := Scalar.extui v3186
  let c0_i32_1839 : BitVec 32 := 0#32
  let v3188 : BitVec 1 := Scalar.cmpi .slt v3184 c0_i32_1839
  let v3189 : BitVec 32 := Scalar.extui v3188
  let v3190 : BitVec 32 := Scalar.subi v3187 v3189
  let c16_i32_1837 : BitVec 32 := 16#32
  let c0_i32_1840 : BitVec 32 := 0#32
  let v3191 : BitVec 1 := Scalar.cmpi .sgt c16_i32_1837 c0_i32_1840
  let v3192 : BitVec 32 := Scalar.extui v3191
  let c0_i32_1841 : BitVec 32 := 0#32
  let v3193 : BitVec 1 := Scalar.cmpi .slt c16_i32_1837 c0_i32_1841
  let v3194 : BitVec 32 := Scalar.extui v3193
  let v3195 : BitVec 32 := Scalar.subi v3192 v3194
  let v3196 : BitVec 1 := Scalar.cmpi .ne v3190 v3195
  let v3197 : BitVec 32 := Scalar.remsi v3184 c16_i32_1837
  let c0_i32_1842 : BitVec 32 := 0#32
  let v3198 : BitVec 1 := Scalar.cmpi .ne v3197 c0_i32_1842
  let v3199 : BitVec 1 := Scalar.andi v3196 v3198
  let v3185 : BitVec 32 := Scalar.divsi v3184 c16_i32_1837
  let c1_i32_1843 : BitVec 32 := 1#32
  let v3200 : BitVec 32 := Scalar.subi v3185 c1_i32_1843
  let v3201 : BitVec 32 := Scalar.select v3199 v3200 v3185
  let c256_i32_1892 : BitVec 32 := 256#32
  let v3338 : BitVec 32 := Scalar.muli v3201 c256_i32_1892
  let v3339 : BitVec 32 := v3338
  let v3340 : Index := Scalar.indexCast v3339
  let c192_1893 : Index := 192#32
  ![v3340.toNat, 192]
def k0_mult6 : BitVec 32 :=
  let c3072_i32 : BitVec 32 := 3072#32
  c3072_i32
def k0_mult7 : BitVec 32 :=
  let c3072_i32_790 : BitVec 32 := 3072#32
  c3072_i32_790
def k0_mult8 : BitVec 32 :=
  let c3072_i32_800 : BitVec 32 := 3072#32
  c3072_i32_800
def k0_mult9 : BitVec 32 :=
  let c3072_i32_810 : BitVec 32 := 3072#32
  c3072_i32_810
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli arg0 c5_i32
  let v1 : BitVec 32 := Scalar.addi v0 arg2
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli arg0 c5_i32
  let v1 : BitVec 32 := Scalar.addi v0 arg2
  let c0_i32 : BitVec 32 := 0#32
  ![v1.toNat, arg1.toNat]

abbrev stage0_0 : Fin 2 → Memref sig .tc .vmem S256x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S65x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x65x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S3328x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S1024x33280 : Shape := ⟨2, ![1024, 33280]⟩
abbrev S130x256x256 : Shape := ⟨3, ![130, 256, 256]⟩
abbrev S4x130x80x256 : Shape := ⟨4, ![4, 130, 80, 256]⟩
abbrev S33280x1024 : Shape := ⟨2, ![33280, 1024]⟩
abbrev S2x16640x4x4x64 : Shape := ⟨5, ![2, 16640, 4, 4, 64]⟩
abbrev S2x16640x4x64 : Shape := ⟨4, ![2, 16640, 4, 64]⟩
abbrev S2x16400x4x64 : Shape := ⟨4, ![2, 16400, 4, 64]⟩
abbrev S4x130x64x256 : Shape := ⟨4, ![4, 130, 64, 256]⟩
abbrev S4x2x65x64x256 : Shape := ⟨5, ![4, 2, 65, 64, 256]⟩
abbrev S2x65x256x4x64 : Shape := ⟨5, ![2, 65, 256, 4, 64]⟩
abbrev S2x4x16400x16640x4 : Shape := ⟨5, ![2, 4, 16400, 16640, 4]⟩
abbrev S2x4x4x16640x16400 : Shape := ⟨5, ![2, 4, 4, 16640, 16400]⟩
abbrev S_ : Shape := ⟨0, ![]⟩
abbrev S2x4x4x16640 : Shape := ⟨4, ![2, 4, 4, 16640]⟩
abbrev S2x4x4x16640x1 : Shape := ⟨5, ![2, 4, 4, 16640, 1]⟩
abbrev S2x4x64x4x16640 : Shape := ⟨5, ![2, 4, 64, 4, 16640]⟩

abbrev nBuf : Space → Nat
  | .hbm => 34
  | .vmem => 0
  | .smem => 0
  | _ => 0

abbrev bufTy : (tb : Table) → Fin (tcTables nBuf tb) → BufTy
  | .hbm, ⟨0, _⟩ => ⟨S1024x33280, .bf16⟩
  | .hbm, ⟨1, _⟩ => ⟨S130x256x256, .bf16⟩
  | .hbm, ⟨2, _⟩ => ⟨S4x130x80x256, .bf16⟩
  | .hbm, ⟨3, _⟩ => ⟨S33280x1024, .bf16⟩
  | .hbm, ⟨4, _⟩ => ⟨S2x16640x4x4x64, .bf16⟩
  | .hbm, ⟨5, _⟩ => ⟨S2x16640x4x64, .bf16⟩
  | .hbm, ⟨6, _⟩ => ⟨S2x16400x4x64, .bf16⟩
  | .hbm, ⟨7, _⟩ => ⟨S4x130x64x256, .bf16⟩
  | .hbm, ⟨8, _⟩ => ⟨S4x2x65x64x256, .bf16⟩
  | .hbm, ⟨9, _⟩ => ⟨S2x65x256x4x64, .bf16⟩
  | .hbm, ⟨10, _⟩ => ⟨S2x16640x4x64, .bf16⟩
  | .hbm, ⟨11, _⟩ => ⟨S2x16400x4x64, .bf16⟩
  | .hbm, ⟨12, _⟩ => ⟨S2x4x16400x16640x4, .f32⟩
  | .hbm, ⟨13, _⟩ => ⟨S2x4x4x16640x16400, .f32⟩
  | .hbm, ⟨14, _⟩ => ⟨S2x4x4x16640x16400, .bf16⟩
  | .hbm, ⟨15, _⟩ => ⟨S2x4x4x16640x16400, .f32⟩
  | .hbm, ⟨16, _⟩ => ⟨S_, .f32⟩
  | .hbm, ⟨17, _⟩ => ⟨S2x4x4x16640, .f32⟩
  | .hbm, ⟨18, _⟩ => ⟨S2x4x4x16640x1, .f32⟩
  | .hbm, ⟨19, _⟩ => ⟨S2x4x4x16640x16400, .f32⟩
  | .hbm, ⟨20, _⟩ => ⟨S2x4x4x16640x16400, .f32⟩
  | .hbm, ⟨21, _⟩ => ⟨S_, .f32⟩
  | .hbm, ⟨22, _⟩ => ⟨S2x4x4x16640x16400, .f32⟩
  | .hbm, ⟨23, _⟩ => ⟨S2x4x4x16640x16400, .f32⟩
  | .hbm, ⟨24, _⟩ => ⟨S_, .f32⟩
  | .hbm, ⟨25, _⟩ => ⟨S2x4x4x16640, .f32⟩
  | .hbm, ⟨26, _⟩ => ⟨S2x4x4x16640x1, .f32⟩
  | .hbm, ⟨27, _⟩ => ⟨S2x4x4x16640x16400, .f32⟩
  | .hbm, ⟨28, _⟩ => ⟨S2x4x4x16640x16400, .f32⟩
  | .hbm, ⟨29, _⟩ => ⟨S2x4x4x16640x16400, .bf16⟩
  | .hbm, ⟨30, _⟩ => ⟨S2x4x64x4x16640, .f32⟩
  | .hbm, ⟨31, _⟩ => ⟨S2x16640x4x4x64, .f32⟩
  | .hbm, ⟨32, _⟩ => ⟨S2x16640x4x4x64, .bf16⟩
  | .hbm, ⟨33, _⟩ => ⟨S33280x1024, .bf16⟩
  | _, _ => ⟨S1024x33280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Kernel2.lean ====
abbrev S33280x1024 : Shape := ⟨2, ![33280, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S1x1024 : Shape := ⟨2, ![1, 1024]⟩
abbrev S1280x1024 : Shape := ⟨2, ![1280, 1024]⟩
abbrev S1x1x1024x5632 : Shape := ⟨4, ![1, 1, 1024, 5632]⟩
abbrev S1x1x2816x1024 : Shape := ⟨4, ![1, 1, 2816, 1024]⟩
abbrev S256x1024 : Shape := ⟨2, ![256, 1024]⟩
abbrev S256 : Shape := ⟨1, ![256]⟩
abbrev S256x1 : Shape := ⟨2, ![256, 1]⟩
abbrev S1x1x1024x768 : Shape := ⟨4, ![1, 1, 1024, 768]⟩
abbrev S1024x768 : Shape := ⟨2, ![1024, 768]⟩
abbrev S256x768 : Shape := ⟨2, ![256, 768]⟩
abbrev S1x1x768x1024 : Shape := ⟨4, ![1, 1, 768, 1024]⟩
abbrev S768x1024 : Shape := ⟨2, ![768, 1024]⟩
abbrev S1x1x1024x512 : Shape := ⟨4, ![1, 1, 1024, 512]⟩
abbrev S1024x512 : Shape := ⟨2, ![1024, 512]⟩
abbrev S256x512 : Shape := ⟨2, ![256, 512]⟩
abbrev S1x1x512x1024 : Shape := ⟨4, ![1, 1, 512, 1024]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S1024, .f32⟩
  | .hbm, ⟨3, _⟩ => ⟨S4x2x1024x5632, .bf16⟩
  | .hbm, ⟨4, _⟩ => ⟨S4x2x2816x1024, .bf16⟩
  | .hbm, ⟨5, _⟩ => ⟨S1x1024, .f32⟩
  | .hbm, ⟨6, _⟩ => ⟨S1x1024, .f32⟩
  | .hbm, ⟨7, _⟩ => ⟨S33280x1024, .f32⟩
  | .local _ .vmem, ⟨0, _⟩ => ⟨S1280x1024, .f32⟩
  | .local _ .vmem, ⟨1, _⟩ => ⟨S1280x1024, .f32⟩
  | .local _ .vmem, ⟨2, _⟩ => ⟨S1x1024, .f32⟩
  | .local _ .vmem, ⟨3, _⟩ => ⟨S1x1024, .f32⟩
  | .local _ .vmem, ⟨4, _⟩ => ⟨S1x1x1024x5632, .bf16⟩
  | .local _ .vmem, ⟨5, _⟩ => ⟨S1x1x2816x1024, .bf16⟩
  | .local _ .vmem, ⟨6, _⟩ => ⟨S1280x1024, .f32⟩
  | .local _ .vmem, ⟨7, _⟩ => ⟨S1280x1024, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1280x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S33280x1024 : Shape := ⟨2, ![33280, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S_ : Shape := ⟨0, ![]⟩
abbrev S33280 : Shape := ⟨1, ![33280]⟩
abbrev S33280x1 : Shape := ⟨2, ![33280, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S33280x5632 : Shape := ⟨2, ![33280, 5632]⟩
abbrev S33280x2816 : Shape := ⟨2, ![33280, 2816]⟩

abbrev nBuf : Space → Nat
  | .hbm => 61
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S1024, .f32⟩
  | .hbm, ⟨3, _⟩ => ⟨S4x2x1024x5632, .bf16⟩
  | .hbm, ⟨4, _⟩ => ⟨S4x2x2816x1024, .bf16⟩
  | .hbm, ⟨5, _⟩ => ⟨S33280x1024, .f32⟩
  | .hbm, ⟨6, _⟩ => ⟨S_, .f32⟩
  | .hbm, ⟨7, _⟩ => ⟨S33280, .f32⟩
  | .hbm, ⟨8, _⟩ => ⟨S33280x1, .f32⟩
  | .hbm, ⟨9, _⟩ => ⟨S_, .f32⟩
  | .hbm, ⟨10, _⟩ => ⟨S33280x1, .f32⟩
  | .hbm, ⟨11, _⟩ => ⟨S33280x1, .f32⟩
  | .hbm, ⟨12, _⟩ => ⟨S_, .f32⟩
  | .hbm, ⟨13, _⟩ => ⟨S33280x1, .f32⟩
  | .hbm, ⟨14, _⟩ => ⟨S33280x1, .f32⟩
  | .hbm, ⟨15, _⟩ => ⟨S33280x1, .f32⟩
  | .hbm, ⟨16, _⟩ => ⟨S33280x1024, .f32⟩
  | .hbm, ⟨17, _⟩ => ⟨S33280x1024, .f32⟩
  | .hbm, ⟨18, _⟩ => ⟨S1x1024, .f32⟩
  | .hbm, ⟨19, _⟩ => ⟨S33280x1024, .f32⟩
  | .hbm, ⟨20, _⟩ => ⟨S33280x1024, .f32⟩
  | .hbm, ⟨21, _⟩ => ⟨S1x1x1024x5632, .bf16⟩
  | .hbm, ⟨22, _⟩ => ⟨S1024x5632, .bf16⟩
  | .hbm, ⟨23, _⟩ => ⟨S1024x5632, .f32⟩
  | .hbm, ⟨24, _⟩ => ⟨S1x1x2816x1024, .bf16⟩
  | .hbm, ⟨25, _⟩ => ⟨S2816x1024, .bf16⟩
  | .hbm, ⟨26, _⟩ => ⟨S2816x1024, .f32⟩
  | .hbm, ⟨27, _⟩ => ⟨S33280x5632, .f32⟩
  | .hbm, ⟨28, _⟩ => ⟨S33280x2816, .f32⟩
  | .hbm, ⟨29, _⟩ => ⟨S33280x2816, .f32⟩
  | .hbm, ⟨30, _⟩ => ⟨S33280x2816, .f32⟩
  | .hbm, ⟨31, _⟩ => ⟨S_, .f32⟩
  | .hbm, ⟨32, _⟩ => ⟨S33280x2816, .f32⟩
  | .hbm, ⟨33, _⟩ => ⟨S33280x2816, .f32⟩
  | .hbm, ⟨34, _⟩ => ⟨S_, .f32⟩
  | .hbm, ⟨35, _⟩ => ⟨S33280x2816, .f32⟩
  | .hbm, ⟨36, _⟩ => ⟨S33280x2816, .f32⟩
  | .hbm, ⟨37, _⟩ => ⟨S33280x2816, .f32⟩
  | .hbm, ⟨38, _⟩ => ⟨S33280x2816, .f32⟩
  | .hbm, ⟨39, _⟩ => ⟨S33280x2816, .f32⟩
  | .hbm, ⟨40, _⟩ => ⟨S33280x1024, .f32⟩
  | .hbm, ⟨41, _⟩ => ⟨S33280x1024, .f32⟩
  | .hbm, ⟨42, _⟩ => ⟨S_, .f32⟩
  | .hbm, ⟨43, _⟩ => ⟨S33280, .f32⟩
  | .hbm, ⟨44, _⟩ => ⟨S33280x1, .f32⟩
  | .hbm, ⟨45, _⟩ => ⟨S_, .f32⟩
  | .hbm, ⟨46, _⟩ => ⟨S33280x1, .f32⟩
  | .hbm, ⟨47, _⟩ => ⟨S33280x1, .f32⟩
  | .hbm, ⟨48, _⟩ => ⟨S_, .f32⟩
  | .hbm, ⟨49, _⟩ => ⟨S33280x1, .f32⟩
  | .hbm, ⟨50, _⟩ => ⟨S33280x1, .f32⟩
  | .hbm, ⟨51, _⟩ => ⟨S33280x1, .f32⟩
  | .hbm, ⟨52, _⟩ => ⟨S33280x1024, .f32⟩
  | .hbm, ⟨53, _⟩ => ⟨S33280x1024, .f32⟩
  | .hbm, ⟨54, _⟩ => ⟨S1x1024, .f32⟩
  | .hbm, ⟨55, _⟩ => ⟨S33280x1024, .f32⟩
  | .hbm, ⟨56, _⟩ => ⟨S33280x1024, .f32⟩
  | .hbm, ⟨57, _⟩ => ⟨S_, .f32⟩
  | .hbm, ⟨58, _⟩ => ⟨S33280x1024, .f32⟩
  | .hbm, ⟨59, _⟩ => ⟨S33280x1024, .f32⟩
  | .hbm, ⟨60, _⟩ => ⟨S33280x1024, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kernel3.lean ====
abbrev S33280x1024 : Shape := ⟨2, ![33280, 1024]⟩
abbrev S1024x1024 : Shape := ⟨2, ![1024, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S1x1024 : Shape := ⟨2, ![1, 1024]⟩
abbrev S1280x1024 : Shape := ⟨2, ![1280, 1024]⟩
abbrev S1x1x1024x5632 : Shape := ⟨4, ![1, 1, 1024, 5632]⟩
abbrev S1x1x2816x1024 : Shape := ⟨4, ![1, 1, 2816, 1024]⟩
abbrev S256x1024 : Shape := ⟨2, ![256, 1024]⟩
abbrev S256 : Shape := ⟨1, ![256]⟩
abbrev S256x1 : Shape := ⟨2, ![256, 1]⟩
abbrev S1x1x1024x768 : Shape := ⟨4, ![1, 1, 1024, 768]⟩
abbrev S1024x768 : Shape := ⟨2, ![1024, 768]⟩
abbrev S256x768 : Shape := ⟨2, ![256, 768]⟩
abbrev S1x1x768x1024 : Shape := ⟨4, ![1, 1, 768, 1024]⟩
abbrev S768x1024 : Shape := ⟨2, ![768, 1024]⟩
abbrev S1x1x1024x512 : Shape := ⟨4, ![1, 1, 1024, 512]⟩
abbrev S1024x512 : Shape := ⟨2, ![1024, 512]⟩
abbrev S256x512 : Shape := ⟨2, ![256, 512]⟩
abbrev S1x1x512x1024 : Shape := ⟨4, ![1, 1, 512, 1024]⟩
abbrev S512x1024 : Shape := ⟨2, ![512, 1024]⟩

abbrev nBuf : Space → Nat
  | .hbm => 12
  | .vmem => 12
  | .smem => 0
  | _ => 0

abbrev bufTy : (tb : Table) → Fin (tcTables nBuf tb) → BufTy
  | .hbm, ⟨0, _⟩ => ⟨S33280x1024, .bf16⟩
  | .hbm, ⟨1, _⟩ => ⟨S33280x1024, .f32⟩
  | .hbm, ⟨2, _⟩ => ⟨S1024x1024, .bf16⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4x2x1024x5632, .bf16⟩
  | .hbm, ⟨7, _⟩ => ⟨S4x2x2816x1024, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S33280x1024, .f32⟩
  | .local _ .vmem, ⟨0, _⟩ => ⟨S1280x1024, .bf16⟩
  | .local _ .vmem, ⟨1, _⟩ => ⟨S1280x1024, .bf16⟩
  | .local _ .vmem, ⟨2, _⟩ => ⟨S1280x1024, .f32⟩
  | .local _ .vmem, ⟨3, _⟩ => ⟨S1280x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1x1024x5632, .bf16⟩
  | .local _ .vmem, ⟨9, _⟩ => ⟨S1x1x2816x1024, .bf16⟩
  | .local _ .vmem, ⟨10, _⟩ => ⟨S1280x1024, .f32⟩
  | .local _ .vmem, ⟨11, _⟩ => ⟨S1280x1024, .f32⟩
  | _, _ => ⟨S33280x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1280x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S33280x1024 : Shape := ⟨2, ![33280, 1024]⟩
abbrev S1024x1024 : Shape := ⟨2, ![1024, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S_ : Shape := ⟨0, ![]⟩
abbrev S33280 : Shape := ⟨1, ![33280]⟩
abbrev S33280x1 : Shape := ⟨2, ![33280, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S33280x5632 : Shape := ⟨2, ![33280, 5632]⟩
abbrev S33280x2816 : Shape := ⟨2, ![33280, 2816]⟩

abbrev nBuf : Space → Nat
  | .hbm => 84
  | .vmem => 0
  | .smem => 0
  | _ => 0

abbrev bufTy : (tb : Table) → Fin (tcTables nBuf tb) → BufTy
  | .hbm, ⟨0, _⟩ => ⟨S33280x1024, .bf16⟩
  | .hbm, ⟨1, _⟩ => ⟨S33280x1024, .f32⟩
  | .hbm, ⟨2, _⟩ => ⟨S1024x1024, .bf16⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4x2x1024x5632, .bf16⟩
  | .hbm, ⟨7, _⟩ => ⟨S4x2x2816x1024, .bf16⟩
  | .hbm, ⟨8, _⟩ => ⟨S33280x1024, .f32⟩
  | .hbm, ⟨9, _⟩ => ⟨S1024x1024, .f32⟩
  | .hbm, ⟨10, _⟩ => ⟨S33280x1024, .f32⟩
  | .hbm, ⟨11, _⟩ => ⟨S33280x1024, .f32⟩
  | .hbm, ⟨12, _⟩ => ⟨S_, .f32⟩
  | .hbm, ⟨13, _⟩ => ⟨S33280, .f32⟩
  | .hbm, ⟨14, _⟩ => ⟨S33280x1, .f32⟩
  | .hbm, ⟨15, _⟩ => ⟨S_, .f32⟩
  | .hbm, ⟨16, _⟩ => ⟨S33280x1, .f32⟩
  | .hbm, ⟨17, _⟩ => ⟨S33280x1, .f32⟩
  | .hbm, ⟨18, _⟩ => ⟨S_, .f32⟩
  | .hbm, ⟨19, _⟩ => ⟨S33280x1, .f32⟩
  | .hbm, ⟨20, _⟩ => ⟨S33280x1, .f32⟩
  | .hbm, ⟨21, _⟩ => ⟨S33280x1, .f32⟩
  | .hbm, ⟨22, _⟩ => ⟨S33280x1024, .f32⟩
  | .hbm, ⟨23, _⟩ => ⟨S33280x1024, .f32⟩
  | .hbm, ⟨24, _⟩ => ⟨S1x1024, .f32⟩
  | .hbm, ⟨25, _⟩ => ⟨S33280x1024, .f32⟩
  | .hbm, ⟨26, _⟩ => ⟨S33280x1024, .f32⟩
  | .hbm, ⟨27, _⟩ => ⟨S33280x1024, .f32⟩
  | .hbm, ⟨28, _⟩ => ⟨S33280x1024, .f32⟩
  | .hbm, ⟨29, _⟩ => ⟨S_, .f32⟩
  | .hbm, ⟨30, _⟩ => ⟨S33280, .f32⟩
  | .hbm, ⟨31, _⟩ => ⟨S33280x1, .f32⟩
  | .hbm, ⟨32, _⟩ => ⟨S_, .f32⟩
  | .hbm, ⟨33, _⟩ => ⟨S33280x1, .f32⟩
  | .hbm, ⟨34, _⟩ => ⟨S33280x1, .f32⟩
  | .hbm, ⟨35, _⟩ => ⟨S_, .f32⟩
  | .hbm, ⟨36, _⟩ => ⟨S33280x1, .f32⟩
  | .hbm, ⟨37, _⟩ => ⟨S33280x1, .f32⟩
  | .hbm, ⟨38, _⟩ => ⟨S33280x1, .f32⟩
  | .hbm, ⟨39, _⟩ => ⟨S33280x1024, .f32⟩
  | .hbm, ⟨40, _⟩ => ⟨S33280x1024, .f32⟩
  | .hbm, ⟨41, _⟩ => ⟨S1x1024, .f32⟩
  | .hbm, ⟨42, _⟩ => ⟨S33280x1024, .f32⟩
  | .hbm, ⟨43, _⟩ => ⟨S33280x1024, .f32⟩
  | .hbm, ⟨44, _⟩ => ⟨S1x1x1024x5632, .bf16⟩
  | .hbm, ⟨45, _⟩ => ⟨S1024x5632, .bf16⟩
  | .hbm, ⟨46, _⟩ => ⟨S1024x5632, .f32⟩
  | .hbm, ⟨47, _⟩ => ⟨S1x1x2816x1024, .bf16⟩
  | .hbm, ⟨48, _⟩ => ⟨S2816x1024, .bf16⟩
  | .hbm, ⟨49, _⟩ => ⟨S2816x1024, .f32⟩
  | .hbm, ⟨50, _⟩ => ⟨S33280x5632, .f32⟩
  | .hbm, ⟨51, _⟩ => ⟨S33280x2816, .f32⟩
  | .hbm, ⟨52, _⟩ => ⟨S33280x2816, .f32⟩
  | .hbm, ⟨53, _⟩ => ⟨S33280x2816, .f32⟩
  | .hbm, ⟨54, _⟩ => ⟨S_, .f32⟩
  | .hbm, ⟨55, _⟩ => ⟨S33280x2816, .f32⟩
  | .hbm, ⟨56, _⟩ => ⟨S33280x2816, .f32⟩
  | .hbm, ⟨57, _⟩ => ⟨S_, .f32⟩
  | .hbm, ⟨58, _⟩ => ⟨S33280x2816, .f32⟩
  | .hbm, ⟨59, _⟩ => ⟨S33280x2816, .f32⟩
  | .hbm, ⟨60, _⟩ => ⟨S33280x2816, .f32⟩
  | .hbm, ⟨61, _⟩ => ⟨S33280x2816, .f32⟩
  | .hbm, ⟨62, _⟩ => ⟨S33280x2816, .f32⟩
  | .hbm, ⟨63, _⟩ => ⟨S33280x1024, .f32⟩
  | .hbm, ⟨64, _⟩ => ⟨S33280x1024, .f32⟩
  | .hbm, ⟨65, _⟩ => ⟨S_, .f32⟩
  | .hbm, ⟨66, _⟩ => ⟨S33280, .f32⟩
  | .hbm, ⟨67, _⟩ => ⟨S33280x1, .f32⟩
  | .hbm, ⟨68, _⟩ => ⟨S_, .f32⟩
  | .hbm, ⟨69, _⟩ => ⟨S33280x1, .f32⟩
  | .hbm, ⟨70, _⟩ => ⟨S33280x1, .f32⟩
  | .hbm, ⟨71, _⟩ => ⟨S_, .f32⟩
  | .hbm, ⟨72, _⟩ => ⟨S33280x1, .f32⟩
  | .hbm, ⟨73, _⟩ => ⟨S33280x1, .f32⟩
  | .hbm, ⟨74, _⟩ => ⟨S33280x1, .f32⟩
  | .hbm, ⟨75, _⟩ => ⟨S33280x1024, .f32⟩
  | .hbm, ⟨76, _⟩ => ⟨S33280x1024, .f32⟩
  | .hbm, ⟨77, _⟩ => ⟨S1x1024, .f32⟩
  | .hbm, ⟨78, _⟩ => ⟨S33280x1024, .f32⟩
  | .hbm, ⟨79, _⟩ => ⟨S33280x1024, .f32⟩
  | .hbm, ⟨80, _⟩ => ⟨S_, .f32⟩
  | .hbm, ⟨81, _⟩ => ⟨S33280x1024, .f32⟩
  | .hbm, ⟨82, _⟩ => ⟨S33280x1024, .f32⟩
  | .hbm, ⟨83, _⟩ => ⟨S33280x1024, .f32⟩
  | _, _ => ⟨S33280x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_8 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩

abbrev nD : Nat := 1
abbrev τ : Topo := Topo.v7x

variable {F : FTy → Type} [FloatOps F]
-- ==== Kernel4.lean ====
abbrev S33280x1024 : Shape := ⟨2, ![33280, 1024]⟩
abbrev S1024 : Shape := ⟨1, ![1024]⟩
abbrev S1024x2048 : Shape := ⟨2, ![1024, 2048]⟩
abbrev S1x1024 : Shape := ⟨2, ![1, 1024]⟩
abbrev S1280x1024 : Shape := ⟨2, ![1280, 1024]⟩
abbrev S1280 : Shape := ⟨1, ![1280]⟩
abbrev S1280x1 : Shape := ⟨2, ![1280, 1]⟩
abbrev S1280x2048 : Shape := ⟨2, ![1280, 2048]⟩

abbrev nBuf : Space → Nat
  | .hbm => 7
  | .vmem => 8
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S33280x1024, .bf16⟩
  | .hbm, ⟨6, _⟩ => ⟨S33280x1024, .f32⟩
  | .local _ .vmem, ⟨0, _⟩ => ⟨S1280x1024, .f32⟩
  | .local _ .vmem, ⟨1, _⟩ => ⟨S1280x1024, .f32⟩
  | .local _ .vmem, ⟨2, _⟩ => ⟨S1x1024, .f32⟩
  | .local _ .vmem, ⟨3, _⟩ => ⟨S1024x2048, .bf16⟩
  | .local _ .vmem, ⟨4, _⟩ => ⟨S1280x1024, .bf16⟩
  | .local _ .vmem, ⟨5, _⟩ => ⟨S1280x1024, .bf16⟩
  | .local _ .vmem, ⟨6, _⟩ => ⟨S1280x1024, .f32⟩
  | .local _ .vmem, ⟨7, _⟩ => ⟨S1280x1024, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1280x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S33280x1024 : Shape := ⟨2, ![33280, 1024]⟩
abbrev S1024 : Shape := ⟨1, ![1024]⟩
abbrev S1024x2048 : Shape := ⟨2, ![1024, 2048]⟩
abbrev S_ : Shape := ⟨0, ![]⟩
abbrev S33280 : Shape := ⟨1, ![33280]⟩
abbrev S33280x1 : Shape := ⟨2, ![33280, 1]⟩
abbrev S1x1024 : Shape := ⟨2, ![1, 1024]⟩
abbrev S33280x2048 : Shape := ⟨2, ![33280, 2048]⟩

abbrev nBuf : Space → Nat
  | .hbm => 40
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S1024x2048, .f32⟩
  | .hbm, ⟨3, _⟩ => ⟨S33280x1024, .f32⟩
  | .hbm, ⟨4, _⟩ => ⟨S_, .f32⟩
  | .hbm, ⟨5, _⟩ => ⟨S33280, .f32⟩
  | .hbm, ⟨6, _⟩ => ⟨S33280x1, .f32⟩
  | .hbm, ⟨7, _⟩ => ⟨S_, .f32⟩
  | .hbm, ⟨8, _⟩ => ⟨S33280x1, .f32⟩
  | .hbm, ⟨9, _⟩ => ⟨S33280x1, .f32⟩
  | .hbm, ⟨10, _⟩ => ⟨S_, .f32⟩
  | .hbm, ⟨11, _⟩ => ⟨S33280x1, .f32⟩
  | .hbm, ⟨12, _⟩ => ⟨S33280x1, .f32⟩
  | .hbm, ⟨13, _⟩ => ⟨S33280x1, .f32⟩
  | .hbm, ⟨14, _⟩ => ⟨S33280x1024, .f32⟩
  | .hbm, ⟨15, _⟩ => ⟨S33280x1024, .f32⟩
  | .hbm, ⟨16, _⟩ => ⟨S1x1024, .f32⟩
  | .hbm, ⟨17, _⟩ => ⟨S33280x1024, .f32⟩
  | .hbm, ⟨18, _⟩ => ⟨S33280x1024, .f32⟩
  | .hbm, ⟨19, _⟩ => ⟨S33280x2048, .f32⟩
  | .hbm, ⟨20, _⟩ => ⟨S33280x1024, .f32⟩
  | .hbm, ⟨21, _⟩ => ⟨S33280x1024, .f32⟩
  | .hbm, ⟨22, _⟩ => ⟨S33280x1024, .f32⟩
  | .hbm, ⟨23, _⟩ => ⟨S_, .f32⟩
  | .hbm, ⟨24, _⟩ => ⟨S33280x1024, .f32⟩
  | .hbm, ⟨25, _⟩ => ⟨S33280x1024, .f32⟩
  | .hbm, ⟨26, _⟩ => ⟨S33280x1024, .f32⟩
  | .hbm, ⟨27, _⟩ => ⟨S_, .f32⟩
  | .hbm, ⟨28, _⟩ => ⟨S33280x1024, .f32⟩
  | .hbm, ⟨29, _⟩ => ⟨S33280x1024, .f32⟩
  | .hbm, ⟨30, _⟩ => ⟨S33280x1024, .f32⟩
  | .hbm, ⟨31, _⟩ => ⟨S_, .f32⟩
  | .hbm, ⟨32, _⟩ => ⟨S33280x1024, .f32⟩
  | .hbm, ⟨33, _⟩ => ⟨S33280x1024, .f32⟩
  | .hbm, ⟨34, _⟩ => ⟨S_, .f32⟩
  | .hbm, ⟨35, _⟩ => ⟨S33280x1024, .f32⟩
  | .hbm, ⟨36, _⟩ => ⟨S33280x1024, .f32⟩
  | .hbm, ⟨37, _⟩ => ⟨S33280x1024, .f32⟩
  | .hbm, ⟨38, _⟩ => ⟨S33280x1024, .bf16⟩
  | .hbm, ⟨39, _⟩ => ⟨S33280x1024, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel5.lean ====
abbrev S33280x1024 : Shape := ⟨2, ![33280, 1024]⟩
abbrev S1024 : Shape := ⟨1, ![1024]⟩
abbrev S1024x1536 : Shape := ⟨2, ![1024, 1536]⟩
abbrev S64 : Shape := ⟨1, ![64]⟩
abbrev S32x33280 : Shape := ⟨2, ![32, 33280]⟩
abbrev S1536x1024 : Shape := ⟨2, ![1536, 1024]⟩
abbrev S1x1024 : Shape := ⟨2, ![1, 1024]⟩
abbrev S64x1 : Shape := ⟨2, ![64, 1]⟩
abbrev S1024x33280 : Shape := ⟨2, ![1024, 33280]⟩
abbrev S130x256x256 : Shape := ⟨3, ![130, 256, 256]⟩
abbrev S4x130x80x256 : Shape := ⟨4, ![4, 130, 80, 256]⟩
abbrev S1280x1024 : Shape := ⟨2, ![1280, 1024]⟩
abbrev S32x1280 : Shape := ⟨2, ![32, 1280]⟩
abbrev S1024x1280 : Shape := ⟨2, ![1024, 1280]⟩
abbrev S5x256x256 : Shape := ⟨3, ![5, 256, 256]⟩
abbrev S4x5x80x256 : Shape := ⟨4, ![4, 5, 80, 256]⟩
abbrev S16x256 : Shape := ⟨2, ![16, 256]⟩
abbrev S256x1024 : Shape := ⟨2, ![256, 1024]⟩
abbrev S256 : Shape := ⟨1, ![256]⟩
abbrev S256x1 : Shape := ⟨2, ![256, 1]⟩
abbrev S1536x256 : Shape := ⟨2, ![1536, 256]⟩
abbrev S32x256 : Shape := ⟨2, ![32, 256]⟩
abbrev S64x256 : Shape := ⟨2, ![64, 256]⟩
abbrev S1x256 : Shape := ⟨2, ![1, 256]⟩
abbrev S256x256 : Shape := ⟨2, ![256, 256]⟩
abbrev S1x256x256 : Shape := ⟨3, ![1, 256, 256]⟩
abbrev S80x256 : Shape := ⟨2, ![80, 256]⟩
abbrev S1x1x80x256 : Shape := ⟨4, ![1, 1, 80, 256]⟩

abbrev nBuf : Space → Nat
  | .hbm => 15
  | .vmem => 16
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S1024x1536, .f32⟩
  | .hbm, ⟨3, _⟩ => ⟨S64, .f32⟩
  | .hbm, ⟨4, _⟩ => ⟨S64, .f32⟩
  | .hbm, ⟨5, _⟩ => ⟨S32x33280, .f32⟩
  | .hbm, ⟨6, _⟩ => ⟨S32x33280, .f32⟩
  | .hbm, ⟨7, _⟩ => ⟨S1536x1024, .f32⟩
  | .hbm, ⟨8, _⟩ => ⟨S1536x1024, .bf16⟩
  | .hbm, ⟨9, _⟩ => ⟨S1x1024, .f32⟩
  | .hbm, ⟨10, _⟩ => ⟨S64x1, .f32⟩
  | .hbm, ⟨11, _⟩ => ⟨S64x1, .f32⟩
  | .hbm, ⟨12, _⟩ => ⟨S1024x33280, .bf16⟩
  | .hbm, ⟨13, _⟩ => ⟨S130x256x256, .bf16⟩
  | .hbm, ⟨14, _⟩ => ⟨S4x130x80x256, .bf16⟩
  | .local _ .vmem, ⟨0, _⟩ => ⟨S1280x1024, .f32⟩
  | .local _ .vmem, ⟨1, _⟩ => ⟨S1280x1024, .f32⟩
  | .local _ .vmem, ⟨2, _⟩ => ⟨S1x1024, .f32⟩
  | .local _ .vmem, ⟨3, _⟩ => ⟨S1536x1024, .bf16⟩
  | .local _ .vmem, ⟨4, _⟩ => ⟨S64x1, .f32⟩
  | .local _ .vmem, ⟨5, _⟩ => ⟨S64x1, .f32⟩
  | .local _ .vmem, ⟨6, _⟩ => ⟨S32x1280, .f32⟩
  | .local _ .vmem, ⟨7, _⟩ => ⟨S32x1280, .f32⟩
  | .local _ .vmem, ⟨8, _⟩ => ⟨S32x1280, .f32⟩
  | .local _ .vmem, ⟨9, _⟩ => ⟨S32x1280, .f32⟩
  | .local _ .vmem, ⟨10, _⟩ => ⟨S1024x1280, .bf16⟩
  | .local _ .vmem, ⟨11, _⟩ => ⟨S1024x1280, .bf16⟩
  | .local _ .vmem, ⟨12, _⟩ => ⟨S5x256x256, .bf16⟩
  | .local _ .vmem, ⟨13, _⟩ => ⟨S5x256x256, .bf16⟩
  | .local _ .vmem, ⟨14, _⟩ => ⟨S4x5x80x256, .bf16⟩
  | .local _ .vmem, ⟨15, _⟩ => ⟨S4x5x80x256, .bf16⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x5x80x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S33280x1024 : Shape := ⟨2, ![33280, 1024]⟩
abbrev S1024 : Shape := ⟨1, ![1024]⟩
abbrev S1024x1536 : Shape := ⟨2, ![1024, 1536]⟩
abbrev S64 : Shape := ⟨1, ![64]⟩
abbrev S32x33280 : Shape := ⟨2, ![32, 33280]⟩
abbrev S33280x32 : Shape := ⟨2, ![33280, 32]⟩
abbrev S_ : Shape := ⟨0, ![]⟩
abbrev S33280 : Shape := ⟨1, ![33280]⟩
abbrev S33280x1 : Shape := ⟨2, ![33280, 1]⟩
abbrev S1x1024 : Shape := ⟨2, ![1, 1024]⟩
abbrev S33280x1536 : Shape := ⟨2, ![33280, 1536]⟩
abbrev S33280x16x64 : Shape := ⟨3, ![33280, 16, 64]⟩
abbrev S33280x256 : Shape := ⟨2, ![33280, 256]⟩
abbrev S33280x4x64 : Shape := ⟨3, ![33280, 4, 64]⟩
abbrev S130x256x4x64 : Shape := ⟨4, ![130, 256, 4, 64]⟩
abbrev S33280x16 : Shape := ⟨2, ![33280, 16]⟩
abbrev S33280x16x1 : Shape := ⟨3, ![33280, 16, 1]⟩
abbrev S1x1x64 : Shape := ⟨3, ![1, 1, 64]⟩
abbrev S33280x1x32 : Shape := ⟨3, ![33280, 1, 32]⟩
abbrev S33280x16x32 : Shape := ⟨3, ![33280, 16, 32]⟩
abbrev S33280x4 : Shape := ⟨2, ![33280, 4]⟩
abbrev S33280x4x1 : Shape := ⟨3, ![33280, 4, 1]⟩
abbrev S33280x4x32 : Shape := ⟨3, ![33280, 4, 32]⟩
abbrev S4x130x1x256 : Shape := ⟨4, ![4, 130, 1, 256]⟩
abbrev S4x130x15x256 : Shape := ⟨4, ![4, 130, 15, 256]⟩
abbrev S1024x33280 : Shape := ⟨2, ![1024, 33280]⟩
abbrev S130x256x256 : Shape := ⟨3, ![130, 256, 256]⟩
abbrev S4x130x64x256 : Shape := ⟨4, ![4, 130, 64, 256]⟩
abbrev S4x130x80x256 : Shape := ⟨4, ![4, 130, 80, 256]⟩

abbrev nBuf : Space → Nat
  | .hbm => 112
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S1024x1536, .f32⟩
  | .hbm, ⟨3, _⟩ => ⟨S64, .f32⟩
  | .hbm, ⟨4, _⟩ => ⟨S64, .f32⟩
  | .hbm, ⟨5, _⟩ => ⟨S32x33280, .f32⟩
  | .hbm, ⟨6, _⟩ => ⟨S32x33280, .f32⟩
  | .hbm, ⟨7, _⟩ => ⟨S33280x32, .f32⟩
  | .hbm, ⟨8, _⟩ => ⟨S33280x32, .f32⟩
  | .hbm, ⟨9, _⟩ => ⟨S33280x1024, .f32⟩
  | .hbm, ⟨10, _⟩ => ⟨S_, .f32⟩
  | .hbm, ⟨11, _⟩ => ⟨S33280, .f32⟩
  | .hbm, ⟨12, _⟩ => ⟨S33280x1, .f32⟩
  | .hbm, ⟨13, _⟩ => ⟨S_, .f32⟩
  | .hbm, ⟨14, _⟩ => ⟨S33280x1, .f32⟩
  | .hbm, ⟨15, _⟩ => ⟨S33280x1, .f32⟩
  | .hbm, ⟨16, _⟩ => ⟨S_, .f32⟩
  | .hbm, ⟨17, _⟩ => ⟨S33280x1, .f32⟩
  | .hbm, ⟨18, _⟩ => ⟨S33280x1, .f32⟩
  | .hbm, ⟨19, _⟩ => ⟨S33280x1, .f32⟩
  | .hbm, ⟨20, _⟩ => ⟨S33280x1024, .f32⟩
  | .hbm, ⟨21, _⟩ => ⟨S33280x1024, .f32⟩
  | .hbm, ⟨22, _⟩ => ⟨S1x1024, .f32⟩
  | .hbm, ⟨23, _⟩ => ⟨S33280x1024, .f32⟩
  | .hbm, ⟨24, _⟩ => ⟨S33280x1024, .f32⟩
  | .hbm, ⟨25, _⟩ => ⟨S33280x1536, .f32⟩
  | .hbm, ⟨26, _⟩ => ⟨S33280x1024, .f32⟩
  | .hbm, ⟨27, _⟩ => ⟨S33280x16x64, .f32⟩
  | .hbm, ⟨28, _⟩ => ⟨S33280x256, .f32⟩
  | .hbm, ⟨29, _⟩ => ⟨S33280x4x64, .f32⟩
  | .hbm, ⟨30, _⟩ => ⟨S33280x256, .f32⟩
  | .hbm, ⟨31, _⟩ => ⟨S130x256x4x64, .f32⟩
  | .hbm, ⟨32, _⟩ => ⟨S33280x16x64, .f32⟩
  | .hbm, ⟨33, _⟩ => ⟨S_, .f32⟩
  | .hbm, ⟨34, _⟩ => ⟨S33280x16, .f32⟩
  | .hbm, ⟨35, _⟩ => ⟨S33280x16x1, .f32⟩
  | .hbm, ⟨36, _⟩ => ⟨S_, .f32⟩
  | .hbm, ⟨37, _⟩ => ⟨S33280x16x1, .f32⟩
  | .hbm, ⟨38, _⟩ => ⟨S33280x16x1, .f32⟩
  | .hbm, ⟨39, _⟩ => ⟨S_, .f32⟩
  | .hbm, ⟨40, _⟩ => ⟨S33280x16x1, .f32⟩
  | .hbm, ⟨41, _⟩ => ⟨S33280x16x1, .f32⟩
  | .hbm, ⟨42, _⟩ => ⟨S33280x16x1, .f32⟩
  | .hbm, ⟨43, _⟩ => ⟨S33280x16x64, .f32⟩
  | .hbm, ⟨44, _⟩ => ⟨S33280x16x64, .f32⟩
  | .hbm, ⟨45, _⟩ => ⟨S1x1x64, .f32⟩
  | .hbm, ⟨46, _⟩ => ⟨S33280x16x64, .f32⟩
  | .hbm, ⟨47, _⟩ => ⟨S33280x16x64, .f32⟩
  | .hbm, ⟨48, _⟩ => ⟨S33280x1x32, .f32⟩
  | .hbm, ⟨49, _⟩ => ⟨S33280x1x32, .f32⟩
  | .hbm, ⟨50, _⟩ => ⟨S33280x16x32, .f32⟩
  | .hbm, ⟨51, _⟩ => ⟨S33280x16x32, .f32⟩
  | .hbm, ⟨52, _⟩ => ⟨S33280x16x32, .f32⟩
  | .hbm, ⟨53, _⟩ => ⟨S33280x16x32, .f32⟩
  | .hbm, ⟨54, _⟩ => ⟨S33280x16x32, .f32⟩
  | .hbm, ⟨55, _⟩ => ⟨S33280x16x32, .f32⟩
  | .hbm, ⟨56, _⟩ => ⟨S33280x16x32, .f32⟩
  | .hbm, ⟨57, _⟩ => ⟨S33280x16x32, .f32⟩
  | .hbm, ⟨58, _⟩ => ⟨S33280x16x32, .f32⟩
  | .hbm, ⟨59, _⟩ => ⟨S33280x16x32, .f32⟩
  | .hbm, ⟨60, _⟩ => ⟨S33280x16x32, .f32⟩
  | .hbm, ⟨61, _⟩ => ⟨S33280x16x32, .f32⟩
  | .hbm, ⟨62, _⟩ => ⟨S33280x16x64, .f32⟩
  | .hbm, ⟨63, _⟩ => ⟨S_, .f32⟩
  | .hbm, ⟨64, _⟩ => ⟨S33280x16x64, .f32⟩
  | .hbm, ⟨65, _⟩ => ⟨S33280x16x64, .f32⟩
  | .hbm, ⟨66, _⟩ => ⟨S_, .f32⟩
  | .hbm, ⟨67, _⟩ => ⟨S33280x16x64, .f32⟩
  | .hbm, ⟨68, _⟩ => ⟨S33280x16x64, .f32⟩
  | .hbm, ⟨69, _⟩ => ⟨S33280x4x64, .f32⟩
  | .hbm, ⟨70, _⟩ => ⟨S_, .f32⟩
  | .hbm, ⟨71, _⟩ => ⟨S33280x4, .f32⟩
  | .hbm, ⟨72, _⟩ => ⟨S33280x4x1, .f32⟩
  | .hbm, ⟨73, _⟩ => ⟨S_, .f32⟩
  | .hbm, ⟨74, _⟩ => ⟨S33280x4x1, .f32⟩
  | .hbm, ⟨75, _⟩ => ⟨S33280x4x1, .f32⟩
  | .hbm, ⟨76, _⟩ => ⟨S_, .f32⟩
  | .hbm, ⟨77, _⟩ => ⟨S33280x4x1, .f32⟩
  | .hbm, ⟨78, _⟩ => ⟨S33280x4x1, .f32⟩
  | .hbm, ⟨79, _⟩ => ⟨S33280x4x1, .f32⟩
  | .hbm, ⟨80, _⟩ => ⟨S33280x4x64, .f32⟩
  | .hbm, ⟨81, _⟩ => ⟨S33280x4x64, .f32⟩
  | .hbm, ⟨82, _⟩ => ⟨S1x1x64, .f32⟩
  | .hbm, ⟨83, _⟩ => ⟨S33280x4x64, .f32⟩
  | .hbm, ⟨84, _⟩ => ⟨S33280x4x64, .f32⟩
  | .hbm, ⟨85, _⟩ => ⟨S33280x1x32, .f32⟩
  | .hbm, ⟨86, _⟩ => ⟨S33280x1x32, .f32⟩
  | .hbm, ⟨87, _⟩ => ⟨S33280x4x32, .f32⟩
  | .hbm, ⟨88, _⟩ => ⟨S33280x4x32, .f32⟩
  | .hbm, ⟨89, _⟩ => ⟨S33280x4x32, .f32⟩
  | .hbm, ⟨90, _⟩ => ⟨S33280x4x32, .f32⟩
  | .hbm, ⟨91, _⟩ => ⟨S33280x4x32, .f32⟩
  | .hbm, ⟨92, _⟩ => ⟨S33280x4x32, .f32⟩
  | .hbm, ⟨93, _⟩ => ⟨S33280x4x32, .f32⟩
  | .hbm, ⟨94, _⟩ => ⟨S33280x4x32, .f32⟩
  | .hbm, ⟨95, _⟩ => ⟨S33280x4x32, .f32⟩
  | .hbm, ⟨96, _⟩ => ⟨S33280x4x32, .f32⟩
  | .hbm, ⟨97, _⟩ => ⟨S33280x4x32, .f32⟩
  | .hbm, ⟨98, _⟩ => ⟨S33280x4x32, .f32⟩
  | .hbm, ⟨99, _⟩ => ⟨S33280x4x64, .f32⟩
  | .hbm, ⟨100, _⟩ => ⟨S_, .f32⟩
  | .hbm, ⟨101, _⟩ => ⟨S4x130x1x256, .f32⟩
  | .hbm, ⟨102, _⟩ => ⟨S_, .f32⟩
  | .hbm, ⟨103, _⟩ => ⟨S4x130x15x256, .f32⟩
  | .hbm, ⟨104, _⟩ => ⟨S33280x1024, .f32⟩
  | .hbm, ⟨105, _⟩ => ⟨S1024x33280, .f32⟩
  | .hbm, ⟨106, _⟩ => ⟨S1024x33280, .bf16⟩
  | .hbm, ⟨107, _⟩ => ⟨S130x256x256, .f32⟩
  | .hbm, ⟨108, _⟩ => ⟨S130x256x256, .bf16⟩
  | .hbm, ⟨109, _⟩ => ⟨S4x130x64x256, .f32⟩
  | .hbm, ⟨110, _⟩ => ⟨S4x130x80x256, .f32⟩
  | .hbm, ⟨111, _⟩ => ⟨S4x130x80x256, .bf16⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_10 : Ref sig .tc := ⟨.hbm, 100, rfl⟩
abbrev main_v82 : Ref sig .tc := ⟨.hbm, 101, rfl⟩
abbrev main_cst_11 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩

abbrev nD : Nat := 1
abbrev τ : Topo := Topo.v7x

variable {F : FTy → Type} [FloatOps F]
-- ==== Kernel6.lean ====
abbrev S33280x1024 : Shape := ⟨2, ![33280, 1024]⟩
abbrev S4x1024 : Shape := ⟨2, ![4, 1024]⟩
abbrev S1024 : Shape := ⟨1, ![1024]⟩
abbrev S4x256x256 : Shape := ⟨3, ![4, 256, 256]⟩
abbrev S1x1024 : Shape := ⟨2, ![1, 1024]⟩
abbrev S256x1024 : Shape := ⟨2, ![256, 1024]⟩
abbrev S8x1024 : Shape := ⟨2, ![8, 1024]⟩
abbrev S272x1024 : Shape := ⟨2, ![272, 1024]⟩
abbrev S256x256 : Shape := ⟨2, ![256, 256]⟩
abbrev S1x256x256 : Shape := ⟨3, ![1, 256, 256]⟩
abbrev S16x1024 : Shape := ⟨2, ![16, 1024]⟩
abbrev S232x1024 : Shape := ⟨2, ![232, 1024]⟩
abbrev S2x16640x1024 : Shape := ⟨3, ![2, 16640, 1024]⟩
abbrev S2x16x1024 : Shape := ⟨3, ![2, 16, 1024]⟩
abbrev S2x16384x1024 : Shape := ⟨3, ![2, 16384, 1024]⟩
abbrev S2x16400x1024 : Shape := ⟨3, ![2, 16400, 1024]⟩

abbrev nBuf : Space → Nat
  | .hbm => 19
  | .vmem => 18
  | .smem => 0
  | _ => 0

abbrev bufTy : (tb : Table) → Fin (tcTables nBuf tb) → BufTy
  | .hbm, ⟨0, _⟩ => ⟨S33280x1024, .f32⟩
  | .hbm, ⟨1, _⟩ => ⟨S4x1024, .f32⟩
  | .hbm, ⟨2, _⟩ => ⟨S1024, .f32⟩
  | .hbm, ⟨3, _⟩ => ⟨S4x256x256, .f32⟩
  | .hbm, ⟨4, _⟩ => ⟨S4x256x256, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S4x256x256, .bf16⟩
  | .hbm, ⟨10, _⟩ => ⟨S4x256x256, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S33280x1024, .f32⟩
  | .hbm, ⟨15, _⟩ => ⟨S2x16640x1024, .f32⟩
  | .hbm, ⟨16, _⟩ => ⟨S2x16x1024, .f32⟩
  | .hbm, ⟨17, _⟩ => ⟨S2x16384x1024, .f32⟩
  | .hbm, ⟨18, _⟩ => ⟨S2x16400x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S4x1024, .f32⟩
  | .local _ .vmem, ⟨7, _⟩ => ⟨S1x1024, .f32⟩
  | .local _ .vmem, ⟨8, _⟩ => ⟨S4x256x256, .bf16⟩
  | .local _ .vmem, ⟨9, _⟩ => ⟨S4x256x256, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 65], ![false, false]⟩

@[reducible] def k0_t1_loop : Scf.Loop 32 :=
  let c0_i32_6 : BitVec 32 := 0#32
  let c256_i32 : BitVec 32 := 256#32
  let v12 : BitVec 32 := Scalar.addi c0_i32_6 c256_i32
  let c1_i32 : BitVec 32 := 1#32
  ⟨c0_i32_6, v12, c1_i32⟩
def k0_off1 (k0_t1 : Fin k0_t1_loop.trips) : Fin 2 → Nat :=
  let c0_i32_6 : BitVec 32 := 0#32
  let c1_i32 : BitVec 32 := 1#32
  let arg16 : BitVec 32 := Scf.iv c0_i32_6 c1_i32 k0_t1
  let v17 : Index := Scalar.indexCast arg16
  let c0_10 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let c0_i32 : BitVec 32 := 0#32
  let v1 : BitVec 1 := Scalar.cmpi .eq arg1 c0_i32
  let c1_i32 : BitVec 32 := 1#32
  let v2 : BitVec 32 := Scalar.subi arg1 c1_i32
  let c64_i32 : BitVec 32 := 64#32
  let v3 : BitVec 32 := Scalar.select v1 c64_i32 v2
  let v4 : BitVec 32 := Scalar.addi v0 v3
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let c32_i32 : BitVec 32 := 32#32
  let v1 : BitVec 32 := Scalar.muli v0 c32_i32
  let c1_i32 : BitVec 32 := 1#32
  let v2 : BitVec 1 := Scalar.cmpi .sle arg1 c1_i32
  let c1_i32_0 : BitVec 32 := 1#32
  let v3 : BitVec 32 := Scalar.subi arg1 c1_i32_0
  let c32_i32_1 : BitVec 32 := 32#32
  let v4 : BitVec 32 := Scalar.muli v3 c32_i32_1
  let c1_i32_2 : BitVec 32 := 1#32
  let v5 : BitVec 32 := Scalar.subi v4 c1_i32_2
  let c2049_i32 : BitVec 32 := 2049#32
  let v6 : BitVec 32 := Scalar.select v2 c2049_i32 v5
  let v7 : BitVec 32 := Scalar.addi v1 v6
  let c0_i32 : BitVec 32 := 0#32
  let c0_i32_3 : BitVec 32 := 0#32
  ![v7.toNat, c0_i32.toNat]

def cc0_transform_2 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let c32_i32 : BitVec 32 := 32#32
  let v1 : BitVec 32 := Scalar.muli v0 c32_i32
  let c0_i32 : BitVec 32 := 0#32
  let v2 : BitVec 1 := Scalar.cmpi .eq arg1 c0_i32
  let c63_i32 : BitVec 32 := 63#32
  let v3 : BitVec 32 := Scalar.minsi arg1 c63_i32
  let c32_i32_0 : BitVec 32 := 32#32
  let v4 : BitVec 32 := Scalar.muli v3 c32_i32_0
  let c0_i32_1 : BitVec 32 := 0#32
  let v5 : BitVec 32 := Scalar.select v2 c0_i32_1 v4
  let v6 : BitVec 32 := Scalar.addi v1 v5
  let c0_i32_2 : BitVec 32 := 0#32
  let c0_i32_3 : BitVec 32 := 0#32
  ![v6.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let c0_i32 : BitVec 32 := 0#32
  let v1 : BitVec 1 := Scalar.cmpi .eq arg1 c0_i32
  let c1_i32 : BitVec 32 := 1#32
  let v2 : BitVec 32 := Scalar.subi arg1 c1_i32
  let c64_i32 : BitVec 32 := 64#32
  let v3 : BitVec 32 := Scalar.select v1 c64_i32 v2
  let v4 : BitVec 32 := Scalar.addi v0 v3
  let c0_i32_0 : BitVec 32 := 0#32
  let c0_i32_1 : BitVec 32 := 0#32
  ![v4.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel6Ideal.lean ====
variable {F : FTy → Type} [FloatOps F] [Named F]
def κ : String → Option EReal := fun
  | "rate" => some (((-8) * (Real.log 2)⁻¹ : ℝ) : EReal)
  | _ => none
-- ==== Reference6Ideal.lean ====
abbrev S33280x1024 : Shape := ⟨2, ![33280, 1024]⟩
abbrev S4x1024 : Shape := ⟨2, ![4, 1024]⟩
abbrev S1024 : Shape := ⟨1, ![1024]⟩
abbrev S4x256x256 : Shape := ⟨3, ![4, 256, 256]⟩
abbrev S2x16640x1024 : Shape := ⟨3, ![2, 16640, 1024]⟩
abbrev S2x16x1024 : Shape := ⟨3, ![2, 16, 1024]⟩
abbrev S2x16384x1024 : Shape := ⟨3, ![2, 16384, 1024]⟩
abbrev S2x16400x1024 : Shape := ⟨3, ![2, 16400, 1024]⟩
abbrev S_ : Shape := ⟨0, ![]⟩
abbrev S2x16403x1024 : Shape := ⟨3, ![2, 16403, 1024]⟩
abbrev S1x1024 : Shape := ⟨2, ![1, 1024]⟩
abbrev S1x1x1024 : Shape := ⟨3, ![1, 1, 1024]⟩
abbrev S2x16400x4x256 : Shape := ⟨4, ![2, 16400, 4, 256]⟩
abbrev S4x256x2x16400 : Shape := ⟨4, ![4, 256, 2, 16400]⟩
abbrev S2x1024 : Shape := ⟨2, ![2, 1024]⟩
abbrev S16400x2x1024 : Shape := ⟨3, ![16400, 2, 1024]⟩
abbrev S1x2x1024 : Shape := ⟨3, ![1, 2, 1024]⟩

abbrev nBuf : Space → Nat
  | .hbm => 138
  | .vmem => 0
  | .smem => 0
  | _ => 0

abbrev hbmTy0_0 (i : Nat) : BufTy := match i % 128 with
  | 0 => ⟨S33280x1024, .f32⟩
  | 1 => ⟨S4x1024, .f32⟩
  | 2 => ⟨S1024, .f32⟩
  | 3 => ⟨S4x256x256, .f32⟩
  | 4 => ⟨S4x256x256, .f32⟩
  | 5 => ⟨S1024, .f32⟩
  | 6 => ⟨S1024, .f32⟩
  | 7 => ⟨S1024, .f32⟩
  | 8 => ⟨S2x16640x1024, .f32⟩
  | 9 => ⟨S2x16x1024, .f32⟩
  | 10 => ⟨S2x16384x1024, .f32⟩
  | 11 => ⟨S2x16400x1024, .f32⟩
  | 12 => ⟨S_, .i32⟩
  | 13 => ⟨S_, .f32⟩
  | 14 => ⟨S2x16403x1024, .f32⟩
  | 15 => ⟨S2x16400x1024, .f32⟩
  | 16 => ⟨S1x1024, .f32⟩
  | 17 => ⟨S1024, .f32⟩
  | 18 => ⟨S1x1x1024, .f32⟩
  | 19 => ⟨S2x16400x1024, .f32⟩
  | 20 => ⟨S2x16400x1024, .f32⟩
  | 21 => ⟨S_, .f32⟩
  | 22 => ⟨S2x16400x1024, .f32⟩
  | 23 => ⟨S2x16400x1024, .f32⟩
  | 24 => ⟨S2x16400x1024, .f32⟩
  | 25 => ⟨S1x1024, .f32⟩
  | 26 => ⟨S1024, .f32⟩
  | 27 => ⟨S1x1x1024, .f32⟩
  | 28 => ⟨S2x16400x1024, .f32⟩
  | 29 => ⟨S2x16400x1024, .f32⟩
  | 30 => ⟨S2x16400x1024, .f32⟩
  | 31 => ⟨S2x16400x1024, .f32⟩
  | 32 => ⟨S1x1024, .f32⟩
  | 33 => ⟨S1024, .f32⟩
  | 34 => ⟨S1x1x1024, .f32⟩
  | 35 => ⟨S2x16400x1024, .f32⟩
  | 36 => ⟨S2x16400x1024, .f32⟩
  | 37 => ⟨S2x16400x1024, .f32⟩
  | 38 => ⟨S2x16400x1024, .f32⟩
  | 39 => ⟨S1x1024, .f32⟩
  | 40 => ⟨S1024, .f32⟩
  | 41 => ⟨S1x1x1024, .f32⟩
  | 42 => ⟨S2x16400x1024, .f32⟩
  | 43 => ⟨S2x16400x1024, .f32⟩
  | 44 => ⟨S2x16400x1024, .f32⟩
  | 45 => ⟨S1x1x1024, .f32⟩
  | 46 => ⟨S2x16400x1024, .f32⟩
  | 47 => ⟨S2x16400x1024, .f32⟩
  | 48 => ⟨S2x16400x4x256, .f32⟩
  | 49 => ⟨S4x256x2x16400, .f32⟩
  | 50 => ⟨S2x16400x4x256, .f32⟩
  | 51 => ⟨S2x16400x1024, .f32⟩
  | 52 => ⟨S1x1x1024, .f32⟩
  | 53 => ⟨S2x16400x1024, .f32⟩
  | 54 => ⟨S2x16400x1024, .f32⟩
  | 55 => ⟨S2x16400x1024, .f32⟩
  | 56 => ⟨S2x16400x1024, .f32⟩
  | 57 => ⟨S_, .f32⟩
  | 58 => ⟨S2x16400x1024, .f32⟩
  | 59 => ⟨S2x16400x1024, .f32⟩
  | 60 => ⟨S_, .f32⟩
  | 61 => ⟨S2x16400x1024, .f32⟩
  | 62 => ⟨S2x16400x1024, .f32⟩
  | 63 => ⟨S4x256x2x16400, .f32⟩
  | 64 => ⟨S2x16400x4x256, .f32⟩
  | 65 => ⟨S2x16400x1024, .f32⟩
  | 66 => ⟨S1x1x1024, .f32⟩
  | 67 => ⟨S2x16400x1024, .f32⟩
  | 68 => ⟨S2x16400x1024, .f32⟩
  | 69 => ⟨S2x16400x1024, .f32⟩
  | 70 => ⟨S2x16400x1024, .f32⟩
  | 71 => ⟨S_, .f32⟩
  | 72 => ⟨S2x16400x1024, .f32⟩
  | 73 => ⟨S2x16400x1024, .f32⟩
  | 74 => ⟨S_, .f32⟩
  | 75 => ⟨S2x16400x1024, .f32⟩
  | 76 => ⟨S2x16400x1024, .f32⟩
  | 77 => ⟨S_, .f32⟩
  | 78 => ⟨S2x16400x1024, .f32⟩
  | 79 => ⟨S2x16400x1024, .f32⟩
  | 80 => ⟨S1024, .f32⟩
  | 81 => ⟨S_, .f32⟩
  | 82 => ⟨S1024, .f32⟩
  | 83 => ⟨S1024, .f32⟩
  | 84 => ⟨S1024, .f32⟩
  | 85 => ⟨S1024, .f32⟩
  | 86 => ⟨S1024, .i1⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1x1x1024, .f32⟩
  | 96 => ⟨S2x16400x1024, .f32⟩
  | 97 => ⟨S2x16400x1024, .f32⟩
  | 98 => ⟨S2x16400x1024, .f32⟩
  | 99 => ⟨S_, .f32⟩
  | 100 => ⟨S2x16400x1024, .f32⟩
  | 101 => ⟨S2x16400x1024, .f32⟩
  | 102 => ⟨S2x16400x1024, .f32⟩
  | 103 => ⟨S2x16400x1024, .f32⟩
  | 104 => ⟨S2x16400x1024, .f32⟩
  | 105 => ⟨S2x16400x1024, .f32⟩
  | 106 => ⟨S2x16400x1024, .f32⟩
  | 107 => ⟨S_, .f32⟩
  | 108 => ⟨S2x1024, .f32⟩
  | 109 => ⟨S16400x2x1024, .f32⟩
  | 110 => ⟨S16400x2x1024, .f32⟩
  | 111 => ⟨S_, .f32⟩
  | 112 => ⟨S16400x2x1024, .f32⟩
  | 113 => ⟨S_, .i32⟩
  | 114 => ⟨S16400x2x1024, .f32⟩
  | 115 => ⟨S16400x2x1024, .f32⟩
  | 116 => ⟨S_, .i32⟩
  | 117 => ⟨S2x1024, .f32⟩
  | 118 => ⟨S16400x2x1024, .f32⟩
  | 119 => ⟨S_, .i32⟩
  | 120 => ⟨S_, .i1⟩
  | 121 => ⟨S_, .i32⟩
  | 122 => ⟨S_, .i32⟩
  | 123 => ⟨S1x2x1024, .f32⟩
  | 124 => ⟨S2x1024, .f32⟩
  | 125 => ⟨S_, .i32⟩
  | 126 => ⟨S_, .i32⟩
  | 127 => ⟨S1x2x1024, .f32⟩
  | _ => ⟨S33280x1024, .f32⟩

abbrev hbmTy0_1 (i : Nat) : BufTy := match i % 128 with
  | 0 => ⟨S2x1024, .f32⟩
  | 1 => ⟨S2x1024, .f32⟩
  | 2 => ⟨S2x1024, .f32⟩
  | 3 => ⟨S1x2x1024, .f32⟩
  | 4 => ⟨S_, .i32⟩
  | 5 => ⟨S_, .i32⟩
  | 6 => ⟨S16400x2x1024, .f32⟩
  | 7 => ⟨S_, .i32⟩
  | 8 => ⟨S_, .i32⟩
  | 9 => ⟨S2x16400x1024, .f32⟩
  | _ => ⟨S33280x1024, .f32⟩

abbrev hbmTy (i : Nat) : BufTy := match i / 128 with
  | 0 => hbmTy0_0 i
  | 1 => hbmTy0_1 i
  | _ => ⟨S33280x1024, .f32⟩

abbrev bufTy : (tb : Table) → Fin (tcTables nBuf tb) → BufTy
  | .hbm, ⟨i, _⟩ => hbmTy i
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_0 : Ref sig .tc := ⟨.hbm, 57, rfl⟩
abbrev main_v46 : Ref sig .tc := ⟨.hbm, 58, rfl⟩
abbrev main_v47 : Ref sig .tc := ⟨.hbm, 59, rfl⟩
abbrev main_cst_1 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_2 : Ref sig .tc := ⟨.hbm, 71, rfl⟩
abbrev main_v58 : Ref sig .tc := ⟨.hbm, 72, rfl⟩
abbrev main_v59 : Ref sig .tc := ⟨.hbm, 73, rfl⟩
abbrev main_cst_3 : Ref sig .tc := ⟨.hbm, 74, rfl⟩
abbrev main_v60 : Ref sig .tc := ⟨.hbm, 75, rfl⟩
abbrev main_v61 : Ref sig .tc := ⟨.hbm, 76, rfl⟩
abbrev main_cst_4 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_5 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_6 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_7 : Ref sig .tc := ⟨.hbm, 111, rfl⟩
abbrev main_v80 : Ref sig .tc := ⟨.hbm, 112, rfl⟩
abbrev main_c_8 : Ref sig .tc := ⟨.hbm, 113, rfl⟩
abbrev main_v81_0 : Ref sig .tc := ⟨.hbm, 114, rfl⟩
abbrev main_v81_1 : Ref sig .tc := ⟨.hbm, 115, rfl⟩
abbrev main_v81_2 : Ref sig .tc := ⟨.hbm, 116, rfl⟩
abbrev main_v81_3 : Ref sig .tc := ⟨.hbm, 117, rfl⟩
abbrev main_v81_4 : Ref sig .tc := ⟨.hbm, 118, rfl⟩
abbrev main_while0c_c_13 : Ref sig .tc := ⟨.hbm, 119, rfl⟩
abbrev main_while0c_v83 : Ref sig .tc := ⟨.hbm, 120, rfl⟩
abbrev main_while0b_call2_c : Ref sig .tc := ⟨.hbm, 121, rfl⟩
abbrev main_while0b_call2_c_0 : Ref sig .tc := ⟨.hbm, 122, rfl⟩
abbrev main_while0b_call2_v0 : Ref sig .tc := ⟨.hbm, 123, rfl⟩
abbrev main_while0b_v83 : Ref sig .tc := ⟨.hbm, 124, rfl⟩
abbrev main_while0b_call3_c : Ref sig .tc := ⟨.hbm, 125, rfl⟩
abbrev main_while0b_call3_c_0 : Ref sig .tc := ⟨.hbm, 126, rfl⟩
abbrev main_while0b_call3_v0 : Ref sig .tc := ⟨.hbm, 127, rfl⟩
abbrev main_while0b_v84 : Ref sig .tc := ⟨.hbm, 128, rfl⟩
abbrev main_while0b_v85 : Ref sig .tc := ⟨.hbm, 129, rfl⟩
abbrev main_while0b_v86 : Ref sig .tc := ⟨.hbm, 130, rfl⟩
abbrev main_while0b_call4_v0 : Ref sig .tc := ⟨.hbm, 131, rfl⟩
abbrev main_while0b_call4_c : Ref sig .tc := ⟨.hbm, 132, rfl⟩
abbrev main_while0b_call4_c_0 : Ref sig .tc := ⟨.hbm, 133, rfl⟩
abbrev main_while0b_v87 : Ref sig .tc := ⟨.hbm, 134, rfl⟩
abbrev main_while0b_c_13 : Ref sig .tc := ⟨.hbm, 135, rfl⟩
abbrev main_while0b_v88 : Ref sig .tc := ⟨.hbm, 136, rfl⟩
abbrev main_v82 : Ref sig .tc := ⟨.hbm, 137, rfl⟩

abbrev nD : Nat := 1
abbrev τ : Topo := Topo.v7x

variable {F : FTy → Type} [FloatOps F]

abbrev main_while0_count : Scf.Loop 32 := ⟨0#32, 16400#32, 1#32⟩
-- ==== Proof.KernelFrame.lean ====
/-
  `Kernel`'s run with nothing said of its result: the body, at any point of the grid, runs on its four staging buffers
  and its four scratch buffers held whole and hands all of them back, the inputs as they were; the launch turns that
  into the termination of @main with its arguments unchanged and every counter at zero.
-/
module

public import proofs.«01_k».proof.Proof.Gen.Kernel.Frame
public import proofs.«01_k».proof.Proof.Gen.Kernel.Loops
public import proofs.«01_k».proof.Proof.Gen.Kernel.Points

@[expose] public section

set_option maxRecDepth 16384

noncomputable section

namespace Cert.Proof.Bits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UR sig nD τ) ℕ

/-- Memref `M` on core `c` held whole at some contents. -/
abbrev some' (c : Dev nD) {S : Shape} {e : EltTy} (M : Memref sig .tc .vmem S e) : sProp 𝕄 :=
  iprop(∃ f : Buf (Elt F) (M.view.loc (c : Thread nD τ)), M.view.loc (c : Thread nD τ) ↦[M.view.set]{fullShare} f)

set_option maxHeartbeats 4000000 in
/-- The body at a point's coordinates `i`, on any whole memrefs. -/
theorem bodyRun (c : Dev nD) (i : grid0.Coords)
    (arg3 : Memref sig .tc .vmem S256x3328 .bf16) (harg3 : arg3.IsWhole)
    (arg4 : Memref sig .tc .vmem S65x256x256 .bf16) (harg4 : arg4.IsWhole)
    (arg5 : Memref sig .tc .vmem S1x65x80x256 .bf16) (harg5 : arg5.IsWhole)
    (arg6 : Memref sig .tc .vmem S3328x256 .bf16) (harg6 : arg6.IsWhole)
    (arg7 : Memref sig .tc .vmem S52x256x256 .bf16) (harg7 : arg7.IsWhole)
    (arg8 : Memref sig .tc .vmem S16x80x1024 .bf16) (harg8 : arg8.IsWhole)
    (arg9 : Memref sig .tc .vmem S4x1024x256 .f32) (harg9 : arg9.IsWhole)
    (arg10 : Memref sig .tc .vmem S4x1024x256 .f32) (harg10 : arg10.IsWhole)
    (Y3 : S256x3328.Idx → Elt F .bf16) (Y4 : S65x256x256.Idx → Elt F .bf16) (Y5 : S1x65x80x256.Idx → Elt F .bf16)
    (Q : PUnit → sProp 𝕄) :
    iprop(owns (c : Thread nD τ) arg3 fullShare Y3 ∗ owns (c : Thread nD τ) arg4 fullShare Y4 ∗ owns (c : Thread nD τ) arg5 fullShare Y5
      ∗ some' c arg6 ∗ some' c arg7 ∗ some' c arg8 ∗ some' c arg9 ∗ some' c arg10
      ∗ (iprop(owns (c : Thread nD τ) arg3 fullShare Y3 ∗ owns (c : Thread nD τ) arg4 fullShare Y4 ∗ owns (c : Thread nD τ) arg5 fullShare Y5
          ∗ some' c arg6 ∗ some' c arg7 ∗ some' c arg8 ∗ some' c arg9 ∗ some' c arg10) -∗ Q ⟨⟩))
    ⊢ wp frame (wpE (defs₀ (F := F)) Variants.none (c : Thread nD τ) none) Set.univ
        (cc0_attention (F := F) i arg3 harg3 arg4 harg4 arg5 harg5 arg6 harg6 arg7 harg7 arg8 harg8 arg9 harg9 arg10 harg10) Q := by
  unfold owns some'
  iintro ⟨⟨%X3, %h3, H3⟩, ⟨%X4, %h4, H4⟩, ⟨%X5, %h5, H5⟩, ⟨%f6, H6⟩, ⟨%f7, H7⟩, ⟨%f8, H8⟩, ⟨%f9, H9⟩, ⟨%f10, H10⟩, Hk⟩
  sl_unfold [cc0_attention]
  sl_exec
  sl_step
  iapply Hk
  isplitl [H3]
  · iexists X3; isplitr [H3]; · ipureintro; exact h3
    iexact H3
  isplitl [H4]
  · iexists X4; isplitr [H4]; · ipureintro; exact h4
    iexact H4
  isplitl [H5]
  · iexists X5; isplitr [H5]; · ipureintro; exact h5
    iexact H5
  isplitl [H6]; · iexists _; iexact H6
  isplitl [H7]; · iexists _; iexact H7
  isplitl [H8]; · iexists _; iexact H8
  isplitl [H9]; · iexists _; iexact H9
  iexists _; iexact H10

/-! ## The launch -/

variable (m : (ℓ : Loc nD τ sig) → Buf (Elt F) ℓ) (ρ : Dev nD → PrngReg)

/-- The kernel's variants: none, its body calls nothing. -/
abbrev 𝒱₀ : Variants := Variants.none

/-- The pipeline's proof data: every input buffer stays at its block, the output buffer is not described, and between
    points the scratch holds anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Dat.unnamed ⟨3, h⟩ t
  Φ _ := Pipeline.ΦA spec0 c
  q _ := fullShare
  owed _ := 0

/-- The window whose contents are not described: the output's. -/
abbrev fgt : Fin cfg0.W → Bool := fun w => w.val == 3

theorem defs₀_row (t : Fin cfg0.N) : defs₀ (F := F) .tc cfg0.body (cfg0.bodyArgs t (cfg0.slots t)) = bodyAt0 t := by
  unfold defs₀; rw [Defs.onTc_tc]

/-- A whole scratch buffer's points-to in the form the body takes it. -/
theorem some'_whole (c : Dev nD) {S : Shape} {e : EltTy} (M : Memref sig .tc .vmem S e) (h : M.view.set = Finset.univ) :
    (some' (F := F) c M : sProp 𝕄) = iprop(∃ f : Buf (Elt F) (M.view.loc (c : Thread nD τ)), M.view.loc (c : Thread nD τ) ↦{fullShare} f) := by
  unfold some'; rw [h]

theorem body_obligation (c : Dev nD) : BodyObligationLoose (dats (F := F) m 0 c) (defs₀ (F := F)) 𝒱₀ () Set.univ fgt := fun t => by
  rw [bigSep_W0, bigSep_W0, defs₀_row]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA
  rw [scopedRest0_eq]
  show iprop(((_ ∗ _ ∗ _ ∗ _) ∗ _) ∗ _ ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)) ∗ (∃ X, owns (c : Thread nD τ) (st0_3 t) fullShare X))
    ⊢ wp frame (wpE (defs₀ (F := F)) 𝒱₀ (c : Thread nD τ) none) Set.univ (bodyAt0 t) fun _ => iprop(((_ ∗ _ ∗ _ ∗ _) ∗ _) ∗ _ ∗
      owns (c : Thread nD τ) (st0_0 t) fullShare (iblk m c 0 t) ∗ owns (c : Thread nD τ) (st0_1 t) fullShare (iblk m c 1 t)
      ∗ owns (c : Thread nD τ) (st0_2 t) fullShare (iblk m c 2 t) ∗ (∃ X, owns (c : Thread nD τ) (st0_3 t) fullShare X))
  iintro ⟨⟨⟨S0, S1, S2, S3⟩, Hg⟩, Howes, ⟨%d0, H0⟩, ⟨%d1, H1⟩, ⟨%d2, H2⟩, ⟨%X, H3⟩⟩
  rw [before0_0_of m (dats m 0 c) rfl (fun _ => rfl), before0_1_of m (dats m 0 c) rfl (fun _ => rfl), before0_2_of m (dats m 0 c) rfl (fun _ => rfl)]
  iapply (bodyRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (iblk m c 0 t) (iblk m c 1 t) (iblk m c 2 t) _)
  rw [some'_whole c (Memref.whole cc0_scratch0) (View.set_whole _), some'_whole c (Memref.whole cc0_scratch1) (View.set_whole _),
    some'_whole c (Memref.whole cc0_scratch2) (View.set_whole _), some'_whole c (Memref.whole cc0_scratch3) (View.set_whole _)]
  isplitl [H0]; · iexact H0
  isplitl [H1]; · iexact H1
  isplitl [H2]; · iexact H2
  isplitl [H3]
  · unfold owns
    icases H3 with ⟨%f, -, H3⟩
    iexists f; iexact H3
  isplitl [S0]; · iexact S0
  isplitl [S1]; · iexact S1
  isplitl [S2]; · iexact S2
  isplitl [S3]; · iexact S3
  iintro ⟨H0, H1, H2, ⟨%f, H3⟩, S0, S1, S2, S3⟩
  isplitl [S0 S1 S2 S3 Hg]
  · isplitr [Hg]
    · isplitl [S0]; · iexact S0
      isplitl [S1]; · iexact S1
      isplitl [S2]; · iexact S2
      iexact S3
    iexact Hg
  isplitl [Howes]; · iexact Howes
  isplitl [H0]; · iexact H0
  isplitl [H1]; · iexact H1
  isplitl [H2]; · iexact H2
  iexists _
  iapply (owns_intro (c : Thread nD τ) (st0_3 t) fullShare f)
  iexact H3

/-- Every execution of @main ends with the three argument arrays as they were and every counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_forget cfgs (dats m) 0 launch0 defs₀ 𝒱₀ fgt m ρ main (hbody := body_obligation m)
    (hshare := fun c w => by unfold Dat.share; split <;> rfl) (howed := fun _ _ => rfl) (V := V m) (hmain := hmain m 𝒱₀)
    (hA := fun _ _ => rfl) (hΦ := fun _ _ => rfl) (Q' := _)
    (hQ' := fun _ (h : _ ∧ _) => ⟨fun c => ⟨h.1.arr_in c 0 rfl, h.1.arr_in c 1 rfl, h.1.arr_in c 2 rfl⟩, h.2⟩)

end Cert.Proof.Bits

end
-- ==== Proof.Spec.lean ====
/-
  The vector computations of one point of the grid, named: a score tile, its running maximum, the weighted sum's update,
  and the last update with the division that ends a query tile. One trip of the loop is eight of these steps per head,
  stated here on the tiles the trip reads (`trip_acc`, `trip_out`, `trip_buf`).
-/
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.ValueKit

@[expose] public section

set_option maxRecDepth 16384

noncomputable section

namespace Cert.Proof.Attn

open Cert.KernelIdeal Cert.KernelIdeal.Gen
open Idealize.ShloMosaic Idealize.ShloMosaic.TcCoe Idealize.ShloMosaic.Tactic

variable {F : FTy → Type} [FloatOps F] [Named F]

/-! ## The steps -/

/-- The scores of 1024 keys against 256 queries. -/
def sc (kb : Vec F S4x256x256 .bf16) (qb : Vec F S1x256x256 .bf16) : FVec F S1024x256 .f32 :=
  matmul dot_S1024x256_S256x256_S1024x256_1_0_0_1_n_n none (shapeCast S1024x256 kb shapeCasts_S4x256x256_S1024x256)
    (shapeCast S256x256 qb shapeCasts_S1x256x256_S256x256) (constant S1024x256 .f32 0x00000000#32)

/-- A score tile's maximum over its keys. -/
def cmaxV (s : FVec F S1024x256 .f32) : FVec F S1x256 .f32 :=
  shapeCast S1x256 (multiReduction .maximumf [0] S256 s 0xFF800000#32 reduces_S1024x256_S256 (.inl rfl) rfl) shapeCasts_S256_S1x256

/-- The weighted sum `a`, kept at maximum `m`, brought to maximum `max m cm` and extended by a score tile `s` with values `V`. -/
def upA (V : Vec F S1x80x1024 .bf16) (m cm : FVec F S1x256 .f32) (a : FVec F S80x256 .f32) (s : FVec F S1024x256 .f32) : FVec F S80x256 .f32 :=
  addf (mulf (broadcastTo S80x256 (exp2 (subf m (maximumf m cm))) broadcasts_S1x256_S80x256) a)
    (matmul dot_S80x1024_S1024x256_S80x256_1_0_0_1_n_n none (shapeCast S80x1024 V shapeCasts_S1x80x1024_S80x1024)
      (truncf .bf16 (exp2 (subf s (broadcastTo S1024x256 (maximumf m cm) broadcasts_S1x256_S1024x256))) bitsLt_bf16_f32)
      (constant S80x256 .f32 0x00000000#32))

/-- The masked scores of the leading tile's first 128 rows, of which 16 are keys. -/
def scM (km : Vec F S1x128x256 .bf16) (qb : Vec F S1x256x256 .bf16) : FVec F S128x256 .f32 :=
  select (cmpi .slt (iota .tc S128x256 32 [0] iota_S128x256_d0_w32) (broadcast S128x256 16#32))
    (matmul dot_S128x256_S256x256_S128x256_1_0_0_1_n_n none (shapeCast S128x256 km shapeCasts_S1x128x256_S128x256)
      (shapeCast S256x256 qb shapeCasts_S1x256x256_S256x256) (constant S128x256 .f32 0x00000000#32))
    (broadcast S128x256 (Named.named κ "mask" 0xF149F2CA#32))

/-- Their maximum. -/
def cmaxM (s : FVec F S128x256 .f32) : FVec F S1x256 .f32 :=
  shapeCast S1x256 (multiReduction .maximumf [0] S256 s 0xFF800000#32 reduces_S128x256_S256 (.inl rfl) rfl) shapeCasts_S256_S1x256

/-- The last update, by the masked scores. -/
def upAM (vm : Vec F S1x1x80x128 .bf16) (m cm : FVec F S1x256 .f32) (a : FVec F S80x256 .f32) (s : FVec F S128x256 .f32) : FVec F S80x256 .f32 :=
  addf (mulf (broadcastTo S80x256 (exp2 (subf m (maximumf m cm))) broadcasts_S1x256_S80x256) a)
    (matmul dot_S80x128_S128x256_S80x256_1_0_0_1_n_n none (shapeCast S80x128 vm shapeCasts_S1x1x80x128_S80x128)
      (truncf .bf16 (exp2 (subf s (broadcastTo S128x256 (maximumf m cm) broadcasts_S1x256_S128x256))) bitsLt_bf16_f32)
      (constant S80x256 .f32 0x00000000#32))

/-- The quotient of the sum's first 64 rows by its row 64, transposed. -/
def quot (a : FVec F S80x256 .f32) : FVec F S256x64 .bf16 :=
  truncf .bf16 (transpose S256x64 [1, 0] (divf (extractStridedSlice S64x256 ![0, 0] a slices_S80x256_o0_0_S64x256)
    (broadcastTo S64x256 (extractStridedSlice S1x256 ![64, 0] a slices_S80x256_o64_0_S1x256) broadcasts_S1x256_S64x256))
    transposes_S64x256_p1_0_S256x64) bitsLt_bf16_f32

/-- What ends a query tile: the last update and the quotient. -/
def fin (km : Vec F S1x128x256 .bf16) (vm : Vec F S1x1x80x128 .bf16) (qb : Vec F S1x256x256 .bf16) (m : FVec F S1x256 .f32)
    (a : FVec F S80x256 .f32) : FVec F S256x64 .bf16 :=
  quot (upAM vm m (cmaxM (scM km qb)) a (scM km qb))

/-- A score tile as it lies in the buffers, and back. -/
abbrev up3 (s : FVec F S1024x256 .f32) : Vec F S1x1024x256 .f32 := shapeCast S1x1024x256 s shapeCasts_S1024x256_S1x1024x256
abbrev dn3 (s : Vec F S1x1024x256 .f32) : FVec F S1024x256 .f32 := shapeCast S1024x256 s shapeCasts_S1x1024x256_S1024x256

theorem dn3_up3 (s : FVec F S1024x256 .f32) : dn3 (up3 s) = s := shapeCast_shapeCast s _ _

/-- Head `g`'s rectangle of a score buffer. -/
abbrev rc (g : Fin 4) : Rect S4x1024x256 := Rect.unit (s := S4x1024x256) ![g.val, 0, 0] S1x1024x256.size
  (by fin_cases g <;> first | exact inb_S4x1024x256_S1x1024x256_0_0_0 | exact inb_S4x1024x256_S1x1024x256_1_0_0 | exact inb_S4x1024x256_S1x1024x256_2_0_0 | exact inb_S4x1024x256_S1x1024x256_3_0_0)

/-- The four heads' tiles written onto `L`. -/
def slabs (s : Fin 4 → FVec F S1024x256 .f32) (L : List (View.Piece (Elt F) S4x1024x256 .f32)) : List (View.Piece (Elt F) S4x1024x256 .f32) :=
  ⟨rc 3, up3 (s 3)⟩ :: ⟨rc 2, up3 (s 2)⟩ :: ⟨rc 1, up3 (s 1)⟩ :: ⟨rc 0, up3 (s 0)⟩ :: L

/-! ## One trip -/

section trip

variable (arg4 : Memref sig .tc .vmem S65x256x256 .bf16) (arg5 : Memref sig .tc .vmem S1x65x80x256 .bf16)
  (arg7 : Memref sig .tc .vmem S52x256x256 .bf16) (arg8 : Memref sig .tc .vmem S16x80x1024 .bf16) (arg9 arg10 : Memref sig .tc .vmem S4x1024x256 .f32)
  (X4 : BufTy.Contents (Elt F) arg4.view.ty) (X5 : BufTy.Contents (Elt F) arg5.view.ty)
  (X7 : BufTy.Contents (Elt F) arg7.view.ty) (X8 : BufTy.Contents (Elt F) arg8.view.ty) (k : Fin k0_t1_loop.trips)

/-- The key tiles, query tiles and value chunks step `r` of trip `k` reads. -/
abbrev KT (r : ℕ) : Vec F S4x256x256 .bf16 := arg4.view.readAt (Elt F)
  (Rect.unit (s := S65x256x256) (k0_off54 k (BitVec.ofNat 32 (1 + r % 8))) S4x256x256.size (k0_off54_inb k ⟨r % 8, Nat.mod_lt _ (by decide)⟩)).toLoadRect X4
abbrev QT (r : ℕ) (g : Fin 4) : Vec F S1x256x256 .bf16 := arg7.view.readAt (Elt F)
  (Rect.unit (s := S52x256x256) (k0_off55 k (BitVec.ofNat 32 (1 + r % 8)) (BitVec.ofNat 32 g.val)) S1x256x256.size (k0_off55_inb k ⟨r % 8, Nat.mod_lt _ (by decide)⟩ g)).toLoadRect X7
abbrev VT (r : ℕ) : Vec F S1x80x1024 .bf16 := arg8.view.readAt (Elt F)
  (Rect.unit (s := S16x80x1024) (k0_off53 k (BitVec.ofNat 32 (1 + r % 8))) S1x80x1024.size (k0_off53_inb k ⟨r % 8, Nat.mod_lt _ (by decide)⟩)).toLoadRect X8

/-- Step `r`'s score tile of head `g`. -/
def ST (r : ℕ) (g : Fin 4) : FVec F S1024x256 .f32 := sc (KT arg4 X4 k r) (QT arg7 X7 k r g)

/-- The pieces step `r` has left in the buffer it writes. -/
def LT : ℕ → List (View.Piece (Elt F) S4x1024x256 .f32)
  | 0 => slabs (ST arg4 arg7 X4 X7 k 0) []
  | 1 => slabs (ST arg4 arg7 X4 X7 k 1) []
  | r + 2 => slabs (ST arg4 arg7 X4 X7 k (r + 2)) (LT r)

/-- Step `r`'s score tile as the next step reads it back. -/
def RT (r : ℕ) (g : Fin 4) : FVec F S1024x256 .f32 :=
  dn3 (match r % 2 with
    | 0 => arg10.view.readCov (LT arg4 arg7 X4 X7 k r) (rc g).toLoadRect
    | _ => arg9.view.readCov (LT arg4 arg7 X4 X7 k r) (rc g).toLoadRect)

/-- Head `g`'s maximum and weighted sum after step `r`, from those it enters the first step with. -/
def MT' (g : Fin 4) (cm m0 : FVec F S1x256 .f32) : ℕ → FVec F S1x256 .f32
  | 0 => maximumf m0 cm
  | r + 1 => maximumf (MT' g cm m0 r) (cmaxV (ST arg4 arg7 X4 X7 k r g))
def AT' (g : Fin 4) (cm m0 : FVec F S1x256 .f32) (s0 : FVec F S1024x256 .f32) (a0 : FVec F S80x256 .f32) : ℕ → FVec F S80x256 .f32
  | 0 => upA (VT arg8 X8 k 0) m0 cm a0 s0
  | r + 1 => upA (VT arg8 X8 k (r + 1)) (MT' arg4 arg7 X4 X7 k g cm m0 r) (cmaxV (ST arg4 arg7 X4 X7 k r g)) (AT' g cm m0 s0 a0 r)
      (RT arg4 arg7 arg9 arg10 X4 X7 k r g)

/-- Head `g`'s part of the carried value. -/
abbrev Acc (F : FTy → Type) : Type := FVec F S1x256 .f32 × FVec F S1x256 .f32 × FVec F S1x256 .f32 × FVec F S1x256 .f32 × FVec F S1x256 .f32 × FVec F S80x256 .f32 × FVec F S1x256 .f32 × FVec F S80x256 .f32 × FVec F S1x256 .f32 × FVec F S80x256 .f32 × FVec F S1x256 .f32 × FVec F S80x256 .f32
abbrev accC (x : Acc F) : Fin 4 → FVec F S1x256 .f32
  | 0 => x.1 | 1 => x.2.1 | 2 => x.2.2.1 | 3 => x.2.2.2.1
abbrev accM (x : Acc F) : Fin 4 → FVec F S1x256 .f32
  | 0 => x.2.2.2.2.1 | 1 => x.2.2.2.2.2.2.1 | 2 => x.2.2.2.2.2.2.2.2.1 | 3 => x.2.2.2.2.2.2.2.2.2.2.1
abbrev accA (x : Acc F) : Fin 4 → FVec F S80x256 .f32
  | 0 => x.2.2.2.2.2.1 | 1 => x.2.2.2.2.2.2.2.1 | 2 => x.2.2.2.2.2.2.2.2.2.1 | 3 => x.2.2.2.2.2.2.2.2.2.2.2
abbrev mkAcc (C M : Fin 4 → FVec F S1x256 .f32) (A : Fin 4 → FVec F S80x256 .f32) : Acc F :=
  (C 0, C 1, C 2, C 3, M 0, A 0, M 1, A 1, M 2, A 2, M 3, A 3)

/-- The maximum and the sum a trip's first step starts from: anew where a query tile begins. -/
def m0T (m : FVec F S1x256 .f32) : Fin 4 → FVec F S1x256 .f32
  | 0 => k0_pay83 0#32 1#32 k m
  | _ => k0_pay92 m (trip_k0_t1.sl.v1279 k)
def a0T (a : FVec F S80x256 .f32) : Fin 4 → FVec F S80x256 .f32
  | 0 => k0_pay84 0#32 1#32 k a
  | _ => k0_pay93 a (trip_k0_t1.sl.v1279 k)

variable (𝒱 : Variants) (c : Dev nD) (bd : Option 𝒱.V) (i : grid0.Coords) (arg3 : Memref sig .tc .vmem S256x3328 .bf16) (harg3 : arg3.IsWhole)
  (harg4 : arg4.IsWhole) (harg5 : arg5.IsWhole) (arg6 : Memref sig .tc .vmem S3328x256 .bf16) (harg6 : arg6.IsWhole) (harg7 : arg7.IsWhole)
  (harg8 : arg8.IsWhole) (harg9 : arg9.IsWhole) (harg10 : arg10.IsWhole)
  (v269 : FVec F S1x256 .f32) (v270 : FVec F S80x256 .f32) (v271 : FVec F S1x256 .f32) (v272 : FVec F S80x256 .f32) (v273 : FVec F S1x256 .f32) (v274 : FVec F S80x256 .f32) (v275 : FVec F S1x256 .f32) (v276 : FVec F S80x256 .f32) (v286 : FVec F S1x256 .f32) (v295 : FVec F S256 .f32)
  (acc : Acc F) (f6 : BufTy.Contents (Elt F) arg6.view.ty) (f9 : BufTy.Contents (Elt F) arg9.view.ty) (f10 : BufTy.Contents (Elt F) arg10.view.ty)

/-- Head `g`'s maximum and sum at a trip's end. -/
def Mend (g : Fin 4) : FVec F S1x256 .f32 := MT' arg4 arg7 X4 X7 k g (accC acc g) (m0T k (accM acc g) g) 7
def Aend (g : Fin 4) : FVec F S80x256 .f32 :=
  AT' arg4 arg7 arg8 arg9 arg10 X4 X7 X8 k g (accC acc g) (m0T k (accM acc g) g) (dn3 (arg9.view.readAt (Elt F) (rc g).toLoadRect f9)) (a0T k (accA acc g) g) 7

/-- What a trip yields. -/
theorem trip_acc : (trip_k0_t1 (F := F) 𝒱 c bd i arg3 harg3 arg4 harg4 arg5 harg5 arg6 harg6 arg7 harg7 arg8 harg8 arg9 harg9 arg10 harg10 v269 v270 v271 v272 v273 v274 v275 v276 v286 v295 X4 X5 X7 X8 k).1 acc f6 f9 f10
    = mkAcc (fun g => cmaxV (ST arg4 arg7 X4 X7 k 7 g)) (Mend arg4 arg7 X4 X7 k acc) (Aend arg4 arg7 arg8 arg9 arg10 X4 X7 X8 k acc f9) := by
  unfold trip_k0_t1; rfl

/-- What it leaves in the two score buffers. -/
theorem trip_buf9 : (trip_k0_t1 (F := F) 𝒱 c bd i arg3 harg3 arg4 harg4 arg5 harg5 arg6 harg6 arg7 harg7 arg8 harg8 arg9 harg9 arg10 harg10 v269 v270 v271 v272 v273 v274 v275 v276 v286 v295 X4 X5 X7 X8 k).2.2.1 acc f6 f9 f10 = LT arg4 arg7 X4 X7 k 7 := by
  unfold trip_k0_t1; rfl

theorem trip_buf10 : (trip_k0_t1 (F := F) 𝒱 c bd i arg3 harg3 arg4 harg4 arg5 harg5 arg6 harg6 arg7 harg7 arg8 harg8 arg9 harg9 arg10 harg10 v269 v270 v271 v272 v273 v274 v275 v276 v286 v295 X4 X5 X7 X8 k).2.2.2.1 acc f6 f9 f10 = LT arg4 arg7 X4 X7 k 6 := by
  unfold trip_k0_t1; rfl

/-- The leading tile's keys and values, and a finished query tile's queries. -/
abbrev KM : Vec F S1x128x256 .bf16 := arg4.view.readAt (Elt F) (Rect.unit (s := S65x256x256) ![64, 0, 0] S1x128x256.size inb_S65x256x256_S1x128x256_64_0_0).toLoadRect X4
abbrev VM : Vec F S1x1x80x128 .bf16 := arg5.view.readAt (Elt F) (Rect.unit (s := S1x65x80x256) ![0, 64, 0, 0] S1x1x80x128.size inb_S1x65x80x256_S1x1x80x128_0_64_0_0).toLoadRect X5
abbrev QM (h : k0_cond2 k = 1#1) (g : Fin 4) : Vec F S1x256x256 .bf16 := arg7.view.readAt (Elt F)
  (Rect.unit (s := S52x256x256) (k0_off56 k (BitVec.ofNat 32 g.val)) S1x256x256.size (k0_off56_inb k h g)).toLoadRect X7

/-- A trip that ends a query tile: what it leaves of head `g`. -/
def outT (h : k0_cond2 k = 1#1) (g : Fin 4) : FVec F S256x64 .bf16 :=
  fin (KM arg4 X4) (VM arg5 X5) (QM arg7 X7 k h g) (Mend arg4 arg7 X4 X7 k acc g) (Aend arg4 arg7 arg8 arg9 arg10 X4 X7 X8 k acc f9 g)

theorem trip_out (h : k0_cond2 k = 1#1) : (trip_k0_t1 (F := F) 𝒱 c bd i arg3 harg3 arg4 harg4 arg5 harg5 arg6 harg6 arg7 harg7 arg8 harg8 arg9 harg9 arg10 harg10 v269 v270 v271 v272 v273 v274 v275 v276 v286 v295 X4 X5 X7 X8 k).2.1 acc f6 f9 f10 h
    = [⟨Rect.unit (k0_off60 k) S256x64.size (k0_off60_inb k h), outT arg4 arg5 arg7 arg8 arg9 arg10 X4 X5 X7 X8 k acc f9 h 3⟩,
       ⟨Rect.unit (k0_off59 k) S256x64.size (k0_off59_inb k h), outT arg4 arg5 arg7 arg8 arg9 arg10 X4 X5 X7 X8 k acc f9 h 2⟩,
       ⟨Rect.unit (k0_off58 k) S256x64.size (k0_off58_inb k h), outT arg4 arg5 arg7 arg8 arg9 arg10 X4 X5 X7 X8 k acc f9 h 1⟩,
       ⟨Rect.unit (k0_off57 k) S256x64.size (k0_off57_inb k h), outT arg4 arg5 arg7 arg8 arg9 arg10 X4 X5 X7 X8 k acc f9 h 0⟩] := by
  unfold trip_k0_t1; rfl

end trip

end Cert.Proof.Attn

end
-- ==== Proof.BodyRun.lean ====
/-
  The body of `KernelIdeal` at a point of the grid, run on its four staging buffers and its four scratch buffers: what
  it leaves in the output's buffer and in the value chunks' scratch is the run's own find, as a function of what it is
  given.
-/
module

public import proofs.«01_k».proof.Proof.Spec

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Memref `M` on core `c` held whole at contents `f`. -/
abbrev pt (c : Dev nD) {S : Shape} {e : EltTy} (M : Memref sig .tc .vmem S e) (f : BufTy.Contents (Elt F) M.view.ty) : sProp 𝕄 :=
  M.view.loc (c : Thread nD τ) ↦[M.view.set]{fullShare} f

set_option maxHeartbeats 4000000 in
/-- The body's run. -/
@[irreducible] def bodyRun (c : Dev nD) (i : grid0.Coords)
    (arg3 : Memref sig .tc .vmem S256x3328 .bf16) (harg3 : arg3.IsWhole)
    (arg4 : Memref sig .tc .vmem S65x256x256 .bf16) (harg4 : arg4.IsWhole)
    (arg5 : Memref sig .tc .vmem S1x65x80x256 .bf16) (harg5 : arg5.IsWhole)
    (arg6 : Memref sig .tc .vmem S3328x256 .bf16) (harg6 : arg6.IsWhole)
    (arg7 : Memref sig .tc .vmem S52x256x256 .bf16) (harg7 : arg7.IsWhole)
    (arg8 : Memref sig .tc .vmem S16x80x1024 .bf16) (harg8 : arg8.IsWhole)
    (arg9 : Memref sig .tc .vmem S4x1024x256 .f32) (harg9 : arg9.IsWhole)
    (arg10 : Memref sig .tc .vmem S4x1024x256 .f32) (harg10 : arg10.IsWhole)
    (X3 : BufTy.Contents (Elt F) arg3.view.ty) (X4 : BufTy.Contents (Elt F) arg4.view.ty) (X5 : BufTy.Contents (Elt F) arg5.view.ty)
    (f6 : BufTy.Contents (Elt F) arg6.view.ty) (f8 : BufTy.Contents (Elt F) arg8.view.ty) (f10 : BufTy.Contents (Elt F) arg10.view.ty) :
    Σ' (R6 : BufTy.Contents (Elt F) arg6.view.ty), { R8 : BufTy.Contents (Elt F) arg8.view.ty //
      ∀ (f7 : BufTy.Contents (Elt F) arg7.view.ty) (f9 : BufTy.Contents (Elt F) arg9.view.ty) (Q : PUnit → sProp 𝕄),
      iprop(pt c arg3 X3 ∗ pt c arg4 X4 ∗ pt c arg5 X5 ∗ pt c arg6 f6 ∗ pt c arg7 f7 ∗ pt c arg8 f8 ∗ pt c arg9 f9 ∗ pt c arg10 f10
        ∗ (iprop(pt c arg3 X3 ∗ pt c arg4 X4 ∗ pt c arg5 X5 ∗ pt c arg6 R6 ∗ (∃ f, pt c arg7 f) ∗ pt c arg8 R8 ∗ (∃ f, pt c arg9 f) ∗ (∃ f, pt c arg10 f)) -∗ Q ⟨⟩))
      ⊢ wp frame (wpE (defs₀ (F := F)) Variants.none (c : Thread nD τ) none) Set.univ
          (cc0_attention (F := F) i arg3 harg3 arg4 harg4 arg5 harg5 arg6 harg6 arg7 harg7 arg8 harg8 arg9 harg9 arg10 harg10) Q } := by
  refine ⟨?_, ?_, fun f7 f9 Q => ?run⟩
  case run =>
    unfold pt
    iintro ⟨H3, H4, H5, H6, H7, H8, H9, H10, Hk⟩
    sl_unfold [cc0_attention]
    sl_exec
    sl_step
    iapply Hk
    isplitl [H3]; · iexact H3
    isplitl [H4]; · iexact H4
    isplitl [H5]; · iexact H5
    isplitl [H6]; · iexact H6
    isplitl [H7]; · iexists _; iexact H7
    isplitl [H8]; · iexact H8
    isplitl [H9]; · iexists _; iexact H9
    iexists _; iexact H10

end Cert.Proof.Attn

end
-- ==== Proof.BodySpec.lean ====
/-
  What the body's run leaves, in the named steps: the query tiles and the value chunks as lists of pieces written one at
  a time, the loop's start, the eight steps after the loop, and the output's pieces.
-/
module

public import proofs.«01_k».proof.Proof.BodyRun

@[expose] public section

set_option maxRecDepth 16384

noncomputable section

namespace Cert.Proof.Attn

open Cert.KernelIdeal Cert.KernelIdeal.Gen
open Idealize.ShloMosaic Idealize.ShloMosaic.TcCoe Idealize.ShloMosaic.Tactic

variable {F : FTy → Type} [FloatOps F] [Named F]

section body

variable (c : Dev nD) (i : grid0.Coords)
  (arg3 : Memref sig .tc .vmem S256x3328 .bf16) (harg3 : arg3.IsWhole)
  (arg4 : Memref sig .tc .vmem S65x256x256 .bf16) (harg4 : arg4.IsWhole)
  (arg5 : Memref sig .tc .vmem S1x65x80x256 .bf16) (harg5 : arg5.IsWhole)
  (arg6 : Memref sig .tc .vmem S3328x256 .bf16) (harg6 : arg6.IsWhole)
  (arg7 : Memref sig .tc .vmem S52x256x256 .bf16) (harg7 : arg7.IsWhole)
  (arg8 : Memref sig .tc .vmem S16x80x1024 .bf16) (harg8 : arg8.IsWhole)
  (arg9 : Memref sig .tc .vmem S4x1024x256 .f32) (harg9 : arg9.IsWhole)
  (arg10 : Memref sig .tc .vmem S4x1024x256 .f32) (harg10 : arg10.IsWhole)
  (X3 : BufTy.Contents (Elt F) arg3.view.ty) (X4 : BufTy.Contents (Elt F) arg4.view.ty) (X5 : BufTy.Contents (Elt F) arg5.view.ty)
  (f6 : BufTy.Contents (Elt F) arg6.view.ty) (f8 : BufTy.Contents (Elt F) arg8.view.ty) (f10 : BufTy.Contents (Elt F) arg10.view.ty)

/-! ## The query tiles -/

/-- The rows of a query tile that hold the point's key head. -/
def row0 : ℕ := (Scalar.indexCast (Scalar.muli (BitVec.ofNat 32 (i 1).val) 64#32)).toNat

theorem row0_eq : ∀ i : grid0.Coords, row0 i = 64 * (i 1).val := by decide +kernel

theorem row0_inb (n : ℕ) (hn : n < 52) : ∀ a, (![n, row0 i, 0] : Fin 3 → ℕ) a + S1x64x256.size a ≤ S52x256x256.size a := by
  have h := row0_eq i
  have h1 := (i 1).isLt
  intro a
  fin_cases a
  · show n + 1 ≤ 52; omega
  · show row0 i + 64 ≤ 256; have : (i 1).val < 4 := h1; omega
  · show 0 + 256 ≤ 256; omega

theorem src_inb (n : ℕ) (hn : n < 52) : ∀ a, (![64 * (n % 4), 256 * (n / 4)] : Fin 2 → ℕ) a + S64x256.size a ≤ S256x3328.size a := by
  intro a
  fin_cases a
  · show 64 * (n % 4) + 64 ≤ 256; omega
  · show 256 * (n / 4) + 256 ≤ 3328; omega

/-- Query tile `n`'s piece: head `n % 4`'s rows of the block's tile `n / 4`. -/
def pieceQ (n : ℕ) (hn : n < 52) : View.Piece (Elt F) S52x256x256 .bf16 :=
  ⟨Rect.unit (s := S52x256x256) ![n, row0 i, 0] S1x64x256.size (row0_inb i n hn),
    shapeCast S1x64x256 (arg3.view.readAt (Elt F) (Rect.unit (s := S256x3328) ![64 * (n % 4), 256 * (n / 4)] S64x256.size (src_inb n hn)).toLoadRect X3)
      shapeCasts_S64x256_S1x64x256⟩

/-- The first `n` query tiles' pieces on a zeroed buffer. -/
def piecesQ : (n : ℕ) → n ≤ 52 → List (View.Piece (Elt F) S52x256x256 .bf16)
  | 0, _ => [⟨Rect.unit (s := S52x256x256) ![0, 0, 0] S52x256x256.size inb_S52x256x256_S52x256x256_0_0_0,
      shapeCast S52x256x256 (constant S52x256x256 .bf16 0x0000#16) shapeCasts_S52x256x256_S52x256x256⟩]
  | n + 1, h => pieceQ i arg3 X3 n h :: piecesQ n (Nat.le_of_succ_le h)

theorem H7_eq : bodyRun.sl.H7_53 i arg3 X3 = piecesQ i arg3 X3 52 (Nat.le_refl _) := rfl

/-- The scratch of query tiles when the loop starts. -/
abbrev R7 : BufTy.Contents (Elt F) arg7.view.ty := arg7.view.writes (Elt F) arg7.view.junk (bodyRun.sl.H7_53 i arg3 X3)

/-! ## The value chunks -/

theorem vdst_inb (n : ℕ) (hn : n < 64) : ∀ a, (![n / 4, 0, 256 * (n % 4)] : Fin 3 → ℕ) a + S1x80x256.size a ≤ S16x80x1024.size a := by
  intro a
  fin_cases a
  · show n / 4 + 1 ≤ 16; omega
  · show 0 + 80 ≤ 80; omega
  · show 256 * (n % 4) + 256 ≤ 1024; omega

theorem vsrc_inb (n : ℕ) (hn : n < 64) : ∀ a, (![0, n, 0, 0] : Fin 4 → ℕ) a + S1x1x80x256.size a ≤ S1x65x80x256.size a := by
  intro a
  fin_cases a
  · show 0 + 1 ≤ 1; omega
  · show n + 1 ≤ 65; omega
  · show 0 + 80 ≤ 80; omega
  · show 0 + 256 ≤ 256; omega

/-- Value tile `n`, laid at its place in chunk `n / 4`. -/
def pieceV (n : ℕ) (hn : n < 64) : View.Piece (Elt F) S16x80x1024 .bf16 :=
  ⟨Rect.unit (s := S16x80x1024) ![n / 4, 0, 256 * (n % 4)] S1x80x256.size (vdst_inb n hn),
    shapeCast S1x80x256 (shapeCast S80x256 (arg5.view.readAt (Elt F) (Rect.unit (s := S1x65x80x256) ![0, n, 0, 0] S1x1x80x256.size (vsrc_inb n hn)).toLoadRect X5)
      shapeCasts_S1x1x80x256_S80x256) shapeCasts_S80x256_S1x80x256⟩

/-- The first `n` value tiles' pieces. -/
def piecesV : (n : ℕ) → n ≤ 64 → List (View.Piece (Elt F) S16x80x1024 .bf16)
  | 0, _ => []
  | n + 1, h => pieceV arg5 X5 n h :: piecesV n (Nat.le_of_succ_le h)

/-- The value chunks' scratch: filled where the grid's last coordinate is 0, else as found. -/
def R8 : BufTy.Contents (Elt F) arg8.view.ty :=
  if bodyRun.sl.v268 i = 1#1 then arg8.view.writes (Elt F) f8 (piecesV arg5 X5 64 (Nat.le_refl _)) else f8

/-! ## The loop's start and the steps after the loop -/

theorem qt_inb (n : ℕ) (hn : n < 52) : ∀ a, (![n, 0, 0] : Fin 3 → ℕ) a + S1x256x256.size a ≤ S52x256x256.size a := by
  intro a
  fin_cases a
  · show n + 1 ≤ 52; omega
  · show 0 + 256 ≤ 256; omega
  · show 0 + 256 ≤ 256; omega

theorem kt_inb (n : ℕ) (hn : n + 4 ≤ 65) : ∀ a, (![n, 0, 0] : Fin 3 → ℕ) a + S4x256x256.size a ≤ S65x256x256.size a := by
  intro a
  fin_cases a
  · show n + 4 ≤ 65; omega
  · show 0 + 256 ≤ 256; omega
  · show 0 + 256 ≤ 256; omega

theorem vt_inb (n : ℕ) (hn : n < 16) : ∀ a, (![n, 0, 0] : Fin 3 → ℕ) a + S1x80x1024.size a ≤ S16x80x1024.size a := by
  intro a
  fin_cases a
  · show n + 1 ≤ 16; omega
  · show 0 + 80 ≤ 80; omega
  · show 0 + 1024 ≤ 1024; omega

/-- Query tile `n`, key tiles `n ‥ n + 3` and value chunk `n`, as the body reads them outside the loop. -/
abbrev QL (n : ℕ) (hn : n < 52) : Vec F S1x256x256 .bf16 :=
  arg7.view.readCov (bodyRun.sl.H7_53 i arg3 X3) (Rect.unit (s := S52x256x256) ![n, 0, 0] S1x256x256.size (qt_inb n hn)).toLoadRect
abbrev KL (n : ℕ) (hn : n + 4 ≤ 65) : Vec F S4x256x256 .bf16 :=
  arg4.view.readAt (Elt F) (Rect.unit (s := S65x256x256) ![n, 0, 0] S4x256x256.size (kt_inb n hn)).toLoadRect X4
abbrev VL (r : ℕ) : Vec F S1x80x1024 .bf16 :=
  arg8.view.readAt (Elt F) (Rect.unit (s := S16x80x1024) ![8 + r % 8, 0, 0] S1x80x1024.size (vt_inb _ (by omega))).toLoadRect (R8 i arg5 arg8 X5 f8)

/-- The first tile's scores. -/
def S0 (g : Fin 4) : FVec F S1024x256 .f32 := sc (KL arg4 X4 0 (by decide)) (QL i arg3 arg7 X3 g.val (by omega))

/-- The value the loop starts with. -/
abbrev init0 : Acc F := mkAcc (fun g => cmaxV (S0 i arg3 arg4 arg7 X3 X4 g))
  (fun _ => broadcast S1x256 (Named.named κ "mask" 0xF149F2CA#32)) (fun _ => broadcast S80x256 (Scalar.ofBits .f32 0x00000000#32))

/-- What the score buffers hold when the loop starts. -/
abbrev f9s : BufTy.Contents (Elt F) arg9.view.ty := arg9.view.writes (Elt F) arg9.view.junk (slabs (S0 i arg3 arg4 arg7 X3 X4) [])

/-- The loop's state after `n` trips. -/
abbrev stL (n : ℕ) := st_k0_t1 (F := F) Variants.none c none i arg3 harg3 arg4 harg4 arg5 harg5 arg6 harg6 arg7 harg7 arg8 harg8 arg9 harg9 arg10 harg10
  (k0_pay330 (F := F)) k0_pay331 k0_pay332 k0_pay333 k0_pay334 k0_pay335 k0_pay336 k0_pay337 (bodyRun.sl.r_9 i arg3 arg4 arg7 X3 X4) (bodyRun.sl.r_10 i arg3 arg4 arg7 X3 X4)
  X4 X5 (R7 i arg3 arg7 X3) (R8 i arg5 arg8 X5 f8) f6 (f9s i arg3 arg4 arg7 arg9 X3 X4) f10 (init0 i arg3 arg4 arg7 X3 X4) n

-- The state the loop ends in: its carried value and the pieces it has left in the two score buffers.
variable (E : Acc F) (L9 L10 : List (View.Piece (Elt F) S4x1024x256 .f32))

/-- The scores of step `r` after the loop, and the pieces left in the buffer it writes. -/
def SL (r : ℕ) (g : Fin 4) : FVec F S1024x256 .f32 := sc (KL arg4 X4 (36 + 4 * (r % 7)) (by omega)) (QL i arg3 arg7 X3 (48 + g.val) (by omega))
def LL : ℕ → List (View.Piece (Elt F) S4x1024x256 .f32)
  | 0 => slabs (SL i arg3 arg4 arg7 X3 X4 0) L10
  | 1 => slabs (SL i arg3 arg4 arg7 X3 X4 1) L9
  | r + 2 => slabs (SL i arg3 arg4 arg7 X3 X4 (r + 2)) (LL r)
def RL (r : ℕ) (g : Fin 4) : FVec F S1024x256 .f32 :=
  dn3 (match r % 2 with
    | 0 => arg10.view.readCov (LL i arg3 arg4 arg7 X3 X4 L9 L10 r) (rc g).toLoadRect
    | _ => arg9.view.readCov (LL i arg3 arg4 arg7 X3 X4 L9 L10 r) (rc g).toLoadRect)

/-- Head `g`'s maximum and sum after step `r` of those after the loop. -/
def ML (g : Fin 4) : ℕ → FVec F S1x256 .f32
  | 0 => maximumf (accM E g) (accC E g)
  | r + 1 => maximumf (ML g r) (cmaxV (SL i arg3 arg4 arg7 X3 X4 r g))
def AL (g : Fin 4) : ℕ → FVec F S80x256 .f32
  | 0 => upA (VL i arg5 arg8 X5 f8 0) (accM E g) (accC E g) (accA E g) (dn3 (arg9.view.readCov L9 (rc g).toLoadRect))
  | r + 1 => upA (VL i arg5 arg8 X5 f8 (r + 1)) (ML i arg3 arg4 arg7 X3 X4 E g r) (cmaxV (SL i arg3 arg4 arg7 X3 X4 r g)) (AL g r)
      (RL i arg3 arg4 arg7 arg9 arg10 X3 X4 L9 L10 r g)

/-- The last query tile's output of head `g`. -/
def outL (g : Fin 4) : FVec F S256x64 .bf16 :=
  fin (KM arg4 X4) (VM arg5 X5) (QL i arg3 arg7 X3 (48 + g.val) (by omega)) (ML i arg3 arg4 arg7 X3 X4 E g 7)
    (AL i arg3 arg4 arg5 arg7 arg8 arg9 arg10 X3 X4 X5 f8 E L9 L10 g 7)

abbrev ends (n : ℕ) := stL c i arg3 harg3 arg4 harg4 arg5 harg5 arg6 harg6 arg7 harg7 arg8 harg8 arg9 harg9 arg10 harg10 X3 X4 X5 f6 f8 f10 n

/-- The last query tile's output of head `g`, after the loop's `n` trips. -/
abbrev outE (g : Fin 4) : FVec F S256x64 .bf16 :=
  outL i arg3 arg4 arg5 arg7 arg8 arg9 arg10 X3 X4 X5 f8 (ends c i arg3 harg3 arg4 harg4 arg5 harg5 arg6 harg6 arg7 harg7 arg8 harg8 arg9 harg9 arg10 harg10 X3 X4 X5 f6 f8 f10 25).1
    ((ends c i arg3 harg3 arg4 harg4 arg5 harg5 arg6 harg6 arg7 harg7 arg8 harg8 arg9 harg9 arg10 harg10 X3 X4 X5 f6 f8 f10 25).2.2.1 ++ slabs (S0 i arg3 arg4 arg7 X3 X4) [])
    (ends c i arg3 harg3 arg4 harg4 arg5 harg5 arg6 harg6 arg7 harg7 arg8 harg8 arg9 harg9 arg10 harg10 X3 X4 X5 f6 f8 f10 25).2.2.2 g

theorem bodyRun_R8 : (bodyRun (F := F) c i arg3 harg3 arg4 harg4 arg5 harg5 arg6 harg6 arg7 harg7 arg8 harg8 arg9 harg9 arg10 harg10 X3 X4 X5 f6 f8 f10).2.1
    = R8 i arg5 arg8 X5 f8 := by
  unfold bodyRun; rfl

theorem bodyRun_R6 : (bodyRun (F := F) c i arg3 harg3 arg4 harg4 arg5 harg5 arg6 harg6 arg7 harg7 arg8 harg8 arg9 harg9 arg10 harg10 X3 X4 X5 f6 f8 f10).1
    = arg6.view.writes (Elt F) f6
      (⟨Rect.unit (s := S3328x256) ![3072, 192] S256x64.size inb_S3328x256_S256x64_3072_192, outE c i arg3 harg3 arg4 harg4 arg5 harg5 arg6 harg6 arg7 harg7 arg8 harg8 arg9 harg9 arg10 harg10 X3 X4 X5 f6 f8 f10 3⟩
      :: ⟨Rect.unit (s := S3328x256) ![3072, 128] S256x64.size inb_S3328x256_S256x64_3072_128, outE c i arg3 harg3 arg4 harg4 arg5 harg5 arg6 harg6 arg7 harg7 arg8 harg8 arg9 harg9 arg10 harg10 X3 X4 X5 f6 f8 f10 2⟩
      :: ⟨Rect.unit (s := S3328x256) ![3072, 64] S256x64.size inb_S3328x256_S256x64_3072_64, outE c i arg3 harg3 arg4 harg4 arg5 harg5 arg6 harg6 arg7 harg7 arg8 harg8 arg9 harg9 arg10 harg10 X3 X4 X5 f6 f8 f10 1⟩
      :: ⟨Rect.unit (s := S3328x256) ![3072, 0] S256x64.size inb_S3328x256_S256x64_3072_0, outE c i arg3 harg3 arg4 harg4 arg5 harg5 arg6 harg6 arg7 harg7 arg8 harg8 arg9 harg9 arg10 harg10 X3 X4 X5 f6 f8 f10 0⟩
      :: (ends c i arg3 harg3 arg4 harg4 arg5 harg5 arg6 harg6 arg7 harg7 arg8 harg8 arg9 harg9 arg10 harg10 X3 X4 X5 f6 f8 f10 25).2.1) := by
  unfold bodyRun; rfl

end body

end Cert.Proof.Attn

end
-- ==== Proof.Chain.lean ====
/-
  The steps as one recursion: `MA n g` is head `g`'s maximum and weighted sum after the first `n` score tiles, started anew
  at each query tile's first. The loop's trips and the steps after it follow it, and each query tile's output is what `fin`
  makes of it.
-/
module

public import proofs.«01_k».proof.Proof.BodySpec

@[expose] public section

set_option maxRecDepth 16384

noncomputable section

namespace Cert.Proof.Attn

open Cert.KernelIdeal Cert.KernelIdeal.Gen
open Idealize.ShloMosaic Idealize.ShloMosaic.TcCoe Idealize.ShloMosaic.Tactic

variable {F : FTy → Type} [FloatOps F] [Named F]

/-! ## The recursion -/

section rec

variable (Y4 : S65x256x256.Idx → Elt F .bf16) (Y5 : S1x65x80x256.Idx → Elt F .bf16) (Y7 : S52x256x256.Idx → Elt F .bf16) (Y8 : S16x80x1024.Idx → Elt F .bf16)

/-- Tile `t`'s keys, head `g`'s queries and values. -/
def KB (t : ℕ) : Vec F S4x256x256 .bf16 := fun j =>
  Y4 ((Rect.unit (s := S65x256x256) ![4 * (t % 16), 0, 0] S4x256x256.size (kt_inb _ (by omega))).toLoadRect.idx j)
def QB (t : ℕ) (g : Fin 4) : Vec F S1x256x256 .bf16 := fun j =>
  Y7 ((Rect.unit (s := S52x256x256) ![4 * (t / 16 % 13) + g.val, 0, 0] S1x256x256.size (qt_inb _ (by omega))).toLoadRect.idx j)
def VB (t : ℕ) : Vec F S1x80x1024 .bf16 := fun j =>
  Y8 ((Rect.unit (s := S16x80x1024) ![t % 16, 0, 0] S1x80x1024.size (vt_inb _ (by omega))).toLoadRect.idx j)

/-- Tile `t`'s scores for head `g`. -/
def S (t : ℕ) (g : Fin 4) : FVec F S1024x256 .f32 := sc (KB Y4 t) (QB Y7 t g)

/-- The maximum and the sum before a query tile's first score tile. -/
def start : FVec F S1x256 .f32 × FVec F S80x256 .f32 :=
  (broadcast S1x256 (Named.named κ "mask" 0xF149F2CA#32), broadcast S80x256 (Scalar.ofBits .f32 0x00000000#32))

def MA (g : Fin 4) : ℕ → FVec F S1x256 .f32 × FVec F S80x256 .f32
  | 0 => start
  | t + 1 =>
    let p := if t % 16 = 0 then start else MA g t
    (maximumf p.1 (cmaxV (S Y4 Y7 t g)), upA (VB Y8 t) p.1 (cmaxV (S Y4 Y7 t g)) p.2 (S Y4 Y7 t g))

theorem MA_first (g : Fin 4) (t : ℕ) (h : t % 16 = 0) : MA Y4 Y7 Y8 g (t + 1)
    = (maximumf start.1 (cmaxV (S Y4 Y7 t g)), upA (VB Y8 t) start.1 (cmaxV (S Y4 Y7 t g)) start.2 (S Y4 Y7 t g)) := by
  rw [MA, if_pos h]

theorem MA_next (g : Fin 4) (t : ℕ) (h : t % 16 ≠ 0) : MA Y4 Y7 Y8 g (t + 1)
    = (maximumf (MA Y4 Y7 Y8 g t).1 (cmaxV (S Y4 Y7 t g)), upA (VB Y8 t) (MA Y4 Y7 Y8 g t).1 (cmaxV (S Y4 Y7 t g)) (MA Y4 Y7 Y8 g t).2 (S Y4 Y7 t g)) := by
  rw [MA, if_neg h]

/-- The leading tile's keys and values. -/
def KMB : Vec F S1x128x256 .bf16 := fun j =>
  Y4 ((Rect.unit (s := S65x256x256) ![64, 0, 0] S1x128x256.size inb_S65x256x256_S1x128x256_64_0_0).toLoadRect.idx j)
def VMB : Vec F S1x1x80x128 .bf16 := fun j =>
  Y5 ((Rect.unit (s := S1x65x80x256) ![0, 64, 0, 0] S1x1x80x128.size inb_S1x65x80x256_S1x1x80x128_0_64_0_0).toLoadRect.idx j)

/-- Query tile `q`'s output for head `g`. -/
def OUT (q : ℕ) (g : Fin 4) : FVec F S256x64 .bf16 :=
  fin (KMB Y4) (VMB Y5) (QB Y7 (16 * q) g) (MA Y4 Y7 Y8 g (16 * q + 16)).1 (MA Y4 Y7 Y8 g (16 * q + 16)).2

end rec

/-! ## Loads -/

/-- A load at a rectangle reads what the view reads there, the rectangle's offsets in any form. -/
theorem readAt_unit {κ' : Kind} {sp : Space} {s : Shape} {e : EltTy} (v : View sig κ' sp s e) (f : v.ty.Contents (Elt F)) (Y : s.Idx → Elt F e)
    (h : v.read (Elt F) f = Y) {off off' : Fin s.rank → ℕ} {sz : Fin s.rank → ℕ} (hi : ∀ a, off a + sz a ≤ s.size a) (hi' : ∀ a, off' a + sz a ≤ s.size a)
    (ho : off = off') : v.readAt (Elt F) (Rect.unit off sz hi).toLoadRect f = fun j => Y ((Rect.unit off' sz hi').toLoadRect.idx j) := by
  subst ho; subst h; rfl

theorem rc_disjoint {g h : Fin 4} (hgh : g ≠ h) : Disjoint (rc h).set (rc g).toLoadRect.set := by
  rw [Finset.disjoint_left]
  intro y hy hy'
  have h1 := Rect.mem_set_unit.mp hy 0
  have h2 := Rect.mem_set_unit.mp hy' 0
  change h.val ≤ (y 0).val ∧ (y 0).val < h.val + 1 at h1
  change g.val ≤ (y 0).val ∧ (y 0).val < g.val + 1 at h2
  exact hgh (Fin.ext (by omega))

theorem readCov_skip (v : View sig .tc .vmem S4x1024x256 .f32) (g h : Fin 4) (hgh : g ≠ h) (w : (rc h).shape.Idx → Elt F .f32)
    (L : List (View.Piece (Elt F) S4x1024x256 .f32)) :
    v.readCov ((⟨rc h, w⟩ : View.Piece (Elt F) S4x1024x256 .f32) :: L) (rc g).toLoadRect = v.readCov L (rc g).toLoadRect :=
  View.readCov_cons_of_disjoint v _ _ _ (rc_disjoint hgh)

theorem readCov_hit (v : View sig .tc .vmem S4x1024x256 .f32) (g : Fin 4) (w : (rc g).shape.Idx → Elt F .f32)
    (L : List (View.Piece (Elt F) S4x1024x256 .f32)) :
    v.readCov ((⟨rc g, w⟩ : View.Piece (Elt F) S4x1024x256 .f32) :: L) (rc g).toLoadRect = w :=
  View.readCov_cons_toLoadRect v _ _ _

/-- Reading a head's tile back from freshly written tiles. -/
theorem readCov_slabs (v : View sig .tc .vmem S4x1024x256 .f32) (s : Fin 4 → FVec F S1024x256 .f32) (L : List (View.Piece (Elt F) S4x1024x256 .f32)) :
    ∀ g : Fin 4, v.readCov (slabs s L) (rc g).toLoadRect = up3 (s g)
  | 3 => readCov_hit v 3 _ _
  | 2 => (readCov_skip v 2 3 (by decide) _ _).trans (readCov_hit v 2 _ _)
  | 1 => (readCov_skip v 1 3 (by decide) _ _).trans ((readCov_skip v 1 2 (by decide) _ _).trans (readCov_hit v 1 _ _))
  | 0 => (readCov_skip v 0 3 (by decide) _ _).trans ((readCov_skip v 0 2 (by decide) _ _).trans
      ((readCov_skip v 0 1 (by decide) _ _).trans (readCov_hit v 0 _ _)))

end Cert.Proof.Attn

end
-- ==== Proof.Loop.lean ====
/-
  The loop and the steps after it, on the recursion: after `n` trips the carried value is the recursion's after `8 n` tiles,
  the first score buffer holds tile `8 n`'s scores, and the output's buffer holds every query tile finished so far.
-/
module

public import proofs.«01_k».proof.Proof.Chain

@[expose] public section

set_option maxRecDepth 16384

noncomputable section

namespace Cert.Proof.Attn

open Cert.KernelIdeal Cert.KernelIdeal.Gen
open Idealize.ShloMosaic Idealize.ShloMosaic.TcCoe Idealize.ShloMosaic.Tactic

variable {F : FTy → Type} [FloatOps F] [Named F]

/-! ## The trip's addresses -/

theorem off53_eq : ∀ (k : Fin k0_t1_loop.trips) (r : Fin 8), k0_off53 k (BitVec.ofNat 32 (1 + r.val)) = ![(8 * k.val + r.val) % 16, 0, 0] := by decide +kernel
theorem off54_eq : ∀ (k : Fin k0_t1_loop.trips) (r : Fin 8), k0_off54 k (BitVec.ofNat 32 (1 + r.val)) = ![4 * ((8 * k.val + r.val + 1) % 16), 0, 0] := by decide +kernel
theorem cond2_eq : ∀ k : Fin k0_t1_loop.trips, k0_cond2 k = 1#1 ↔ k.val % 2 = 1 := by decide +kernel
theorem trips_eq : k0_t1_loop.trips = 25 := by decide +kernel
theorem klt (k : Fin k0_t1_loop.trips) : k.val < 25 := trips_eq ▸ k.isLt

theorem first_eq : ∀ k : Fin k0_t1_loop.trips, Scalar.cmpi .eq (trip_k0_t1.sl.v1279 k) 0#32 = if k.val % 2 = 0 then 1#1 else 0#1 := by decide +kernel

/-- The position of a trip's first tile within its query tile, as the first head computes it. -/
def phase (k : Fin k0_t1_loop.trips) : BitVec 32 :=
  let x := Scalar.subi (Scalar.addi (Scalar.muli 8#32 (Scf.iv 0#32 1#32 k)) 1#32) 1#32
  let y := Scalar.select (Scalar.cmpi .eq 16#32 0#32) 1#32 16#32
  let r := Scalar.remsi x y
  Scalar.select (Scalar.andi (Scalar.xori (Scalar.cmpi .slt r 0#32) (Scalar.cmpi .slt y 0#32)) (Scalar.cmpi .ne r 0#32)) (Scalar.addi r y) r

theorem phase_eq : ∀ k : Fin k0_t1_loop.trips, Scalar.cmpi .eq (phase k) 0#32 = if k.val % 2 = 0 then 1#1 else 0#1 := by decide +kernel

theorem m0T_eq (k : Fin k0_t1_loop.trips) (m : FVec F S1x256 .f32) : ∀ g : Fin 4, m0T k m g = if k.val % 2 = 0 then start.1 else m := by
  have h1 : k0_pay92 m (trip_k0_t1.sl.v1279 k) = if k.val % 2 = 0 then (start (F := F)).1 else m := by
    show Scalar.select (Scalar.cmpi .eq (trip_k0_t1.sl.v1279 k) 0#32) (start (F := F)).1 m = _
    rw [first_eq]; split <;> rfl
  have h0 : k0_pay83 0#32 1#32 k m = if k.val % 2 = 0 then (start (F := F)).1 else m := by
    show Scalar.select (Scalar.cmpi .eq (phase k) 0#32) (start (F := F)).1 m = _
    rw [phase_eq]; split <;> rfl
  intro g
  match g with
  | 0 => exact h0
  | 1 => exact h1
  | 2 => exact h1
  | 3 => exact h1

theorem a0T_eq (k : Fin k0_t1_loop.trips) (a : FVec F S80x256 .f32) : ∀ g : Fin 4, a0T k a g = if k.val % 2 = 0 then start.2 else a := by
  have h1 : k0_pay93 a (trip_k0_t1.sl.v1279 k) = if k.val % 2 = 0 then (start (F := F)).2 else a := by
    show Scalar.select (Scalar.cmpi .eq (trip_k0_t1.sl.v1279 k) 0#32) (start (F := F)).2 a = _
    rw [first_eq]; split <;> rfl
  have h0 : k0_pay84 0#32 1#32 k a = if k.val % 2 = 0 then (start (F := F)).2 else a := by
    show Scalar.select (Scalar.cmpi .eq (phase k) 0#32) (start (F := F)).2 a = _
    rw [phase_eq]; split <;> rfl
  intro g
  match g with
  | 0 => exact h0
  | 1 => exact h1
  | 2 => exact h1
  | 3 => exact h1

/-! ## One trip -/

section trip

variable (arg4 : Memref sig .tc .vmem S65x256x256 .bf16) (arg5 : Memref sig .tc .vmem S1x65x80x256 .bf16)
  (arg7 : Memref sig .tc .vmem S52x256x256 .bf16) (arg8 : Memref sig .tc .vmem S16x80x1024 .bf16) (arg9 arg10 : Memref sig .tc .vmem S4x1024x256 .f32)
  (X4 : BufTy.Contents (Elt F) arg4.view.ty) (X5 : BufTy.Contents (Elt F) arg5.view.ty)
  (X7 : BufTy.Contents (Elt F) arg7.view.ty) (X8 : BufTy.Contents (Elt F) arg8.view.ty) (k : Fin k0_t1_loop.trips)
  (Y4 : S65x256x256.Idx → Elt F .bf16) (Y5 : S1x65x80x256.Idx → Elt F .bf16) (Y7 : S52x256x256.Idx → Elt F .bf16) (Y8 : S16x80x1024.Idx → Elt F .bf16)
  (h4 : arg4.view.read (Elt F) X4 = Y4) (h5 : arg5.view.read (Elt F) X5 = Y5) (h7 : arg7.view.read (Elt F) X7 = Y7) (h8 : arg8.view.read (Elt F) X8 = Y8)

include h4 in
theorem KT_eq (r : ℕ) (hr : r < 8) : KT arg4 X4 k r = KB Y4 (8 * k.val + r + 1) := by
  refine readAt_unit _ _ _ h4 _ _ ?_
  rw [off54_eq k ⟨r % 8, Nat.mod_lt _ (by decide)⟩]
  simp only [Nat.mod_eq_of_lt hr]

include h7 in
theorem QT_eq (r : ℕ) (hr : r < 8) (g : Fin 4) : QT arg7 X7 k r g = QB Y7 (8 * k.val + r + 1) g := by
  refine readAt_unit _ _ _ h7 _ _ ?_
  rw [k0_off55_eq k ⟨r % 8, Nat.mod_lt _ (by decide)⟩ g]
  simp only [Nat.mod_eq_of_lt hr]
  have := klt k
  rw [Nat.mod_eq_of_lt (a := (8 * k.val + r + 1) / 16) (by omega)]

include h8 in
theorem VT_eq (r : ℕ) (hr : r < 8) : VT arg8 X8 k r = VB Y8 (8 * k.val + r) := by
  refine readAt_unit _ _ _ h8 _ _ ?_
  rw [off53_eq k ⟨r % 8, Nat.mod_lt _ (by decide)⟩]
  simp only [Nat.mod_eq_of_lt hr]

include h4 h7 in
theorem ST_eq (r : ℕ) (hr : r < 8) (g : Fin 4) : ST arg4 arg7 X4 X7 k r g = S Y4 Y7 (8 * k.val + r + 1) g := by
  unfold ST S
  rw [KT_eq arg4 X4 k Y4 h4 r hr, QT_eq arg7 X7 k Y7 h7 r hr g]

theorem LT_eq (r : ℕ) : ∃ L, LT arg4 arg7 X4 X7 k r = slabs (ST arg4 arg7 X4 X7 k r) L := by
  match r with
  | 0 => exact ⟨_, rfl⟩
  | 1 => exact ⟨_, rfl⟩
  | r + 2 => exact ⟨_, rfl⟩

theorem RT_eq (r : ℕ) (g : Fin 4) : RT arg4 arg7 arg9 arg10 X4 X7 k r g = ST arg4 arg7 X4 X7 k r g := by
  obtain ⟨L, hL⟩ := LT_eq arg4 arg7 X4 X7 k r
  unfold RT
  rw [hL]
  split <;> rw [readCov_slabs, dn3_up3]

include h4 h7 in
theorem MT_eq (g : Fin 4) (cm m0 : FVec F S1x256 .f32)
    (hm : maximumf m0 cm = (MA Y4 Y7 Y8 g (8 * k.val + 1)).1) (r : ℕ) (hr : r < 8) :
    MT' arg4 arg7 X4 X7 k g cm m0 r = (MA Y4 Y7 Y8 g (8 * k.val + r + 1)).1 := by
  induction r with
  | zero => exact hm
  | succ r ih =>
    rw [MT', ih (by omega), ST_eq arg4 arg7 X4 X7 k Y4 Y7 h4 h7 r (by omega)]
    rw [show 8 * k.val + (r + 1) + 1 = (8 * k.val + r + 1) + 1 from by omega, MA_next Y4 Y7 Y8 g (8 * k.val + r + 1) (by omega)]

include h4 h7 h8 in
theorem AT_eq (g : Fin 4) (cm m0 : FVec F S1x256 .f32) (s0 : FVec F S1024x256 .f32) (a0 : FVec F S80x256 .f32)
    (hm : maximumf m0 cm = (MA Y4 Y7 Y8 g (8 * k.val + 1)).1)
    (ha : upA (VB Y8 (8 * k.val)) m0 cm a0 s0 = (MA Y4 Y7 Y8 g (8 * k.val + 1)).2) (r : ℕ) (hr : r < 8) :
    AT' arg4 arg7 arg8 arg9 arg10 X4 X7 X8 k g cm m0 s0 a0 r = (MA Y4 Y7 Y8 g (8 * k.val + r + 1)).2 := by
  induction r with
  | zero => rw [AT', VT_eq arg8 X8 k Y8 h8 0 (by omega)]; exact ha
  | succ r ih =>
    rw [AT', ih (by omega), VT_eq arg8 X8 k Y8 h8 (r + 1) hr, RT_eq, ST_eq arg4 arg7 X4 X7 k Y4 Y7 h4 h7 r (by omega),
      MT_eq arg4 arg7 X4 X7 k Y4 Y7 Y8 h4 h7 g cm m0 hm r (by omega)]
    rw [show 8 * k.val + (r + 1) + 1 = (8 * k.val + r + 1) + 1 from by omega, MA_next Y4 Y7 Y8 g (8 * k.val + r + 1) (by omega)]
    rfl

variable (acc : Acc F) (f9 : BufTy.Contents (Elt F) arg9.view.ty)
  (hC : ∀ g, accC acc g = cmaxV (S Y4 Y7 (8 * k.val) g)) (hM : ∀ g, (accM acc g, accA acc g) = MA Y4 Y7 Y8 g (8 * k.val))
  (h9 : ∀ g, arg9.view.readAt (Elt F) (rc g).toLoadRect f9 = up3 (S Y4 Y7 (8 * k.val) g))

include hM in
theorem first_step (g : Fin 4) : MA Y4 Y7 Y8 g (8 * k.val + 1)
    = (maximumf (m0T k (accM acc g) g) (cmaxV (S Y4 Y7 (8 * k.val) g)),
       upA (VB Y8 (8 * k.val)) (m0T k (accM acc g) g) (cmaxV (S Y4 Y7 (8 * k.val) g)) (a0T k (accA acc g) g) (S Y4 Y7 (8 * k.val) g)) := by
  rw [m0T_eq, a0T_eq]
  by_cases h : k.val % 2 = 0
  · rw [if_pos h, if_pos h, MA_first Y4 Y7 Y8 g _ (by omega)]
  · rw [if_neg h, if_neg h, MA_next Y4 Y7 Y8 g _ (by omega), ← hM g]

include h4 h7 hC hM in
theorem Mend_eq (g : Fin 4) : Mend arg4 arg7 X4 X7 k acc g = (MA Y4 Y7 Y8 g (8 * k.val + 8)).1 := by
  unfold Mend
  rw [hC g]
  exact MT_eq arg4 arg7 X4 X7 k Y4 Y7 Y8 h4 h7 g _ _ (by rw [first_step k Y4 Y7 Y8 acc hM g]) 7 (by decide)

include h4 h7 h8 hC hM h9 in
theorem Aend_eq (g : Fin 4) : Aend arg4 arg7 arg8 arg9 arg10 X4 X7 X8 k acc f9 g = (MA Y4 Y7 Y8 g (8 * k.val + 8)).2 := by
  unfold Aend
  rw [hC g, h9 g, dn3_up3]
  exact AT_eq arg4 arg7 arg8 arg9 arg10 X4 X7 X8 k Y4 Y7 Y8 h4 h7 h8 g _ _ _ _ (by rw [first_step k Y4 Y7 Y8 acc hM g])
    (by rw [first_step k Y4 Y7 Y8 acc hM g]) 7 (by decide)

include h4 h5 h7 h8 hC hM h9 in
theorem outT_eq (h : k0_cond2 k = 1#1) (g : Fin 4) : outT arg4 arg5 arg7 arg8 arg9 arg10 X4 X5 X7 X8 k acc f9 h g = OUT Y4 Y5 Y7 Y8 (k.val / 2) g := by
  have hk := (cond2_eq k).mp h
  have hq : QM arg7 X7 k h g = QB Y7 (16 * (k.val / 2)) g := by
    refine readAt_unit _ _ _ h7 _ _ ?_
    rw [k0_off56_eq k g]
    have := klt k
    rw [show (8 * k.val + 7) / 16 = 16 * (k.val / 2) / 16 % 13 from by omega]
  unfold outT OUT
  rw [hq, Mend_eq arg4 arg7 X4 X7 k Y4 Y7 Y8 h4 h7 acc hC hM g, Aend_eq arg4 arg7 arg8 arg9 arg10 X4 X7 X8 k Y4 Y7 Y8 h4 h7 h8 acc f9 hC hM h9 g,
    show 16 * (k.val / 2) + 16 = 8 * k.val + 8 from by omega]
  subst h4; subst h5
  rfl

end trip

end Cert.Proof.Attn

end
-- ==== Proof.BodyVal.lean ====
/-
  What the body leaves in the output's buffer: after `n` trips every query tile finished so far, after the last steps all of it.
-/
module

public import proofs.«01_k».proof.Proof.Loop
public import Idealize.ShloMosaic.Lib.WritesUnit

@[expose] public section

set_option maxRecDepth 16384

noncomputable section

namespace Cert.Proof.Attn

open Cert.KernelIdeal Cert.KernelIdeal.Gen
open Idealize.ShloMosaic Idealize.ShloMosaic.TcCoe Idealize.ShloMosaic.Tactic

variable {F : FTy → Type} [FloatOps F] [Named F]

/-! ## Reading a head's tile back, whatever lay below -/

theorem readAt_skip (v : View sig .tc .vmem S4x1024x256 .f32) (f : BufTy.Contents (Elt F) v.ty) (g h : Fin 4) (hgh : g ≠ h) (w : (rc h).shape.Idx → Elt F .f32)
    (L : List (View.Piece (Elt F) S4x1024x256 .f32)) :
    v.readAt (Elt F) (rc g).toLoadRect (v.writes (Elt F) f ((⟨rc h, w⟩ : View.Piece (Elt F) S4x1024x256 .f32) :: L)) = v.readAt (Elt F) (rc g).toLoadRect (v.writes (Elt F) f L) := by
  funext j
  refine View.read_writes_cons_unit_of_not_mem v f _ w L _ rfl (0 : Fin 3) ?_
  have h1 : (((rc g).toLoadRect.idx j) (0 : Fin 3)).val = g.val + 1 * (j (0 : Fin 3)).val := rfl
  have h2 : (j (0 : Fin 3)).val < 1 := (j (0 : Fin 3)).isLt
  have h3 : g.val ≠ h.val := fun e => hgh (Fin.ext e)
  show _ < h.val ∨ h.val + 1 ≤ _
  omega

theorem readAt_hit (v : View sig .tc .vmem S4x1024x256 .f32) (f : BufTy.Contents (Elt F) v.ty) (g : Fin 4) (w : (rc g).shape.Idx → Elt F .f32)
    (L : List (View.Piece (Elt F) S4x1024x256 .f32)) :
    v.readAt (Elt F) (rc g).toLoadRect (v.writes (Elt F) f ((⟨rc g, w⟩ : View.Piece (Elt F) S4x1024x256 .f32) :: L)) = w := by
  funext j
  refine View.read_writes_cons_unit_of_mem v f _ w L _ j rfl ?_
  intro a
  show (![g.val, 0, 0] : Fin 3 → ℕ) a + 1 * (j a).val = _
  rw [Nat.one_mul]

theorem readAt_slabs (v : View sig .tc .vmem S4x1024x256 .f32) (f : BufTy.Contents (Elt F) v.ty) (s : Fin 4 → FVec F S1024x256 .f32) (L : List (View.Piece (Elt F) S4x1024x256 .f32)) :
    ∀ g : Fin 4, v.readAt (Elt F) (rc g).toLoadRect (v.writes (Elt F) f (slabs s L)) = up3 (s g)
  | 3 => readAt_hit v f 3 _ _
  | 2 => (readAt_skip v f 2 3 (by decide) _ _).trans (readAt_hit v f 2 _ _)
  | 1 => (readAt_skip v f 1 3 (by decide) _ _).trans ((readAt_skip v f 1 2 (by decide) _ _).trans (readAt_hit v f 1 _ _))
  | 0 => (readAt_skip v f 0 3 (by decide) _ _).trans ((readAt_skip v f 0 2 (by decide) _ _).trans
      ((readAt_skip v f 0 1 (by decide) _ _).trans (readAt_hit v f 0 _ _)))

/-! ## A query tile's four pieces of output -/

/-- A block of the output from its query tiles' four pieces. -/
def outAt (O : ℕ → Fin 4 → FVec F S256x64 .bf16) : S3328x256.Idx → Elt F .bf16 := fun y =>
  O ((y (0 : Fin 2)).val / 256) ⟨(y (1 : Fin 2)).val / 64, Nat.div_lt_of_lt_mul (y (1 : Fin 2)).isLt⟩
    ((fun a => Fin.cases ⟨(y (0 : Fin 2)).val % 256, Nat.mod_lt _ (by decide)⟩ (fun a => Fin.cases ⟨(y (1 : Fin 2)).val % 64, Nat.mod_lt _ (by decide)⟩ (fun a => a.elim0) a) a) : S256x64.Idx)

/-- Four pieces of query tile `q` side by side: inside its rows its output, elsewhere what lay there. -/
theorem read_tile (v : View sig .tc .vmem S3328x256 .bf16) (f : BufTy.Contents (Elt F) v.ty) (O : ℕ → Fin 4 → FVec F S256x64 .bf16)
    (L : List (View.Piece (Elt F) S3328x256 .bf16)) (q : ℕ) (o : Fin 4 → Fin 2 → ℕ) (ho : ∀ g, o g = ![256 * q, 64 * g.val])
    (h0 : ∀ a, o 0 a + S256x64.size a ≤ S3328x256.size a) (h1 : ∀ a, o 1 a + S256x64.size a ≤ S3328x256.size a)
    (h2 : ∀ a, o 2 a + S256x64.size a ≤ S3328x256.size a) (h3 : ∀ a, o 3 a + S256x64.size a ≤ S3328x256.size a) (y : S3328x256.Idx) :
    v.read (Elt F) (v.writes (Elt F) f ((⟨Rect.unit (o 3) S256x64.size h3, O q 3⟩ : View.Piece (Elt F) S3328x256 .bf16) :: ⟨Rect.unit (o 2) S256x64.size h2, O q 2⟩
      :: ⟨Rect.unit (o 1) S256x64.size h1, O q 1⟩ :: ⟨Rect.unit (o 0) S256x64.size h0, O q 0⟩ :: L)) y
      = if (y (0 : Fin 2)).val / 256 = q then outAt O y else v.read (Elt F) (v.writes (Elt F) f L) y := by
  have hy1 : (y (1 : Fin 2)).val < 256 := (y (1 : Fin 2)).isLt
  by_cases hq : (y (0 : Fin 2)).val / 256 = q
  · rw [if_pos hq]
    have hit : ∀ (g : Fin 4) (hg : ∀ a, o g a + S256x64.size a ≤ S3328x256.size a) (L' : List (View.Piece (Elt F) S3328x256 .bf16)), (y (1 : Fin 2)).val / 64 = g.val →
        v.read (Elt F) (v.writes (Elt F) f ((⟨Rect.unit (o g) S256x64.size hg, O q g⟩ : View.Piece (Elt F) S3328x256 .bf16) :: L')) y = outAt O y := by
      intro g hg L' e
      refine (View.read_writes_cons_unit_of_mem v f hg (O q g) L' y
        ((fun a => Fin.cases ⟨(y (0 : Fin 2)).val % 256, Nat.mod_lt _ (by decide)⟩ (fun a => Fin.cases ⟨(y (1 : Fin 2)).val % 64, Nat.mod_lt _ (by decide)⟩ (fun a => a.elim0) a) a) : S256x64.Idx)
        (ho g) ?_).trans ?_
      · intro a
        fin_cases a
        · show (y (0 : Fin 2)).val = 256 * q + (y (0 : Fin 2)).val % 256
          omega
        · show (y (1 : Fin 2)).val = 64 * g.val + (y (1 : Fin 2)).val % 64
          omega
      · unfold outAt
        have eg : g = ⟨(y (1 : Fin 2)).val / 64, Nat.div_lt_of_lt_mul hy1⟩ := Fin.ext e.symm
        rw [hq, ← eg]
    have skip : ∀ (g : Fin 4) (hg : ∀ a, o g a + S256x64.size a ≤ S3328x256.size a) (L' : List (View.Piece (Elt F) S3328x256 .bf16)), (y (1 : Fin 2)).val / 64 ≠ g.val →
        v.read (Elt F) (v.writes (Elt F) f ((⟨Rect.unit (o g) S256x64.size hg, O q g⟩ : View.Piece (Elt F) S3328x256 .bf16) :: L')) y = v.read (Elt F) (v.writes (Elt F) f L') y := by
      intro g hg L' e
      refine View.read_writes_cons_unit_of_not_mem v f hg (O q g) L' y (ho g) (1 : Fin 2) ?_
      show (y (1 : Fin 2)).val < 64 * g.val ∨ 64 * g.val + 64 ≤ (y (1 : Fin 2)).val
      omega
    by_cases e3 : (y (1 : Fin 2)).val / 64 = 3
    · exact hit 3 h3 _ e3
    by_cases e2 : (y (1 : Fin 2)).val / 64 = 2
    · exact (skip 3 h3 _ e3).trans (hit 2 h2 _ e2)
    by_cases e1 : (y (1 : Fin 2)).val / 64 = 1
    · exact (skip 3 h3 _ e3).trans ((skip 2 h2 _ e2).trans (hit 1 h1 _ e1))
    · exact (skip 3 h3 _ e3).trans ((skip 2 h2 _ e2).trans ((skip 1 h1 _ e1).trans (hit 0 h0 _ (by show _ = 0; omega))))
  · rw [if_neg hq]
    have skip : ∀ (g : Fin 4) (hg : ∀ a, o g a + S256x64.size a ≤ S3328x256.size a) (L' : List (View.Piece (Elt F) S3328x256 .bf16)),
        v.read (Elt F) (v.writes (Elt F) f ((⟨Rect.unit (o g) S256x64.size hg, O q g⟩ : View.Piece (Elt F) S3328x256 .bf16) :: L')) y = v.read (Elt F) (v.writes (Elt F) f L') y := by
      intro g hg L'
      refine View.read_writes_cons_unit_of_not_mem v f hg (O q g) L' y (ho g) (0 : Fin 2) ?_
      show (y (0 : Fin 2)).val < 256 * q ∨ 256 * q + 256 ≤ (y (0 : Fin 2)).val
      omega
    exact (skip 3 h3 _).trans ((skip 2 h2 _).trans ((skip 1 h1 _).trans (skip 0 h0 _)))

theorem accC_mk (C M : Fin 4 → FVec F S1x256 .f32) (A : Fin 4 → FVec F S80x256 .f32) : ∀ g, accC (mkAcc C M A) g = C g
  | 0 => rfl | 1 => rfl | 2 => rfl | 3 => rfl
theorem accMA_mk (C M : Fin 4 → FVec F S1x256 .f32) (A : Fin 4 → FVec F S80x256 .f32) : ∀ g, (accM (mkAcc C M A) g, accA (mkAcc C M A) g) = (M g, A g)
  | 0 => rfl | 1 => rfl | 2 => rfl | 3 => rfl

section body

variable (c : Dev nD) (i : grid0.Coords)
  (arg3 : Memref sig .tc .vmem S256x3328 .bf16) (harg3 : arg3.IsWhole)
  (arg4 : Memref sig .tc .vmem S65x256x256 .bf16) (harg4 : arg4.IsWhole)
  (arg5 : Memref sig .tc .vmem S1x65x80x256 .bf16) (harg5 : arg5.IsWhole)
  (arg6 : Memref sig .tc .vmem S3328x256 .bf16) (harg6 : arg6.IsWhole)
  (arg7 : Memref sig .tc .vmem S52x256x256 .bf16) (harg7 : arg7.IsWhole)
  (arg8 : Memref sig .tc .vmem S16x80x1024 .bf16) (harg8 : arg8.IsWhole)
  (arg9 : Memref sig .tc .vmem S4x1024x256 .f32) (harg9 : arg9.IsWhole)
  (arg10 : Memref sig .tc .vmem S4x1024x256 .f32) (harg10 : arg10.IsWhole)
  (X3 : BufTy.Contents (Elt F) arg3.view.ty) (X4 : BufTy.Contents (Elt F) arg4.view.ty) (X5 : BufTy.Contents (Elt F) arg5.view.ty)
  (f6 : BufTy.Contents (Elt F) arg6.view.ty) (f8 : BufTy.Contents (Elt F) arg8.view.ty) (f10 : BufTy.Contents (Elt F) arg10.view.ty)
  (Y4 : S65x256x256.Idx → Elt F .bf16) (Y5 : S1x65x80x256.Idx → Elt F .bf16) (Y7 : S52x256x256.Idx → Elt F .bf16) (Y8 : S16x80x1024.Idx → Elt F .bf16)
  (h4 : arg4.view.read (Elt F) X4 = Y4) (h5 : arg5.view.read (Elt F) X5 = Y5)
  (h7 : arg7.view.read (Elt F) (R7 i arg3 arg7 X3) = Y7) (h8 : arg8.view.read (Elt F) (R8 i arg5 arg8 X5 f8) = Y8)

-- The body's loads outside the loop, on what the views read.
include h4 in
theorem KL_eq (n t : ℕ) (hn : n + 4 ≤ 65) (h : n = 4 * (t % 16)) : KL arg4 X4 n hn = KB Y4 t :=
  readAt_unit _ _ _ h4 _ _ (by rw [h])

include h7 in
theorem QL_eq (n t : ℕ) (g : Fin 4) (hn : n < 52) (h : n = 4 * (t / 16 % 13) + g.val) : QL i arg3 arg7 X3 n hn = QB Y7 t g :=
  readAt_unit _ _ _ h7 _ _ (by rw [h])

include h8 in
theorem VL_eq (r : ℕ) (hr : r < 8) : VL i arg5 arg8 X5 f8 r = VB Y8 (200 + r) :=
  readAt_unit _ _ _ h8 _ _ (by rw [show 8 + r % 8 = (200 + r) % 16 from by omega])

include h4 h7 in
theorem S0_eq (g : Fin 4) : S0 i arg3 arg4 arg7 X3 X4 g = S Y4 Y7 0 g := by
  unfold S0 S
  rw [KL_eq arg4 X4 Y4 h4 0 0 _ (by decide), QL_eq i arg3 arg7 X3 Y7 h7 g.val 0 g _ (by omega)]

/-- What holds after `n` trips of the loop's state `s`. -/
structure Inv (n : ℕ) (s : Acc F × List (View.Piece (Elt F) S3328x256 .bf16) × List (View.Piece (Elt F) S4x1024x256 .f32) × List (View.Piece (Elt F) S4x1024x256 .f32)) : Prop where
  hC : ∀ g, accC s.1 g = cmaxV (S Y4 Y7 (8 * n) g)
  hM : ∀ g, (accM s.1 g, accA s.1 g) = MA Y4 Y7 Y8 g (8 * n)
  h9 : ∀ g, arg9.view.readAt (Elt F) (rc g).toLoadRect (arg9.view.writes (Elt F) (f9s i arg3 arg4 arg7 arg9 X3 X4) s.2.2.1) = up3 (S Y4 Y7 (8 * n) g)
  h6 : ∀ y : S3328x256.Idx, (y (0 : Fin 2)).val / 256 < n / 2 → arg6.view.read (Elt F) (arg6.view.writes (Elt F) f6 s.2.1) y = outAt (OUT Y4 Y5 Y7 Y8) y

include h4 h5 h7 h8 in
theorem inv_all (n : ℕ) (hn : n ≤ 25) : Inv i arg3 arg4 arg6 arg7 arg9 X3 X4 f6 Y4 Y5 Y7 Y8 n
    (ends c i arg3 harg3 arg4 harg4 arg5 harg5 arg6 harg6 arg7 harg7 arg8 harg8 arg9 harg9 arg10 harg10 X3 X4 X5 f6 f8 f10 n) := by
  induction n with
  | zero =>
    have e := S0_eq i arg3 arg4 arg7 X3 X4 Y4 Y7 h4 h7
    rw [ends, stL, st_k0_t1.eq_1]
    refine ⟨fun g => ?_, fun g => ?_, fun g => ?_, fun y hy => absurd hy (by omega)⟩
    · rw [Nat.mul_zero, ← e g]
      exact accC_mk (fun g => cmaxV (S0 i arg3 arg4 arg7 X3 X4 g)) (fun _ => (start (F := F)).1) (fun _ => (start (F := F)).2) g
    · exact accMA_mk (fun g => cmaxV (S0 i arg3 arg4 arg7 X3 X4 g)) (fun _ => (start (F := F)).1) (fun _ => (start (F := F)).2) g
    · rw [Nat.mul_zero, ← e g]
      have nil : ∀ f : BufTy.Contents (Elt F) arg9.view.ty, arg9.view.writes (Elt F) f [] = f := fun _ => rfl
      have r := readAt_slabs arg9.view arg9.view.junk (S0 i arg3 arg4 arg7 X3 X4) [] g
      generalize up3 (S0 i arg3 arg4 arg7 X3 X4 g) = u at r ⊢
      dsimp only
      rw [nil]
      exact r
  | succ n ih =>
    have I := ih (by omega)
    rw [ends, stL] at I
    have hk : n < k0_t1_loop.trips := by rw [trips_eq]; omega
    obtain ⟨k, rfl⟩ : ∃ k : Fin k0_t1_loop.trips, k.val = n := ⟨⟨n, hk⟩, rfl⟩
    rw [ends, stL, st_k0_t1_succ, tripR_k0_t1, tripL_k0_t1]
    generalize hs : st_k0_t1 (F := F) Variants.none c none i arg3 harg3 arg4 harg4 arg5 harg5 arg6 harg6 arg7 harg7 arg8 harg8 arg9 harg9 arg10 harg10
      _ _ _ _ _ _ _ _ _ _ _ _ _ _ _ _ _ _ k.val = s at I ⊢
    obtain ⟨hC, hM, h9, h6⟩ := I
    have hST := ST_eq arg4 arg7 X4 (R7 i arg3 arg7 X3) k Y4 Y7 h4 h7 7 (by decide)
    refine ⟨fun g => ?_, fun g => ?_, fun g => ?_, fun y hy => ?_⟩
    · dsimp only
      rw [trip_acc]
      rw [show 8 * (k.val + 1) = 8 * k.val + 7 + 1 from by omega, ← hST g]
      exact accC_mk _ _ _ g
    · dsimp only
      rw [trip_acc]
      have eM := Mend_eq arg4 arg7 X4 (R7 i arg3 arg7 X3) k Y4 Y7 Y8 h4 h7 s.1 hC hM g
      have eA := Aend_eq arg4 arg7 arg8 arg9 arg10 X4 (R7 i arg3 arg7 X3) (R8 i arg5 arg8 X5 f8) k Y4 Y7 Y8 h4 h7 h8 s.1 _ hC hM h9 g
      rw [show 8 * (k.val + 1) = 8 * k.val + 8 from by omega]
      exact (accMA_mk _ _ _ g).trans (Prod.ext eM eA)
    · dsimp only
      rw [trip_buf9, View.writes_append]
      obtain ⟨L, hL⟩ := LT_eq arg4 arg7 X4 (R7 i arg3 arg7 X3) k 7
      rw [hL, readAt_slabs, hST g, show 8 * (k.val + 1) = 8 * k.val + 7 + 1 from by omega]
    · by_cases h : k0_cond2 k = 1#1
      · dsimp only
        rw [dif_pos h, trip_out, View.writes_append]
        have hk2 := (cond2_eq k).mp h
        have ho := outT_eq arg4 arg5 arg7 arg8 arg9 arg10 X4 X5 (R7 i arg3 arg7 X3) (R8 i arg5 arg8 X5 f8) k Y4 Y5 Y7 Y8 h4 h5 h7 h8 s.1 _ hC hM h9 h
        rw [ho 0, ho 1, ho 2, ho 3]
        refine (read_tile arg6.view _ (OUT Y4 Y5 Y7 Y8) [] (k.val / 2)
          (fun g => match g with | 0 => k0_off57 k | 1 => k0_off58 k | 2 => k0_off59 k | 3 => k0_off60 k) (fun g => ?_) _ _ _ _ y).trans ?_
        · have e : 256 * ((8 * k.val + 7) / 16) = 256 * (k.val / 2) := by omega
          match g with
          | 0 => show k0_off57 k = _; rw [k0_off57_eq, e]; rfl
          | 1 => show k0_off58 k = _; rw [k0_off58_eq, e]; rfl
          | 2 => show k0_off59 k = _; rw [k0_off59_eq, e]; rfl
          | 3 => show k0_off60 k = _; rw [k0_off60_eq, e]; rfl
        · split
          · rfl
          · exact h6 y (by omega)
      · dsimp only
        rw [dif_neg h, List.nil_append]
        have hk2 : ¬ k.val % 2 = 1 := fun e => h ((cond2_eq k).mpr e)
        exact h6 y (by omega)

/-! ## The steps after the loop -/

include h4 h7 in
theorem SL_eq (r : ℕ) (hr : r < 7) (g : Fin 4) : SL i arg3 arg4 arg7 X3 X4 r g = S Y4 Y7 (201 + r) g := by
  unfold SL S
  rw [KL_eq arg4 X4 Y4 h4 (36 + 4 * (r % 7)) (201 + r) _ (by omega), QL_eq i arg3 arg7 X3 Y7 h7 (48 + g.val) (201 + r) g _ (by omega)]

theorem LL_eq (L9 L10 : List (View.Piece (Elt F) S4x1024x256 .f32)) (r : ℕ) :
    ∃ L, LL i arg3 arg4 arg7 X3 X4 L9 L10 r = slabs (SL i arg3 arg4 arg7 X3 X4 r) L := by
  match r with
  | 0 => exact ⟨_, rfl⟩
  | 1 => exact ⟨_, rfl⟩
  | r + 2 => exact ⟨_, rfl⟩

theorem RL_eq (L9 L10 : List (View.Piece (Elt F) S4x1024x256 .f32)) (r : ℕ) (g : Fin 4) :
    RL i arg3 arg4 arg7 arg9 arg10 X3 X4 L9 L10 r g = SL i arg3 arg4 arg7 X3 X4 r g := by
  obtain ⟨L, hL⟩ := LL_eq i arg3 arg4 arg7 X3 X4 L9 L10 r
  unfold RL
  rw [hL]
  split <;> rw [readCov_slabs, dn3_up3]

include h4 h7 h8 in
theorem MAL_eq (E : Acc F) (L9 L10 : List (View.Piece (Elt F) S4x1024x256 .f32)) (g : Fin 4) (hC : accC E g = cmaxV (S Y4 Y7 200 g))
    (hM : (accM E g, accA E g) = MA Y4 Y7 Y8 g 200) (h9 : arg9.view.readCov L9 (rc g).toLoadRect = up3 (S Y4 Y7 200 g)) (r : ℕ) (hr : r < 8) :
    (ML i arg3 arg4 arg7 X3 X4 E g r, AL i arg3 arg4 arg5 arg7 arg8 arg9 arg10 X3 X4 X5 f8 E L9 L10 g r) = MA Y4 Y7 Y8 g (201 + r) := by
  induction r with
  | zero =>
    rw [ML, AL, MA_next Y4 Y7 Y8 g 200 (by decide), ← hM, hC, h9, dn3_up3, VL_eq i arg5 arg8 X5 f8 Y8 h8 0 (by decide)]
  | succ r ih =>
    have ih := ih (by omega)
    rw [show 201 + (r + 1) = (201 + r) + 1 from by omega, MA_next Y4 Y7 Y8 g (201 + r) (by omega), ← ih]
    rw [ML, AL, RL_eq, SL_eq i arg3 arg4 arg7 X3 X4 Y4 Y7 h4 h7 r (by omega), VL_eq i arg5 arg8 X5 f8 Y8 h8 (r + 1) hr,
      show 200 + (r + 1) = 201 + r from by omega]

include h4 h5 h7 h8 in
/-- The output's buffer when the body ends. -/
theorem read_R6 : arg6.view.read (Elt F)
    (bodyRun (F := F) c i arg3 harg3 arg4 harg4 arg5 harg5 arg6 harg6 arg7 harg7 arg8 harg8 arg9 harg9 arg10 harg10 X3 X4 X5 f6 f8 f10).1
    = outAt (OUT Y4 Y5 Y7 Y8) := by
  rw [bodyRun_R6]
  have I := inv_all c i arg3 harg3 arg4 harg4 arg5 harg5 arg6 harg6 arg7 harg7 arg8 harg8 arg9 harg9 arg10 harg10 X3 X4 X5 f6 f8 f10
    Y4 Y5 Y7 Y8 h4 h5 h7 h8 25 (Nat.le_refl _)
  simp only [outE]
  generalize ends c i arg3 harg3 arg4 harg4 arg5 harg5 arg6 harg6 arg7 harg7 arg8 harg8 arg9 harg9 arg10 harg10 X3 X4 X5 f6 f8 f10 25 = s at I ⊢
  obtain ⟨hC, hM, h9, h6⟩ := I
  have ho : ∀ g, outL i arg3 arg4 arg5 arg7 arg8 arg9 arg10 X3 X4 X5 f8 s.1 (s.2.2.1 ++ slabs (S0 i arg3 arg4 arg7 X3 X4) []) s.2.2.2 g = OUT Y4 Y5 Y7 Y8 12 g := by
    intro g
    have e := MAL_eq i arg3 arg4 arg5 arg7 arg8 arg9 arg10 X3 X4 X5 f8 Y4 Y7 Y8 h4 h7 h8 s.1 (s.2.2.1 ++ slabs (S0 i arg3 arg4 arg7 X3 X4) []) s.2.2.2 g
      (hC g) (hM g) (by rw [View.readCov, View.writes_append]; exact h9 g) 7 (by decide)
    unfold outL OUT
    rw [QL_eq i arg3 arg7 X3 Y7 h7 (48 + g.val) (16 * 12) g _ (by omega)]
    show fin _ _ _ _ _ = fin _ _ _ (MA Y4 Y7 Y8 g (201 + 7)).1 (MA Y4 Y7 Y8 g (201 + 7)).2
    rw [← e]
    subst h4; subst h5
    rfl
  funext y
  rw [ho 0, ho 1, ho 2, ho 3]
  refine (read_tile arg6.view f6 (OUT Y4 Y5 Y7 Y8) s.2.1 12
    (fun g => match g with | 0 => ![3072, 0] | 1 => ![3072, 64] | 2 => ![3072, 128] | 3 => ![3072, 192]) (fun g => ?_) _ _ _ _ y).trans ?_
  · match g with | 0 => rfl | 1 => rfl | 2 => rfl | 3 => rfl
  · split
    · rfl
    · have : (y (0 : Fin 2)).val < 3328 := (y (0 : Fin 2)).isLt
      exact h6 y (by omega)

end body

end Cert.Proof.Attn

end
-- ==== Proof.Scratch.lean ====
/-
  The two scratch buffers the body fills before its loop, read back: the query tiles, each with the point's key head's rows
  and zero elsewhere, and the value chunks.
-/
module

public import proofs.«01_k».proof.Proof.BodyVal
public import Idealize.ShloMosaic.Lib.Pointwise

@[expose] public section

set_option maxRecDepth 16384

noncomputable section

namespace Cert.Proof.Attn

open Cert.KernelIdeal Cert.KernelIdeal.Gen
open Idealize.ShloMosaic Idealize.ShloMosaic.TcCoe Idealize.ShloMosaic.Tactic

variable {F : FTy → Type} [FloatOps F] [Named F]

/-- The query tiles made of a block `Y3` for key head `h`. -/
def QA (h : ℕ) (Y3 : S256x3328.Idx → Elt F .bf16) : S52x256x256.Idx → Elt F .bf16 := fun y =>
  if 64 * h ≤ (y (1 : Fin 3)).val ∧ (y (1 : Fin 3)).val < 64 * h + 64 then
    Y3 (ix2 ⟨(64 * ((y (0 : Fin 3)).val % 4) + ((y (1 : Fin 3)).val - 64 * h)) % 256, Nat.mod_lt _ (by decide)⟩
      ⟨(256 * ((y (0 : Fin 3)).val / 4) + (y (2 : Fin 3)).val) % 3328, Nat.mod_lt _ (by decide)⟩)
  else Scalar.ofBits .bf16 0x0000#16

/-- The value chunks made of a block `Y5`. -/
def VC (Y5 : S1x65x80x256.Idx → Elt F .bf16) : S16x80x1024.Idx → Elt F .bf16 := fun y =>
  Y5 (ix4 0 ⟨(4 * (y (0 : Fin 3)).val + (y (2 : Fin 3)).val / 256) % 65, Nat.mod_lt _ (by decide)⟩ (y (1 : Fin 3)) ⟨(y (2 : Fin 3)).val % 256, Nat.mod_lt _ (by decide)⟩)

theorem castQ (w : S64x256.Idx → Elt F .bf16) (a : Fin 1) (b : Fin 64) (c : Fin 256) :
    shapeCast S1x64x256 w shapeCasts_S64x256_S1x64x256 (ix3 a b c) = w (ix2 b c) := by pointwise

theorem castV (w : S1x1x80x256.Idx → Elt F .bf16) (a : Fin 1) (b : Fin 80) (c : Fin 256) :
    shapeCast S1x80x256 (shapeCast S80x256 w shapeCasts_S1x1x80x256_S80x256) shapeCasts_S80x256_S1x80x256 (ix3 a b c) = w (ix4 0 0 b c) := by pointwise

section body

variable (i : grid0.Coords)
  (arg3 : Memref sig .tc .vmem S256x3328 .bf16) (arg5 : Memref sig .tc .vmem S1x65x80x256 .bf16)
  (arg7 : Memref sig .tc .vmem S52x256x256 .bf16) (arg8 : Memref sig .tc .vmem S16x80x1024 .bf16)
  (X3 : BufTy.Contents (Elt F) arg3.view.ty) (X5 : BufTy.Contents (Elt F) arg5.view.ty) (f8 : BufTy.Contents (Elt F) arg8.view.ty)
  (Y3 : S256x3328.Idx → Elt F .bf16) (Y5 : S1x65x80x256.Idx → Elt F .bf16)
  (h3 : arg3.view.read (Elt F) X3 = Y3) (h5 : arg5.view.read (Elt F) X5 = Y5)

include h3 in
theorem read_piecesQ (n : ℕ) (hn : n ≤ 52) (y : S52x256x256.Idx) :
    arg7.view.read (Elt F) (arg7.view.writes (Elt F) arg7.view.junk (piecesQ i arg3 X3 n hn)) y
      = if (y (0 : Fin 3)).val < n then QA (i 1).val Y3 y else Scalar.ofBits .bf16 0x0000#16 := by
  have y0 : (y (0 : Fin 3)).val < 52 := (y (0 : Fin 3)).isLt
  have y1 : (y (1 : Fin 3)).val < 256 := (y (1 : Fin 3)).isLt
  have y2 : (y (2 : Fin 3)).val < 256 := (y (2 : Fin 3)).isLt
  induction n with
  | zero =>
    rw [if_neg (by omega)]
    refine (View.read_writes_cons_unit_of_mem arg7.view _ inb_S52x256x256_S52x256x256_0_0_0 _ [] y y rfl ?_).trans ?_
    · intro a; fin_cases a <;> exact (Nat.zero_add _).symm
    · rw [shapeCast_self]; rfl
  | succ n ih =>
    have hr := row0_eq i
    by_cases hm : (y (0 : Fin 3)).val = n ∧ 64 * (i 1).val ≤ (y (1 : Fin 3)).val ∧ (y (1 : Fin 3)).val < 64 * (i 1).val + 64
    · rw [if_pos (by omega), QA, if_pos hm.2]
      refine (View.read_writes_cons_unit_of_mem arg7.view _ (row0_inb i n hn) _ (piecesQ i arg3 X3 n (Nat.le_of_succ_le hn)) y
        (ix3 0 ⟨(y (1 : Fin 3)).val - 64 * (i 1).val, by omega⟩ (y (2 : Fin 3))) rfl ?_).trans ?_
      · intro a
        fin_cases a
        · show (y (0 : Fin 3)).val = n + 0; omega
        · show (y (1 : Fin 3)).val = row0 i + ((y (1 : Fin 3)).val - 64 * (i 1).val); omega
        · exact (Nat.zero_add _).symm
      · subst h3
        refine (castQ _ _ _ _).trans ?_
        refine congrArg (arg3.view.read (Elt F) X3) (funext fun a => Fin.ext ?_)
        fin_cases a
        · show 64 * (n % 4) + 1 * ((y (1 : Fin 3)).val - 64 * (i 1).val) = (64 * ((y (0 : Fin 3)).val % 4) + ((y (1 : Fin 3)).val - 64 * (i 1).val)) % 256
          rw [hm.1]; omega
        · show 256 * (n / 4) + 1 * (y (2 : Fin 3)).val = (256 * ((y (0 : Fin 3)).val / 4) + (y (2 : Fin 3)).val) % 3328
          rw [hm.1]; omega
    · have e : arg7.view.read (Elt F) (arg7.view.writes (Elt F) arg7.view.junk (piecesQ i arg3 X3 (n + 1) hn)) y
          = arg7.view.read (Elt F) (arg7.view.writes (Elt F) arg7.view.junk (piecesQ i arg3 X3 n (Nat.le_of_succ_le hn))) y := by
        by_cases h0 : (y (0 : Fin 3)).val = n
        · refine View.read_writes_cons_unit_of_not_mem arg7.view _ (row0_inb i n hn) _ _ y rfl (1 : Fin 3) ?_
          show (y (1 : Fin 3)).val < row0 i ∨ row0 i + 64 ≤ (y (1 : Fin 3)).val
          omega
        · refine View.read_writes_cons_unit_of_not_mem arg7.view _ (row0_inb i n hn) _ _ y rfl (0 : Fin 3) ?_
          show (y (0 : Fin 3)).val < n ∨ n + 1 ≤ (y (0 : Fin 3)).val
          omega
      rw [e, ih]
      by_cases h0 : (y (0 : Fin 3)).val = n
      · rw [if_neg (by omega), if_pos (by omega), QA, if_neg (fun h => hm ⟨h0, h⟩)]
      · by_cases h1 : (y (0 : Fin 3)).val < n
        · rw [if_pos h1, if_pos (by omega)]
        · rw [if_neg h1, if_neg (by omega)]

include h3 in
theorem read_R7 : arg7.view.read (Elt F) (R7 i arg3 arg7 X3) = QA (i 1).val Y3 := by
  funext y
  rw [R7, H7_eq]
  exact (read_piecesQ i arg3 arg7 X3 Y3 h3 52 _ y).trans (if_pos (y (0 : Fin 3)).isLt)

include h5 in
theorem read_piecesV (n : ℕ) (hn : n ≤ 64) (y : S16x80x1024.Idx) (hy : 4 * (y (0 : Fin 3)).val + (y (2 : Fin 3)).val / 256 < n) :
    arg8.view.read (Elt F) (arg8.view.writes (Elt F) f8 (piecesV arg5 X5 n hn)) y = VC Y5 y := by
  have y0 : (y (0 : Fin 3)).val < 16 := (y (0 : Fin 3)).isLt
  have y1 : (y (1 : Fin 3)).val < 80 := (y (1 : Fin 3)).isLt
  have y2 : (y (2 : Fin 3)).val < 1024 := (y (2 : Fin 3)).isLt
  induction n with
  | zero => omega
  | succ n ih =>
    by_cases hm : 4 * (y (0 : Fin 3)).val + (y (2 : Fin 3)).val / 256 = n
    · refine (View.read_writes_cons_unit_of_mem arg8.view _ (vdst_inb n hn) _ (piecesV arg5 X5 n (Nat.le_of_succ_le hn)) y
        (ix3 0 (y (1 : Fin 3)) ⟨(y (2 : Fin 3)).val % 256, Nat.mod_lt _ (by decide)⟩) rfl ?_).trans ?_
      · intro a
        fin_cases a
        · show (y (0 : Fin 3)).val = n / 4 + 0; omega
        · exact (Nat.zero_add _).symm
        · show (y (2 : Fin 3)).val = 256 * (n % 4) + (y (2 : Fin 3)).val % 256; omega
      · subst h5
        unfold VC
        refine (castV _ _ _ _).trans ?_
        refine congrArg (arg5.view.read (Elt F) X5) (funext fun a => Fin.ext ?_)
        fin_cases a
        · rfl
        · show n + 1 * 0 = (4 * (y (0 : Fin 3)).val + (y (2 : Fin 3)).val / 256) % 65
          omega
        · show 0 + 1 * (y (1 : Fin 3)).val = (y (1 : Fin 3)).val
          omega
        · show 0 + 1 * ((y (2 : Fin 3)).val % 256) = (y (2 : Fin 3)).val % 256
          omega
    · refine Eq.trans ?_ (ih (Nat.le_of_succ_le hn) (by omega))
      by_cases h0 : (y (0 : Fin 3)).val = n / 4
      · refine View.read_writes_cons_unit_of_not_mem arg8.view _ (vdst_inb n hn) _ _ y rfl (2 : Fin 3) ?_
        show (y (2 : Fin 3)).val < 256 * (n % 4) ∨ 256 * (n % 4) + 256 ≤ (y (2 : Fin 3)).val
        omega
      · refine View.read_writes_cons_unit_of_not_mem arg8.view _ (vdst_inb n hn) _ _ y rfl (0 : Fin 3) ?_
        show (y (0 : Fin 3)).val < n / 4 ∨ n / 4 + 1 ≤ (y (0 : Fin 3)).val
        omega

theorem fills_eq : ∀ i : grid0.Coords, bodyRun.sl.v268 i = 1#1 ↔ (i 2).val = 0 := by decide +kernel

include h5 in
theorem read_R8 (h8 : (i 2).val ≠ 0 → arg8.view.read (Elt F) f8 = VC Y5) : arg8.view.read (Elt F) (R8 i arg5 arg8 X5 f8) = VC Y5 := by
  unfold R8
  by_cases h : (i 2).val = 0
  · rw [if_pos ((fills_eq i).mpr h)]
    funext y
    have y0 : (y (0 : Fin 3)).val < 16 := (y (0 : Fin 3)).isLt
    have y2 : (y (2 : Fin 3)).val < 1024 := (y (2 : Fin 3)).isLt
    exact read_piecesV arg5 arg8 X5 f8 Y5 h5 64 _ y (by omega)
  · rw [if_neg (fun e => h ((fills_eq i).mp e))]
    exact h8 h

end body

end Cert.Proof.Attn

end
-- ==== Proof.Softmax.lean ====
/-
  Sums weighted by powers of two, over the extended reals: the sum over the first keys, kept at those keys' maximum, is
  brought to a later maximum by one factor, whatever the scores are.
-/
module

public import Idealize.ShloMosaic.PureOps.Ideal
public import Mathlib.Data.EReal.Operations
public import Mathlib.Data.EReal.Inv

@[expose] public section

noncomputable section

namespace Cert.Proof.Attn

open Idealize.ShloMosaic

/-- The power of two. -/
abbrev ex (x : EReal) : EReal := Ideal.exp2 x

theorem ex_nonneg (x : EReal) : 0 ≤ ex x := by
  induction x with
  | bot => exact le_refl _
  | top => exact le_top
  | coe r => exact EReal.coe_nonneg.mpr (Real.rpow_nonneg (by norm_num) r)

theorem ex_ne_top {x : EReal} (h : x ≠ ⊤) : ex x ≠ ⊤ := by
  induction x with
  | bot => exact EReal.zero_ne_top
  | top => exact absurd rfl h
  | coe r => exact EReal.coe_ne_top _

theorem sub_ne_top {m m' : EReal} (h : m ≤ m') : m - m' ≠ ⊤ := by
  induction m' with
  | bot => rw [le_bot_iff.mp h]; decide
  | top => rw [sub_eq_add_neg, EReal.neg_top, EReal.add_bot]; exact bot_ne_top
  | coe r' =>
    induction m with
    | bot => rw [sub_eq_add_neg, EReal.bot_add]; exact bot_ne_top
    | top => exact absurd (top_le_iff.mp h) (EReal.coe_ne_top _)
    | coe r => rw [← EReal.coe_sub]; exact EReal.coe_ne_top _

theorem ex_mul {s m m' : EReal} (h : s ≤ m) (h' : m ≤ m') : ex (m - m') * ex (s - m) = ex (s - m') := by
  induction m' with
  | bot =>
    obtain rfl := le_bot_iff.mp h'
    obtain rfl := le_bot_iff.mp h
    simp [ex, sub_eq_add_neg]
  | top => simp [ex, sub_eq_add_neg]
  | coe r' =>
    induction m with
    | bot =>
      obtain rfl := le_bot_iff.mp h
      simp [ex, sub_eq_add_neg]
    | top => exact absurd (top_le_iff.mp h') (EReal.coe_ne_top _)
    | coe r =>
      induction s with
      | bot => simp [ex, sub_eq_add_neg]
      | top => exact absurd (top_le_iff.mp h) (EReal.coe_ne_top _)
      | coe t =>
        rw [← EReal.coe_sub, ← EReal.coe_sub, ← EReal.coe_sub]
        show ((Real.rpow 2 (r - r') : ℝ) : EReal) * ((Real.rpow 2 (t - r) : ℝ) : EReal) = ((Real.rpow 2 (t - r') : ℝ) : EReal)
        rw [← EReal.coe_mul]
        refine congrArg _ ?_
        show (2 : ℝ) ^ (r - r') * (2 : ℝ) ^ (t - r) = (2 : ℝ) ^ (t - r')
        rw [← Real.rpow_add (by norm_num)]
        congr 1; ring

theorem mul_sum_of_nonneg {ι : Type} (I : Finset ι) (f : ι → EReal) {x : EReal} (hx : 0 ≤ x) (hx' : x ≠ ⊤) : x * ∑ n ∈ I, f n = ∑ n ∈ I, x * f n := by
  classical
  induction I using Finset.induction with
  | empty => rw [Finset.sum_empty, Finset.sum_empty, mul_zero]
  | insert a I ha ih => rw [Finset.sum_insert ha, Finset.sum_insert ha, EReal.left_distrib_of_nonneg_of_ne_top hx hx', ih]

/-- The maximum of the first `N` scores, and the weighted sum of their values at maximum `M`. -/
def top (x : ℕ → EReal) (N : ℕ) : EReal := (Finset.range N).sup x
def wsum (x v : ℕ → EReal) (N : ℕ) (M : EReal) : EReal := ∑ n ∈ Finset.range N, v n * ex (x n - M)

theorem shift (x v : ℕ → EReal) (N : ℕ) {M M' : EReal} (h : ∀ n < N, x n ≤ M) (h' : M ≤ M') : ex (M - M') * wsum x v N M = wsum x v N M' := by
  rw [wsum, mul_sum_of_nonneg _ _ (ex_nonneg _) (ex_ne_top (sub_ne_top h'))]
  refine Finset.sum_congr rfl fun n hn => ?_
  rw [← ex_mul (h n (Finset.mem_range.mp hn)) h', mul_left_comm]

theorem le_top' (x : ℕ → EReal) {N n : ℕ} (h : n < N) : x n ≤ top x N := Finset.le_sup (f := x) (Finset.mem_range.mpr h)

theorem top_add (x : ℕ → EReal) (N K : ℕ) : top x (N + K) = max (top x N) (top (fun r => x (N + r)) K) := by
  induction K with
  | zero => simp [top]
  | succ K ih =>
    have e : ∀ (y : ℕ → EReal) (n : ℕ), top y (n + 1) = max (top y n) (y n) := fun y n => by
      rw [top, Finset.range_add_one, Finset.sup_insert]; exact max_comm _ _
    rw [← Nat.add_assoc, e, ih, e, max_assoc]

theorem wsum_add (x v : ℕ → EReal) (N K : ℕ) (M : EReal) : wsum x v (N + K) M = wsum x v N M + ∑ r : Fin K, v (N + r.val) * ex (x (N + r.val) - M) := by
  rw [wsum, Finset.sum_range_add, ← wsum, Fin.sum_univ_eq_sum_range (fun r => v (N + r) * ex (x (N + r) - M)) K]

/-- One more chunk of keys. -/
theorem chunk (x v : ℕ → EReal) (N K : ℕ) :
    ex (top x N - top x (N + K)) * wsum x v N (top x N) + ∑ r : Fin K, v (N + r.val) * ex (x (N + r.val) - top x (N + K)) = wsum x v (N + K) (top x (N + K)) := by
  rw [shift x v N (fun n hn => le_top' x hn) (by rw [top_add]; exact le_max_left _ _), wsum_add]

theorem fold_max (K : ℕ) (f : Fin K → EReal) (y : ℕ → EReal) (h : ∀ r : Fin K, f r = y r.val) : Finset.fold max ⊥ f Finset.univ = top y K := by
  apply le_antisymm
  · rw [Finset.fold_max_le]
    exact ⟨bot_le, fun r _ => by rw [h r]; exact le_top' y r.isLt⟩
  · refine Finset.sup_le fun n hn => ?_
    have e := h ⟨n, Finset.mem_range.mp hn⟩
    rw [Finset.le_fold_max]
    exact Or.inr ⟨⟨n, Finset.mem_range.mp hn⟩, Finset.mem_univ _, le_of_eq e.symm⟩

end Cert.Proof.Attn

end
-- ==== Proof.Value.lean ====
/-
  The recursion's values over the extended reals: after each chunk of keys the maximum is that of the keys seen, and the sum
  is theirs weighted at that maximum. A query tile's output is the quotient of two such sums over all keys.
-/
module

public import proofs.«01_k».proof.Proof.Scratch
public import proofs.«01_k».proof.Proof.Softmax

@[expose] public section

set_option maxRecDepth 16384

noncomputable section

namespace Cert.Proof.Attn

open Cert.KernelIdeal Cert.KernelIdeal.Gen
open Idealize.ShloMosaic Idealize.ShloMosaic.TcCoe Idealize.ShloMosaic.Tactic

/-! ## The steps at an index -/

theorem sc_val (kb : Vec Ideal S4x256x256 .bf16) (qb : Vec Ideal S1x256x256 .bf16) (r : Fin 1024) (c : Fin 256) :
    sc kb qb (ix2 r c) = ∑ x : Fin 256, kb (ix3 ⟨r.val / 256, by omega⟩ ⟨r.val % 256, by omega⟩ x) * qb (ix3 0 x c) := by
  pointwise [sc]

theorem neg_inf : Ideal.ofBits .f32 0xFF800000#32 = ⊥ := by
  simp [Ideal.ofBits, Ideal.ieee]

theorem cmaxV_val (s : FVec Ideal S1024x256 .f32) (z : Fin 1) (c : Fin 256) (y : ℕ → EReal) (h : ∀ r : Fin 1024, s (ix2 r c) = y r.val) :
    cmaxV s (ix2 z c) = top y 1024 := by
  pointwise [cmaxV]
  rw [← fold_max 1024 _ y h, neg_inf]

theorem upA_val (V : Vec Ideal S1x80x1024 .bf16) (m cm : FVec Ideal S1x256 .f32) (a : FVec Ideal S80x256 .f32) (s : FVec Ideal S1024x256 .f32) (d : Fin 80) (c : Fin 256) :
    upA V m cm a s (ix2 d c) = ex (m (ix2 0 c) - max (m (ix2 0 c)) (cm (ix2 0 c))) * a (ix2 d c)
      + ∑ x : Fin 1024, V (ix3 0 d x) * ex (s (ix2 x c) - max (m (ix2 0 c)) (cm (ix2 0 c))) := by
  pointwise [upA]
  rfl

theorem max_val (m cm : FVec Ideal S1x256 .f32) (z : Fin 1) (c : Fin 256) : maximumf m cm (ix2 z c) = max (m (ix2 z c)) (cm (ix2 z c)) := rfl

theorem mask_bot : Named.named (F := Ideal) κ "mask" (φ := .f32) 0xF149F2CA#32 = (⊥ : EReal) := rfl

theorem scM_val (kb : Vec Ideal S1x128x256 .bf16) (qb : Vec Ideal S1x256x256 .bf16) (r : Fin 128) (c : Fin 256) :
    scM kb qb (ix2 r c) = if r.val < 16 then ∑ x : Fin 256, kb (ix3 0 r x) * qb (ix3 0 x c) else ⊥ := by
  pointwise [scM]
  have e : IntOp.cmpi CmpIPredicate.slt (BitVec.ofNat 32 r.val) 16#32 = if r.val < 16 then 1#1 else 0#1 := by
    revert r; decide +kernel
  rw [e, mask_bot]
  split <;> rfl

theorem cmaxM_val (s : FVec Ideal S128x256 .f32) (z : Fin 1) (c : Fin 256) (y : ℕ → EReal) (h : ∀ r : Fin 128, s (ix2 r c) = y r.val) :
    cmaxM s (ix2 z c) = top y 128 := by
  pointwise [cmaxM]
  rw [← fold_max 128 _ y h, neg_inf]

theorem upAM_val (V : Vec Ideal S1x1x80x128 .bf16) (m cm : FVec Ideal S1x256 .f32) (a : FVec Ideal S80x256 .f32) (s : FVec Ideal S128x256 .f32) (d : Fin 80) (c : Fin 256) :
    upAM V m cm a s (ix2 d c) = ex (m (ix2 0 c) - max (m (ix2 0 c)) (cm (ix2 0 c))) * a (ix2 d c)
      + ∑ x : Fin 128, V (ix4 0 0 d x) * ex (s (ix2 x c) - max (m (ix2 0 c)) (cm (ix2 0 c))) := by
  pointwise [upAM]
  rfl

theorem quot_val (a : FVec Ideal S80x256 .f32) (r : Fin 256) (c : Fin 64) : quot a (ix2 r c) = Ideal.div (a (ix2 ⟨c.val, by omega⟩ r)) (a (ix2 64 r)) := by
  pointwise [quot]

/-- A sum over 256 rows, all but 64 of them zero. -/
theorem sum_rows (f : Fin 256 → EReal) (h : ℕ) (hh : h < 4) (g : Fin 64 → EReal) (h0 : ∀ x : Fin 256, ¬ (64 * h ≤ x.val ∧ x.val < 64 * h + 64) → f x = 0)
    (h1 : ∀ (d : Fin 64), f ⟨64 * h + d.val, by omega⟩ = g d) : ∑ x : Fin 256, f x = ∑ d : Fin 64, g d := by
  rw [← Finset.sum_congr rfl (fun d _ => h1 d)]
  symm
  refine Finset.sum_bij_ne_zero (fun d _ _ => (⟨64 * h + d.val, by omega⟩ : Fin 256)) (fun _ _ _ => Finset.mem_univ _) ?_ ?_ (fun _ _ _ => rfl)
  · intro a _ _ b _ _ e
    have := congrArg Fin.val e
    exact Fin.ext (by simpa using this)
  · intro x _ hx
    have hr : 64 * h ≤ x.val ∧ x.val < 64 * h + 64 := by_contra fun hn => hx (h0 x hn)
    refine ⟨⟨x.val - 64 * h, by omega⟩, Finset.mem_univ _, ?_, ?_⟩
    · have e : (⟨64 * h + (x.val - 64 * h), by omega⟩ : Fin 256) = x := Fin.ext (by show 64 * h + (x.val - 64 * h) = x.val; omega)
      show f ⟨64 * h + (x.val - 64 * h), _⟩ ≠ 0
      rw [e]; exact hx
    · exact Fin.ext (by show 64 * h + (x.val - 64 * h) = x.val; omega)

/-! ## The recursion's values -/

section blocks

variable (h : ℕ) (hh : h < 4) (Y3 : S256x3328.Idx → EReal) (Y4 : S65x256x256.Idx → EReal) (Y5 : S1x65x80x256.Idx → EReal)

/-- The score of key `n` against the block's query `Q` of head `g`, and row `d` of key `n`'s values. -/
def sN (g : Fin 4) (Q n : ℕ) : EReal := ∑ d : Fin 64,
  Y4 (ix3 ⟨n / 256 % 65, Nat.mod_lt _ (by decide)⟩ ⟨n % 256, Nat.mod_lt _ (by decide)⟩ ⟨(64 * h + d.val) % 256, Nat.mod_lt _ (by decide)⟩)
    * Y3 (ix2 ⟨64 * g.val + d.val, by omega⟩ ⟨Q % 3328, Nat.mod_lt _ (by decide)⟩)
def vN (d : Fin 80) (n : ℕ) : EReal := Y5 (ix4 0 ⟨n / 256 % 65, Nat.mod_lt _ (by decide)⟩ d ⟨n % 256, Nat.mod_lt _ (by decide)⟩)

/-- A query tile's element. -/
theorem QB_val (t : ℕ) (ht : t / 16 < 13) (g : Fin 4) (x c : Fin 256) : QB (F := Ideal) (QA (F := Ideal) h Y3) t g (ix3 0 x c)
    = if 64 * h ≤ x.val ∧ x.val < 64 * h + 64 then Y3 (ix2 ⟨(64 * g.val + (x.val - 64 * h)) % 256, Nat.mod_lt _ (by decide)⟩ ⟨(256 * (t / 16) + c.val) % 3328, Nat.mod_lt _ (by decide)⟩) else 0 := by
  unfold QB QA
  have e0 : (((Rect.unit (s := S52x256x256) ![4 * (t / 16 % 13) + g.val, 0, 0] S1x256x256.size (qt_inb _ (by omega))).toLoadRect.idx (ix3 0 x c)) (0 : Fin 3)).val = 4 * (t / 16) + g.val := by
    show 4 * (t / 16 % 13) + g.val + 1 * 0 = _
    rw [Nat.mod_eq_of_lt ht]; omega
  have e1 : (((Rect.unit (s := S52x256x256) ![4 * (t / 16 % 13) + g.val, 0, 0] S1x256x256.size (qt_inb _ (by omega))).toLoadRect.idx (ix3 0 x c)) (1 : Fin 3)).val = x.val := by
    show 0 + 1 * x.val = _; omega
  have e2 : (((Rect.unit (s := S52x256x256) ![4 * (t / 16 % 13) + g.val, 0, 0] S1x256x256.size (qt_inb _ (by omega))).toLoadRect.idx (ix3 0 x c)) (2 : Fin 3)).val = c.val := by
    show 0 + 1 * c.val = _; omega
  simp only [e0, e1, e2]
  have f0 : (4 * (t / 16) + g.val) % 4 = g.val := by omega
  have f1 : (4 * (t / 16) + g.val) / 4 = t / 16 := by omega
  simp only [f0, f1]
  split
  · rfl
  · exact Ideal.ofBits_zero_bf16

include hh in
/-- A product of a key row with a query column is over the key head's 64 rows. -/
theorem dot_val (k : Fin 256 → EReal) (t : ℕ) (ht : t / 16 < 13) (g : Fin 4) (c : Fin 256) (n : ℕ)
    (hk : ∀ x, k x = Y4 (ix3 ⟨n / 256 % 65, Nat.mod_lt _ (by decide)⟩ ⟨n % 256, Nat.mod_lt _ (by decide)⟩ x)) :
    ∑ x : Fin 256, k x * QB (F := Ideal) (QA (F := Ideal) h Y3) t g (ix3 0 x c) = sN h Y3 Y4 g (256 * (t / 16) + c.val) n := by
  refine sum_rows _ h hh _ (fun x hx => ?_) (fun d => ?_)
  · rw [QB_val h Y3 t ht, if_neg hx, mul_zero]
  · rw [QB_val h Y3 t ht, if_pos (by constructor <;> simp), hk]
    have e1 : (⟨64 * h + d.val, by omega⟩ : Fin 256) = ⟨(64 * h + d.val) % 256, Nat.mod_lt _ (by decide)⟩ := Fin.ext (Nat.mod_eq_of_lt (by omega)).symm
    have e2 : (⟨(64 * g.val + (64 * h + d.val - 64 * h)) % 256, Nat.mod_lt _ (by decide)⟩ : Fin 256) = ⟨64 * g.val + d.val, by omega⟩ :=
      Fin.ext (by show (64 * g.val + (64 * h + d.val - 64 * h)) % 256 = 64 * g.val + d.val; omega)
    rw [e2, e1]

include hh in
theorem S_val (t : ℕ) (ht : t / 16 < 13) (g : Fin 4) (r : Fin 1024) (c : Fin 256) :
    S (F := Ideal) Y4 (QA (F := Ideal) h Y3) t g (ix2 r c) = sN h Y3 Y4 g (256 * (t / 16) + c.val) (1024 * (t % 16) + r.val) := by
  unfold S
  rw [sc_val]
  refine dot_val h hh Y3 Y4 _ t ht g c _ (fun x => ?_)
  unfold KB
  refine congrArg Y4 (funext fun a => Fin.ext ?_)
  fin_cases a
  · show 4 * (t % 16) + 1 * (r.val / 256) = (1024 * (t % 16) + r.val) / 256 % 65; omega
  · show 0 + 1 * (r.val % 256) = (1024 * (t % 16) + r.val) % 256; omega
  · show 0 + 1 * x.val = x.val; omega

theorem VB_val (t : ℕ) (d : Fin 80) (x : Fin 1024) : VB (F := Ideal) (VC (F := Ideal) Y5) t (ix3 0 d x) = vN Y5 d (1024 * (t % 16) + x.val) := by
  unfold VB VC vN
  refine congrArg Y5 (funext fun a => Fin.ext ?_)
  fin_cases a
  · rfl
  · show (4 * (t % 16 + 1 * 0) + (0 + 1 * x.val) / 256) % 65 = (1024 * (t % 16) + x.val) / 256 % 65; omega
  · show 0 + 1 * d.val = d.val; omega
  · show (0 + 1 * x.val) % 256 = (1024 * (t % 16) + x.val) % 256; omega

/-- One chunk's update. -/
theorem step_val (V : Vec Ideal S1x80x1024 .bf16) (m : FVec Ideal S1x256 .f32) (a : FVec Ideal S80x256 .f32) (s : FVec Ideal S1024x256 .f32)
    (x : Fin 256 → ℕ → EReal) (v : Fin 80 → ℕ → EReal) (N : ℕ) (hm : ∀ c, m (ix2 0 c) = top (x c) N) (ha : ∀ d c, a (ix2 d c) = wsum (x c) (v d) N (top (x c) N))
    (hs : ∀ r c, s (ix2 r c) = x c (N + r.val)) (hV : ∀ d r, V (ix3 0 d r) = v d (N + r.val)) :
    (∀ c, maximumf m (cmaxV s) (ix2 0 c) = top (x c) (N + 1024))
      ∧ ∀ d c, upA V m (cmaxV s) a s (ix2 d c) = wsum (x c) (v d) (N + 1024) (top (x c) (N + 1024)) := by
  have e : ∀ c, max (m (ix2 0 c)) (cmaxV s (ix2 0 c)) = top (x c) (N + 1024) := fun c => by
    rw [hm, cmaxV_val s 0 c (fun r => x c (N + r)) (fun r => hs r c), top_add]
  refine ⟨fun c => (max_val _ _ _ _).trans (e c), fun d c => ?_⟩
  rw [upA_val, e c, hm c, ha d c, ← chunk]
  congr 1
  exact Finset.sum_congr rfl fun r _ => by rw [hs, hV]

include hh in
theorem MA_val (g : Fin 4) (t : ℕ) (ht : t / 16 < 13) :
    (∀ c : Fin 256, (MA (F := Ideal) Y4 (QA (F := Ideal) h Y3) (VC (F := Ideal) Y5) g (t + 1)).1 (ix2 0 c)
        = top (sN h Y3 Y4 g (256 * (t / 16) + c.val)) (1024 * (t % 16) + 1024))
      ∧ ∀ (d : Fin 80) (c : Fin 256), (MA (F := Ideal) Y4 (QA (F := Ideal) h Y3) (VC (F := Ideal) Y5) g (t + 1)).2 (ix2 d c)
        = wsum (sN h Y3 Y4 g (256 * (t / 16) + c.val)) (vN Y5 d) (1024 * (t % 16) + 1024) (top (sN h Y3 Y4 g (256 * (t / 16) + c.val)) (1024 * (t % 16) + 1024)) := by
  induction t with
  | zero =>
    rw [MA_first _ _ _ g 0 rfl]
    refine step_val _ _ _ _ (fun c => sN h Y3 Y4 g (256 * (0 / 16) + c.val)) (vN Y5) (1024 * (0 % 16)) (fun c => rfl) (fun d c => ?_)
      (fun r c => S_val h hh Y3 Y4 0 ht g r c) (fun d r => VB_val Y5 0 d r)
    exact Ideal.ofBits_zero_f32
  | succ t ih =>
    by_cases h0 : (t + 1) % 16 = 0
    · rw [MA_first _ _ _ g (t + 1) h0]
      refine step_val _ _ _ _ (fun c => sN h Y3 Y4 g (256 * ((t + 1) / 16) + c.val)) (vN Y5) (1024 * ((t + 1) % 16)) (fun c => ?_) (fun d c => ?_)
        (fun r c => S_val h hh Y3 Y4 (t + 1) ht g r c) (fun d r => VB_val Y5 (t + 1) d r)
      · rw [h0]; rfl
      · rw [h0]; exact Ideal.ofBits_zero_f32
    · obtain ⟨ih1, ih2⟩ := ih (by omega)
      rw [MA_next _ _ _ g (t + 1) h0]
      have e1 : (t + 1) / 16 = t / 16 := by omega
      have e2 : 1024 * ((t + 1) % 16) = 1024 * (t % 16) + 1024 := by omega
      refine step_val _ _ _ _ (fun c => sN h Y3 Y4 g (256 * ((t + 1) / 16) + c.val)) (vN Y5) (1024 * ((t + 1) % 16)) (fun c => ?_) (fun d c => ?_)
        (fun r c => S_val h hh Y3 Y4 (t + 1) ht g r c) (fun d r => VB_val Y5 (t + 1) d r)
      · rw [e1, e2]; exact ih1 c
      · rw [e1, e2]; exact ih2 d c

/-- The quotient the attention computes: query `Q`'s, head `g`'s, value row `d`'s. -/
def attn (g : Fin 4) (Q : ℕ) (d : Fin 64) : EReal :=
  Ideal.div (wsum (sN h Y3 Y4 g Q) (vN Y5 ⟨d.val, by omega⟩) 16400 (top (sN h Y3 Y4 g Q) 16400))
    (wsum (sN h Y3 Y4 g Q) (vN Y5 64) 16400 (top (sN h Y3 Y4 g Q) 16400))

include hh in
theorem OUT_val (q : ℕ) (hq : q < 13) (g : Fin 4) (r : Fin 256) (d : Fin 64) :
    OUT (F := Ideal) Y4 Y5 (QA (F := Ideal) h Y3) (VC (F := Ideal) Y5) q g (ix2 r d) = attn h Y3 Y4 Y5 g (256 * q + r.val) d := by
  have hm := MA_val h hh Y3 Y4 Y5 g (16 * q + 15) (by omega)
  rw [show (16 * q + 15) / 16 = q from by omega, show 1024 * ((16 * q + 15) % 16) + 1024 = 16384 from by omega, show 16 * q + 15 + 1 = 16 * q + 16 from by omega] at hm
  obtain ⟨hm, ha⟩ := hm
  unfold OUT fin
  generalize MA (F := Ideal) Y4 (QA (F := Ideal) h Y3) (VC (F := Ideal) Y5) g (16 * q + 16) = p at hm ha ⊢
  -- the masked scores, and the keys they stand for
  have hs : ∀ r' : Fin 128, scM (KMB (F := Ideal) Y4) (QB (F := Ideal) (QA (F := Ideal) h Y3) (16 * q) g) (ix2 r' r)
      = (fun n => if n < 16 then sN h Y3 Y4 g (256 * q + r.val) (16384 + n) else ⊥) r'.val := by
    intro r'
    rw [scM_val]
    refine if_congr Iff.rfl ?_ rfl
    have e := dot_val h hh Y3 Y4 (fun x => KMB (F := Ideal) Y4 (ix3 0 r' x)) (16 * q) (by omega) g r (16384 + r'.val) (fun x => by
      unfold KMB
      refine congrArg Y4 (funext fun a => Fin.ext ?_)
      fin_cases a
      · show 64 + 1 * 0 = (16384 + r'.val) / 256 % 65; omega
      · show 0 + 1 * r'.val = (16384 + r'.val) % 256; omega
      · show 0 + 1 * x.val = x.val; omega)
    rw [show 16 * q / 16 = q from by omega] at e
    exact e
  have hv : ∀ (d' : Fin 80) (r' : Fin 128), VMB (F := Ideal) Y5 (ix4 0 0 d' r') = vN Y5 d' (16384 + r'.val) := by
    intro d' r'
    unfold VMB vN
    refine congrArg Y5 (funext fun a => Fin.ext ?_)
    fin_cases a
    · rfl
    · show 64 + 1 * 0 = (16384 + r'.val) / 256 % 65; omega
    · show 0 + 1 * d'.val = d'.val; omega
    · show 0 + 1 * r'.val = (16384 + r'.val) % 256; omega
  have htop : top (fun n => if n < 16 then sN h Y3 Y4 g (256 * q + r.val) (16384 + n) else ⊥) 128 = top (fun n => sN h Y3 Y4 g (256 * q + r.val) (16384 + n)) 16 := by
    apply le_antisymm
    · refine Finset.sup_le fun n _ => ?_
      split
      · exact le_top' (fun n => sN h Y3 Y4 g (256 * q + r.val) (16384 + n)) ‹_›
      · exact bot_le
    · refine Finset.sup_le fun n hn => ?_
      have hn := Finset.mem_range.mp hn
      have e := le_top' (fun n => if n < 16 then sN h Y3 Y4 g (256 * q + r.val) (16384 + n) else ⊥) (N := 128) (n := n) (by omega)
      rwa [if_pos hn] at e
  generalize hS : scM (KMB (F := Ideal) Y4) (QB (F := Ideal) (QA (F := Ideal) h Y3) (16 * q) g) = s at hs ⊢
  have hmax : max (p.1 (ix2 0 r)) (cmaxM s (ix2 0 r)) = top (sN h Y3 Y4 g (256 * q + r.val)) 16400 := by
    rw [hm, cmaxM_val s 0 r (fun n => if n < 16 then sN h Y3 Y4 g (256 * q + r.val) (16384 + n) else ⊥) hs, htop, ← top_add]
  have hup : ∀ d' : Fin 80, upAM (VMB (F := Ideal) Y5) p.1 (cmaxM s) p.2 s (ix2 d' r)
      = wsum (sN h Y3 Y4 g (256 * q + r.val)) (vN Y5 d') 16400 (top (sN h Y3 Y4 g (256 * q + r.val)) 16400) := by
    intro d'
    rw [upAM_val, hmax, hm, ha, ← chunk _ _ 16384 16]
    congr 1
    rw [Fin.sum_univ_eq_sum_range (fun n => vN Y5 d' (16384 + n) * ex (sN h Y3 Y4 g (256 * q + r.val) (16384 + n) - top (sN h Y3 Y4 g (256 * q + r.val)) (16384 + 16))) 16]
    have e : ∀ r' : Fin 128, VMB (F := Ideal) Y5 (ix4 0 0 d' r') * ex (s (ix2 r' r) - top (sN h Y3 Y4 g (256 * q + r.val)) 16400)
        = (fun n => if n < 16 then vN Y5 d' (16384 + n) * ex (sN h Y3 Y4 g (256 * q + r.val) (16384 + n) - top (sN h Y3 Y4 g (256 * q + r.val)) 16400) else 0) r'.val := by
      intro r'
      rw [hv, hs]
      dsimp only
      split
      · rfl
      · rw [sub_eq_add_neg, EReal.bot_add]
        show _ * (0 : EReal) = 0
        rw [mul_zero]
    rw [Finset.sum_congr rfl fun r' _ => e r', Fin.sum_univ_eq_sum_range (fun n => if n < 16 then vN Y5 d' (16384 + n) * ex (sN h Y3 Y4 g (256 * q + r.val) (16384 + n) - top (sN h Y3 Y4 g (256 * q + r.val)) 16400) else 0) 128,
      show 128 = 16 + 112 from rfl, Finset.sum_range_add]
    rw [Finset.sum_congr rfl fun n hn => if_pos (Finset.mem_range.mp hn), Finset.sum_eq_zero (s := Finset.range 112) fun n _ => if_neg (by omega), add_zero]
  rw [quot_val, hup, hup]
  rfl

/-- What the body leaves in the output's buffer, at an index. -/
def outB : S3328x256.Idx → EReal := fun y =>
  attn h Y3 Y4 Y5 ⟨(y (1 : Fin 2)).val / 64, Nat.div_lt_of_lt_mul (y (1 : Fin 2)).isLt⟩ (y (0 : Fin 2)).val ⟨(y (1 : Fin 2)).val % 64, Nat.mod_lt _ (by decide)⟩

include hh in
theorem outAt_val : outAt (F := Ideal) (OUT (F := Ideal) Y4 Y5 (QA (F := Ideal) h Y3) (VC (F := Ideal) Y5)) = outB h Y3 Y4 Y5 := by
  funext y
  have y0 : (y (0 : Fin 2)).val < 3328 := (y (0 : Fin 2)).isLt
  have e := OUT_val h hh Y3 Y4 Y5 ((y (0 : Fin 2)).val / 256) (by omega) ⟨(y (1 : Fin 2)).val / 64, Nat.div_lt_of_lt_mul (y (1 : Fin 2)).isLt⟩
    ⟨(y (0 : Fin 2)).val % 256, Nat.mod_lt _ (by decide)⟩ ⟨(y (1 : Fin 2)).val % 64, Nat.mod_lt _ (by decide)⟩
  rw [show 256 * ((y (0 : Fin 2)).val / 256) + (⟨(y (0 : Fin 2)).val % 256, Nat.mod_lt _ (by decide)⟩ : Fin 256).val = (y (0 : Fin 2)).val from Nat.div_add_mod _ _] at e
  refine Eq.trans ?_ e
  unfold outAt
  refine congrArg _ (funext fun a => ?_)
  fin_cases a <;> rfl

end blocks

end Cert.Proof.Attn

end
-- ==== Proof.IdealRun.lean ====
/-
  `KernelIdeal`'s run: at every grid point the body leaves its output block at `outB` of the blocks it is given. The value
  scratch is filled at a key head's first point and is read at the four after it, whose value block is the same.
-/
module

public import proofs.«01_k».proof.Proof.Gen.KernelIdeal.Frame
public import proofs.«01_k».proof.Proof.Gen.KernelIdeal.Points
public import proofs.«01_k».proof.Proof.Value
public import Idealize.ShloMosaic.Lib.Pipeline.ValueKit

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg) (c : Dev nD)

/-! ## The blocks -/

/-- The query block of point `n`. -/
def qblk (n : ℕ) : S256x3328.Idx → EReal := fun y =>
  (m ((c : Thread nD τ).loc main_arg0) : S1024x33280.Idx → EReal)
    (ix2 ⟨(n / 5 % 4) * 256 + (y (0 : Fin 2)).val, by have : (y (0 : Fin 2)).val < 256 := (y (0 : Fin 2)).isLt; omega⟩
      ⟨(5 * (n / 20 % 2) + n % 5) * 3328 + (y (1 : Fin 2)).val, by have : (y (1 : Fin 2)).val < 3328 := (y (1 : Fin 2)).isLt; omega⟩)

/-- The key block of point `n`. -/
def kblk (n : ℕ) : S65x256x256.Idx → EReal := fun y =>
  (m ((c : Thread nD τ).loc main_arg1) : S130x256x256.Idx → EReal)
    (ix3 ⟨(n / 20 % 2) * 65 + (y (0 : Fin 3)).val, by have : (y (0 : Fin 3)).val < 65 := (y (0 : Fin 3)).isLt; omega⟩ (y (1 : Fin 3)) (y (2 : Fin 3)))

/-- The value block of point `n`. -/
def vblk (n : ℕ) : S1x65x80x256.Idx → EReal := fun y =>
  (m ((c : Thread nD τ).loc main_arg2) : S4x130x80x256.Idx → EReal)
    (ix4 ⟨n / 5 % 4, by omega⟩ ⟨(n / 20 % 2) * 65 + (y (1 : Fin 4)).val, by have : (y (1 : Fin 4)).val < 65 := (y (1 : Fin 4)).isLt; omega⟩ (y (2 : Fin 4)) (y (3 : Fin 4)))

/-- The output block of point `n`. -/
@[irreducible] def oblk (n : ℕ) : S3328x256.Idx → EReal := outB (n / 5 % 4) (qblk m c n) (kblk m c n) (vblk m c n)

theorem idx0_0 : ∀ t : Fin grid0.N, win0_0.index t = ![t.val / 5 % 4, 5 * (t.val / 20 % 2) + t.val % 5] := by decide +kernel
theorem idx0_1 : ∀ t : Fin grid0.N, win0_1.index t = ![t.val / 20 % 2, 0, 0] := by decide +kernel
theorem idx0_2 : ∀ t : Fin grid0.N, win0_2.index t = ![t.val / 5 % 4, t.val / 20 % 2, 0, 0] := by decide +kernel
theorem idx0_3 : ∀ t : Fin grid0.N, win0_3.index t = ![5 * (t.val / 20 % 2) + t.val % 5, t.val / 5 % 4] := by decide +kernel
theorem crd_1 : ∀ t : Fin grid0.N, (grid0.coords t 1).val = t.val / 5 % 4 := by decide +kernel
theorem crd_2 : ∀ t : Fin grid0.N, (grid0.coords t 2).val = t.val % 5 := by decide +kernel

theorem iblk0 (t : Fin cfg0.N) : iblk m c 0 t = qblk m c t.val := by
  funext y
  unfold qblk
  blk_ext [iblk, V, idx0_0]

theorem iblk1 (t : Fin cfg0.N) : iblk m c 1 t = kblk m c t.val := by
  funext y
  unfold kblk
  blk_ext [iblk, V, idx0_1]

theorem iblk2 (t : Fin cfg0.N) : iblk m c 2 t = vblk m c t.val := by
  funext y
  unfold vblk
  blk_ext [iblk, V, idx0_2]

/-- Away from a key head's first point the value block is the point before's. -/
theorem vblk_pred (n : ℕ) (h : n % 5 ≠ 0) : vblk m c (n - 1) = vblk m c n := by
  have e1 : (n - 1) / 5 % 4 = n / 5 % 4 := by omega
  have e2 : (n - 1) / 20 % 2 = n / 20 % 2 := by omega
  unfold vblk
  simp only [e1, e2]

/-! ## The launch -/

/-- Between points: every scratch holds something, and the value scratch, after a point whose successor has the same value
    block, that block's chunks. -/
def inv (n : ℕ) : sProp 𝕄 := iprop(
  ((∃ f : Buf (Elt Ideal) ((c : Thread nD τ).loc cc0_scratch0), ((c : Thread nD τ).loc cc0_scratch0) ↦{fullShare} f)
    ∗ (∃ f : Buf (Elt Ideal) ((c : Thread nD τ).loc cc0_scratch1), ⌜n % 5 ≠ 0 → (Memref.whole cc0_scratch1).view.read (Elt Ideal) f = VC (F := Ideal) (vblk m c (n - 1))⌝
        ∗ ((c : Thread nD τ).loc cc0_scratch1) ↦{fullShare} f)
    ∗ (∃ f : Buf (Elt Ideal) ((c : Thread nD τ).loc cc0_scratch2), ((c : Thread nD τ).loc cc0_scratch2) ↦{fullShare} f)
    ∗ (∃ f : Buf (Elt Ideal) ((c : Thread nD τ).loc cc0_scratch3), ((c : Thread nD τ).loc cc0_scratch3) ↦{fullShare} f))
  ∗ ∃ r, prngReg c r)

/-- The pipeline's proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oblk m c t.val
  Φ t := inv m c t.val
  q _ := fullShare
  owed _ := 0

theorem defs₀_row (t : Fin cfg0.N) : defs₀ (F := Ideal) .tc cfg0.body (cfg0.bodyArgs t (cfg0.slots t)) = bodyAt0 t := by
  unfold defs₀; rw [Defs.onTc_tc]

theorem pt_whole {b : Ref sig .tc} {S : Shape} {e : EltTy} (M : Memref sig .tc .vmem S e) (h : M.view.set = Finset.univ) (f : BufTy.Contents (Elt Ideal) M.view.ty) :
    (pt (F := Ideal) c M f : sProp 𝕄) = iprop(M.view.loc (c : Thread nD τ) ↦{fullShare} f) := by
  unfold pt; rw [h]

theorem after0 (t : Fin cfg0.N) : (dats m 0 c).after 0 t = iblk m c 0 t := rfl
theorem after1 (t : Fin cfg0.N) : (dats m 0 c).after 1 t = iblk m c 1 t := rfl
theorem after2 (t : Fin cfg0.N) : (dats m 0 c).after 2 t = iblk m c 2 t := rfl
theorem after3 (t : Fin cfg0.N) : (dats m 0 c).after 3 t = oblk m c t.val := rfl

set_option maxHeartbeats 1000000 in
theorem body_obligation : BodyObligationLoose (dats m 0 c) (defs₀ (F := Ideal)) Variants.none () Set.univ := fun t => by
  rw [bigSep_W0, bigSep_W0, defs₀_row]
  rw [show (dats m 0 c).Φ t.castSucc = inv m c t.val from rfl, show (dats m 0 c).Φ t.succ = inv m c (t.val + 1) from rfl,
    show (dats m 0 c).owesAt () t.succ = (dats m 0 c).owesAt () t.castSucc from rfl]
  rw [after0, after1, after2, after3]
  generalize hi : oblk m c t.val = O
  show iprop(inv m c t.val ∗ _ ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d)))
    ⊢ wp frame (wpE (defs₀ (F := Ideal)) Variants.none (c : Thread nD τ) none) Set.univ (bodyAt0 t) fun _ => iprop(inv m c (t.val + 1) ∗ _ ∗
      owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare O)
  subst hi
  rw [iblk0, iblk1, iblk2]
  unfold inv
  iintro ⟨⟨⟨⟨%f7, S0⟩, ⟨%f8, %h8, S1⟩, ⟨%f9, S2⟩, ⟨%f10, S3⟩⟩, Hg⟩, Howes, ⟨%d0, H0⟩, ⟨%d1, H1⟩, ⟨%d2, H2⟩, ⟨%d3, H3⟩⟩
  rw [before0_0_of m (dats m 0 c) rfl (fun _ => rfl), before0_1_of m (dats m 0 c) rfl (fun _ => rfl), before0_2_of m (dats m 0 c) rfl (fun _ => rfl)]
  rw [iblk0, iblk1, iblk2]
  unfold owns
  icases H0 with ⟨%X3, %h3, H0⟩
  icases H1 with ⟨%X4, %h4, H1⟩
  icases H2 with ⟨%X5, %h5, H2⟩
  icases H3 with ⟨%f6, -, H3⟩
  have e7 := read_R7 (grid0.coords t) (st0_0 t) (Memref.whole cc0_scratch0) X3 _ h3
  have e8 := read_R8 (grid0.coords t) (st0_2 t) (Memref.whole cc0_scratch1) X5 f8 _ h5
    (fun h => by rw [crd_2] at h; rw [h8 h, vblk_pred m c t.val h])
  have e6 := read_R6 (F := Ideal) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (Memref.whole cc0_scratch0) (Memref.isWhole_whole _) (Memref.whole cc0_scratch1) (Memref.isWhole_whole _)
    (Memref.whole cc0_scratch2) (Memref.isWhole_whole _) (Memref.whole cc0_scratch3) (Memref.isWhole_whole _) X3 X4 X5 f6 f8 f10 _ _ _ _ h4 h5 e7 e8
  rw [crd_1, outAt_val (t.val / 5 % 4) (by omega), show outB (t.val / 5 % 4) (qblk m c t.val) (kblk m c t.val) (vblk m c t.val) = oblk m c t.val from by unfold oblk; rfl] at e6
  have run := (bodyRun (F := Ideal) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (Memref.whole cc0_scratch0) (Memref.isWhole_whole _) (Memref.whole cc0_scratch1) (Memref.isWhole_whole _)
    (Memref.whole cc0_scratch2) (Memref.isWhole_whole _) (Memref.whole cc0_scratch3) (Memref.isWhole_whole _) X3 X4 X5 f6 f8 f10).2.2 f7 f9
  rw [bodyRun_R8] at run
  generalize (bodyRun (F := Ideal) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (Memref.whole cc0_scratch0) (Memref.isWhole_whole _) (Memref.whole cc0_scratch1) (Memref.isWhole_whole _)
    (Memref.whole cc0_scratch2) (Memref.isWhole_whole _) (Memref.whole cc0_scratch3) (Memref.isWhole_whole _) X3 X4 X5 f6 f8 f10).1 = r6 at e6 run
  generalize R8 (grid0.coords t) (st0_2 t) (Memref.whole cc0_scratch1) X5 f8 = r8 at e8 run
  unfold pt at run
  rw [show (Memref.whole cc0_scratch0).view.set = Finset.univ from View.set_whole _, show (Memref.whole cc0_scratch1).view.set = Finset.univ from View.set_whole _,
    show (Memref.whole cc0_scratch2).view.set = Finset.univ from View.set_whole _, show (Memref.whole cc0_scratch3).view.set = Finset.univ from View.set_whole _] at run
  iapply (run _)
  isplitl [H0]; · iexact H0
  isplitl [H1]; · iexact H1
  isplitl [H2]; · iexact H2
  isplitl [H3]; · iexact H3
  isplitl [S0]; · iexact S0
  isplitl [S1]; · iexact S1
  isplitl [S2]; · iexact S2
  isplitl [S3]; · iexact S3
  iintro ⟨H0, H1, H2, H3, S0, S1, S2, S3⟩
  isplitl [S0 S1 S2 S3 Hg]
  · isplitr [Hg]
    · isplitl [S0]; · iexact S0
      isplitl [S1]
      · iexists r8
        isplitr [S1]
        · ipureintro; intro _; exact e8
        iexact S1
      isplitl [S2]; · iexact S2
      iexact S3
    iexact Hg
  isplitl [Howes]; · iexact Howes
  isplitl [H0]
  · iexists X3; isplitr [H0]; · ipureintro; exact h3
    iexact H0
  isplitl [H1]
  · iexists X4; isplitr [H1]; · ipureintro; exact h4
    iexact H1
  isplitl [H2]
  · iexists X5; isplitr [H2]; · ipureintro; exact h5
    iexact H2
  iexists r6; isplitr [H3]; · ipureintro; exact e6
  iexact H3

theorem inv_in : Pipeline.ΦA spec0 c ⊢ inv m c 0 := by
  unfold Pipeline.ΦA inv
  rw [scopedRest0_eq]
  iintro ⟨⟨S0, ⟨%f, S1⟩, S2, S3⟩, Hg⟩
  isplitr [Hg]
  · isplitl [S0]; · iexact S0
    isplitl [S1]
    · iexists f
      isplitr [S1]
      · ipureintro; intro h; exact absurd rfl h
      iexact S1
    isplitl [S2]; · iexact S2
    iexact S3
  iexact Hg

theorem inv_out (n : ℕ) : inv m c n ⊢ Pipeline.ΦA spec0 c := by
  unfold Pipeline.ΦA inv
  rw [scopedRest0_eq]
  iintro ⟨⟨S0, ⟨%f, -, S1⟩, S2, S3⟩, Hg⟩
  isplitr [Hg]
  · isplitl [S0]; · iexact S0
    isplitl [S1]; · iexists f; iexact S1
    isplitl [S2]; · iexact S2
    iexact S3
  iexact Hg

/-! ## The output array -/

/-- The output: row `Q`, column `d` is of the point that holds it. -/
def result : S33280x1024.Idx → EReal := fun y =>
  oblk m c (20 * ((y (0 : Fin 2)).val / 16640) + 5 * ((y (1 : Fin 2)).val / 256) + (y (0 : Fin 2)).val % 16640 / 3328)
    (ix2 ⟨(y (0 : Fin 2)).val % 3328, Nat.mod_lt _ (by decide)⟩ ⟨(y (1 : Fin 2)).val % 256, Nat.mod_lt _ (by decide)⟩)

theorem arr_out : (dats m 0 c).arrAt 3 cfg0.N = result m c := by
  refine (dats m 0 c).arrAt_eq_of_covers 3 _ (by decide +kernel) fun t hf y => ?_
  have y0 : (y (0 : Fin 2)).val < 3328 := (y (0 : Fin 2)).isLt
  have y1 : (y (1 : Fin 2)).val < 256 := (y (1 : Fin 2)).isLt
  have ht : t.val < 40 := lt_of_lt_of_eq t.isLt N_0
  have h : ∀ (n : ℕ) (a : Fin 3328) (b : Fin 256), n = t.val → a.val = (y (0 : Fin 2)).val → b.val = (y (1 : Fin 2)).val →
      oblk m c t.val y = oblk m c n (ix2 a b) := by
    intro n a b hn ha hb
    subst hn
    refine congrArg _ (funext fun x => Fin.ext ?_)
    fin_cases x
    · exact ha.symm
    · exact hb.symm
  rw [after3]
  unfold result
  blk_simp [idx0_3]
  refine h _ _ _ ?_ ?_ ?_
  · omega
  · dsimp only; omega
  · dsimp only; omega

/-- Every execution ends with the arguments as they were, the result at `result`, every counter at zero. -/
theorem run_main :
    θ_run defs (onTc (τ := τ) (main (F := Ideal))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_track cfgs (dats m) 0 launch0 defs₀ Variants.none m ρ main (hbody := fun c => body_obligation m c)
    (hshare := fun c w => by unfold Dat.share; split <;> rfl) (howed := fun _ _ => rfl) (V := V m) (hmain := hmain m Variants.none)
    (hA := fun _ _ => rfl) (hin := fun c => inv_in m c) (hout := fun c => inv_out m c _) (Q' := _)
    (hQ' := fun _ (h : _ ∧ _) => ⟨fun c => ⟨((h.1 c).1 3).trans (arr_out m c), ((h.1 c).1 0).trans ((dats m 0 c).arrAt_in 0 rfl _), ((h.1 c).1 1).trans ((dats m 0 c).arrAt_in 1 rfl _),
      ((h.1 c).1 2).trans ((dats m 0 c).arrAt_in 2 rfl _)⟩, h.2⟩)

end Cert.Proof.Attn

end
-- ==== Proof.Reference.lean ====
/-
  The reference's result at an index: the softmax's quotients, then the sum of the values weighted by them.
-/
module

public import proofs.«01_k».proof.Proof.Gen.ReferenceIdeal.Run
public import proofs.«01_k».proof.Proof.Softmax
public import Idealize.ShloMosaic.Lib.Pointwise
public import Idealize.ShloMosaic.Lib.Pipeline.ValueKit

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic

/-! ## The reference in parts -/

def qs (a0 : FVec Ideal S1024x33280 .bf16) : FVec Ideal S2x16640x4x4x64 .bf16 :=
  shapeCast _ (transpose S33280x1024 [1, 0] a0 transposes_S1024x33280_S33280x1024_1_0) shapeCasts_S33280x1024_S2x16640x4x4x64
def ks (a1 : FVec Ideal S130x256x256 .bf16) : FVec Ideal S2x16400x4x64 .bf16 :=
  extractStridedSlice S2x16400x4x64 ![0, 0, 0, 0] (shapeCast _ a1 shapeCasts_S130x256x256_S2x16640x4x64) slices_S2x16640x4x64_S2x16400x4x64_0_0_0_0
def vs (a2 : FVec Ideal S4x130x80x256 .bf16) : FVec Ideal S2x16400x4x64 .bf16 :=
  extractStridedSlice S2x16400x4x64 ![0, 0, 0, 0] (shapeCast _ (transpose S2x65x256x4x64 [1, 2, 4, 0, 3] (shapeCast _ (extractStridedSlice S4x130x64x256 ![0, 0, 0, 0] a2 slices_S4x130x80x256_S4x130x64x256_0_0_0_0) shapeCasts_S4x130x64x256_S4x2x65x64x256) transposes_S4x2x65x64x256_S2x65x256x4x64_1_2_4_0_3) shapeCasts_S2x65x256x4x64_S2x16640x4x64) slices_S2x16640x4x64_S2x16400x4x64_0_0_0_0
def scores (q : FVec Ideal S2x16640x4x4x64 .bf16) (k : FVec Ideal S2x16400x4x64 .bf16) : FVec Ideal S2x4x4x16640x16400 .f32 :=
  extf .f32 (truncf .bf16 (transpose S2x4x4x16640x16400 [0, 1, 4, 3, 2] (Host.dotGeneral dot_S2x16400x4x64_S2x16640x4x4x64_S2x4x16400x16640x4_3_4_1_13_02_02 none k q) transposes_S2x4x16400x16640x4_S2x4x4x16640x16400_0_1_4_3_2) bitsLt_bf16_f32) bitsLt_bf16_f32
def spread (x : FVec Ideal S2x4x4x16640 .f32) : FVec Ideal S2x4x4x16640x16400 .f32 :=
  broadcastInDim S2x4x4x16640x16400 ![0, 1, 2, 3, 4] bcast_S2x4x4x16640x1_S2x4x4x16640x16400_0_1_2_3_4 (broadcastInDim S2x4x4x16640x1 ![0, 1, 2, 3] bcast_S2x4x4x16640_S2x4x4x16640x1_0_1_2_3 x)
def maxes (s : FVec Ideal S2x4x4x16640x16400 .f32) : FVec Ideal S2x4x4x16640 .f32 :=
  Host.reduce FloatOps.maximumf s (constant S_ .f32 0xFF800000#32) reducesTo_S2x4x4x16640x16400_S2x4x4x16640_d4 h_S_
def expo (s b : FVec Ideal S2x4x4x16640x16400 .f32) : FVec Ideal S2x4x4x16640x16400 .f32 :=
  Host.powf (broadcastInDim S2x4x4x16640x16400 ![] bcast_S_S2x4x4x16640x16400 (constant S_ .f32 0x40000000#32)) (subf s b)
def sums (e : FVec Ideal S2x4x4x16640x16400 .f32) : FVec Ideal S2x4x4x16640 .f32 :=
  Host.reduceAdd e (constant S_ .f32 0x00000000#32) reducesTo_S2x4x4x16640x16400_S2x4x4x16640_d4 h_S_
def out (v : FVec Ideal S2x16400x4x64 .bf16) (e d : FVec Ideal S2x4x4x16640x16400 .f32) : FVec Ideal S33280x1024 .bf16 :=
  shapeCast _ (truncf .bf16 (transpose S2x16640x4x4x64 [0, 4, 1, 3, 2] (Host.dotGeneral dot_S2x16400x4x64_S2x4x4x16640x16400_S2x4x64x4x16640_1_4_3_23_02_01 none v (truncf .bf16 (Host.divf e d) bitsLt_bf16_f32)) transposes_S2x4x64x4x16640_S2x16640x4x4x64_0_4_1_3_2) bitsLt_bf16_f32) shapeCasts_S2x16640x4x4x64_S33280x1024

theorem result_eq (m : (ℓ : Loc nD τ sig) → Buf (Elt Ideal) ℓ) (c : Dev nD) :
    Value.res_main_v27 (F := Ideal) m c
      = (let s := scores (qs (m ((c.tc : Thread nD τ).loc main_arg0))) (ks (m ((c.tc : Thread nD τ).loc main_arg1)))
         let e := expo s (spread (maxes s))
         out (vs (m ((c.tc : Thread nD τ).loc main_arg2))) e (spread (sums e))) := by
  unfold Value.res_main_v27 out vs sums expo maxes spread scores qs ks
  rfl

/-! ## The parts at an index -/

theorem qs_val (a0 : FVec Ideal S1024x33280 .bf16) (b : Fin 2) (l : Fin 16640) (h g : Fin 4) (d : Fin 64) :
    qs a0 (ix5 b l h g d) = a0 (ix2 ⟨h.val * 256 + g.val * 64 + d.val, by omega⟩ ⟨b.val * 16640 + l.val, by omega⟩) := by
  pointwise [qs]

theorem ks_val (a1 : FVec Ideal S130x256x256 .bf16) (b : Fin 2) (n : Fin 16400) (h : Fin 4) (d : Fin 64) :
    ks a1 (ix4 b n h d) = a1 (ix3 ⟨b.val * 65 + n.val / 256, by omega⟩ ⟨n.val % 256, by omega⟩ ⟨h.val * 64 + d.val, by omega⟩) := by
  pointwise [ks]

theorem vs_val (a2 : FVec Ideal S4x130x80x256 .bf16) (b : Fin 2) (n : Fin 16400) (h : Fin 4) (d : Fin 64) :
    vs a2 (ix4 b n h d) = a2 (ix4 h ⟨b.val * 65 + n.val / 256, by omega⟩ ⟨d.val, by omega⟩ ⟨n.val % 256, by omega⟩) := by
  pointwise [vs]

theorem scores_val (q : FVec Ideal S2x16640x4x4x64 .bf16) (k : FVec Ideal S2x16400x4x64 .bf16) (b : Fin 2) (h g : Fin 4) (l : Fin 16640) (n : Fin 16400) :
    scores q k (ix5 b h g l n) = ∑ d : Fin 64, k (ix4 b n h d) * q (ix5 b l h g d) := by
  pointwise [scores]

theorem spread_val (x : FVec Ideal S2x4x4x16640 .f32) (b : Fin 2) (h g : Fin 4) (l : Fin 16640) (n : Fin 16400) :
    spread x (ix5 b h g l n) = x (ix4 b h g l) := by
  pointwise [spread]

theorem neg_inf : Ideal.ofBits .f32 0xFF800000#32 = ⊥ := by
  simp [Ideal.ofBits, Ideal.ieee]

theorem two : Ideal.ofBits .f32 0x40000000#32 = ((2 : ℝ) : EReal) := by
  simp [Ideal.ofBits, Ideal.ieee]
  norm_num
  rw [← EReal.coe_mul]
  norm_num

/-- Two to a power is the base-two exponential. -/
theorem pow_two (x : EReal) : Ideal.pow ((2 : ℝ) : EReal) x = Attn.ex x := by
  induction x with
  | bot =>
    show (if (2 : ℝ) < 0 then (⊥ : EReal) else if 1 < (2 : ℝ) then 0 else if (2 : ℝ) = 1 then 1 else ⊤) = 0
    norm_num
  | top =>
    show (if (2 : ℝ) < 0 then (⊥ : EReal) else if 1 < (2 : ℝ) then ⊤ else if (2 : ℝ) = 1 then 1 else 0) = ⊤
    norm_num
  | coe r => rfl

theorem maxes_val (s : FVec Ideal S2x4x4x16640x16400 .f32) (b : Fin 2) (h g : Fin 4) (l : Fin 16640) :
    maxes s (ix4 b h g l) = Finset.fold max ⊥ (fun n : Fin 16400 => s (ix5 b h g l n)) Finset.univ := by
  pointwise [maxes]
  rw [neg_inf]

theorem expo_val (s t : FVec Ideal S2x4x4x16640x16400 .f32) (b : Fin 2) (h g : Fin 4) (l : Fin 16640) (n : Fin 16400) :
    expo s t (ix5 b h g l n) = Attn.ex (s (ix5 b h g l n) - t (ix5 b h g l n)) := by
  pointwise [expo]
  rw [two, pow_two]

theorem sums_val (e : FVec Ideal S2x4x4x16640x16400 .f32) (b : Fin 2) (h g : Fin 4) (l : Fin 16640) :
    sums e (ix4 b h g l) = ∑ n : Fin 16400, e (ix5 b h g l n) := by
  pointwise [sums]

theorem out_val (v : FVec Ideal S2x16400x4x64 .bf16) (e d : FVec Ideal S2x4x4x16640x16400 .f32) (b : Fin 2) (l : Fin 16640) (h g : Fin 4) (x : Fin 64) :
    out v e d (ix2 ⟨b.val * 16640 + l.val, by omega⟩ ⟨h.val * 256 + g.val * 64 + x.val, by omega⟩)
      = ∑ n : Fin 16400, v (ix4 b n h x) * Ideal.div (e (ix5 b h g l n)) (d (ix5 b h g l n)) := by
  pointwise [out]

end Cert.Proof.Ref

end
-- ==== Proof.Quotient.lean ====
/-
  Finite scores: the sum of the values weighted by the exponentials, divided by the exponentials' sum, is the sum of the values
  weighted by the exponentials each divided by that sum.
-/
module

public import proofs.«01_k».proof.Proof.Softmax

@[expose] public section

noncomputable section

namespace Cert.Proof.Attn

open Idealize.ShloMosaic

theorem sum_ne_top {ι : Type} (I : Finset ι) (f : ι → EReal) (h : ∀ i ∈ I, f i ≠ ⊤) : ∑ i ∈ I, f i ≠ ⊤ := by
  classical
  induction I using Finset.induction with
  | empty => rw [Finset.sum_empty]; exact EReal.zero_ne_top
  | insert a I ha ih =>
    rw [Finset.sum_insert ha]
    exact (EReal.add_lt_top (h a (Finset.mem_insert_self a I)) (ih fun i hi => h i (Finset.mem_insert_of_mem hi))).ne

theorem sum_ne_bot {ι : Type} (I : Finset ι) (f : ι → EReal) (h : ∀ i ∈ I, f i ≠ ⊥) : ∑ i ∈ I, f i ≠ ⊥ := by
  classical
  induction I using Finset.induction with
  | empty => rw [Finset.sum_empty]; exact EReal.zero_ne_bot
  | insert a I ha ih =>
    rw [Finset.sum_insert ha]
    exact EReal.add_ne_bot_iff.mpr ⟨h a (Finset.mem_insert_self a I), ih fun i hi => h i (Finset.mem_insert_of_mem hi)⟩

theorem mul_real {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

section
variable (x : ℕ → EReal) (N : ℕ) (hN : 0 < N) (hx : ∀ n < N, x n ≠ ⊤ ∧ x n ≠ ⊥)

include hN hx in
theorem top_real : top x N ≠ ⊤ ∧ top x N ≠ ⊥ := by
  constructor
  · exact ((Finset.sup_lt_iff (bot_lt_top)).mpr fun n hn => lt_top_iff_ne_top.mpr (hx n (Finset.mem_range.mp hn)).1).ne
  · intro h
    exact (hx 0 hN).2 (le_bot_iff.mp (h ▸ le_top' x hN))

include hN hx in
/-- The exponentials' sum is positive. -/
theorem wsum_pos : 0 < wsum x (fun _ => 1) N (top x N) := by
  have hM := top_real x N hN hx
  have h0 : 0 < (1 : EReal) * ex (x 0 - top x N) := by
    rw [one_mul]
    have a := hx 0 hN
    generalize x 0 = s at a
    generalize top x N = M at hM
    lift s to ℝ using a
    lift M to ℝ using hM
    rw [← EReal.coe_sub]
    exact EReal.coe_pos.mpr (Real.rpow_pos_of_pos (by norm_num) _)
  refine lt_of_lt_of_le h0 ?_
  exact Finset.single_le_sum (f := fun n => (1 : EReal) * ex (x n - top x N)) (fun n _ => by rw [one_mul]; exact ex_nonneg _) (Finset.mem_range.mpr hN)

theorem wsum_ne_top : wsum x (fun _ => 1) N (top x N) ≠ ⊤ :=
  sum_ne_top _ _ fun n hn => by rw [one_mul]; exact ex_ne_top (sub_ne_top (le_top' x (Finset.mem_range.mp hn)))

include hN hx in
theorem quotient (v : ℕ → EReal) : Ideal.div (wsum x v N (top x N)) (wsum x (fun _ => 1) N (top x N))
    = ∑ n : Fin N, v n * Ideal.div (ex (x n - top x N)) (∑ k : Fin N, ex (x k - top x N)) := by
  have hS : ∑ k : Fin N, ex (x k - top x N) = wsum x (fun _ => 1) N (top x N) := by
    rw [wsum, Fin.sum_univ_eq_sum_range (fun n => ex (x n - top x N)) N]
    exact Finset.sum_congr rfl fun n _ => (one_mul _).symm
  rw [hS]
  have hp := wsum_pos x N hN hx
  have ht := wsum_ne_top x N
  generalize wsum x (fun _ => 1) N (top x N) = S at hp ht
  have hd : ∀ y, Ideal.div y S = S⁻¹ * y := fun y => by unfold Ideal.div; rw [if_neg hp.ne', mul_comm]
  have hi : S⁻¹ ≠ ⊤ := by
    lift S to ℝ using ⟨ht, (lt_trans EReal.bot_lt_zero hp).ne'⟩
    rw [← EReal.coe_inv]; exact EReal.coe_ne_top _
  simp only [hd]
  rw [wsum, mul_sum_of_nonneg _ _ (EReal.inv_nonneg_of_nonneg hp.le) hi, Fin.sum_univ_eq_sum_range (fun n => v n * (S⁻¹ * ex (x n - top x N))) N]
  exact Finset.sum_congr rfl fun n _ => mul_left_comm _ _ _

end

end Cert.Proof.Attn

end
-- ==== Proof.Algebraic.lean ====
/-
  The two results are one: the kernel's quotient of sums is the reference's sum of quotients, at finite queries and keys and
  with the values' row of ones.
-/
module

public import proofs.«01_k».proof.Defs
public import proofs.«01_k».proof.Proof.IdealRun
public import proofs.«01_k».proof.Proof.Reference
public import proofs.«01_k».proof.Proof.Quotient

@[expose] public section

set_option maxRecDepth 16384

noncomputable section

namespace Cert.Proof

open Idealize.ShloMosaic Idealize.ShloMosaic.TcCoe Idealize.ShloMosaic.Tactic

/-! ## The precondition -/

theorem pre_facts : Cert.Pre_finite_with_ones_row.Facts where
  bitsLt_bf16_f32 := by decide
  bcast_S_S1024x33280 := by decide
  bcast_S_S130x256x256 := by decide
  slices_S4x130x80x256_S4x130x1x256_0_0_64_0 := by decide
  bcast_S_S4x130x1x256 := by decide

section pre
variable (hPre : Cert.Pre_finite_with_ones_row.Facts)
open Cert.Pre_finite_with_ones_row

theorem inf_val : Ideal.ofBits .f32 0x7F800000#32 = ⊤ := by
  simp [Ideal.ofBits, Ideal.ieee]

theorem real_of_abs (x : EReal) (e : BitVec.ofBool (decide (FloatOps.absf (F := Ideal) (φ := .f32) x < Ideal.ofBits .f32 0x7F800000#32)) = 1#1) : x ≠ ⊤ ∧ x ≠ ⊥ := by
  rw [inf_val] at e
  have h : FloatOps.absf (F := Ideal) (φ := .f32) x < (⊤ : EReal) := by
    by_contra hn
    rw [decide_eq_false hn] at e
    exact absurd e (by decide)
  constructor
  · rintro rfl
    exact absurd h (by simp [FloatOps.absf])
  · rintro rfl
    exact absurd h (by simp [FloatOps.absf])

variable (a0 : FVec Ideal S1024x33280 .bf16) (a1 : FVec Ideal S130x256x256 .bf16) (a2 : FVec Ideal S4x130x80x256 .bf16)

theorem q_real (h : (fn (F := Ideal) a0 a1 a2).1 = fun _ => 1#1) (i : Fin 1024) (j : Fin 33280) : a0 (ix2 i j) ≠ ⊤ ∧ a0 (ix2 i j) ≠ ⊥ := by
  have e := congrFun h (ix2 i j)
  unfold fn at e
  dsimp only at e
  pointwise at e
  exact real_of_abs _ e

theorem k_real (h : (fn (F := Ideal) a0 a1 a2).2.1 = fun _ => 1#1) (i : Fin 130) (j k : Fin 256) : a1 (ix3 i j k) ≠ ⊤ ∧ a1 (ix3 i j k) ≠ ⊥ := by
  have e := congrFun h (ix3 i j k)
  unfold fn at e
  dsimp only at e
  pointwise at e
  exact real_of_abs _ e

theorem ones (h : (fn (F := Ideal) a0 a1 a2).2.2 = fun _ => 1#1) (i : Fin 4) (j : Fin 130) (k : Fin 256) : a2 (ix4 i j 64 k) = 1 := by
  have e := congrFun h (ix4 i j 0 k)
  unfold fn at e
  dsimp only at e
  pointwise at e
  by_contra hn
  rw [decide_eq_false hn] at e
  exact absurd e (by decide)

end pre

/-! ## The two results -/

section results
open Cert.KernelIdeal
variable (a0 : S1024x33280.Idx → EReal) (a1 : S130x256x256.Idx → EReal) (a2 : S4x130x80x256.Idx → EReal)

/-- The score of a query (batch `b`, row `l`, head `4 h + g`) against key `n`. -/
def score (b : Fin 2) (h g : Fin 4) (l : Fin 16640) (n : ℕ) : EReal := ∑ d : Fin 64,
  a1 (ix3 ⟨b.val * 65 + n / 256 % 65, by omega⟩ ⟨n % 256, Nat.mod_lt _ (by decide)⟩ ⟨h.val * 64 + d.val, by omega⟩)
    * a0 (ix2 ⟨h.val * 256 + g.val * 64 + d.val, by omega⟩ ⟨b.val * 16640 + l.val, by omega⟩)

/-- The values' row `d` at key `n`. -/
def value (b : Fin 2) (h : Fin 4) (d : Fin 80) (n : ℕ) : EReal :=
  a2 (ix4 h ⟨b.val * 65 + n / 256 % 65, by omega⟩ d ⟨n % 256, Nat.mod_lt _ (by decide)⟩)

section kernel
variable (m : (ℓ : Loc nD τ sig) → Buf (Elt Ideal) ℓ) (c : Dev nD)

theorem sN_eq (b : Fin 2) (h g : Fin 4) (l : Fin 16640) (n : ℕ) (e1 : n / 5 % 4 = h.val) (e2 : n / 20 % 2 = b.val) (e3 : n % 5 = l.val / 3328)
    (Q : ℕ) (hQ : Q % 3328 = l.val % 3328) :
    Attn.sN h.val (Attn.qblk m c n) (Attn.kblk m c n) g Q
      = score (m ((c : Thread nD τ).loc main_arg0)) (m ((c : Thread nD τ).loc main_arg1)) b h g l := by
  funext k
  unfold Attn.sN score Attn.qblk Attn.kblk
  refine Finset.sum_congr rfl fun d _ => congrArg₂ (· * ·) (congrArg _ (funext fun a => Fin.ext ?_)) (congrArg _ (funext fun a => Fin.ext ?_))
  · fin_cases a
    · show n / 20 % 2 * 65 + k / 256 % 65 = b.val * 65 + k / 256 % 65; omega
    · rfl
    · show (64 * h.val + d.val) % 256 = h.val * 64 + d.val; omega
  · fin_cases a
    · show n / 5 % 4 * 256 + (64 * g.val + d.val) = h.val * 256 + g.val * 64 + d.val; omega
    · show (5 * (n / 20 % 2) + n % 5) * 3328 + Q % 3328 = b.val * 16640 + l.val; omega

theorem vN_eq (b : Fin 2) (h : Fin 4) (d : Fin 80) (n : ℕ) (e1 : n / 5 % 4 = h.val) (e2 : n / 20 % 2 = b.val) :
    Attn.vN (Attn.vblk m c n) d = value (m ((c : Thread nD τ).loc main_arg2)) b h d := by
  funext k
  unfold Attn.vN value Attn.vblk
  refine congrArg _ (funext fun a => Fin.ext ?_)
  fin_cases a
  · exact e1
  · show n / 20 % 2 * 65 + k / 256 % 65 = b.val * 65 + k / 256 % 65; omega
  · rfl
  · rfl

theorem kernel_val (b : Fin 2) (l : Fin 16640) (h g : Fin 4) (x : Fin 64) :
    Attn.result m c (ix2 ⟨b.val * 16640 + l.val, by omega⟩ ⟨h.val * 256 + g.val * 64 + x.val, by omega⟩)
      = (let s := score (m ((c : Thread nD τ).loc main_arg0)) (m ((c : Thread nD τ).loc main_arg1)) b h g l
         let v := value (m ((c : Thread nD τ).loc main_arg2)) b h
         Ideal.div (Attn.wsum s (v ⟨x.val, by omega⟩) 16400 (Attn.top s 16400)) (Attn.wsum s (v 64) 16400 (Attn.top s 16400))) := by
  have key : ∀ (n : ℕ) (r : Fin 3328) (y : Fin 256), n / 5 % 4 = h.val → n / 20 % 2 = b.val → n % 5 = l.val / 3328 → r.val = l.val % 3328 → y.val = g.val * 64 + x.val →
      Attn.oblk m c n (ix2 r y)
        = (let s := score (m ((c : Thread nD τ).loc main_arg0)) (m ((c : Thread nD τ).loc main_arg1)) b h g l
           let v := value (m ((c : Thread nD τ).loc main_arg2)) b h
           Ideal.div (Attn.wsum s (v ⟨x.val, by omega⟩) 16400 (Attn.top s 16400)) (Attn.wsum s (v 64) 16400 (Attn.top s 16400))) := by
    intro n r y e1 e2 e3 hr hy
    unfold Attn.oblk Attn.outB Attn.attn
    rw [e1]
    have hg : (⟨((ix2 r y : S3328x256.Idx) (1 : Fin 2)).val / 64, Nat.div_lt_of_lt_mul ((ix2 r y : S3328x256.Idx) (1 : Fin 2)).isLt⟩ : Fin 4) = g :=
      Fin.ext (by show y.val / 64 = g.val; omega)
    have hx : (⟨((ix2 r y : S3328x256.Idx) (1 : Fin 2)).val % 64, Nat.mod_lt _ (by decide)⟩ : Fin 64) = x :=
      Fin.ext (by show y.val % 64 = x.val; omega)
    rw [hg, hx, sN_eq m c b h g l n e1 e2 e3 ((ix2 r y : S3328x256.Idx) (0 : Fin 2)).val (by show r.val % 3328 = _; omega), vN_eq m c b h _ n e1 e2, vN_eq m c b h _ n e1 e2]
  unfold Attn.result
  refine key _ _ _ ?_ ?_ ?_ ?_ ?_
  · show (20 * ((b.val * 16640 + l.val) / 16640) + 5 * ((h.val * 256 + g.val * 64 + x.val) / 256) + (b.val * 16640 + l.val) % 16640 / 3328) / 5 % 4 = h.val
    omega
  · show (20 * ((b.val * 16640 + l.val) / 16640) + 5 * ((h.val * 256 + g.val * 64 + x.val) / 256) + (b.val * 16640 + l.val) % 16640 / 3328) / 20 % 2 = b.val
    omega
  · show (20 * ((b.val * 16640 + l.val) / 16640) + 5 * ((h.val * 256 + g.val * 64 + x.val) / 256) + (b.val * 16640 + l.val) % 16640 / 3328) % 5 = l.val / 3328
    omega
  · show (b.val * 16640 + l.val) % 3328 = l.val % 3328
    omega
  · show (h.val * 256 + g.val * 64 + x.val) % 256 = g.val * 64 + x.val
    omega
end kernel

theorem reference_val (b : Fin 2) (l : Fin 16640) (h g : Fin 4) (x : Fin 64) :
    (let s := Ref.scores (Ref.qs a0) (Ref.ks a1)
     let e := Ref.expo s (Ref.spread (Ref.maxes s))
     Ref.out (Ref.vs a2) e (Ref.spread (Ref.sums e))) (ix2 ⟨b.val * 16640 + l.val, by omega⟩ ⟨h.val * 256 + g.val * 64 + x.val, by omega⟩)
      = (let s := score a0 a1 b h g l
         ∑ n : Fin 16400, value a2 b h ⟨x.val, by omega⟩ n
           * Ideal.div (Attn.ex (s n - Attn.top s 16400)) (∑ k : Fin 16400, Attn.ex (s k - Attn.top s 16400))) := by
  have hs : ∀ n : Fin 16400, Ref.scores (Ref.qs a0) (Ref.ks a1) (ix5 b h g l n) = score a0 a1 b h g l n := by
    intro n
    rw [Ref.scores_val]
    refine Finset.sum_congr rfl fun d _ => ?_
    rw [Ref.ks_val, Ref.qs_val]
    refine congrArg₂ (· * ·) (congrArg a1 (funext fun a => Fin.ext ?_)) rfl
    fin_cases a
    · show b.val * 65 + n.val / 256 = b.val * 65 + n.val / 256 % 65; omega
    · rfl
    · rfl
  have hv : ∀ n : Fin 16400, Ref.vs a2 (ix4 b n h x) = value a2 b h ⟨x.val, by omega⟩ n := by
    intro n
    rw [Ref.vs_val]
    refine congrArg a2 (funext fun a => Fin.ext ?_)
    fin_cases a
    · rfl
    · show b.val * 65 + n.val / 256 = b.val * 65 + n.val / 256 % 65; omega
    · rfl
    · rfl
  dsimp only
  generalize Ref.scores (Ref.qs a0) (Ref.ks a1) = s at hs
  have hm : Ref.maxes s (ix4 b h g l) = Attn.top (score a0 a1 b h g l) 16400 := by
    rw [Ref.maxes_val]; exact Attn.fold_max 16400 _ _ hs
  have he : ∀ n : Fin 16400, Ref.expo s (Ref.spread (Ref.maxes s)) (ix5 b h g l n)
      = Attn.ex (score a0 a1 b h g l n - Attn.top (score a0 a1 b h g l) 16400) := by
    intro n
    rw [Ref.expo_val, Ref.spread_val, hm, hs]
  rw [Ref.out_val]
  refine Finset.sum_congr rfl fun n _ => ?_
  rw [hv, he, Ref.spread_val, Ref.sums_val]
  simp only [he]

end results

/-! ## The claim -/

section claim
open Cert.KernelIdeal
variable (m : (ℓ : Loc nD τ sig) → Buf (Elt Ideal) ℓ)
  (m' : (ℓ : Loc Cert.ReferenceIdeal.nD Cert.ReferenceIdeal.τ Cert.ReferenceIdeal.sig) → Buf (Elt Ideal) ℓ)

theorem results_eq (hPre : Cert.Pre_finite_with_ones_row.Facts) (h : Cert.Pre_KernelIdeal_finite_with_ones_row m) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2)) :
    Cert.ReferenceIdeal.Value.res_main_v27 (F := Ideal) m' c = Attn.result m c := by
  rw [Ref.result_eq, h0, h1, h2]
  obtain ⟨p0, p1, p2⟩ := h c
  funext y
  have y0 : (y (0 : Fin 2)).val < 33280 := (y (0 : Fin 2)).isLt
  have y1 : (y (1 : Fin 2)).val < 1024 := (y (1 : Fin 2)).isLt
  have hy : y = ix2 ⟨(y (0 : Fin 2)).val / 16640 * 16640 + (y (0 : Fin 2)).val % 16640, by omega⟩
      ⟨(y (1 : Fin 2)).val / 256 * 256 + (y (1 : Fin 2)).val / 64 % 4 * 64 + (y (1 : Fin 2)).val % 64, by omega⟩ := by
    funext a
    refine Fin.ext ?_
    fin_cases a
    · show (y (0 : Fin 2)).val = (y (0 : Fin 2)).val / 16640 * 16640 + (y (0 : Fin 2)).val % 16640; omega
    · show (y (1 : Fin 2)).val = (y (1 : Fin 2)).val / 256 * 256 + (y (1 : Fin 2)).val / 64 % 4 * 64 + (y (1 : Fin 2)).val % 64; omega
  rw [hy]
  have R := reference_val (m ((c.tc : Thread nD τ).loc main_arg0)) (m ((c.tc : Thread nD τ).loc main_arg1)) (m ((c.tc : Thread nD τ).loc main_arg2))
    ⟨(y (0 : Fin 2)).val / 16640, by omega⟩ ⟨(y (0 : Fin 2)).val % 16640, by omega⟩ ⟨(y (1 : Fin 2)).val / 256, by omega⟩
    ⟨(y (1 : Fin 2)).val / 64 % 4, by omega⟩ ⟨(y (1 : Fin 2)).val % 64, by omega⟩
  have K := kernel_val m c
    ⟨(y (0 : Fin 2)).val / 16640, by omega⟩ ⟨(y (0 : Fin 2)).val % 16640, by omega⟩ ⟨(y (1 : Fin 2)).val / 256, by omega⟩
    ⟨(y (1 : Fin 2)).val / 64 % 4, by omega⟩ ⟨(y (1 : Fin 2)).val % 64, by omega⟩
  refine R.trans (Eq.trans ?_ K.symm)
  dsimp only
  have hv : value (m ((c.tc : Thread nD τ).loc main_arg2)) ⟨(y (0 : Fin 2)).val / 16640, by omega⟩ ⟨(y (1 : Fin 2)).val / 256, by omega⟩ 64 = fun _ => 1 := by
    funext n; exact ones hPre _ _ _ p2 _ _ _
  rw [hv]
  refine (Attn.quotient _ 16400 (by decide) (fun n _ => ?_) _).symm
  unfold score
  have t : ∀ d : Fin 64, _ := fun d : Fin 64 => Attn.mul_real
    (k_real hPre _ _ _ p1 ⟨(y (0 : Fin 2)).val / 16640 * 65 + n / 256 % 65, by omega⟩ ⟨n % 256, Nat.mod_lt _ (by decide)⟩ ⟨(y (1 : Fin 2)).val / 256 * 64 + d.val, by omega⟩)
    (q_real hPre _ _ _ p0 ⟨(y (1 : Fin 2)).val / 256 * 256 + (y (1 : Fin 2)).val / 64 % 4 * 64 + d.val, by omega⟩ ⟨(y (0 : Fin 2)).val / 16640 * 16640 + (y (0 : Fin 2)).val % 16640, by omega⟩)
  exact ⟨Attn.sum_ne_top _ _ fun d _ => (t d).1, Attn.sum_ne_bot _ _ fun d _ => (t d).2⟩

end claim

end Cert.Proof

end
-- ==== Proof.Ffn.lean ====
/-
  The feed-forward kernel's body in parts: the row norm, the gated products of one chunk of the hidden features, the
  accumulated product, the half step; and what one tile of 256 rows becomes.
-/
module

public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic

/-! ## The body in parts -/

/-- The root mean square norm of each row, times the gain. -/
def scaled (x : FVec Ideal S256x1024 .f32) (g : FVec Ideal S1x1024 .f32) : FVec Ideal S256x1024 .f32 :=
  mulf (mulf x (broadcastTo S256x1024 (rsqrt (addf (divf (shapeCast S256x1 (multiReduction .add [1] S256 (mulf x x) 0x00000000#32 reduces_S256x1024_S256 (.inl rfl) rfl) shapeCasts_S256_S256x1) (broadcast S256x1 (Scalar.ofBits .f32 0x44800000#32))) (broadcast S256x1 (Scalar.ofBits .f32 0x358637BD#32)))) broadcasts_S256x1_S256x1024))
    (broadcastTo S256x1024 (shapeCast S1x1024 g shapeCasts_S1x1024_S1x1024) broadcasts_S1x1024_S256x1024)

def dot768 (y : FVec Ideal S256x1024 .bf16) (w : FVec Ideal S1x1x1024x768 .bf16) : FVec Ideal S256x768 .f32 :=
  matmul dot_S256x1024_S1024x768_S256x768_1_0_0_1_n_n none y (shapeCast S1024x768 w shapeCasts_S1x1x1024x768_S1024x768) (constant S256x768 .f32 0x00000000#32)
def gate768 (a b : FVec Ideal S256x768 .f32) : FVec Ideal S256x768 .bf16 :=
  truncf .bf16 (mulf (mulf a (logistic a)) b) bitsLt_bf16_f32
def back768 (z : FVec Ideal S256x768 .bf16) (v : FVec Ideal S1x1x768x1024 .bf16) : FVec Ideal S256x1024 .f32 :=
  matmul dot_S256x768_S768x1024_S256x1024_1_0_0_1_n_n none z (shapeCast S768x1024 v shapeCasts_S1x1x768x1024_S768x1024) (constant S256x1024 .f32 0x00000000#32)
/-- A chunk of 768 hidden features: its two products, the gate, its share of the product back. -/
def part768 (y : FVec Ideal S256x1024 .bf16) (w1 w2 : FVec Ideal S1x1x1024x768 .bf16) (v : FVec Ideal S1x1x768x1024 .bf16) : FVec Ideal S256x1024 .f32 :=
  back768 (gate768 (dot768 y w1) (dot768 y w2)) v

def dot512 (y : FVec Ideal S256x1024 .bf16) (w : FVec Ideal S1x1x1024x512 .bf16) : FVec Ideal S256x512 .f32 :=
  matmul dot_S256x1024_S1024x512_S256x512_1_0_0_1_n_n none y (shapeCast S1024x512 w shapeCasts_S1x1x1024x512_S1024x512) (constant S256x512 .f32 0x00000000#32)
def gate512 (a b : FVec Ideal S256x512 .f32) : FVec Ideal S256x512 .bf16 :=
  truncf .bf16 (mulf (mulf a (logistic a)) b) bitsLt_bf16_f32
def back512 (z : FVec Ideal S256x512 .bf16) (v : FVec Ideal S1x1x512x1024 .bf16) : FVec Ideal S256x1024 .f32 :=
  matmul dot_S256x512_S512x1024_S256x1024_1_0_0_1_n_n none z (shapeCast S512x1024 v shapeCasts_S1x1x512x1024_S512x1024) (constant S256x1024 .f32 0x00000000#32)
/-- The last chunk, of 512 hidden features. -/
def part512 (y : FVec Ideal S256x1024 .bf16) (w1 w2 : FVec Ideal S1x1x1024x512 .bf16) (v : FVec Ideal S1x1x512x1024 .bf16) : FVec Ideal S256x1024 .f32 :=
  back512 (gate512 (dot512 y w1) (dot512 y w2)) v

/-- The four chunks' shares, in the kernel's order. -/
def acc (y : FVec Ideal S256x1024 .bf16) (W : Vec Ideal S1x1x1024x5632 .bf16) (V : Vec Ideal S1x1x2816x1024 .bf16) : FVec Ideal S256x1024 .f32 :=
  addf (addf (addf (part768 y (View.ld W r0_2) (View.ld W r0_3) (View.ld V r0_4)) (part768 y (View.ld W r0_6) (View.ld W r0_7) (View.ld V r0_8)))
    (part768 y (View.ld W r0_9) (View.ld W r0_10) (View.ld V r0_11))) (part512 y (View.ld W r0_12) (View.ld W r0_13) (View.ld V r0_14))

def half (x y : FVec Ideal S256x1024 .f32) : FVec Ideal S256x1024 .f32 :=
  addf x (mulf (broadcast S256x1024 (Scalar.ofBits .f32 0x3F000000#32)) y)

/-- What a tile of 256 rows becomes. -/
def tile (g0 g1 : Vec Ideal S1x1024 .f32) (W : Vec Ideal S1x1x1024x5632 .bf16) (V : Vec Ideal S1x1x2816x1024 .bf16) (x : FVec Ideal S256x1024 .f32) : FVec Ideal S256x1024 .f32 :=
  half x (scaled (acc (truncf .bf16 (scaled x (View.ld g0 r0_0)) bitsLt_bf16_f32) W V) (View.ld g1 r0_0))

variable (x0 : Vec Ideal S1280x1024 .f32) (x1 x2 : Vec Ideal S1x1024 .f32) (x3 : Vec Ideal S1x1x1024x5632 .bf16) (x4 : Vec Ideal S1x1x2816x1024 .bf16)

theorem out_eq : out0_5 (F := Ideal) x0 x1 x2 x3 x4 = View.canon [⟨r0_17, tile x1 x2 x3 x4 (View.ld x0 r0_17)⟩,
    ⟨r0_16, tile x1 x2 x3 x4 (View.ld x0 r0_16)⟩, ⟨r0_15, tile x1 x2 x3 x4 (View.ld x0 r0_15)⟩,
    ⟨r0_5, tile x1 x2 x3 x4 (View.ld x0 r0_5)⟩, ⟨r0_1, tile x1 x2 x3 x4 (View.ld x0 r0_1)⟩] := by
  unfold_out out0_5
  rfl

/-! ## One row -/

/-- A row over its root mean square, times the gain. -/
def norm (x g : Fin 1024 → EReal) (d : Fin 1024) : EReal :=
  x d * Ideal.rsqrt (Ideal.div (∑ j, x j * x j) (Ideal.ofBits .f32 0x44800000#32) + Ideal.ofBits .f32 0x358637BD#32) * g d

/-- A row's hidden features: the gate's product, its sigmoid, the other product. -/
def hidden (y : Fin 1024 → EReal) (W : Fin 1024 → Fin 5632 → EReal) (f : Fin 2816) : EReal :=
  (∑ k, y k * W k ⟨f.val, by omega⟩) * Ideal.logistic (∑ k, y k * W k ⟨f.val, by omega⟩) * ∑ k, y k * W k ⟨2816 + f.val, by omega⟩

/-- The product back to the row's features. -/
def back (z : Fin 2816 → EReal) (V : Fin 2816 → Fin 1024 → EReal) (d : Fin 1024) : EReal := ∑ f, z f * V f d

/-- The half step of the feed-forward part on a row. -/
def row (x g0 g1 : Fin 1024 → EReal) (W : Fin 1024 → Fin 5632 → EReal) (V : Fin 2816 → Fin 1024 → EReal) (d : Fin 1024) : EReal :=
  x d + Ideal.ofBits .f32 0x3F000000#32 * norm (back (hidden (norm x g0) W) V) g1 d

/-- A sum over the hidden features is the sum of its four chunks'. -/
theorem sum_chunks (F : Fin 2816 → EReal) : ∑ f, F f
    = (((∑ f : Fin 768, F ⟨f.val, by omega⟩) + ∑ f : Fin 768, F ⟨768 + f.val, by omega⟩) + ∑ f : Fin 768, F ⟨1536 + f.val, by omega⟩) + ∑ f : Fin 512, F ⟨2304 + f.val, by omega⟩ := by
  refine (Fin.sum_univ_add (a := 2304) (b := 512) F).trans (congrArg₂ (· + ·) ?_ rfl)
  refine (Fin.sum_univ_add (a := 1536) (b := 768) _).trans (congrArg₂ (· + ·) ?_ rfl)
  exact (Fin.sum_univ_add (a := 768) (b := 768) _).trans rfl

/-! ## The parts at an index -/

theorem scaled_val (x : FVec Ideal S256x1024 .f32) (g : FVec Ideal S1x1024 .f32) (i : Fin 256) (d : Fin 1024) :
    scaled x g (ix2 i d) = norm (fun j => x (ix2 i j)) (fun j => g (ix2 0 j)) d := by
  unfold norm
  pointwise [scaled]

theorem half_val (x y : FVec Ideal S256x1024 .f32) (i : Fin 256) (d : Fin 1024) :
    half x y (ix2 i d) = x (ix2 i d) + Ideal.ofBits .f32 0x3F000000#32 * y (ix2 i d) := by
  pointwise [half]

theorem dot768_val (y : FVec Ideal S256x1024 .bf16) (w : FVec Ideal S1x1x1024x768 .bf16) (i : Fin 256) (f : Fin 768) :
    dot768 y w (ix2 i f) = ∑ k : Fin 1024, y (ix2 i k) * w (ix4 0 0 k f) := by
  pointwise [dot768]

theorem part768_val (y : FVec Ideal S256x1024 .bf16) (w1 w2 : FVec Ideal S1x1x1024x768 .bf16) (v : FVec Ideal S1x1x768x1024 .bf16) (i : Fin 256) (d : Fin 1024) :
    part768 y w1 w2 v (ix2 i d) = ∑ f : Fin 768, (∑ k : Fin 1024, y (ix2 i k) * w1 (ix4 0 0 k f)) * Ideal.logistic (∑ k : Fin 1024, y (ix2 i k) * w1 (ix4 0 0 k f))
      * (∑ k : Fin 1024, y (ix2 i k) * w2 (ix4 0 0 k f)) * v (ix4 0 0 f d) := by
  unfold part768
  simp only [← dot768_val]
  generalize dot768 y w1 = a
  generalize dot768 y w2 = b
  pointwise [back768, gate768]

theorem dot512_val (y : FVec Ideal S256x1024 .bf16) (w : FVec Ideal S1x1x1024x512 .bf16) (i : Fin 256) (f : Fin 512) :
    dot512 y w (ix2 i f) = ∑ k : Fin 1024, y (ix2 i k) * w (ix4 0 0 k f) := by
  pointwise [dot512]

theorem part512_val (y : FVec Ideal S256x1024 .bf16) (w1 w2 : FVec Ideal S1x1x1024x512 .bf16) (v : FVec Ideal S1x1x512x1024 .bf16) (i : Fin 256) (d : Fin 1024) :
    part512 y w1 w2 v (ix2 i d) = ∑ f : Fin 512, (∑ k : Fin 1024, y (ix2 i k) * w1 (ix4 0 0 k f)) * Ideal.logistic (∑ k : Fin 1024, y (ix2 i k) * w1 (ix4 0 0 k f))
      * (∑ k : Fin 1024, y (ix2 i k) * w2 (ix4 0 0 k f)) * v (ix4 0 0 f d) := by
  unfold part512
  simp only [← dot512_val]
  generalize dot512 y w1 = a
  generalize dot512 y w2 = b
  pointwise [back512, gate512]

theorem ld4 {a b n k : ℕ} (o p : ℕ) (X : Vec Ideal ⟨4, ![1, 1, a, b]⟩ .bf16) (inb) (i : Fin n) (j : Fin k) (hi : o + i.val < a) (hj : p + j.val < b) :
    View.ld X (Rect.unit (s := ⟨4, ![1, 1, a, b]⟩) ![0, 0, o, p] ![1, 1, n, k] inb) (ix4 0 0 i j) = X (ix4 0 0 ⟨o + i.val, hi⟩ ⟨p + j.val, hj⟩) := by
  refine congrArg X (funext fun x => Fin.ext ?_)
  fin_cases x
  · rfl
  · rfl
  · show o + 1 * i.val = o + i.val; omega
  · show p + 1 * j.val = p + j.val; omega

/-- What a chunk of `n` hidden features from the `o`-th on adds, its loads read at the weights. -/
theorem share (n o p : ℕ) (hp : p = 2816 + o) (ho : o + n ≤ 2816) (y : Fin 1024 → EReal) (W : Vec Ideal S1x1x1024x5632 .bf16) (V : Vec Ideal S1x1x2816x1024 .bf16) (i1 i2 i3) (d : Fin 1024) :
    (∑ f : Fin n, (∑ k, y k * View.ld W (Rect.unit (s := S1x1x1024x5632) ![0, 0, 0, o] ![1, 1, 1024, n] i1) (ix4 0 0 k f))
        * Ideal.logistic (∑ k, y k * View.ld W (Rect.unit (s := S1x1x1024x5632) ![0, 0, 0, o] ![1, 1, 1024, n] i1) (ix4 0 0 k f))
        * (∑ k, y k * View.ld W (Rect.unit (s := S1x1x1024x5632) ![0, 0, 0, p] ![1, 1, 1024, n] i2) (ix4 0 0 k f))
        * View.ld V (Rect.unit (s := S1x1x2816x1024) ![0, 0, o, 0] ![1, 1, n, 1024] i3) (ix4 0 0 f d))
      = ∑ f : Fin n, hidden y (fun k f => W (ix4 0 0 k f)) ⟨o + f.val, by omega⟩ * V (ix4 0 0 ⟨o + f.val, by omega⟩ d) := by
  subst hp
  have z : ∀ n : ℕ, 0 + n = n := Nat.zero_add
  refine Finset.sum_congr rfl fun f _ => ?_
  unfold hidden
  have a1 : ∀ k : Fin 1024, View.ld W (Rect.unit (s := S1x1x1024x5632) ![0, 0, 0, o] ![1, 1, 1024, n] i1) (ix4 0 0 k f) = W (ix4 0 0 k ⟨o + f.val, by omega⟩) := fun k =>
    (ld4 0 o W i1 k f (by omega) (by omega)).trans (congrArg (fun n => W (ix4 0 0 n _)) (Fin.ext (z _)))
  have a2 : ∀ k : Fin 1024, View.ld W (Rect.unit (s := S1x1x1024x5632) ![0, 0, 0, 2816 + o] ![1, 1, 1024, n] i2) (ix4 0 0 k f) = W (ix4 0 0 k ⟨2816 + (o + f.val), by omega⟩) := fun k =>
    (ld4 0 (2816 + o) W i2 k f (by omega) (by omega)).trans (congrArg₂ (fun n l => W (ix4 0 0 n l)) (Fin.ext (z _)) (Fin.ext (Nat.add_assoc _ _ _)))
  have a3 : View.ld V (Rect.unit (s := S1x1x2816x1024) ![0, 0, o, 0] ![1, 1, n, 1024] i3) (ix4 0 0 f d) = V (ix4 0 0 ⟨o + f.val, by omega⟩ d) :=
    (ld4 o 0 V i3 f d (by omega) (by omega)).trans (congrArg (fun n => V (ix4 0 0 _ n)) (Fin.ext (z _)))
  simp only [a1, a2, a3]

theorem acc_val (y : FVec Ideal S256x1024 .bf16) (W : Vec Ideal S1x1x1024x5632 .bf16) (V : Vec Ideal S1x1x2816x1024 .bf16) (i : Fin 256) (d : Fin 1024) :
    acc y W V (ix2 i d) = back (hidden (fun k => y (ix2 i k)) fun k f => W (ix4 0 0 k f)) (fun f e => V (ix4 0 0 f e)) d := by
  refine Eq.trans ?_ (sum_chunks _).symm
  refine congrArg₂ (· + ·) (congrArg₂ (· + ·) (congrArg₂ (· + ·) ?_ ?_) ?_) ?_
  · refine (part768_val _ _ _ _ _ _).trans ((share 768 0 2816 rfl (by decide) (fun k => y (ix2 i k)) W V _ _ _ d).trans ?_)
    simp only [Nat.zero_add]
  · exact (part768_val _ _ _ _ _ _).trans (share 768 768 3584 rfl (by decide) (fun k => y (ix2 i k)) W V _ _ _ d)
  · exact (part768_val _ _ _ _ _ _).trans (share 768 1536 4352 rfl (by decide) (fun k => y (ix2 i k)) W V _ _ _ d)
  · exact (part512_val _ _ _ _ _ _).trans (share 512 2304 5120 rfl (by decide) (fun k => y (ix2 i k)) W V _ _ _ d)

theorem tile_val (g0 g1 : Vec Ideal S1x1024 .f32) (W : Vec Ideal S1x1x1024x5632 .bf16) (V : Vec Ideal S1x1x2816x1024 .bf16) (x : FVec Ideal S256x1024 .f32) (i : Fin 256) (d : Fin 1024) :
    tile g0 g1 W V x (ix2 i d)
      = row (fun j => x (ix2 i j)) (fun j => g0 (ix2 0 j)) (fun j => g1 (ix2 0 j)) (fun k f => W (ix4 0 0 k f)) (fun f e => V (ix4 0 0 f e)) d := by
  have hz : (![0, 0] : Fin 2 → ℕ) = fun _ => 0 := by funext a; fin_cases a <;> rfl
  unfold tile row
  rw [half_val, scaled_val, View.ld_unit_zero hz, View.ld_unit_zero hz]
  simp only [acc_val]
  have h : (fun k : Fin 1024 => (truncf .bf16 (scaled x g0) bitsLt_bf16_f32 : FVec Ideal S256x1024 .bf16) (ix2 i k)) = norm (fun j => x (ix2 i j)) fun j => g0 (ix2 0 j) :=
    funext fun k => scaled_val x g0 i k
  rw [h]

/-- Tile `r / 256` of the block, at its row `r % 256`. -/
theorem ld2 (o : ℕ) (ho : o + 256 ≤ 1280) (inb) (i : Fin 256) (j : Fin 1024) :
    View.ld x0 (Rect.unit (s := S1280x1024) ![o, 0] S256x1024.size inb) (ix2 i j) = x0 (ix2 ⟨o + i.val, by omega⟩ j) := by
  refine congrArg x0 (funext fun x => Fin.ext ?_)
  fin_cases x
  · show o + 1 * i.val = o + i.val; omega
  · show 0 + 1 * j.val = j.val; omega

/-- The block after the body, row by row. -/
def block (y : S1280x1024.Idx) : EReal :=
  row (fun j => x0 (ix2 (y 0) j)) (fun j => x1 (ix2 0 j)) (fun j => x2 (ix2 0 j)) (fun k f => x3 (ix4 0 0 k f)) (fun f e => x4 (ix4 0 0 f e)) (y 1)

theorem piece (o : ℕ) (ho : o + 256 ≤ 1280) (inb) (z : (Rect.unit (s := S1280x1024) ![o, 0] S256x1024.size inb).shape.Idx) :
    tile x1 x2 x3 x4 (View.ld x0 (Rect.unit (s := S1280x1024) ![o, 0] S256x1024.size inb)) z
      = block x0 x1 x2 x3 x4 ((Rect.unit (s := S1280x1024) ![o, 0] S256x1024.size inb).emb z) := by
  have z0 : (z (0 : Fin 2)).val < 256 := (z (0 : Fin 2)).isLt
  have hz : z = ix2 (⟨(z (0 : Fin 2)).val, z0⟩ : Fin 256) (⟨(z (1 : Fin 2)).val, (z (1 : Fin 2)).isLt⟩ : Fin 1024) := by
    funext a; fin_cases a <;> rfl
  have e : (Rect.unit (s := S1280x1024) ![o, 0] S256x1024.size inb).emb z = ix2 (⟨o + (z (0 : Fin 2)).val, by omega⟩ : Fin 1280) (⟨(z (1 : Fin 2)).val, (z (1 : Fin 2)).isLt⟩ : Fin 1024) := by
    funext a
    refine Fin.ext ?_
    fin_cases a
    · show o + 1 * (z (0 : Fin 2)).val = _; rw [Nat.one_mul]; rfl
    · show 0 + 1 * (z (1 : Fin 2)).val = _; rw [Nat.one_mul, Nat.zero_add]; rfl
  rw [e]
  refine (congrArg _ hz).trans ((tile_val _ _ _ _ _ _ _).trans ?_)
  unfold block
  simp only [ld2 x0 o ho]
  rfl

theorem out_val : out0_5 (F := Ideal) x0 x1 x2 x3 x4 = block x0 x1 x2 x3 x4 := by
  rw [out_eq]
  funext y
  refine View.canon_apply_of_pieces _ _ (fun p hp z => ?_) y (cover0_5 _ _ _ _ _ y)
  simp only [List.mem_cons, List.not_mem_nil, or_false] at hp
  rcases hp with rfl | rfl | rfl | rfl | rfl <;> exact piece x0 x1 x2 x3 x4 _ (by decide) _ z

end Cert.Proof.Ffn

end
-- ==== Proof.FfnRun.lean ====
/-
  The feed-forward kernel's result: each row of the activations through the half step, with the weights of layer 0's first block.
-/
module

public import proofs.«01_k».proof.Proof.Ffn

@[expose] public section

set_option maxRecDepth 16384

noncomputable section

namespace Cert.Proof.Ffn

/-- The activations after the half step: row by row, from the row's activations and the shared weights. -/
def step (W : Fin 1024 → Fin 5632 → EReal) (V : Fin 2816 → Fin 1024 → EReal) (g0 g1 : Fin 1024 → EReal) (h : Fin 33280 → Fin 1024 → EReal)
    (y : Cert.Kernel2Ideal.S33280x1024.Idx) : EReal := row (h (y 0)) g0 g1 W V (y 1)

open Cert.Kernel2Ideal Cert.Kernel2Ideal.Gen
open Idealize.ShloMosaic Idealize.ShloMosaic.TcCoe Idealize.ShloMosaic.Tactic

variable (m : (ℓ : Loc nD τ sig) → Buf (Elt Ideal) ℓ) (c : Dev nD)

/-- The kernel's result from its arguments. -/
def result : S33280x1024.Idx → EReal :=
  step (fun k f => (m ((c : Thread nD τ).loc main_arg3) : S4x2x1024x5632.Idx → EReal) (ix4 0 0 k f))
    (fun f e => (m ((c : Thread nD τ).loc main_arg4) : S4x2x2816x1024.Idx → EReal) (ix4 0 0 f e))
    (fun j => (m ((c : Thread nD τ).loc main_arg1) : S1024.Idx → EReal) (ix1 j))
    (fun j => (m ((c : Thread nD τ).loc main_arg2) : S1024.Idx → EReal) (ix1 j))
    (fun r j => (m ((c : Thread nD τ).loc main_arg0) : S33280x1024.Idx → EReal) (ix2 r j))

theorem idx0_0 : ∀ t : Fin grid0.N, win0_0.index t = ![t.val, 0] := by decide +kernel
theorem idx0_1 : ∀ t : Fin grid0.N, win0_1.index t = ![0, 0] := by decide +kernel
theorem idx0_2 : ∀ t : Fin grid0.N, win0_2.index t = ![0, 0] := by decide +kernel
theorem idx0_3 : ∀ t : Fin grid0.N, win0_3.index t = ![0, 0, 0, 0] := by decide +kernel
theorem idx0_4 : ∀ t : Fin grid0.N, win0_4.index t = ![0, 0, 0, 0] := by decide +kernel
theorem idx0_5 : ∀ t : Fin grid0.N, win0_5.index t = ![t.val, 0] := by decide +kernel

/-! ## The blocks of a grid point -/

theorem blk0 (t : Fin cfg0.N) (r : Fin 1280) (j : Fin 1024) (h : 1280 * t.val + r.val < 33280) :
    iblk m c 0 t (ix2 r j) = (m ((c : Thread nD τ).loc main_arg0) : S33280x1024.Idx → EReal) (ix2 ⟨1280 * t.val + r.val, h⟩ j) := by
  blk_ext! [iblk, V, idx0_0]

theorem blk1 (t : Fin cfg0.N) (j : Fin 1024) :
    iblk m c 1 t (ix2 0 j) = (m ((c : Thread nD τ).loc main_arg1) : S1024.Idx → EReal) (ix1 j) := by
  blk_ext! [iblk, V, idx0_1]

theorem blk2 (t : Fin cfg0.N) (j : Fin 1024) :
    iblk m c 2 t (ix2 0 j) = (m ((c : Thread nD τ).loc main_arg2) : S1024.Idx → EReal) (ix1 j) := by
  blk_ext! [iblk, V, idx0_2]

theorem blk3 (t : Fin cfg0.N) (k : Fin 1024) (f : Fin 5632) :
    iblk m c 3 t (ix4 0 0 k f) = (m ((c : Thread nD τ).loc main_arg3) : S4x2x1024x5632.Idx → EReal) (ix4 0 0 k f) := by
  blk_ext! [iblk, V, idx0_3]

theorem blk4 (t : Fin cfg0.N) (f : Fin 2816) (e : Fin 1024) :
    iblk m c 4 t (ix4 0 0 f e) = (m ((c : Thread nD τ).loc main_arg4) : S4x2x2816x1024.Idx → EReal) (ix4 0 0 f e) := by
  blk_ext! [iblk, V, idx0_4]

theorem arr_out : (dats m 0 c).arrAt 5 cfg0.N = result m c := by
  refine (dats m 0 c).arrAt_eq_of_covers 5 _ (by decide +kernel) fun t hf y => ?_
  have y0 : (y (0 : Fin 2)).val < 1280 := (y (0 : Fin 2)).isLt
  have ht : t.val < 26 := lt_of_lt_of_eq t.isLt N_0
  have hb : 1280 * t.val + (y (0 : Fin 2)).val < 33280 := by omega
  rw [after0_5, out_val]
  unfold result step block
  have e0 : ∀ j, iblk m c 0 t (ix2 (y 0) j) = (m ((c : Thread nD τ).loc main_arg0) : S33280x1024.Idx → EReal) (ix2 ⟨1280 * t.val + (y (0 : Fin 2)).val, hb⟩ j) :=
    fun j => blk0 m c t (y 0) j _
  simp only [e0, blk1, blk2, blk3, blk4]
  have p0 : ((((cfg0.win 5).blk t).view.emb y) 0 : Fin 33280) = ⟨1280 * t.val + (y (0 : Fin 2)).val, hb⟩ := by
    refine Fin.ext ?_
    blk_simp [idx0_5]
    exact congrArg (· + _) (Nat.mul_comm _ _)
  have p1 : ((((cfg0.win 5).blk t).view.emb y) 1 : Fin 1024) = y 1 := by
    refine Fin.ext ?_
    blk_simp [idx0_5]
  rw [p0, p1]
  rfl

end Cert.Proof.Ffn

end
-- ==== Proof.FfnReference.lean ====
/-
  The feed-forward reference's result at an index: the norm, the gated product, the product back, the half step.
-/
module

public import proofs.«01_k».proof.Proof.Gen.Reference2Ideal.Run
public import proofs.«01_k».proof.Proof.FfnRun

@[expose] public section

set_option maxRecDepth 16384

noncomputable section

namespace Cert.Proof.FfnRef

open Cert.Reference2Ideal Cert.Reference2Ideal.Gen
open Idealize.ShloMosaic Idealize.ShloMosaic.TcCoe Idealize.ShloMosaic.Tactic

/-! ## The reference in parts -/

/-- `rms_norm`. -/
def normed (x : FVec Ideal S33280x1024 .f32) (g : FVec Ideal S1024 .f32) : FVec Ideal S33280x1024 .f32 :=
  mulf (mulf x (broadcastInDim S33280x1024 ![0, 1] bcast_S33280x1_S33280x1024_0_1 (Host.rsqrt (addf (Host.divf (broadcastInDim S33280x1 ![0] bcast_S33280_S33280x1_0 (Host.reduceAdd (mulf x x) (constant S_ .f32 0x00000000#32) reducesTo_S33280x1024_S33280_d1 h_S_)) (broadcastInDim S33280x1 ![] bcast_S_S33280x1 (constant S_ .f32 0x44800000#32))) (broadcastInDim S33280x1 ![] bcast_S_S33280x1 (constant S_ .f32 0x358637BD#32))))))
    (broadcastInDim S33280x1024 ![0, 1] bcast_S1x1024_S33280x1024_0_1 (broadcastInDim S1x1024 ![1] bcast_S1024_S1x1024_1 g))
/-- The product into the hidden features. -/
def into (x : FVec Ideal S33280x1024 .f32) (w : FVec Ideal S1024x5632 .f32) : FVec Ideal S33280x5632 .f32 :=
  Host.dotGeneral dot_S33280x1024_S1024x5632_S33280x5632_1_0_0_1_n_n none x w
def left (u : FVec Ideal S33280x5632 .f32) : FVec Ideal S33280x2816 .f32 := extractStridedSlice S33280x2816 ![0, 0] u slices_S33280x5632_S33280x2816_0_0
def right (u : FVec Ideal S33280x5632 .f32) : FVec Ideal S33280x2816 .f32 := extractStridedSlice S33280x2816 ![0, 2816] u slices_S33280x5632_S33280x2816_0_2816
def gated (a b : FVec Ideal S33280x2816 .f32) : FVec Ideal S33280x2816 .f32 :=
  mulf (mulf a (Host.divf (broadcastInDim S33280x2816 ![] bcast_S_S33280x2816 (constant S_ .f32 0x3F800000#32)) (addf (broadcastInDim S33280x2816 ![] bcast_S_S33280x2816 (constant S_ .f32 0x3F800000#32)) (Host.exp (Host.negf a))))) b
/-- The product back. -/
def out (z : FVec Ideal S33280x2816 .f32) (v : FVec Ideal S2816x1024 .f32) : FVec Ideal S33280x1024 .f32 :=
  Host.dotGeneral dot_S33280x2816_S2816x1024_S33280x1024_1_0_0_1_n_n none z v
def halved (h z : FVec Ideal S33280x1024 .f32) : FVec Ideal S33280x1024 .f32 :=
  addf h (mulf (broadcastInDim S33280x1024 ![] bcast_S_S33280x1024 (constant S_ .f32 0x3F000000#32)) z)
def weightIn (w : FVec Ideal S4x2x1024x5632 .bf16) : FVec Ideal S1024x5632 .f32 :=
  extf .f32 (shapeCast _ (extractStridedSlice S1x1x1024x5632 ![0, 0, 0, 0] w slices_S4x2x1024x5632_S1x1x1024x5632_0_0_0_0) shapeCasts_S1x1x1024x5632_S1024x5632) bitsLt_bf16_f32
def weightOut (v : FVec Ideal S4x2x2816x1024 .bf16) : FVec Ideal S2816x1024 .f32 :=
  extf .f32 (shapeCast _ (extractStridedSlice S1x1x2816x1024 ![0, 0, 0, 0] v slices_S4x2x2816x1024_S1x1x2816x1024_0_0_0_0) shapeCasts_S1x1x2816x1024_S2816x1024) bitsLt_bf16_f32

/-- `swiglu`. -/
def swiglu (x : FVec Ideal S33280x1024 .f32) (w : FVec Ideal S1024x5632 .f32) (v : FVec Ideal S2816x1024 .f32) : FVec Ideal S33280x1024 .f32 :=
  out (gated (left (into x w)) (right (into x w))) v
/-- The half step. -/
def stepped (h : FVec Ideal S33280x1024 .f32) (g0 g1 : FVec Ideal S1024 .f32) (w : FVec Ideal S1024x5632 .f32) (v : FVec Ideal S2816x1024 .f32) : FVec Ideal S33280x1024 .f32 :=
  halved h (normed (swiglu (normed h g0) w v) g1)

theorem result_eq (m : (ℓ : Loc nD τ sig) → Buf (Elt Ideal) ℓ) (c : Dev nD) :
    Value.res_main_v40 (F := Ideal) m c
      = stepped (m ((c.tc : Thread nD τ).loc main_arg0)) (m ((c.tc : Thread nD τ).loc main_arg1)) (m ((c.tc : Thread nD τ).loc main_arg2))
          (weightIn (m ((c.tc : Thread nD τ).loc main_arg3))) (weightOut (m ((c.tc : Thread nD τ).loc main_arg4))) := by
  unfold Value.res_main_v40 stepped halved swiglu out gated left right into normed weightIn weightOut
  rfl

/-! ## The parts at an index -/

theorem normed_val (x : FVec Ideal S33280x1024 .f32) (g : FVec Ideal S1024 .f32) (i : Fin 33280) (d : Fin 1024) :
    normed x g (ix2 i d) = Ffn.norm (fun j => x (ix2 i j)) (fun j => g (ix1 j)) d := by
  unfold Ffn.norm
  pointwise [normed]

theorem into_val (x : FVec Ideal S33280x1024 .f32) (w : FVec Ideal S1024x5632 .f32) (i : Fin 33280) (f : Fin 5632) :
    into x w (ix2 i f) = ∑ k : Fin 1024, x (ix2 i k) * w (ix2 k f) := by
  pointwise [into]

theorem left_val (u : FVec Ideal S33280x5632 .f32) (i : Fin 33280) (f : Fin 2816) : left u (ix2 i f) = u (ix2 i ⟨f.val, by omega⟩) := by
  pointwise [left]

theorem right_val (u : FVec Ideal S33280x5632 .f32) (i : Fin 33280) (f : Fin 2816) : right u (ix2 i f) = u (ix2 i ⟨2816 + f.val, by omega⟩) := by
  pointwise [right]

theorem gated_val (a b : FVec Ideal S33280x2816 .f32) (i : Fin 33280) (f : Fin 2816) :
    gated a b (ix2 i f) = a (ix2 i f) * Ideal.logistic (a (ix2 i f)) * b (ix2 i f) := by
  pointwise [gated]
  rfl

theorem out_val (z : FVec Ideal S33280x2816 .f32) (v : FVec Ideal S2816x1024 .f32) (i : Fin 33280) (d : Fin 1024) :
    out z v (ix2 i d) = ∑ f : Fin 2816, z (ix2 i f) * v (ix2 f d) := by
  pointwise [out]

theorem halved_val (h z : FVec Ideal S33280x1024 .f32) (i : Fin 33280) (d : Fin 1024) :
    halved h z (ix2 i d) = h (ix2 i d) + Ideal.ofBits .f32 0x3F000000#32 * z (ix2 i d) := by
  pointwise [halved]

theorem weightIn_val (w : FVec Ideal S4x2x1024x5632 .bf16) (k : Fin 1024) (f : Fin 5632) : weightIn w (ix2 k f) = w (ix4 0 0 k f) := by
  pointwise [weightIn]

theorem weightOut_val (v : FVec Ideal S4x2x2816x1024 .bf16) (f : Fin 2816) (e : Fin 1024) : weightOut v (ix2 f e) = v (ix4 0 0 f e) := by
  pointwise [weightOut]

theorem swiglu_val (x : FVec Ideal S33280x1024 .f32) (w : FVec Ideal S1024x5632 .f32) (v : FVec Ideal S2816x1024 .f32) (i : Fin 33280) (d : Fin 1024) :
    swiglu x w v (ix2 i d) = Ffn.back (Ffn.hidden (fun k => x (ix2 i k)) fun k f => w (ix2 k f)) (fun f e => v (ix2 f e)) d := by
  unfold swiglu Ffn.back Ffn.hidden
  simp only [out_val, gated_val, left_val, right_val, into_val]

theorem stepped_val (h : FVec Ideal S33280x1024 .f32) (g0 g1 : FVec Ideal S1024 .f32) (w : FVec Ideal S1024x5632 .f32) (v : FVec Ideal S2816x1024 .f32)
    (i : Fin 33280) (d : Fin 1024) : stepped h g0 g1 w v (ix2 i d)
      = Ffn.row (fun j => h (ix2 i j)) (fun j => g0 (ix1 j)) (fun j => g1 (ix1 j)) (fun k f => w (ix2 k f)) (fun f e => v (ix2 f e)) d := by
  unfold stepped Ffn.row
  simp only [halved_val, normed_val, swiglu_val]

/-! ## The two results -/

/-- The reference's result is the kernel's, the arguments being the same. -/
theorem results_eq (m : (ℓ : Loc Cert.Kernel2Ideal.nD Cert.Kernel2Ideal.τ Cert.Kernel2Ideal.sig) → Buf (Elt Ideal) ℓ)
    (m' : (ℓ : Loc nD τ sig) → Buf (Elt Ideal) ℓ) (c : Dev nD)
    (h0 : m' ((c.tc : Thread nD τ).loc main_arg0) = m ((c.tc : Thread Cert.Kernel2Ideal.nD Cert.Kernel2Ideal.τ).loc Cert.Kernel2Ideal.main_arg0))
    (h1 : m' ((c.tc : Thread nD τ).loc main_arg1) = m ((c.tc : Thread Cert.Kernel2Ideal.nD Cert.Kernel2Ideal.τ).loc Cert.Kernel2Ideal.main_arg1))
    (h2 : m' ((c.tc : Thread nD τ).loc main_arg2) = m ((c.tc : Thread Cert.Kernel2Ideal.nD Cert.Kernel2Ideal.τ).loc Cert.Kernel2Ideal.main_arg2))
    (h3 : m' ((c.tc : Thread nD τ).loc main_arg3) = m ((c.tc : Thread Cert.Kernel2Ideal.nD Cert.Kernel2Ideal.τ).loc Cert.Kernel2Ideal.main_arg3))
    (h4 : m' ((c.tc : Thread nD τ).loc main_arg4) = m ((c.tc : Thread Cert.Kernel2Ideal.nD Cert.Kernel2Ideal.τ).loc Cert.Kernel2Ideal.main_arg4)) :
    Value.res_main_v40 (F := Ideal) m' c = Ffn.result m c := by
  rw [result_eq, h0, h1, h2, h3, h4]
  funext y
  have hy : y = ix2 (y 0 : Fin 33280) (y 1 : Fin 1024) := by funext a; fin_cases a <;> rfl
  refine (congrArg _ hy).trans ((stepped_val _ _ _ _ _ _ _).trans ?_)
  simp only [weightIn_val, weightOut_val]
  rfl

end Cert.Proof.FfnRef

end
-- ==== Proof.ProjFfn.lean ====
/-
  The output projection and the feed-forward half step in one kernel: its body is the projected tile, then the half step's
  `tile`; its result row by row.
-/
module

public import proofs.«01_k».proof.Proof.Gen.Kernel3Ideal.Value
public import proofs.«01_k».proof.Proof.FfnRun

@[expose] public section

set_option maxRecDepth 16384

noncomputable section

namespace Cert.Proof.ProjFfn

open Cert.Kernel3Ideal Cert.Kernel3Ideal.Gen
open Idealize.ShloMosaic Idealize.ShloMosaic.TcCoe Idealize.ShloMosaic.Tactic

/-! ## The projected tile -/

def proj (a : FVec Ideal S256x1024 .bf16) (w : FVec Ideal S1024x1024 .bf16) : FVec Ideal S256x1024 .f32 :=
  matmul dot_S256x1024_S1024x1024_S256x1024_1_0_0_1_n_n none a w (constant S256x1024 .f32 0x00000000#32)

/-- The activations plus the normed projection. -/
def mixed (a : Vec Ideal S256x1024 .bf16) (h : Vec Ideal S256x1024 .f32) (w : Vec Ideal S1024x1024 .bf16) (g : Vec Ideal S1x1024 .f32) : FVec Ideal S256x1024 .f32 :=
  addf h (Ffn.scaled (proj a w) g)

variable (x0 : Vec Ideal S1280x1024 .bf16) (x1 : Vec Ideal S1280x1024 .f32) (x2 : Vec Ideal S1024x1024 .bf16) (x3 x4 x5 : Vec Ideal S1x1024 .f32)
  (x6 : Vec Ideal S1x1x1024x5632 .bf16) (x7 : Vec Ideal S1x1x2816x1024 .bf16)

theorem out_eq : out0_8 (F := Ideal) x0 x1 x2 x3 x4 x5 x6 x7 = View.canon
    [⟨r0_18, Ffn.tile x4 x5 x6 x7 (mixed (View.ld x0 r0_18) (View.ld x1 r0_18) (View.ld x2 r0_2) (View.ld x3 r0_0))⟩,
      ⟨r0_17, Ffn.tile x4 x5 x6 x7 (mixed (View.ld x0 r0_17) (View.ld x1 r0_17) (View.ld x2 r0_2) (View.ld x3 r0_0))⟩,
      ⟨r0_16, Ffn.tile x4 x5 x6 x7 (mixed (View.ld x0 r0_16) (View.ld x1 r0_16) (View.ld x2 r0_2) (View.ld x3 r0_0))⟩,
      ⟨r0_6, Ffn.tile x4 x5 x6 x7 (mixed (View.ld x0 r0_6) (View.ld x1 r0_6) (View.ld x2 r0_2) (View.ld x3 r0_0))⟩,
      ⟨r0_1, Ffn.tile x4 x5 x6 x7 (mixed (View.ld x0 r0_1) (View.ld x1 r0_1) (View.ld x2 r0_2) (View.ld x3 r0_0))⟩] := by
  unfold_out out0_8
  rfl

/-! ## One row -/

/-- A row's activations plus its normed projection. -/
def mix (a h : Fin 1024 → EReal) (w : Fin 1024 → Fin 1024 → EReal) (g : Fin 1024 → EReal) (d : Fin 1024) : EReal :=
  h d + Ffn.norm (fun j => ∑ k, a k * w k j) g d

theorem proj_val (a : FVec Ideal S256x1024 .bf16) (w : FVec Ideal S1024x1024 .bf16) (i : Fin 256) (j : Fin 1024) :
    proj a w (ix2 i j) = ∑ k : Fin 1024, a (ix2 i k) * w (ix2 k j) := by
  pointwise [proj]

theorem mixed_val (a : Vec Ideal S256x1024 .bf16) (h : Vec Ideal S256x1024 .f32) (w : Vec Ideal S1024x1024 .bf16) (g : Vec Ideal S1x1024 .f32) (i : Fin 256) (d : Fin 1024) :
    mixed a h w g (ix2 i d) = mix (fun k => a (ix2 i k)) (fun j => h (ix2 i j)) (fun k j => w (ix2 k j)) (fun j => g (ix2 0 j)) d := by
  unfold mix
  refine congrArg₂ (· + ·) rfl ((Ffn.scaled_val _ _ i d).trans ?_)
  simp only [proj_val]

/-- The block after the body, row by row. -/
def block (y : S1280x1024.Idx) : EReal :=
  Ffn.row (mix (fun k => x0 (ix2 (y 0) k)) (fun j => x1 (ix2 (y 0) j)) (fun k j => x2 (ix2 k j)) (fun j => x3 (ix2 0 j)))
    (fun j => x4 (ix2 0 j)) (fun j => x5 (ix2 0 j)) (fun k f => x6 (ix4 0 0 k f)) (fun f e => x7 (ix4 0 0 f e)) (y 1)

theorem ldA (o : ℕ) (ho : o + 256 ≤ 1280) (inb) (i : Fin 256) (j : Fin 1024) :
    View.ld x0 (Rect.unit (s := S1280x1024) ![o, 0] S256x1024.size inb) (ix2 i j) = x0 (ix2 ⟨o + i.val, by omega⟩ j) := by
  refine congrArg x0 (funext fun x => Fin.ext ?_)
  fin_cases x
  · show o + 1 * i.val = o + i.val; omega
  · show 0 + 1 * j.val = j.val; omega

theorem piece (o : ℕ) (ho : o + 256 ≤ 1280) (inb) (z : (Rect.unit (s := S1280x1024) ![o, 0] S256x1024.size inb).shape.Idx) :
    Ffn.tile x4 x5 x6 x7 (mixed (View.ld x0 (Rect.unit (s := S1280x1024) ![o, 0] S256x1024.size inb)) (View.ld x1 (Rect.unit (s := S1280x1024) ![o, 0] S256x1024.size inb)) (View.ld x2 r0_2) (View.ld x3 r0_0)) z
      = block x0 x1 x2 x3 x4 x5 x6 x7 ((Rect.unit (s := S1280x1024) ![o, 0] S256x1024.size inb).emb z) := by
  have z0 : (z (0 : Fin 2)).val < 256 := (z (0 : Fin 2)).isLt
  have hz : z = ix2 (⟨(z (0 : Fin 2)).val, z0⟩ : Fin 256) (⟨(z (1 : Fin 2)).val, (z (1 : Fin 2)).isLt⟩ : Fin 1024) := by
    funext a; fin_cases a <;> rfl
  have e : (Rect.unit (s := S1280x1024) ![o, 0] S256x1024.size inb).emb z = ix2 (⟨o + (z (0 : Fin 2)).val, by omega⟩ : Fin 1280) (⟨(z (1 : Fin 2)).val, (z (1 : Fin 2)).isLt⟩ : Fin 1024) := by
    funext a
    refine Fin.ext ?_
    fin_cases a
    · show o + 1 * (z (0 : Fin 2)).val = _; rw [Nat.one_mul]; rfl
    · show 0 + 1 * (z (1 : Fin 2)).val = _; rw [Nat.one_mul, Nat.zero_add]; rfl
  have h0 : (![0, 0] : Fin 2 → ℕ) = fun _ => 0 := by funext a; fin_cases a <;> rfl
  rw [e, View.ld_unit_zero h0, View.ld_unit_zero h0]
  refine (congrArg _ hz).trans ((Ffn.tile_val _ _ _ _ _ _ _).trans ?_)
  unfold block
  simp only [mixed_val, ldA x0 o ho, Ffn.ld2 x1 o ho]
  rfl

theorem out_val : out0_8 (F := Ideal) x0 x1 x2 x3 x4 x5 x6 x7 = block x0 x1 x2 x3 x4 x5 x6 x7 := by
  rw [out_eq]
  funext y
  refine View.canon_apply_of_pieces _ _ (fun p hp z => ?_) y (cover0_8 _ _ _ _ _ y)
  simp only [List.mem_cons, List.not_mem_nil, or_false] at hp
  rcases hp with rfl | rfl | rfl | rfl | rfl <;> exact piece x0 x1 x2 x3 x4 x5 x6 x7 _ (by decide) _ z

/-! ## The result -/

variable (m : (ℓ : Loc nD τ sig) → Buf (Elt Ideal) ℓ) (c : Dev nD)

/-- The kernel's result from its arguments. -/
def result : S33280x1024.Idx → EReal :=
  Ffn.step (fun k f => (m ((c : Thread nD τ).loc main_arg6) : S4x2x1024x5632.Idx → EReal) (ix4 0 1 k f))
    (fun f e => (m ((c : Thread nD τ).loc main_arg7) : S4x2x2816x1024.Idx → EReal) (ix4 0 1 f e))
    (fun j => (m ((c : Thread nD τ).loc main_arg4) : S1024.Idx → EReal) (ix1 j))
    (fun j => (m ((c : Thread nD τ).loc main_arg5) : S1024.Idx → EReal) (ix1 j))
    (fun r => mix (fun k => (m ((c : Thread nD τ).loc main_arg0) : S33280x1024.Idx → EReal) (ix2 r k))
      (fun j => (m ((c : Thread nD τ).loc main_arg1) : S33280x1024.Idx → EReal) (ix2 r j))
      (fun k j => (m ((c : Thread nD τ).loc main_arg2) : S1024x1024.Idx → EReal) (ix2 k j))
      (fun j => (m ((c : Thread nD τ).loc main_arg3) : S1024.Idx → EReal) (ix1 j)))

theorem idx0_0 : ∀ t : Fin grid0.N, win0_0.index t = ![t.val, 0] := by decide +kernel
theorem idx0_1 : ∀ t : Fin grid0.N, win0_1.index t = ![t.val, 0] := by decide +kernel
theorem idx0_2 : ∀ t : Fin grid0.N, win0_2.index t = ![0, 0] := by decide +kernel
theorem idx0_3 : ∀ t : Fin grid0.N, win0_3.index t = ![0, 0] := by decide +kernel
theorem idx0_4 : ∀ t : Fin grid0.N, win0_4.index t = ![0, 0] := by decide +kernel
theorem idx0_5 : ∀ t : Fin grid0.N, win0_5.index t = ![0, 0] := by decide +kernel
theorem idx0_6 : ∀ t : Fin grid0.N, win0_6.index t = ![0, 1, 0, 0] := by decide +kernel
theorem idx0_7 : ∀ t : Fin grid0.N, win0_7.index t = ![0, 1, 0, 0] := by decide +kernel
theorem idx0_8 : ∀ t : Fin grid0.N, win0_8.index t = ![t.val, 0] := by decide +kernel

theorem blk0 (t : Fin cfg0.N) (r : Fin 1280) (j : Fin 1024) (h : 1280 * t.val + r.val < 33280) :
    iblk m c 0 t (ix2 r j) = (m ((c : Thread nD τ).loc main_arg0) : S33280x1024.Idx → EReal) (ix2 ⟨1280 * t.val + r.val, h⟩ j) := by
  blk_ext! [iblk, V, idx0_0]

theorem blk1 (t : Fin cfg0.N) (r : Fin 1280) (j : Fin 1024) (h : 1280 * t.val + r.val < 33280) :
    iblk m c 1 t (ix2 r j) = (m ((c : Thread nD τ).loc main_arg1) : S33280x1024.Idx → EReal) (ix2 ⟨1280 * t.val + r.val, h⟩ j) := by
  blk_ext! [iblk, V, idx0_1]

theorem blk2 (t : Fin cfg0.N) (k j : Fin 1024) :
    iblk m c 2 t (ix2 k j) = (m ((c : Thread nD τ).loc main_arg2) : S1024x1024.Idx → EReal) (ix2 k j) := by
  blk_ext! [iblk, V, idx0_2]

theorem blk3 (t : Fin cfg0.N) (j : Fin 1024) :
    iblk m c 3 t (ix2 0 j) = (m ((c : Thread nD τ).loc main_arg3) : S1024.Idx → EReal) (ix1 j) := by
  blk_ext! [iblk, V, idx0_3]

theorem blk4 (t : Fin cfg0.N) (j : Fin 1024) :
    iblk m c 4 t (ix2 0 j) = (m ((c : Thread nD τ).loc main_arg4) : S1024.Idx → EReal) (ix1 j) := by
  blk_ext! [iblk, V, idx0_4]

theorem blk5 (t : Fin cfg0.N) (j : Fin 1024) :
    iblk m c 5 t (ix2 0 j) = (m ((c : Thread nD τ).loc main_arg5) : S1024.Idx → EReal) (ix1 j) := by
  blk_ext! [iblk, V, idx0_5]

theorem blk6 (t : Fin cfg0.N) (k : Fin 1024) (f : Fin 5632) :
    iblk m c 6 t (ix4 0 0 k f) = (m ((c : Thread nD τ).loc main_arg6) : S4x2x1024x5632.Idx → EReal) (ix4 0 1 k f) := by
  blk_ext! [iblk, V, idx0_6]

theorem blk7 (t : Fin cfg0.N) (f : Fin 2816) (e : Fin 1024) :
    iblk m c 7 t (ix4 0 0 f e) = (m ((c : Thread nD τ).loc main_arg7) : S4x2x2816x1024.Idx → EReal) (ix4 0 1 f e) := by
  blk_ext! [iblk, V, idx0_7]

theorem arr_out : (dats m 0 c).arrAt 8 cfg0.N = result m c := by
  refine (dats m 0 c).arrAt_eq_of_covers 8 _ (by decide +kernel) fun t hf y => ?_
  have y0 : (y (0 : Fin 2)).val < 1280 := (y (0 : Fin 2)).isLt
  have ht : t.val < 26 := lt_of_lt_of_eq t.isLt N_0
  have hb : 1280 * t.val + (y (0 : Fin 2)).val < 33280 := by omega
  rw [after0_8, out_val]
  unfold result Ffn.step block
  have e0 : ∀ j, iblk m c 0 t (ix2 (y 0) j) = (m ((c : Thread nD τ).loc main_arg0) : S33280x1024.Idx → EReal) (ix2 ⟨1280 * t.val + (y (0 : Fin 2)).val, hb⟩ j) :=
    fun j => blk0 m c t (y 0) j _
  have e1 : ∀ j, iblk m c 1 t (ix2 (y 0) j) = (m ((c : Thread nD τ).loc main_arg1) : S33280x1024.Idx → EReal) (ix2 ⟨1280 * t.val + (y (0 : Fin 2)).val, hb⟩ j) :=
    fun j => blk1 m c t (y 0) j _
  simp only [e0, e1, blk2, blk3, blk4, blk5, blk6, blk7]
  have p0 : ((((cfg0.win 8).blk t).view.emb y) 0 : Fin 33280) = ⟨1280 * t.val + (y (0 : Fin 2)).val, hb⟩ := by
    refine Fin.ext ?_
    blk_simp [idx0_8]
    exact congrArg (· + _) (Nat.mul_comm _ _)
  have p1 : ((((cfg0.win 8).blk t).view.emb y) 1 : Fin 1024) = y 1 := by
    refine Fin.ext ?_
    blk_simp [idx0_8]
  rw [p0, p1]
  rfl

end Cert.Proof.ProjFfn

end
-- ==== Proof.ProjReference.lean ====
/-
  The reference of the projection and the half step: the projection normed and added, then `FfnRef.stepped`.
-/
module

public import proofs.«01_k».proof.Proof.Gen.Reference3Ideal.Run
public import proofs.«01_k».proof.Proof.FfnReference
public import proofs.«01_k».proof.Proof.ProjFfn

@[expose] public section

set_option maxRecDepth 16384

noncomputable section

namespace Cert.Proof.ProjRef

open Cert.Reference3Ideal Cert.Reference3Ideal.Gen
open Idealize.ShloMosaic Idealize.ShloMosaic.TcCoe Idealize.ShloMosaic.Tactic

def proj (a : FVec Ideal S33280x1024 .bf16) (w : FVec Ideal S1024x1024 .bf16) : FVec Ideal S33280x1024 .f32 :=
  Host.dotGeneral dot_S33280x1024_S1024x1024_S33280x1024_1_0_0_1_n_n none (extf .f32 a bitsLt_bf16_f32) (extf .f32 w bitsLt_bf16_f32)
def mixed (a : FVec Ideal S33280x1024 .bf16) (h : FVec Ideal S33280x1024 .f32) (w : FVec Ideal S1024x1024 .bf16) (g : FVec Ideal S1024 .f32) : FVec Ideal S33280x1024 .f32 :=
  addf h (FfnRef.normed (proj a w) g)
def weightIn (w : FVec Ideal S4x2x1024x5632 .bf16) : FVec Ideal S1024x5632 .f32 :=
  extf .f32 (shapeCast _ (extractStridedSlice S1x1x1024x5632 ![0, 1, 0, 0] w slices_S4x2x1024x5632_S1x1x1024x5632_0_1_0_0) shapeCasts_S1x1x1024x5632_S1024x5632) bitsLt_bf16_f32
def weightOut (v : FVec Ideal S4x2x2816x1024 .bf16) : FVec Ideal S2816x1024 .f32 :=
  extf .f32 (shapeCast _ (extractStridedSlice S1x1x2816x1024 ![0, 1, 0, 0] v slices_S4x2x2816x1024_S1x1x2816x1024_0_1_0_0) shapeCasts_S1x1x2816x1024_S2816x1024) bitsLt_bf16_f32

theorem result_eq (m : (ℓ : Loc nD τ sig) → Buf (Elt Ideal) ℓ) (c : Dev nD) :
    Value.res_main_v57 (F := Ideal) m c
      = FfnRef.stepped (mixed (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg4)) (m ((c.tc : Thread nD τ).loc main_arg5))
          (weightIn (m ((c.tc : Thread nD τ).loc main_arg6))) (weightOut (m ((c.tc : Thread nD τ).loc main_arg7))) := by
  unfold Value.res_main_v57 FfnRef.stepped FfnRef.halved FfnRef.swiglu FfnRef.out FfnRef.gated FfnRef.left FfnRef.right FfnRef.into mixed FfnRef.normed proj weightIn weightOut
  rfl

theorem proj_val (a : FVec Ideal S33280x1024 .bf16) (w : FVec Ideal S1024x1024 .bf16) (i : Fin 33280) (j : Fin 1024) :
    proj a w (ix2 i j) = ∑ k : Fin 1024, a (ix2 i k) * w (ix2 k j) := by
  pointwise [proj]

theorem mixed_val (a : FVec Ideal S33280x1024 .bf16) (h : FVec Ideal S33280x1024 .f32) (w : FVec Ideal S1024x1024 .bf16) (g : FVec Ideal S1024 .f32) (i : Fin 33280) (d : Fin 1024) :
    mixed a h w g (ix2 i d) = ProjFfn.mix (fun k => a (ix2 i k)) (fun j => h (ix2 i j)) (fun k j => w (ix2 k j)) (fun j => g (ix1 j)) d := by
  unfold ProjFfn.mix
  refine congrArg₂ (· + ·) rfl ((FfnRef.normed_val _ _ i d).trans ?_)
  simp only [proj_val]

theorem weightIn_val (w : FVec Ideal S4x2x1024x5632 .bf16) (k : Fin 1024) (f : Fin 5632) : weightIn w (ix2 k f) = w (ix4 0 1 k f) := by
  pointwise [weightIn]

theorem weightOut_val (v : FVec Ideal S4x2x2816x1024 .bf16) (f : Fin 2816) (e : Fin 1024) : weightOut v (ix2 f e) = v (ix4 0 1 f e) := by
  pointwise [weightOut]

/-- The reference's result is the kernel's, the arguments being the same. -/
theorem results_eq (m : (ℓ : Loc Cert.Kernel3Ideal.nD Cert.Kernel3Ideal.τ Cert.Kernel3Ideal.sig) → Buf (Elt Ideal) ℓ)
    (m' : (ℓ : Loc nD τ sig) → Buf (Elt Ideal) ℓ) (c : Dev nD)
    (h0 : m' ((c.tc : Thread nD τ).loc main_arg0) = m ((c.tc : Thread Cert.Kernel3Ideal.nD Cert.Kernel3Ideal.τ).loc Cert.Kernel3Ideal.main_arg0))
    (h1 : m' ((c.tc : Thread nD τ).loc main_arg1) = m ((c.tc : Thread Cert.Kernel3Ideal.nD Cert.Kernel3Ideal.τ).loc Cert.Kernel3Ideal.main_arg1))
    (h2 : m' ((c.tc : Thread nD τ).loc main_arg2) = m ((c.tc : Thread Cert.Kernel3Ideal.nD Cert.Kernel3Ideal.τ).loc Cert.Kernel3Ideal.main_arg2))
    (h3 : m' ((c.tc : Thread nD τ).loc main_arg3) = m ((c.tc : Thread Cert.Kernel3Ideal.nD Cert.Kernel3Ideal.τ).loc Cert.Kernel3Ideal.main_arg3))
    (h4 : m' ((c.tc : Thread nD τ).loc main_arg4) = m ((c.tc : Thread Cert.Kernel3Ideal.nD Cert.Kernel3Ideal.τ).loc Cert.Kernel3Ideal.main_arg4))
    (h5 : m' ((c.tc : Thread nD τ).loc main_arg5) = m ((c.tc : Thread Cert.Kernel3Ideal.nD Cert.Kernel3Ideal.τ).loc Cert.Kernel3Ideal.main_arg5))
    (h6 : m' ((c.tc : Thread nD τ).loc main_arg6) = m ((c.tc : Thread Cert.Kernel3Ideal.nD Cert.Kernel3Ideal.τ).loc Cert.Kernel3Ideal.main_arg6))
    (h7 : m' ((c.tc : Thread nD τ).loc main_arg7) = m ((c.tc : Thread Cert.Kernel3Ideal.nD Cert.Kernel3Ideal.τ).loc Cert.Kernel3Ideal.main_arg7)) :
    Value.res_main_v57 (F := Ideal) m' c = ProjFfn.result m c := by
  rw [result_eq, h0, h1, h2, h3, h4, h5, h6, h7]
  funext y
  have hy : y = ix2 (y 0 : Fin 33280) (y 1 : Fin 1024) := by funext a; fin_cases a <;> rfl
  refine (congrArg _ hy).trans ((FfnRef.stepped_val _ _ _ _ _ _ _).trans ?_)
  simp only [weightIn_val, weightOut_val]
  exact congrArg (fun x => Ffn.row x _ _ _ _ _) (funext fun j => mixed_val _ _ _ _ (y 0 : Fin 33280) j)

end Cert.Proof.ProjRef

end
-- ==== Proof.RecIn.lean ====
/-
  The recurrent block's input kernel: the row norm, the product into both branches, the gate's GELU; and the kernel's two
  results from its arguments.
-/
module

public import proofs.«01_k».proof.Proof.Gen.Kernel4Ideal.Value
public import proofs.«01_k».proof.Proof.Ffn

@[expose] public section

set_option maxRecDepth 16384

noncomputable section

namespace Cert.Proof.RecIn

open Cert.Kernel4Ideal Cert.Kernel4Ideal.Gen
open Idealize.ShloMosaic Idealize.ShloMosaic.TcCoe Idealize.ShloMosaic.Tactic

/-! ## One row -/

/-- A feature of a row's product into both branches. -/
def into (x g : Fin 1024 → EReal) (W : Fin 1024 → Fin 2048 → EReal) (e : Fin 2048) : EReal := ∑ k, Ffn.norm x g k * W k e

/-- The GELU, by its tanh approximation. -/
def gelu (a : EReal) : EReal :=
  a * (Ideal.ofBits .f32 0x3F000000#32 * (1 + Ideal.tanh (Ideal.ofBits .f32 0x3F4C422A#32 * (a + Ideal.ofBits .f32 0x3D372713#32 * (a * a * a)))))

/-- The gate's branch of a row. -/
def gate (x g : Fin 1024 → EReal) (W : Fin 1024 → Fin 2048 → EReal) (d : Fin 1024) : EReal := gelu (into x g W ⟨d.val, by omega⟩)

/-- The other branch of a row. -/
def branch (x g : Fin 1024 → EReal) (W : Fin 1024 → Fin 2048 → EReal) (d : Fin 1024) : EReal := into x g W ⟨1024 + d.val, by omega⟩

/-! ## The body in parts -/

def scaled (x : FVec Ideal S1280x1024 .f32) (g : FVec Ideal S1x1024 .f32) : FVec Ideal S1280x1024 .f32 :=
  mulf (mulf x (broadcastTo S1280x1024 (rsqrt (addf (divf (shapeCast S1280x1 (multiReduction .add [1] S1280 (mulf x x) 0x00000000#32 reduces_S1280x1024_S1280 (.inl rfl) rfl) shapeCasts_S1280_S1280x1) (broadcast S1280x1 (Scalar.ofBits .f32 0x44800000#32))) (broadcast S1280x1 (Scalar.ofBits .f32 0x358637BD#32)))) broadcasts_S1280x1_S1280x1024))
    (broadcastTo S1280x1024 (shapeCast S1x1024 g shapeCasts_S1x1024_S1x1024) broadcasts_S1x1024_S1280x1024)
def product (y : FVec Ideal S1280x1024 .f32) (w : FVec Ideal S1024x2048 .bf16) : FVec Ideal S1280x2048 .f32 :=
  matmul dot_S1280x1024_S1024x2048_S1280x2048_1_0_0_1_n_n none (truncf .bf16 y bitsLt_bf16_f32) (shapeCast S1024x2048 w shapeCasts_S1024x2048_S1024x2048) (constant S1280x2048 .f32 0x00000000#32)
def left (u : FVec Ideal S1280x2048 .f32) : FVec Ideal S1280x1024 .f32 := extractStridedSlice S1280x1024 ![0, 0] u slices_S1280x2048_o0_0_S1280x1024
def right (u : FVec Ideal S1280x2048 .f32) : FVec Ideal S1280x1024 .f32 := extractStridedSlice S1280x1024 ![0, 1024] u slices_S1280x2048_o0_1024_S1280x1024
def bent (a : FVec Ideal S1280x1024 .f32) : FVec Ideal S1280x1024 .bf16 :=
  truncf .bf16 (mulf a (mulf (broadcast S1280x1024 (Scalar.ofBits .f32 0x3F000000#32)) (addf (broadcast S1280x1024 (Scalar.ofBits .f32 0x3F800000#32))
    (tanh (mulf (broadcast S1280x1024 (Scalar.ofBits .f32 0x3F4C422A#32)) (addf a (mulf (broadcast S1280x1024 (Scalar.ofBits .f32 0x3D372713#32)) (mulf (mulf a a) a)))))))) bitsLt_bf16_f32

theorem scaled_val (x : FVec Ideal S1280x1024 .f32) (g : FVec Ideal S1x1024 .f32) (i : Fin 1280) (d : Fin 1024) :
    scaled x g (ix2 i d) = Ffn.norm (fun j => x (ix2 i j)) (fun j => g (ix2 0 j)) d := by
  unfold Ffn.norm
  pointwise [scaled]

theorem product_val (y : FVec Ideal S1280x1024 .f32) (w : FVec Ideal S1024x2048 .bf16) (i : Fin 1280) (e : Fin 2048) :
    product y w (ix2 i e) = ∑ k : Fin 1024, y (ix2 i k) * w (ix2 k e) := by
  pointwise [product]

theorem left_val (u : FVec Ideal S1280x2048 .f32) (i : Fin 1280) (d : Fin 1024) : left u (ix2 i d) = u (ix2 i ⟨d.val, by omega⟩) := by
  pointwise [left]

theorem right_val (u : FVec Ideal S1280x2048 .f32) (i : Fin 1280) (d : Fin 1024) : right u (ix2 i d) = u (ix2 i ⟨1024 + d.val, by omega⟩) := by
  pointwise [right]

theorem bent_val (a : FVec Ideal S1280x1024 .f32) (i : Fin 1280) (d : Fin 1024) : bent a (ix2 i d) = gelu (a (ix2 i d)) := by
  unfold gelu
  pointwise [bent]

variable (x0 : Vec Ideal S1280x1024 .f32) (x1 : Vec Ideal S1x1024 .f32) (x2 : Vec Ideal S1024x2048 .bf16)

theorem pay2_eq : k0_pay2 (F := Ideal) x0 x1 x2 = bent (left (product (scaled x0 x1) x2)) := rfl
theorem pay3_eq : k0_pay3 (F := Ideal) x0 x1 x2 = right (product (scaled x0 x1) x2) := rfl

theorem product_scaled (i : Fin 1280) (e : Fin 2048) :
    product (scaled x0 x1) x2 (ix2 i e) = into (fun j => x0 (ix2 i j)) (fun j => x1 (ix2 0 j)) (fun k f => x2 (ix2 k f)) e := by
  unfold into
  simp only [product_val, scaled_val]

/-- A block's gate. -/
def gateBlock (y : S1280x1024.Idx) : EReal := gate (fun j => x0 (ix2 (y 0) j)) (fun j => x1 (ix2 0 j)) (fun k f => x2 (ix2 k f)) (y 1)
/-- A block's other branch. -/
def branchBlock (y : S1280x1024.Idx) : EReal := branch (fun j => x0 (ix2 (y 0) j)) (fun j => x1 (ix2 0 j)) (fun k f => x2 (ix2 k f)) (y 1)

theorem pay2_val (y : S1280x1024.Idx) : k0_pay2 (F := Ideal) x0 x1 x2 y = gateBlock x0 x1 x2 y := by
  have hy : y = ix2 (y 0 : Fin 1280) (y 1 : Fin 1024) := by funext a; fin_cases a <;> rfl
  rw [pay2_eq]
  refine (congrArg _ hy).trans ((bent_val _ _ _).trans (congrArg gelu ?_))
  exact (left_val _ _ _).trans (product_scaled ..)

theorem pay3_val (y : S1280x1024.Idx) : k0_pay3 (F := Ideal) x0 x1 x2 y = branchBlock x0 x1 x2 y := by
  have hy : y = ix2 (y 0 : Fin 1280) (y 1 : Fin 1024) := by funext a; fin_cases a <;> rfl
  rw [pay3_eq]
  exact (congrArg _ hy).trans ((right_val _ _ _).trans (product_scaled ..))

theorem origin : (![0, 0] : Fin 2 → ℕ) = fun _ => 0 := by funext a; fin_cases a <;> rfl

theorem whole (z : S1280x1024.Idx) : r0_0.idx z = z := by
  funext a
  refine Fin.ext ?_
  fin_cases a
  · show 0 + 1 * (z 0).val = (z 0).val; omega
  · show 0 + 1 * (z 1).val = (z 1).val; omega

theorem gate_out : out0_3 (F := Ideal) x0 x1 x2 = gateBlock x0 x1 x2 := by
  unfold out0_3
  funext y
  refine View.canon_apply_of_pieces _ _ (fun p hp z => ?_) y (cover0_3 _ y)
  simp only [List.mem_cons, List.not_mem_nil, or_false] at hp
  subst hp
  refine (pay2_val _ _ _ _).trans (Eq.trans ?_ (congrArg (gateBlock x0 x1 x2) (whole z).symm))
  rw [View.ld_unit_zero origin, View.ld_unit_zero origin, View.ld_unit_zero origin]

theorem branch_out : out0_4 (F := Ideal) x0 x1 x2 = branchBlock x0 x1 x2 := by
  unfold out0_4
  funext y
  refine View.canon_apply_of_pieces _ _ (fun p hp z => ?_) y (cover0_4 _ y)
  simp only [List.mem_cons, List.not_mem_nil, or_false] at hp
  subst hp
  refine (pay3_val _ _ _ _).trans (Eq.trans ?_ (congrArg (branchBlock x0 x1 x2) (whole z).symm))
  rw [View.ld_unit_zero origin, View.ld_unit_zero origin, View.ld_unit_zero origin]

/-! ## The results -/

variable (m : (ℓ : Loc nD τ sig) → Buf (Elt Ideal) ℓ) (c : Dev nD)

/-- A row of the activations. -/
def act (r : Fin 33280) (j : Fin 1024) : EReal := (m ((c : Thread nD τ).loc main_arg0) : S33280x1024.Idx → EReal) (ix2 r j)
def gain (j : Fin 1024) : EReal := (m ((c : Thread nD τ).loc main_arg1) : S1024.Idx → EReal) (ix1 j)
def weight (k : Fin 1024) (e : Fin 2048) : EReal := (m ((c : Thread nD τ).loc main_arg2) : S1024x2048.Idx → EReal) (ix2 k e)

/-- The kernel's results from its arguments: the gate, and the other branch. -/
def gates (y : S33280x1024.Idx) : EReal := gate (act m c (y 0)) (gain m c) (weight m c) (y 1)
def branches (y : S33280x1024.Idx) : EReal := branch (act m c (y 0)) (gain m c) (weight m c) (y 1)

theorem idx0_0 : ∀ t : Fin grid0.N, win0_0.index t = ![t.val, 0] := by decide +kernel
theorem idx0_1 : ∀ t : Fin grid0.N, win0_1.index t = ![0, 0] := by decide +kernel
theorem idx0_2 : ∀ t : Fin grid0.N, win0_2.index t = ![0, 0] := by decide +kernel
theorem idx0_3 : ∀ t : Fin grid0.N, win0_3.index t = ![t.val, 0] := by decide +kernel
theorem idx0_4 : ∀ t : Fin grid0.N, win0_4.index t = ![t.val, 0] := by decide +kernel

theorem blk0 (t : Fin cfg0.N) (r : Fin 1280) (j : Fin 1024) (h : 1280 * t.val + r.val < 33280) :
    iblk m c 0 t (ix2 r j) = act m c ⟨1280 * t.val + r.val, h⟩ j := by
  unfold act
  blk_ext! [iblk, V, idx0_0]

theorem blk1 (t : Fin cfg0.N) (j : Fin 1024) : iblk m c 1 t (ix2 0 j) = gain m c j := by
  unfold gain
  blk_ext! [iblk, V, idx0_1]

theorem blk2 (t : Fin cfg0.N) (k : Fin 1024) (e : Fin 2048) : iblk m c 2 t (ix2 k e) = weight m c k e := by
  unfold weight
  blk_ext! [iblk, V, idx0_2]

theorem arr_gate : (dats m 0 c).arrAt 3 cfg0.N = gates m c := by
  refine (dats m 0 c).arrAt_eq_of_covers 3 _ (by decide +kernel) fun t hf y => ?_
  have y0 : (y (0 : Fin 2)).val < 1280 := (y (0 : Fin 2)).isLt
  have ht : t.val < 26 := lt_of_lt_of_eq t.isLt N_0
  have hb : 1280 * t.val + (y (0 : Fin 2)).val < 33280 := by omega
  rw [after0_3, gate_out]
  unfold gates gateBlock
  have e0 : ∀ j, iblk m c 0 t (ix2 (y 0) j) = act m c ⟨1280 * t.val + (y (0 : Fin 2)).val, hb⟩ j := fun j => blk0 m c t (y 0) j _
  simp only [e0, blk1, blk2]
  have p0 : ((((cfg0.win 3).blk t).view.emb y) 0 : Fin 33280) = ⟨1280 * t.val + (y (0 : Fin 2)).val, hb⟩ := by
    refine Fin.ext ?_
    blk_simp [idx0_3]
    exact congrArg (· + _) (Nat.mul_comm _ _)
  have p1 : ((((cfg0.win 3).blk t).view.emb y) 1 : Fin 1024) = y 1 := by
    refine Fin.ext ?_
    blk_simp [idx0_3]
  rw [p0, p1]
  rfl

theorem arr_branch : (dats m 0 c).arrAt 4 cfg0.N = branches m c := by
  refine (dats m 0 c).arrAt_eq_of_covers 4 _ (by decide +kernel) fun t hf y => ?_
  have y0 : (y (0 : Fin 2)).val < 1280 := (y (0 : Fin 2)).isLt
  have ht : t.val < 26 := lt_of_lt_of_eq t.isLt N_0
  have hb : 1280 * t.val + (y (0 : Fin 2)).val < 33280 := by omega
  rw [after0_4, branch_out]
  unfold branches branchBlock
  have e0 : ∀ j, iblk m c 0 t (ix2 (y 0) j) = act m c ⟨1280 * t.val + (y (0 : Fin 2)).val, hb⟩ j := fun j => blk0 m c t (y 0) j _
  simp only [e0, blk1, blk2]
  have p0 : ((((cfg0.win 4).blk t).view.emb y) 0 : Fin 33280) = ⟨1280 * t.val + (y (0 : Fin 2)).val, hb⟩ := by
    refine Fin.ext ?_
    blk_simp [idx0_4]
    exact congrArg (· + _) (Nat.mul_comm _ _)
  have p1 : ((((cfg0.win 4).blk t).view.emb y) 1 : Fin 1024) = y 1 := by
    refine Fin.ext ?_
    blk_simp [idx0_4]
  rw [p0, p1]
  rfl

end Cert.Proof.RecIn

end
-- ==== Proof.RecInReference.lean ====
/-
  The recurrent block's input in the reference: its two results at an index.
-/
module

public import proofs.«01_k».proof.Proof.Gen.Reference4Ideal.Run
public import proofs.«01_k».proof.Proof.RecIn

@[expose] public section

set_option maxRecDepth 16384

noncomputable section

namespace Cert.Proof.RecInRef

open Cert.Reference4Ideal Cert.Reference4Ideal.Gen
open Idealize.ShloMosaic Idealize.ShloMosaic.TcCoe Idealize.ShloMosaic.Tactic

/-- `rms_norm`. -/
def normed (x : FVec Ideal S33280x1024 .f32) (g : FVec Ideal S1024 .f32) : FVec Ideal S33280x1024 .f32 :=
  mulf (mulf x (broadcastInDim S33280x1024 ![0, 1] bcast_S33280x1_S33280x1024_0_1 (Host.rsqrt (addf (Host.divf (broadcastInDim S33280x1 ![0] bcast_S33280_S33280x1_0 (Host.reduceAdd (mulf x x) (constant S_ .f32 0x00000000#32) reducesTo_S33280x1024_S33280_d1 h_S_)) (broadcastInDim S33280x1 ![] bcast_S_S33280x1 (constant S_ .f32 0x44800000#32))) (broadcastInDim S33280x1 ![] bcast_S_S33280x1 (constant S_ .f32 0x358637BD#32))))))
    (broadcastInDim S33280x1024 ![0, 1] bcast_S1x1024_S33280x1024_0_1 (broadcastInDim S1x1024 ![1] bcast_S1024_S1x1024_1 g))
def into (x : FVec Ideal S33280x1024 .f32) (w : FVec Ideal S1024x2048 .f32) : FVec Ideal S33280x2048 .f32 :=
  Host.dotGeneral dot_S33280x1024_S1024x2048_S33280x2048_1_0_0_1_n_n none x w
def left (u : FVec Ideal S33280x2048 .f32) : FVec Ideal S33280x1024 .f32 := extractStridedSlice S33280x1024 ![0, 0] u slices_S33280x2048_S33280x1024_0_0
def right (u : FVec Ideal S33280x2048 .f32) : FVec Ideal S33280x1024 .f32 := extractStridedSlice S33280x1024 ![0, 1024] u slices_S33280x2048_S33280x1024_0_1024
/-- `gelu`, and its cast. -/
def bent (a : FVec Ideal S33280x1024 .f32) : FVec Ideal S33280x1024 .bf16 :=
  truncf .bf16 (mulf a (mulf (broadcastInDim S33280x1024 ![] bcast_S_S33280x1024 (constant S_ .f32 0x3F000000#32)) (addf (broadcastInDim S33280x1024 ![] bcast_S_S33280x1024 (constant S_ .f32 0x3F800000#32))
    (Host.tanh (mulf (broadcastInDim S33280x1024 ![] bcast_S_S33280x1024 (constant S_ .f32 0x3F4C422A#32)) (addf a (mulf (broadcastInDim S33280x1024 ![] bcast_S_S33280x1024 (constant S_ .f32 0x3D372713#32)) (mulf (mulf a a) a)))))))) bitsLt_bf16_f32

/-- The gate from the arguments. -/
def gates (h : FVec Ideal S33280x1024 .f32) (g : FVec Ideal S1024 .f32) (w : FVec Ideal S1024x2048 .f32) : FVec Ideal S33280x1024 .bf16 :=
  bent (left (into (normed h g) w))
/-- The other branch from the arguments. -/
def branches (h : FVec Ideal S33280x1024 .f32) (g : FVec Ideal S1024 .f32) (w : FVec Ideal S1024x2048 .f32) : FVec Ideal S33280x1024 .f32 :=
  right (into (normed h g) w)

theorem gates_eq (m : (ℓ : Loc nD τ sig) → Buf (Elt Ideal) ℓ) (c : Dev nD) :
    Value.res_main_v28 (F := Ideal) m c
      = gates (m ((c.tc : Thread nD τ).loc main_arg0)) (m ((c.tc : Thread nD τ).loc main_arg1)) (m ((c.tc : Thread nD τ).loc main_arg2)) := by
  unfold Value.res_main_v28 gates bent left into normed
  rfl

/-! ## The parts at an index -/

theorem normed_val (x : FVec Ideal S33280x1024 .f32) (g : FVec Ideal S1024 .f32) (i : Fin 33280) (d : Fin 1024) :
    normed x g (ix2 i d) = Ffn.norm (fun j => x (ix2 i j)) (fun j => g (ix1 j)) d := by
  unfold Ffn.norm
  pointwise [normed]

theorem into_val (x : FVec Ideal S33280x1024 .f32) (w : FVec Ideal S1024x2048 .f32) (i : Fin 33280) (e : Fin 2048) :
    into x w (ix2 i e) = ∑ k : Fin 1024, x (ix2 i k) * w (ix2 k e) := by
  pointwise [into]

theorem left_val (u : FVec Ideal S33280x2048 .f32) (i : Fin 33280) (d : Fin 1024) : left u (ix2 i d) = u (ix2 i ⟨d.val, by omega⟩) := by
  pointwise [left]

theorem right_val (u : FVec Ideal S33280x2048 .f32) (i : Fin 33280) (d : Fin 1024) : right u (ix2 i d) = u (ix2 i ⟨1024 + d.val, by omega⟩) := by
  pointwise [right]

theorem bent_val (a : FVec Ideal S33280x1024 .f32) (i : Fin 33280) (d : Fin 1024) : bent a (ix2 i d) = RecIn.gelu (a (ix2 i d)) := by
  unfold RecIn.gelu
  pointwise [bent]

theorem gates_val (h : FVec Ideal S33280x1024 .f32) (g : FVec Ideal S1024 .f32) (w : FVec Ideal S1024x2048 .f32) (i : Fin 33280) (d : Fin 1024) :
    gates h g w (ix2 i d) = RecIn.gate (fun j => h (ix2 i j)) (fun j => g (ix1 j)) (fun k e => w (ix2 k e)) d := by
  unfold gates RecIn.gate RecIn.into
  simp only [bent_val, left_val, into_val, normed_val]

theorem branches_val (h : FVec Ideal S33280x1024 .f32) (g : FVec Ideal S1024 .f32) (w : FVec Ideal S1024x2048 .f32) (i : Fin 33280) (d : Fin 1024) :
    branches h g w (ix2 i d) = RecIn.branch (fun j => h (ix2 i j)) (fun j => g (ix1 j)) (fun k e => w (ix2 k e)) d := by
  unfold branches RecIn.branch RecIn.into
  simp only [right_val, into_val, normed_val]

/-! ## The two results -/

variable (m : (ℓ : Loc Cert.Kernel4Ideal.nD Cert.Kernel4Ideal.τ Cert.Kernel4Ideal.sig) → Buf (Elt Ideal) ℓ)
    (m' : (ℓ : Loc nD τ sig) → Buf (Elt Ideal) ℓ) (c : Dev nD)
    (h0 : m' ((c.tc : Thread nD τ).loc main_arg0) = m ((c.tc : Thread Cert.Kernel4Ideal.nD Cert.Kernel4Ideal.τ).loc Cert.Kernel4Ideal.main_arg0))
    (h1 : m' ((c.tc : Thread nD τ).loc main_arg1) = m ((c.tc : Thread Cert.Kernel4Ideal.nD Cert.Kernel4Ideal.τ).loc Cert.Kernel4Ideal.main_arg1))
    (h2 : m' ((c.tc : Thread nD τ).loc main_arg2) = m ((c.tc : Thread Cert.Kernel4Ideal.nD Cert.Kernel4Ideal.τ).loc Cert.Kernel4Ideal.main_arg2))

include h0 h1 h2

theorem gates_agree : Value.res_main_v28 (F := Ideal) m' c = RecIn.gates m c := by
  rw [gates_eq, h0, h1, h2]
  funext y
  have hy : y = ix2 (y 0 : Fin 33280) (y 1 : Fin 1024) := by funext a; fin_cases a <;> rfl
  exact (congrArg _ hy).trans (gates_val _ _ _ _ _)

theorem branches_agree : branches (m' ((c.tc : Thread nD τ).loc main_arg0)) (m' ((c.tc : Thread nD τ).loc main_arg1)) (m' ((c.tc : Thread nD τ).loc main_arg2)) = RecIn.branches m c := by
  rw [h0, h1, h2]
  funext y
  have hy : y = ix2 (y 0 : Fin 33280) (y 1 : Fin 1024) := by funext a; fin_cases a <;> rfl
  exact (congrArg _ hy).trans (branches_val _ _ _ _ _)

end Cert.Proof.RecInRef

end
-- ==== Proof.Qkv.lean ====
/-
  The attention's input kernel: the row norm, the product into the heads, each query's and key's head norm and rotation;
  what a grid point stores, head by head and sub tile by sub tile.
-/
module

public import proofs.«01_k».proof.Proof.Gen.Kernel5Ideal.Value
public import proofs.«01_k».proof.Proof.Ffn

@[expose] public section

set_option maxRecDepth 16384

noncomputable section

namespace Cert.Proof.Qkv

open Cert.Kernel5Ideal Cert.Kernel5Ideal.Gen
open Idealize.ShloMosaic Idealize.ShloMosaic.TcCoe Idealize.ShloMosaic.Tactic

/-! ## One row -/

/-- A feature of a row's product into the heads. -/
def feat (x g : Fin 1024 → EReal) (W : Fin 1024 → Fin 1536 → EReal) (e : Fin 1536) : EReal := ∑ k, Ffn.norm x g k * W k e

/-- A head's features after its norm. -/
def headNorm (u g : Fin 64 → EReal) (d : Fin 64) : EReal :=
  u d * Ideal.rsqrt (Ideal.div (∑ e, u e * u e) (Ideal.ofBits .f32 0x42800000#32) + Ideal.ofBits .f32 0x358637BD#32) * g d

/-- The rotation of a head's two halves. -/
def rope (y : Fin 64 → EReal) (c s : Fin 32 → EReal) (d : Fin 64) : EReal :=
  if h : d.val < 32 then y d * c ⟨d.val, h⟩ - y ⟨d.val + 32, by omega⟩ * s ⟨d.val, h⟩
  else y ⟨d.val - 32, by omega⟩ * s ⟨d.val - 32, by omega⟩ + y d * c ⟨d.val - 32, by omega⟩

/-- Head `j` of the 24 that a row's features are. -/
def head (j : Fin 24) (u : Fin 1536 → EReal) (d : Fin 64) : EReal := u ⟨64 * j.val + d.val, by omega⟩

/-! ## The body in parts -/

def scaled (x : FVec Ideal S256x1024 .f32) (g : FVec Ideal S1x1024 .f32) : FVec Ideal S256x1024 .f32 :=
  mulf (mulf x (broadcastTo S256x1024 (rsqrt (addf (divf (shapeCast S256x1 (multiReduction .add [1] S256 (mulf x x) 0x00000000#32 reduces_S256x1024_S256 (.inl rfl) rfl) shapeCasts_S256_S256x1) (broadcast S256x1 (Scalar.ofBits .f32 0x44800000#32))) (broadcast S256x1 (Scalar.ofBits .f32 0x358637BD#32)))) broadcasts_S256x1_S256x1024))
    (broadcastTo S256x1024 (shapeCast S1x1024 g shapeCasts_S1x1024_S1x1024) broadcasts_S1x1024_S256x1024)
def product (y : FVec Ideal S256x1024 .f32) (w : FVec Ideal S1536x1024 .bf16) : FVec Ideal S1536x256 .f32 :=
  matmul dot_S1536x1024_S256x1024_S1536x256_1_1_0_0_n_n none (shapeCast S1536x1024 w shapeCasts_S1536x1024_S1536x1024) (truncf .bf16 y bitsLt_bf16_f32) (constant S1536x256 .f32 0x00000000#32)

theorem slices_head (j : Fin 24) : S1536x256.Slices ![64 * j.val, 0] S64x256 := by
  revert j; decide +kernel
def sliced (j : Fin 24) (u : FVec Ideal S1536x256 .f32) : FVec Ideal S64x256 .f32 := extractStridedSlice S64x256 ![64 * j.val, 0] u (slices_head j)
def normed (u : FVec Ideal S64x256 .f32) (g : FVec Ideal S64x1 .f32) : FVec Ideal S64x256 .f32 :=
  mulf (mulf u (broadcastTo S64x256 (rsqrt (addf (divf (shapeCast S1x256 (multiReduction .add [0] S256 (mulf u u) 0x00000000#32 reduces_S64x256_S256 (.inl rfl) rfl) shapeCasts_S256_S1x256) (broadcast S1x256 (Scalar.ofBits .f32 0x42800000#32))) (broadcast S1x256 (Scalar.ofBits .f32 0x358637BD#32)))) broadcasts_S1x256_S64x256))
    (broadcastTo S64x256 g broadcasts_S64x1_S64x256)
def upper (u : FVec Ideal S64x256 .f32) : FVec Ideal S32x256 .f32 := extractStridedSlice S32x256 ![0, 0] u slices_S64x256_o0_0_S32x256
def lower (u : FVec Ideal S64x256 .f32) : FVec Ideal S32x256 .f32 := extractStridedSlice S32x256 ![32, 0] u slices_S64x256_o32_0_S32x256
def stacked (a b : FVec Ideal S32x256 .f32) : FVec Ideal S64x256 .f32 := concatenate S64x256 0 [⟨S32x256, a⟩, ⟨S32x256, b⟩] concatenates_S32x256_S32x256_S64x256_d0
def turned (u : FVec Ideal S64x256 .f32) (c s : FVec Ideal S32x256 .f32) : FVec Ideal S64x256 .f32 :=
  stacked (subf (mulf (upper u) c) (mulf (lower u) s)) (addf (mulf (upper u) s) (mulf (lower u) c))
def headed (j : Fin 24) (u : FVec Ideal S1536x256 .f32) (g : FVec Ideal S64x1 .f32) (c s : FVec Ideal S32x256 .f32) : FVec Ideal S64x256 .f32 :=
  turned (normed (sliced j u) g) c s
/-- What is stored of a query's head. -/
def queried (j : Fin 16) (u : FVec Ideal S1536x256 .f32) (g : FVec Ideal S64x1 .f32) (c s : FVec Ideal S32x256 .f32) : FVec Ideal S64x256 .bf16 :=
  truncf .bf16 (mulf (headed ⟨j.val, by omega⟩ u g c s) (broadcast S64x256 (Scalar.ofBits .f32 0x3E38AA3B#32))) bitsLt_bf16_f32

/-- What is stored of a sub tile's keys. -/
def keyed (u : FVec Ideal S1536x256 .f32) (g : FVec Ideal S64x1 .f32) (c s : FVec Ideal S32x256 .f32) : FVec Ideal S1x256x256 .bf16 :=
  shapeCast S1x256x256 (truncf .bf16 (transpose S256x256 [1, 0] (concatenate S256x256 0 [⟨S64x256, headed 16 u g c s⟩, ⟨S64x256, headed 17 u g c s⟩, ⟨S64x256, headed 18 u g c s⟩, ⟨S64x256, headed 19 u g c s⟩] concatenates_S64x256_S64x256_S64x256_S64x256_S256x256_d0) transposes_S256x256_p1_0_S256x256) bitsLt_bf16_f32) shapeCasts_S256x256_S1x256x256
/-- The rows below a value's head: a row of ones, then zeros. -/
def ones : FVec Ideal S16x256 .bf16 :=
  truncf .bf16 (sitofp .f32 (extui 32 (cmpi .eq (iota .tc S16x256 32 [0] iota_S16x256_d0_w32) (broadcast S16x256 0#32)) natLt_1_32)) bitsLt_bf16_f32
/-- What is stored of a value's head. -/
def valued (j : Fin 4) (u : FVec Ideal S1536x256 .f32) : FVec Ideal S1x1x80x256 .bf16 :=
  shapeCast S1x1x80x256 (concatenate S80x256 0 [⟨S64x256, truncf .bf16 (sliced ⟨20 + j.val, by omega⟩ u) bitsLt_bf16_f32⟩, ⟨S16x256, ones⟩] concatenates_S64x256_S16x256_S80x256_d0) shapeCasts_S80x256_S1x1x80x256

variable (x0 : Vec Ideal S1280x1024 .f32) (x1 : Vec Ideal S1x1024 .f32) (x2 : Vec Ideal S1536x1024 .bf16) (x3 x4 : Vec Ideal S64x1 .f32)
  (x5 x6 : Vec Ideal S32x1280 .f32)

theorem inb_rows (s : Fin 5) : ∀ a, (![256 * s.val, 0] : Fin 2 → ℕ) a + S256x1024.size a ≤ S1280x1024.size a := by
  revert s; decide +kernel
theorem inb_cols (s : Fin 5) : ∀ a, (![0, 256 * s.val] : Fin 2 → ℕ) a + S32x256.size a ≤ S32x1280.size a := by
  revert s; decide +kernel
theorem inb_query (s : Fin 5) (j : Fin 16) : ∀ a, (![64 * j.val, 256 * s.val] : Fin 2 → ℕ) a + S64x256.size a ≤ S1024x1280.size a := by
  revert s j; decide +kernel

theorem inb_key (s : Fin 5) : ∀ a, (![s.val, 0, 0] : Fin 3 → ℕ) a + S1x256x256.size a ≤ S5x256x256.size a := by
  revert s; decide +kernel
theorem inb_value (s : Fin 5) (j : Fin 4) : ∀ a, (![j.val, s.val, 0, 0] : Fin 4 → ℕ) a + S1x1x80x256.size a ≤ S4x5x80x256.size a := by
  revert s j; decide +kernel

/-- The rows of sub tile `s`, and its columns. -/
abbrev rows (s : Fin 5) : Rect S1280x1024 := Rect.unit (s := S1280x1024) ![256 * s.val, 0] S256x1024.size (inb_rows s)
abbrev cols (s : Fin 5) : Rect S32x1280 := Rect.unit (s := S32x1280) ![0, 256 * s.val] S32x256.size (inb_cols s)
abbrev queryRect (s : Fin 5) (j : Fin 16) : Rect S1024x1280 := Rect.unit (s := S1024x1280) ![64 * j.val, 256 * s.val] S64x256.size (inb_query s j)
abbrev keyRect (s : Fin 5) : Rect S5x256x256 := Rect.unit (s := S5x256x256) ![s.val, 0, 0] S1x256x256.size (inb_key s)
abbrev valueRect (s : Fin 5) (j : Fin 4) : Rect S4x5x80x256 := Rect.unit (s := S4x5x80x256) ![j.val, s.val, 0, 0] S1x1x80x256.size (inb_value s j)

/-- Sub tile `s`'s features. -/
def proj (s : Fin 5) : FVec Ideal S1536x256 .f32 := product (scaled (View.ld x0 (rows s)) (View.ld x1 r0_2)) (View.ld x2 r0_3)
def column (x : Vec Ideal S64x1 .f32) : FVec Ideal S64x1 .f32 := shapeCast S64x1 (View.ld x r0_0) shapeCasts_S64x1_S64x1

theorem pay242_eq : k0_pay242 (F := Ideal) x0 x1 x2 x3 x4 x5 x6 = proj x0 x1 x2 0 := rfl
theorem pay243_eq : k0_pay243 (F := Ideal) x0 x1 x2 x3 x4 x5 x6 = proj x0 x1 x2 1 := rfl
theorem pay244_eq : k0_pay244 (F := Ideal) x0 x1 x2 x3 x4 x5 x6 = proj x0 x1 x2 2 := rfl
theorem pay245_eq : k0_pay245 (F := Ideal) x0 x1 x2 x3 x4 x5 x6 = proj x0 x1 x2 3 := rfl
theorem pay246_eq : k0_pay246 (F := Ideal) x0 x1 x2 x3 x4 x5 x6 = proj x0 x1 x2 4 := rfl
theorem pay239_eq : k0_pay239 (F := Ideal) x0 x1 x2 x3 x4 x5 x6 = column x3 := rfl
theorem pay240_eq : k0_pay240 (F := Ideal) x0 x1 x2 x3 x4 x5 x6 = column x4 := rfl

theorem pay241_eq : k0_pay241 (F := Ideal) x0 x1 x2 x3 x4 x5 x6 = ones := rfl

/-- The heads of the queries that a grid point stores. -/
def queryPieces (u : Fin 5 → FVec Ideal S1536x256 .f32) (g : FVec Ideal S64x1 .f32) : List (View.Piece (Elt Ideal) S1024x1280 .bf16) :=
  ([4, 3, 2, 1, 0] : List (Fin 5)).flatMap fun s => ([15, 14, 13, 12, 11, 10, 9, 8, 7, 6, 5, 4, 3, 2, 1, 0] : List (Fin 16)).map fun j =>
    ⟨queryRect s j, queried j (u s) g (View.ld x5 (cols s)) (View.ld x6 (cols s))⟩

theorem query_out : out0_7 (F := Ideal) x0 x1 x2 x3 x4 x5 x6 = View.canon (queryPieces x5 x6 (proj x0 x1 x2) (column x3)) := by
  unfold out0_7
  simp only [pay242_eq, pay243_eq, pay244_eq, pay245_eq, pay246_eq, pay239_eq]
  generalize proj x0 x1 x2 = u
  rfl

/-- The sub tiles of the keys that a grid point stores. -/
def keyPieces (u : Fin 5 → FVec Ideal S1536x256 .f32) (g : FVec Ideal S64x1 .f32) : List (View.Piece (Elt Ideal) S5x256x256 .bf16) :=
  ([4, 3, 2, 1, 0] : List (Fin 5)).map fun s => ⟨keyRect s, keyed (u s) g (View.ld x5 (cols s)) (View.ld x6 (cols s))⟩

/-- The heads of the values that a grid point stores. -/
def valuePieces (u : Fin 5 → FVec Ideal S1536x256 .f32) : List (View.Piece (Elt Ideal) S4x5x80x256 .bf16) :=
  ([4, 3, 2, 1, 0] : List (Fin 5)).flatMap fun s => ([3, 2, 1, 0] : List (Fin 4)).map fun j => ⟨valueRect s j, valued j (u s)⟩

theorem key_out : out0_8 (F := Ideal) x0 x1 x2 x3 x4 x5 x6 = View.canon (keyPieces x5 x6 (proj x0 x1 x2) (column x4)) := by
  unfold out0_8
  simp only [pay242_eq, pay243_eq, pay244_eq, pay245_eq, pay246_eq, pay240_eq]
  generalize proj x0 x1 x2 = u
  rfl

theorem value_out : out0_9 (F := Ideal) x0 x1 x2 x3 x4 x5 x6 = View.canon (valuePieces (proj x0 x1 x2)) := by
  unfold out0_9
  simp only [pay242_eq, pay243_eq, pay244_eq, pay245_eq, pay246_eq, pay241_eq]
  generalize proj x0 x1 x2 = u
  rfl

theorem query_cover (u : Fin 5 → FVec Ideal S1536x256 .f32) (g : FVec Ideal S64x1 .f32) (y : S1024x1280.Idx) :
    ∃ p ∈ queryPieces x5 x6 u g, y ∈ p.1.set := by
  apply cover0_7
theorem key_cover (u : Fin 5 → FVec Ideal S1536x256 .f32) (g : FVec Ideal S64x1 .f32) (y : S5x256x256.Idx) :
    ∃ p ∈ keyPieces x5 x6 u g, y ∈ p.1.set := by
  apply cover0_8
theorem value_cover (u : Fin 5 → FVec Ideal S1536x256 .f32) (y : S4x5x80x256.Idx) : ∃ p ∈ valuePieces u, y ∈ p.1.set := by
  apply cover0_9

end Cert.Proof.Qkv

end
-- ==== Proof.QkvBlocks.lean ====
/-
  What a grid point of the attention's input kernel stores, from the rows of its blocks.
-/
module

public import proofs.«01_k».proof.Proof.Qkv

@[expose] public section

set_option maxRecDepth 16384

noncomputable section

namespace Cert.Proof.Qkv

open Cert.Kernel5Ideal Cert.Kernel5Ideal.Gen
open Idealize.ShloMosaic Idealize.ShloMosaic.TcCoe Idealize.ShloMosaic.Tactic

theorem scaled_val (x : FVec Ideal S256x1024 .f32) (g : FVec Ideal S1x1024 .f32) (i : Fin 256) (d : Fin 1024) :
    scaled x g (ix2 i d) = Ffn.norm (fun j => x (ix2 i j)) (fun j => g (ix2 0 j)) d := by
  unfold Ffn.norm
  pointwise [scaled]

theorem product_val (y : FVec Ideal S256x1024 .f32) (w : FVec Ideal S1536x1024 .bf16) (e : Fin 1536) (i : Fin 256) :
    product y w (ix2 e i) = ∑ k : Fin 1024, y (ix2 i k) * w (ix2 e k) := by
  simp only [mul_comm (y _)]
  pointwise [product]

theorem sliced_val (j : Fin 24) (u : FVec Ideal S1536x256 .f32) (d : Fin 64) (i : Fin 256) :
    sliced j u (ix2 d i) = head j (fun e => u (ix2 e i)) d := by
  unfold head
  pointwise [sliced]

theorem normed_val (u : FVec Ideal S64x256 .f32) (g : FVec Ideal S64x1 .f32) (d : Fin 64) (i : Fin 256) :
    normed u g (ix2 d i) = headNorm (fun e => u (ix2 e i)) (fun e => g (ix2 e 0)) d := by
  unfold headNorm
  pointwise [normed]

theorem upper_val (u : FVec Ideal S64x256 .f32) (d : Fin 32) (i : Fin 256) : upper u (ix2 d i) = u (ix2 ⟨d.val, by omega⟩ i) := by
  pointwise [upper]
theorem lower_val (u : FVec Ideal S64x256 .f32) (d : Fin 32) (i : Fin 256) : lower u (ix2 d i) = u (ix2 ⟨32 + d.val, by omega⟩ i) := by
  pointwise [lower]
theorem stacked_val (a b : FVec Ideal S32x256 .f32) (d : Fin 64) (i : Fin 256) :
    stacked a b (ix2 d i) = if h : d.val < 32 then a (ix2 ⟨d.val, h⟩ i) else b (ix2 ⟨d.val - 32, by omega⟩ i) := by
  pointwise [stacked]
theorem ones_val (r : Fin 16) (i : Fin 256) : ones (ix2 r i) = if r.val = 0 then 1 else 0 := by
  pointwise [ones]
  have h : ∀ r : Fin 16, BitVec.setWidth 32 (IntOp.cmpi CmpIPredicate.eq (BitVec.ofNat 32 r.val) 0#32) = if r.val = 0 then 1#32 else 0#32 := by decide +kernel
  rw [h]
  split
  · show (((1#32).toInt : ℝ) : EReal) = 1
    norm_num
  · show (((0#32).toInt : ℝ) : EReal) = 0
    norm_num

theorem turned_val (u : FVec Ideal S64x256 .f32) (c s : FVec Ideal S32x256 .f32) (d : Fin 64) (i : Fin 256) :
    turned u c s (ix2 d i) = rope (fun e => u (ix2 e i)) (fun e => c (ix2 e i)) (fun e => s (ix2 e i)) d := by
  have mul_at : ∀ (a b : FVec Ideal S32x256 .f32) z, mulf a b z = a z * b z := fun _ _ _ => rfl
  have add_at : ∀ (a b : FVec Ideal S32x256 .f32) z, addf a b z = a z + b z := fun _ _ _ => rfl
  have sub_at : ∀ (a b : FVec Ideal S32x256 .f32) z, subf a b z = a z - b z := fun _ _ _ => rfl
  unfold turned rope
  rw [stacked_val]
  split <;> rename_i h
  · rw [sub_at, mul_at, mul_at, upper_val, lower_val]
    simp only [Nat.add_comm 32]
  · rw [add_at, mul_at, mul_at, upper_val, lower_val]
    have e : (⟨32 + (d.val - 32), by omega⟩ : Fin 64) = d := Fin.ext (by show 32 + (d.val - 32) = d.val; omega)
    rw [e]

theorem headed_val (j : Fin 24) (u : FVec Ideal S1536x256 .f32) (g : FVec Ideal S64x1 .f32) (c s : FVec Ideal S32x256 .f32) (d : Fin 64) (i : Fin 256) :
    headed j u g c s (ix2 d i)
      = rope (headNorm (head j fun e => u (ix2 e i)) fun e => g (ix2 e 0)) (fun e => c (ix2 e i)) (fun e => s (ix2 e i)) d := by
  unfold headed
  rw [turned_val]
  congr 1
  funext e
  rw [normed_val]
  congr 1
  funext f
  exact sliced_val ..

/-! ## What a row gives -/

/-- A row's queries, by feature. -/
def queryAt (U : Fin 1536 → EReal) (g : Fin 64 → EReal) (c s : Fin 32 → EReal) (e : Fin 1024) : EReal :=
  rope (headNorm (head ⟨e.val / 64, by omega⟩ U) g) c s ⟨e.val % 64, by omega⟩ * Ideal.ofBits .f32 0x3E38AA3B#32
/-- A row's keys, by feature. -/
def keyAt (U : Fin 1536 → EReal) (g : Fin 64 → EReal) (c s : Fin 32 → EReal) (e : Fin 256) : EReal :=
  rope (headNorm (head ⟨16 + e.val / 64, by omega⟩ U) g) c s ⟨e.val % 64, by omega⟩
/-- A row's values, by head and feature, with the one and the zeros below. -/
def valueAt (U : Fin 1536 → EReal) (j : Fin 4) (d : Fin 80) : EReal :=
  if h : d.val < 64 then head ⟨20 + j.val, by omega⟩ U ⟨d.val, h⟩ else if d.val = 64 then 1 else 0

theorem queried_val (j : Fin 16) (u : FVec Ideal S1536x256 .f32) (g : FVec Ideal S64x1 .f32) (c s : FVec Ideal S32x256 .f32) (d : Fin 64) (i : Fin 256) :
    queried j u g c s (ix2 d i)
      = queryAt (fun e => u (ix2 e i)) (fun e => g (ix2 e 0)) (fun e => c (ix2 e i)) (fun e => s (ix2 e i)) ⟨64 * j.val + d.val, by omega⟩ := by
  have e0 : (64 * j.val + d.val) / 64 = j.val := by omega
  have e1 : (64 * j.val + d.val) % 64 = d.val := by omega
  unfold queryAt
  simp only [e0, e1]
  rw [← headed_val]
  rfl

/-- Four blocks of 64 rows, one below the other. -/
def four (a b c d : FVec Ideal S64x256 .f32) : FVec Ideal S256x256 .f32 :=
  concatenate S256x256 0 [⟨S64x256, a⟩, ⟨S64x256, b⟩, ⟨S64x256, c⟩, ⟨S64x256, d⟩] concatenates_S64x256_S64x256_S64x256_S64x256_S256x256_d0
def across (a : FVec Ideal S256x256 .f32) : FVec Ideal S1x256x256 .bf16 :=
  shapeCast S1x256x256 (truncf .bf16 (transpose S256x256 [1, 0] a transposes_S256x256_p1_0_S256x256) bitsLt_bf16_f32) shapeCasts_S256x256_S1x256x256
theorem four_val (F : Fin 4 → FVec Ideal S64x256 .f32) (e i : Fin 256) :
    four (F 0) (F 1) (F 2) (F 3) (ix2 e i) = F ⟨e.val / 64, by omega⟩ (ix2 ⟨e.val % 64, by omega⟩ i) := by
  have h : ∀ (j : Fin 4) (d : Fin 64) (hd : 64 * j.val + d.val < 256), four (F 0) (F 1) (F 2) (F 3) (ix2 ⟨64 * j.val + d.val, hd⟩ i) = F j (ix2 d i) := by
    intro j d hd
    fin_cases j
    · pointwise [four]
    · pointwise [four]
    · pointwise [four]
      rw [dif_neg (by omega), dif_neg (by omega), dif_pos (by omega)]
      exact congrArg (fun z => F 2 (ix2 z i)) (Fin.ext (by show 128 + d.val - 64 - 64 = d.val; omega))
    · pointwise [four]
      rw [dif_neg (by omega), dif_neg (by omega), dif_neg (by omega)]
      exact congrArg (fun z => F 3 (ix2 z i)) (Fin.ext (by show 192 + d.val - 64 - 64 - 64 = d.val; omega))
  have he : e = ⟨64 * (e.val / 64) + e.val % 64, by omega⟩ := Fin.ext (by show e.val = 64 * (e.val / 64) + e.val % 64; omega)
  have := h ⟨e.val / 64, by omega⟩ ⟨e.val % 64, by omega⟩ (by show 64 * (e.val / 64) + e.val % 64 < 256; omega)
  exact (congrArg (fun z => four (F 0) (F 1) (F 2) (F 3) (ix2 z i)) he).trans this
theorem across_val (a : FVec Ideal S256x256 .f32) (i e : Fin 256) : across a (ix3 0 i e) = a (ix2 e i) := by
  pointwise [across]

theorem keyed_val (u : FVec Ideal S1536x256 .f32) (g : FVec Ideal S64x1 .f32) (c s : FVec Ideal S32x256 .f32) (i e : Fin 256) :
    keyed u g c s (ix3 0 i e)
      = keyAt (fun f => u (ix2 f i)) (fun f => g (ix2 f 0)) (fun f => c (ix2 f i)) (fun f => s (ix2 f i)) e := by
  show across (four (headed 16 u g c s) (headed 17 u g c s) (headed 18 u g c s) (headed 19 u g c s)) (ix3 0 i e) = _
  rw [across_val]
  refine (four_val (fun j => headed ⟨16 + j.val, by omega⟩ u g c s) e i).trans ?_
  exact headed_val ..

def below (a : FVec Ideal S64x256 .bf16) (b : FVec Ideal S16x256 .bf16) : FVec Ideal S1x1x80x256 .bf16 :=
  shapeCast S1x1x80x256 (concatenate S80x256 0 [⟨S64x256, a⟩, ⟨S16x256, b⟩] concatenates_S64x256_S16x256_S80x256_d0) shapeCasts_S80x256_S1x1x80x256
theorem below_val (a : FVec Ideal S64x256 .bf16) (b : FVec Ideal S16x256 .bf16) (d : Fin 80) (i : Fin 256) :
    below a b (ix4 0 0 d i) = if h : d.val < 64 then a (ix2 ⟨d.val, h⟩ i) else b (ix2 ⟨d.val - 64, by omega⟩ i) := by
  pointwise [below]

theorem valued_val (j : Fin 4) (u : FVec Ideal S1536x256 .f32) (d : Fin 80) (i : Fin 256) :
    valued j u (ix4 0 0 d i) = valueAt (fun f => u (ix2 f i)) j d := by
  show below (truncf .bf16 (sliced ⟨20 + j.val, by omega⟩ u) bitsLt_bf16_f32) ones (ix4 0 0 d i) = _
  rw [below_val]
  unfold valueAt
  split <;> rename_i h
  · exact sliced_val ..
  · rw [ones_val]
    have e : d.val - 64 = 0 ↔ d.val = 64 := by omega
    simp only [e]

/-! ## What a grid point stores -/

variable (x0 : Vec Ideal S1280x1024 .f32) (x1 : Vec Ideal S1x1024 .f32) (x2 : Vec Ideal S1536x1024 .bf16) (x3 x4 : Vec Ideal S64x1 .f32)
  (x5 x6 : Vec Ideal S32x1280 .f32)

/-- The features of the block's row `i`. -/
def featBlock (i : Fin 1280) (e : Fin 1536) : EReal := feat (fun j => x0 (ix2 i j)) (fun j => x1 (ix2 0 j)) (fun k f => x2 (ix2 f k)) e

theorem origin : (![0, 0] : Fin 2 → ℕ) = fun _ => 0 := by funext a; fin_cases a <;> rfl

theorem rows_ld (s : Fin 5) (i : Fin 256) (k : Fin 1024) : View.ld x0 (rows s) (ix2 i k) = x0 (ix2 ⟨256 * s.val + i.val, by omega⟩ k) := by
  refine congrArg x0 ?_
  funext a
  refine Fin.ext ?_
  fin_cases a
  · show 256 * s.val + 1 * i.val = 256 * s.val + i.val; omega
  · show 0 + 1 * k.val = k.val; omega

theorem cols_ld (s : Fin 5) (d : Fin 32) (i : Fin 256) : View.ld x5 (cols s) (ix2 d i) = x5 (ix2 d ⟨256 * s.val + i.val, by omega⟩) := by
  refine congrArg x5 ?_
  funext a
  refine Fin.ext ?_
  fin_cases a
  · show 0 + 1 * d.val = d.val; omega
  · show 256 * s.val + 1 * i.val = 256 * s.val + i.val; omega

theorem proj_val (s : Fin 5) (e : Fin 1536) (i : Fin 256) :
    proj x0 x1 x2 s (ix2 e i) = featBlock x0 x1 x2 ⟨256 * s.val + i.val, by omega⟩ e := by
  unfold proj featBlock feat
  rw [View.ld_unit_zero origin, View.ld_unit_zero origin, product_val]
  refine Finset.sum_congr rfl fun k _ => ?_
  rw [scaled_val]
  exact congrArg (fun f => Ffn.norm f _ k * _) (funext fun j => rows_ld x0 s i j)

theorem column_val (x : Vec Ideal S64x1 .f32) (d : Fin 64) : column x (ix2 d 0) = x (ix2 d 0) := by
  unfold column
  rw [View.ld_unit_zero origin]
  pointwise []

/-- A block's queries, keys and values. -/
def queryRow (i : Fin 1280) (e : Fin 1024) : EReal :=
  queryAt (featBlock x0 x1 x2 i) (fun d => x3 (ix2 d 0)) (fun d => x5 (ix2 d i)) (fun d => x6 (ix2 d i)) e
def queryBlock (y : S1024x1280.Idx) : EReal := queryRow x0 x1 x2 x3 x5 x6 (y 1) (y 0)
def keyRow (i : Fin 1280) (e : Fin 256) : EReal :=
  keyAt (featBlock x0 x1 x2 i) (fun d => x4 (ix2 d 0)) (fun d => x5 (ix2 d i)) (fun d => x6 (ix2 d i)) e
/-- Row `i` of sub tile `s`. -/
def rowOf (s : Fin 5) (i : Fin 256) : Fin 1280 := ⟨256 * s.val + i.val, by omega⟩
def keyBlock (y : S5x256x256.Idx) : EReal := keyRow x0 x1 x2 x4 x5 x6 (rowOf (y 0) (y 1)) (y 2)
def valueBlock (y : S4x5x80x256.Idx) : EReal := valueAt (featBlock x0 x1 x2 (rowOf (y 1) (y 3))) (y 0) (y 2)

theorem query_piece (s : Fin 5) (j : Fin 16) (z : S64x256.Idx) :
    queried j (proj x0 x1 x2 s) (column x3) (View.ld x5 (cols s)) (View.ld x6 (cols s)) z = queryBlock x0 x1 x2 x3 x5 x6 ((queryRect s j).emb z) := by
  obtain ⟨d, i, rfl⟩ : ∃ (d : Fin 64) (i : Fin 256), z = ix2 d i := ⟨z 0, z 1, by funext a; fin_cases a <;> rfl⟩
  have hr : (queryRect s j).emb (ix2 d i : S64x256.Idx) = (ix2 (⟨64 * j.val + d.val, by omega⟩ : Fin 1024) (rowOf s i) : S1024x1280.Idx) := by
    funext a
    refine Fin.ext ?_
    fin_cases a
    · show 64 * j.val + 1 * d.val = 64 * j.val + d.val; omega
    · show 256 * s.val + 1 * i.val = 256 * s.val + i.val; omega
  refine (queried_val ..).trans (Eq.trans ?_ (congrArg (queryBlock x0 x1 x2 x3 x5 x6) hr.symm))
  simp only [proj_val, column_val]
  exact congrArg₂ (fun p q => queryAt (featBlock x0 x1 x2 (rowOf s i)) (fun e => x3 (ix2 e 0)) p q ⟨64 * j.val + d.val, by omega⟩)
    (funext fun e => cols_ld x5 s e i) (funext fun e => cols_ld x6 s e i)

theorem key_piece (s : Fin 5) (z : S1x256x256.Idx) :
    keyed (proj x0 x1 x2 s) (column x4) (View.ld x5 (cols s)) (View.ld x6 (cols s)) z = keyBlock x0 x1 x2 x4 x5 x6 ((keyRect s).emb z) := by
  obtain ⟨i, e, rfl⟩ : ∃ (i e : Fin 256), z = ix3 (0 : Fin 1) i e :=
    ⟨z 1, z 2, by funext a; fin_cases a; exacts [Subsingleton.elim (α := Fin 1) _ _, rfl, rfl]⟩
  have hr : (keyRect s).emb (ix3 (0 : Fin 1) i e : S1x256x256.Idx) = (ix3 s i e : S5x256x256.Idx) := by
    funext a
    refine Fin.ext ?_
    fin_cases a
    · show s.val + 1 * 0 = s.val; omega
    · show 0 + 1 * i.val = i.val; omega
    · show 0 + 1 * e.val = e.val; omega
  refine (keyed_val ..).trans (Eq.trans ?_ (congrArg (keyBlock x0 x1 x2 x4 x5 x6) hr.symm))
  simp only [proj_val, column_val]
  exact congrArg₂ (fun p q => keyAt (featBlock x0 x1 x2 (rowOf s i)) (fun d => x4 (ix2 d 0)) p q e)
    (funext fun d => cols_ld x5 s d i) (funext fun d => cols_ld x6 s d i)

theorem value_piece (s : Fin 5) (j : Fin 4) (z : S1x1x80x256.Idx) :
    valued j (proj x0 x1 x2 s) z = valueBlock x0 x1 x2 ((valueRect s j).emb z) := by
  obtain ⟨d, i, rfl⟩ : ∃ (d : Fin 80) (i : Fin 256), z = ix4 (0 : Fin 1) (0 : Fin 1) d i :=
    ⟨z 2, z 3, by funext a; fin_cases a; exacts [Subsingleton.elim (α := Fin 1) _ _, Subsingleton.elim (α := Fin 1) _ _, rfl, rfl]⟩
  have hr : (valueRect s j).emb (ix4 (0 : Fin 1) (0 : Fin 1) d i : S1x1x80x256.Idx) = (ix4 j s d i : S4x5x80x256.Idx) := by
    funext a
    refine Fin.ext ?_
    fin_cases a
    · show j.val + 1 * 0 = j.val; omega
    · show s.val + 1 * 0 = s.val; omega
    · show 0 + 1 * d.val = d.val; omega
    · show 0 + 1 * i.val = i.val; omega
  refine (valued_val ..).trans (Eq.trans ?_ (congrArg (valueBlock x0 x1 x2) hr.symm))
  simp only [proj_val]
  rfl

theorem query_block : out0_7 (F := Ideal) x0 x1 x2 x3 x4 x5 x6 = queryBlock x0 x1 x2 x3 x5 x6 := by
  rw [query_out]
  funext y
  refine View.canon_apply_of_pieces _ _ (fun p hp => ?_) y (query_cover ..)
  simp only [queryPieces, List.mem_flatMap, List.mem_map] at hp
  obtain ⟨s, -, j, -, rfl⟩ := hp
  exact query_piece x0 x1 x2 x3 x5 x6 s j

theorem key_block : out0_8 (F := Ideal) x0 x1 x2 x3 x4 x5 x6 = keyBlock x0 x1 x2 x4 x5 x6 := by
  rw [key_out]
  funext y
  refine View.canon_apply_of_pieces _ _ (fun p hp => ?_) y (key_cover ..)
  simp only [keyPieces, List.mem_map] at hp
  obtain ⟨s, -, rfl⟩ := hp
  exact key_piece x0 x1 x2 x4 x5 x6 s

theorem value_block : out0_9 (F := Ideal) x0 x1 x2 x3 x4 x5 x6 = valueBlock x0 x1 x2 := by
  rw [value_out]
  funext y
  refine View.canon_apply_of_pieces _ _ (fun p hp => ?_) y (value_cover ..)
  simp only [valuePieces, List.mem_flatMap, List.mem_map] at hp
  obtain ⟨s, -, j, -, rfl⟩ := hp
  exact value_piece x0 x1 x2 s j

end Cert.Proof.Qkv

end
-- ==== Proof.QkvRun.lean ====
/-
  The three results of the attention's input kernel from its arguments: the queries, the keys, the values.
-/
module

public import proofs.«01_k».proof.Proof.QkvBlocks

@[expose] public section

set_option maxRecDepth 16384

noncomputable section

namespace Cert.Proof.Qkv

open Cert.Kernel5Ideal Cert.Kernel5Ideal.Gen
open Idealize.ShloMosaic Idealize.ShloMosaic.TcCoe Idealize.ShloMosaic.Tactic

variable (m : (ℓ : Loc nD τ sig) → Buf (Elt Ideal) ℓ) (c : Dev nD)

/-- A row of the activations, the norm's gain, the weights, the two heads' gains, the two tables at a row. -/
def act (r : Fin 33280) (j : Fin 1024) : EReal := (m ((c : Thread nD τ).loc main_arg0) : S33280x1024.Idx → EReal) (ix2 r j)
def gain (j : Fin 1024) : EReal := (m ((c : Thread nD τ).loc main_arg1) : S1024.Idx → EReal) (ix1 j)
def weight (k : Fin 1024) (e : Fin 1536) : EReal := (m ((c : Thread nD τ).loc main_arg2) : S1024x1536.Idx → EReal) (ix2 k e)
def queryGain (d : Fin 64) : EReal := (m ((c : Thread nD τ).loc main_arg3) : S64.Idx → EReal) (ix1 d)
def keyGain (d : Fin 64) : EReal := (m ((c : Thread nD τ).loc main_arg4) : S64.Idx → EReal) (ix1 d)
def cosine (r : Fin 33280) (d : Fin 32) : EReal := (m ((c : Thread nD τ).loc main_arg5) : S32x33280.Idx → EReal) (ix2 d r)
def sine (r : Fin 33280) (d : Fin 32) : EReal := (m ((c : Thread nD τ).loc main_arg6) : S32x33280.Idx → EReal) (ix2 d r)

/-- A row's features. -/
def features (r : Fin 33280) (e : Fin 1536) : EReal := feat (act m c r) (gain m c) (weight m c) e

/-- Row `i` of block `b` of 256 rows. -/
def rowIn (b : Fin 130) (i : Fin 256) : Fin 33280 := ⟨256 * b.val + i.val, by omega⟩

/-- The kernel's results from its arguments. -/
def queriesRow (r : Fin 33280) (e : Fin 1024) : EReal := queryAt (features m c r) (queryGain m c) (cosine m c r) (sine m c r) e
def queries (y : S1024x33280.Idx) : EReal := queriesRow m c (y 1) (y 0)
def keysRow (r : Fin 33280) (e : Fin 256) : EReal := keyAt (features m c r) (keyGain m c) (cosine m c r) (sine m c r) e
def keys (y : S130x256x256.Idx) : EReal := keysRow m c (rowIn (y 0) (y 1)) (y 2)
def values (y : S4x130x80x256.Idx) : EReal := valueAt (features m c (rowIn (y 1) (y 3))) (y 0) (y 2)

theorem idx0_0 : ∀ t : Fin grid0.N, win0_0.index t = ![t.val, 0] := by decide +kernel
theorem idx0_1 : ∀ t : Fin grid0.N, win0_1.index t = ![0, 0] := by decide +kernel
theorem idx0_2 : ∀ t : Fin grid0.N, win0_2.index t = ![0, 0] := by decide +kernel
theorem idx0_3 : ∀ t : Fin grid0.N, win0_3.index t = ![0, 0] := by decide +kernel
theorem idx0_4 : ∀ t : Fin grid0.N, win0_4.index t = ![0, 0] := by decide +kernel
theorem idx0_5 : ∀ t : Fin grid0.N, win0_5.index t = ![0, t.val] := by decide +kernel
theorem idx0_6 : ∀ t : Fin grid0.N, win0_6.index t = ![0, t.val] := by decide +kernel
theorem idx0_7 : ∀ t : Fin grid0.N, win0_7.index t = ![0, t.val] := by decide +kernel
theorem idx0_8 : ∀ t : Fin grid0.N, win0_8.index t = ![t.val, 0, 0] := by decide +kernel
theorem idx0_9 : ∀ t : Fin grid0.N, win0_9.index t = ![0, t.val, 0, 0] := by decide +kernel

theorem steps (t : Fin cfg0.N) : t.val < 26 := lt_of_lt_of_eq t.isLt N_0

/-- Row `i` of grid point `t`. -/
def rowAt (t : Fin cfg0.N) (i : Fin 1280) : Fin 33280 := ⟨1280 * t.val + i.val, by have := steps t; omega⟩

theorem blk0 (t : Fin cfg0.N) (i : Fin 1280) (j : Fin 1024) : iblk m c 0 t (ix2 i j) = act m c (rowAt t i) j := by
  unfold act rowAt
  blk_ext! [iblk, V, idx0_0]
theorem blk1 (t : Fin cfg0.N) (j : Fin 1024) : iblk m c 1 t (ix2 0 j) = gain m c j := by
  unfold gain
  blk_ext! [iblk, V, idx0_1]
theorem blk2 (t : Fin cfg0.N) (k : Fin 1024) (e : Fin 1536) : iblk m c 2 t (ix2 e k) = weight m c k e := by
  unfold weight
  blk_ext! [iblk, V, idx0_2]
theorem blk3 (t : Fin cfg0.N) (d : Fin 64) : iblk m c 3 t (ix2 d 0) = queryGain m c d := by
  unfold queryGain
  blk_ext! [iblk, V, idx0_3]
theorem blk4 (t : Fin cfg0.N) (d : Fin 64) : iblk m c 4 t (ix2 d 0) = keyGain m c d := by
  unfold keyGain
  blk_ext! [iblk, V, idx0_4]
theorem blk5 (t : Fin cfg0.N) (d : Fin 32) (i : Fin 1280) : iblk m c 5 t (ix2 d i) = cosine m c (rowAt t i) d := by
  unfold cosine rowAt
  blk_ext! [iblk, V, idx0_5]
theorem blk6 (t : Fin cfg0.N) (d : Fin 32) (i : Fin 1280) : iblk m c 6 t (ix2 d i) = sine m c (rowAt t i) d := by
  unfold sine rowAt
  blk_ext! [iblk, V, idx0_6]

theorem features_block (t : Fin cfg0.N) (i : Fin 1280) :
    featBlock (iblk m c 0 t) (iblk m c 1 t) (iblk m c 2 t) i = features m c (rowAt t i) := by
  funext e
  unfold featBlock features
  simp only [blk0, blk1, blk2]

theorem query_row (t : Fin cfg0.N) (i : Fin 1280) (e : Fin 1024) :
    queryRow (iblk m c 0 t) (iblk m c 1 t) (iblk m c 2 t) (iblk m c 3 t) (iblk m c 5 t) (iblk m c 6 t) i e = queriesRow m c (rowAt t i) e := by
  unfold queryRow queriesRow
  rw [features_block]
  simp only [blk3, blk5, blk6]

theorem arr_queries : (dats m 0 c).arrAt 7 cfg0.N = queries m c := by
  refine (dats m 0 c).arrAt_eq_of_covers 7 _ (by decide +kernel) fun t hf y => ?_
  rw [after0_7, query_block]
  unfold queries
  have p0 : ((((cfg0.win 7).blk t).view.emb y) 0 : Fin 1024) = y 0 := by
    refine Fin.ext ?_
    blk_simp [idx0_7]
  have p1 : ((((cfg0.win 7).blk t).view.emb y) 1 : Fin 33280) = rowAt t (y 1) := by
    refine Fin.ext ?_
    unfold rowAt
    blk_simp [idx0_7]
    exact congrArg (· + _) (Nat.mul_comm _ _)
  rw [p0, p1]
  exact query_row m c t (y 1) (y 0)

theorem arr_keys : (dats m 0 c).arrAt 8 cfg0.N = keys m c := by
  refine (dats m 0 c).arrAt_eq_of_covers 8 _ (by decide +kernel) fun t hf y => ?_
  rw [after0_8, key_block]
  unfold keys keyBlock keysRow keyRow
  rw [features_block]
  simp only [blk4, blk5, blk6]
  have p0 : rowIn (((cfg0.win 8).blk t).view.emb y 0) (((cfg0.win 8).blk t).view.emb y 1) = rowAt t (rowOf (y 0) (y 1)) := by
    refine Fin.ext ?_
    unfold rowAt rowOf rowIn
    blk_simp [idx0_8]
    show 256 * (t.val * 5 + (y 0).val) + (y 1).val = 1280 * t.val + (256 * (y 0).val + (y 1).val)
    omega
  have p2 : ((((cfg0.win 8).blk t).view.emb y) 2 : Fin 256) = y 2 := by
    refine Fin.ext ?_
    blk_simp [idx0_8]
  rw [p0, p2]
  rfl

theorem arr_values : (dats m 0 c).arrAt 9 cfg0.N = values m c := by
  refine (dats m 0 c).arrAt_eq_of_covers 9 _ (by decide +kernel) fun t hf y => ?_
  rw [after0_9, value_block]
  unfold values valueBlock
  rw [features_block]
  have p0 : ((((cfg0.win 9).blk t).view.emb y) 0 : Fin 4) = y 0 := by
    refine Fin.ext ?_
    blk_simp [idx0_9]
  have p1 : rowIn (((cfg0.win 9).blk t).view.emb y 1) (((cfg0.win 9).blk t).view.emb y 3) = rowAt t (rowOf (y 1) (y 3)) := by
    refine Fin.ext ?_
    unfold rowAt rowOf rowIn
    blk_simp [idx0_9]
    show 256 * (t.val * 5 + (y 1).val) + (y 3).val = 1280 * t.val + (256 * (y 1).val + (y 3).val)
    omega
  have p2 : ((((cfg0.win 9).blk t).view.emb y) 2 : Fin 80) = y 2 := by
    refine Fin.ext ?_
    blk_simp [idx0_9]
  rw [p0, p1, p2]
  rfl

end Cert.Proof.Qkv

end
-- ==== Proof.QkvReference.lean ====
/-
  The reference of the attention's input kernel at an index: the norm, the product, the heads' norms and rotations; and
  that its three results are the kernel's.
-/
module

public import proofs.«01_k».proof.Proof.Gen.Reference5Ideal.Run
public import proofs.«01_k».proof.Proof.QkvRun

@[expose] public section

set_option maxRecDepth 16384

noncomputable section

namespace Cert.Proof.QkvRef

open Cert.Reference5Ideal Cert.Reference5Ideal.Gen
open Idealize.ShloMosaic Idealize.ShloMosaic.TcCoe Idealize.ShloMosaic.Tactic

/-! ## The reference in parts -/

/-- `rms_norm` of the rows. -/
def normed (x : FVec Ideal S33280x1024 .f32) (g : FVec Ideal S1024 .f32) : FVec Ideal S33280x1024 .f32 :=
  mulf (mulf x (broadcastInDim S33280x1024 ![0, 1] bcast_S33280x1_S33280x1024_0_1 (Host.rsqrt (addf (Host.divf (broadcastInDim S33280x1 ![0] bcast_S33280_S33280x1_0 (Host.reduceAdd (mulf x x) (constant S_ .f32 0x00000000#32) reducesTo_S33280x1024_S33280_d1 h_S_)) (broadcastInDim S33280x1 ![] bcast_S_S33280x1 (constant S_ .f32 0x44800000#32))) (broadcastInDim S33280x1 ![] bcast_S_S33280x1 (constant S_ .f32 0x358637BD#32))))))
    (broadcastInDim S33280x1024 ![0, 1] bcast_S1x1024_S33280x1024_0_1 (broadcastInDim S1x1024 ![1] bcast_S1024_S1x1024_1 g))
def product (y : FVec Ideal S33280x1024 .f32) (w : FVec Ideal S1024x1536 .f32) : FVec Ideal S33280x1536 .f32 :=
  Host.dotGeneral dot_S33280x1024_S1024x1536_S33280x1536_1_0_0_1_n_n none y w

/-- A table by row. -/
def table (t : FVec Ideal S32x33280 .f32) : FVec Ideal S33280x1x32 .f32 :=
  broadcastInDim S33280x1x32 ![0, 2] bcast_S33280x32_S33280x1x32_0_2 (transpose S33280x32 [1, 0] t transposes_S32x33280_S33280x32_1_0)

/-! The queries' heads. -/

def queriesOf (u : FVec Ideal S33280x1536 .f32) : FVec Ideal S33280x16x64 .f32 :=
  shapeCast _ (extractStridedSlice S33280x1024 ![0, 0] u slices_S33280x1536_S33280x1024_0_0) shapeCasts_S33280x1024_S33280x16x64
def queryNorm (x : FVec Ideal S33280x16x64 .f32) (g : FVec Ideal S64 .f32) : FVec Ideal S33280x16x64 .f32 :=
  mulf (mulf x (broadcastInDim S33280x16x64 ![0, 1, 2] bcast_S33280x16x1_S33280x16x64_0_1_2 (Host.rsqrt (addf (Host.divf (broadcastInDim S33280x16x1 ![0, 1] bcast_S33280x16_S33280x16x1_0_1 (Host.reduceAdd (mulf x x) (constant S_ .f32 0x00000000#32) reducesTo_S33280x16x64_S33280x16_d2 h_S_)) (broadcastInDim S33280x16x1 ![] bcast_S_S33280x16x1 (constant S_ .f32 0x42800000#32))) (broadcastInDim S33280x16x1 ![] bcast_S_S33280x16x1 (constant S_ .f32 0x358637BD#32))))))
    (broadcastInDim S33280x16x64 ![0, 1, 2] bcast_S1x1x64_S33280x16x64_0_1_2 (broadcastInDim S1x1x64 ![2] bcast_S64_S1x1x64_2 g))
def queryLeft (y : FVec Ideal S33280x16x64 .f32) : FVec Ideal S33280x16x32 .f32 := extractStridedSlice S33280x16x32 ![0, 0, 0] y slices_S33280x16x64_S33280x16x32_0_0_0
def queryRight (y : FVec Ideal S33280x16x64 .f32) : FVec Ideal S33280x16x32 .f32 := extractStridedSlice S33280x16x32 ![0, 0, 32] y slices_S33280x16x64_S33280x16x32_0_0_32
def queryTable (t : FVec Ideal S33280x1x32 .f32) : FVec Ideal S33280x16x32 .f32 := broadcastInDim S33280x16x32 ![0, 1, 2] bcast_S33280x1x32_S33280x16x32_0_1_2 t
def queryTurned (a b p q : FVec Ideal S33280x16x32 .f32) : FVec Ideal S33280x16x64 .f32 :=
  concatenate S33280x16x64 2 [⟨S33280x16x32, subf (mulf a p) (mulf b q)⟩, ⟨S33280x16x32, addf (mulf a q) (mulf b p)⟩] concatenates_S33280x16x32_S33280x16x32_S33280x16x64_d2
def queryRope (y : FVec Ideal S33280x16x64 .f32) (p q : FVec Ideal S33280x1x32 .f32) : FVec Ideal S33280x16x64 .f32 :=
  queryTurned (queryLeft y) (queryRight y) (queryTable p) (queryTable q)
def queryStored (y : FVec Ideal S33280x16x64 .f32) : FVec Ideal S1024x33280 .bf16 :=
  truncf .bf16 (transpose S1024x33280 [1, 0] (shapeCast _ (mulf (mulf y (broadcastInDim S33280x16x64 ![] bcast_S_S33280x16x64 (constant S_ .f32 0x3E000000#32))) (broadcastInDim S33280x16x64 ![] bcast_S_S33280x16x64 (constant S_ .f32 0x3FB8AA3B#32))) shapeCasts_S33280x16x64_S33280x1024) transposes_S33280x1024_S1024x33280_1_0) bitsLt_bf16_f32

/-! The keys' heads. -/

def keysOf (u : FVec Ideal S33280x1536 .f32) : FVec Ideal S33280x4x64 .f32 :=
  shapeCast _ (extractStridedSlice S33280x256 ![0, 1024] u slices_S33280x1536_S33280x256_0_1024) shapeCasts_S33280x256_S33280x4x64
def keyNorm (x : FVec Ideal S33280x4x64 .f32) (g : FVec Ideal S64 .f32) : FVec Ideal S33280x4x64 .f32 :=
  mulf (mulf x (broadcastInDim S33280x4x64 ![0, 1, 2] bcast_S33280x4x1_S33280x4x64_0_1_2 (Host.rsqrt (addf (Host.divf (broadcastInDim S33280x4x1 ![0, 1] bcast_S33280x4_S33280x4x1_0_1 (Host.reduceAdd (mulf x x) (constant S_ .f32 0x00000000#32) reducesTo_S33280x4x64_S33280x4_d2 h_S_)) (broadcastInDim S33280x4x1 ![] bcast_S_S33280x4x1 (constant S_ .f32 0x42800000#32))) (broadcastInDim S33280x4x1 ![] bcast_S_S33280x4x1 (constant S_ .f32 0x358637BD#32))))))
    (broadcastInDim S33280x4x64 ![0, 1, 2] bcast_S1x1x64_S33280x4x64_0_1_2 (broadcastInDim S1x1x64 ![2] bcast_S64_S1x1x64_2 g))
def keyLeft (y : FVec Ideal S33280x4x64 .f32) : FVec Ideal S33280x4x32 .f32 := extractStridedSlice S33280x4x32 ![0, 0, 0] y slices_S33280x4x64_S33280x4x32_0_0_0
def keyRight (y : FVec Ideal S33280x4x64 .f32) : FVec Ideal S33280x4x32 .f32 := extractStridedSlice S33280x4x32 ![0, 0, 32] y slices_S33280x4x64_S33280x4x32_0_0_32
def keyTable (t : FVec Ideal S33280x1x32 .f32) : FVec Ideal S33280x4x32 .f32 := broadcastInDim S33280x4x32 ![0, 1, 2] bcast_S33280x1x32_S33280x4x32_0_1_2 t
def keyTurned (a b p q : FVec Ideal S33280x4x32 .f32) : FVec Ideal S33280x4x64 .f32 :=
  concatenate S33280x4x64 2 [⟨S33280x4x32, subf (mulf a p) (mulf b q)⟩, ⟨S33280x4x32, addf (mulf a q) (mulf b p)⟩] concatenates_S33280x4x32_S33280x4x32_S33280x4x64_d2
def keyRope (y : FVec Ideal S33280x4x64 .f32) (p q : FVec Ideal S33280x1x32 .f32) : FVec Ideal S33280x4x64 .f32 :=
  keyTurned (keyLeft y) (keyRight y) (keyTable p) (keyTable q)
def keyStored (y : FVec Ideal S33280x4x64 .f32) : FVec Ideal S130x256x256 .bf16 :=
  truncf .bf16 (shapeCast _ y shapeCasts_S33280x4x64_S130x256x256) bitsLt_bf16_f32

/-! The values. -/

def valuesOf (u : FVec Ideal S33280x1536 .f32) : FVec Ideal S4x130x64x256 .f32 :=
  transpose S4x130x64x256 [2, 0, 3, 1] (shapeCast _ (extractStridedSlice S33280x256 ![0, 1280] u slices_S33280x1536_S33280x256_0_1280) shapeCasts_S33280x256_S130x256x4x64) transposes_S130x256x4x64_S4x130x64x256_2_0_3_1
def valueStored (v : FVec Ideal S4x130x64x256 .f32) : FVec Ideal S4x130x80x256 .bf16 :=
  truncf .bf16 (concatenate S4x130x80x256 2 [⟨S4x130x64x256, v⟩, ⟨S4x130x1x256, broadcastInDim S4x130x1x256 ![] bcast_S_S4x130x1x256 (constant S_ .f32 0x3F800000#32)⟩,
    ⟨S4x130x15x256, broadcastInDim S4x130x15x256 ![] bcast_S_S4x130x15x256 (constant S_ .f32 0x00000000#32)⟩] concatenates_S4x130x64x256_S4x130x1x256_S4x130x15x256_S4x130x80x256_d2) bitsLt_bf16_f32

section whole

variable (m : (ℓ : Loc nD τ sig) → Buf (Elt Ideal) ℓ) (c : Dev nD)

def features : FVec Ideal S33280x1536 .f32 :=
  product (normed (m ((c.tc : Thread nD τ).loc main_arg0)) (m ((c.tc : Thread nD τ).loc main_arg1))) (m ((c.tc : Thread nD τ).loc main_arg2))
def queries : FVec Ideal S1024x33280 .bf16 :=
  queryStored (queryRope (queryNorm (queriesOf (features m c)) (m ((c.tc : Thread nD τ).loc main_arg3))) (table (m ((c.tc : Thread nD τ).loc main_arg5))) (table (m ((c.tc : Thread nD τ).loc main_arg6))))
def keys : FVec Ideal S130x256x256 .bf16 :=
  keyStored (keyRope (keyNorm (keysOf (features m c)) (m ((c.tc : Thread nD τ).loc main_arg4))) (table (m ((c.tc : Thread nD τ).loc main_arg5))) (table (m ((c.tc : Thread nD τ).loc main_arg6))))
def values : FVec Ideal S4x130x80x256 .bf16 := valueStored (valuesOf (features m c))

theorem queries_eq : Value.res_main_v86 (F := Ideal) m c = queries m c := by
  unfold Value.res_main_v86 queries queryStored queryRope queryTurned queryLeft queryRight queryTable table queryNorm queriesOf features product normed
  rfl
theorem keys_eq : Value.res_main_v88 (F := Ideal) m c = keys m c := by
  unfold Value.res_main_v88 keys keyStored keyRope keyTurned keyLeft keyRight keyTable table keyNorm keysOf features product normed
  rfl

end whole

/-! ## The parts at an index -/

theorem normed_val (x : FVec Ideal S33280x1024 .f32) (g : FVec Ideal S1024 .f32) (i : Fin 33280) (d : Fin 1024) :
    normed x g (ix2 i d) = Ffn.norm (fun j => x (ix2 i j)) (fun j => g (ix1 j)) d := by
  unfold Ffn.norm
  pointwise [normed]

theorem product_val (y : FVec Ideal S33280x1024 .f32) (w : FVec Ideal S1024x1536 .f32) (i : Fin 33280) (e : Fin 1536) :
    product y w (ix2 i e) = ∑ k : Fin 1024, y (ix2 i k) * w (ix2 k e) := by
  pointwise [product]

theorem table_val (t : FVec Ideal S32x33280 .f32) (i : Fin 33280) (d : Fin 32) : table t (ix3 i 0 d) = t (ix2 d i) := by
  pointwise [table]

theorem queriesOf_val (u : FVec Ideal S33280x1536 .f32) (i : Fin 33280) (j : Fin 16) (d : Fin 64) :
    queriesOf u (ix3 i j d) = Qkv.head ⟨j.val, by omega⟩ (fun e => u (ix2 i e)) d := by
  unfold Qkv.head
  pointwise [queriesOf]
  simp only [Nat.mul_comm j.val 64]

theorem queryNorm_val (x : FVec Ideal S33280x16x64 .f32) (g : FVec Ideal S64 .f32) (i : Fin 33280) (j : Fin 16) (d : Fin 64) :
    queryNorm x g (ix3 i j d) = Qkv.headNorm (fun e => x (ix3 i j e)) (fun e => g (ix1 e)) d := by
  unfold Qkv.headNorm
  pointwise [queryNorm]

theorem queryTurned_val (a b p q : FVec Ideal S33280x16x32 .f32) (i : Fin 33280) (j : Fin 16) (d : Fin 64) :
    queryTurned a b p q (ix3 i j d) = if h : d.val < 32 then a (ix3 i j ⟨d.val, h⟩) * p (ix3 i j ⟨d.val, h⟩) - b (ix3 i j ⟨d.val, h⟩) * q (ix3 i j ⟨d.val, h⟩)
      else a (ix3 i j ⟨d.val - 32, by omega⟩) * q (ix3 i j ⟨d.val - 32, by omega⟩) + b (ix3 i j ⟨d.val - 32, by omega⟩) * p (ix3 i j ⟨d.val - 32, by omega⟩) := by
  pointwise [queryTurned]

theorem queryLeft_val (y : FVec Ideal S33280x16x64 .f32) (i : Fin 33280) (j : Fin 16) (d : Fin 32) : queryLeft y (ix3 i j d) = y (ix3 i j ⟨d.val, by omega⟩) := by
  pointwise [queryLeft]
theorem queryRight_val (y : FVec Ideal S33280x16x64 .f32) (i : Fin 33280) (j : Fin 16) (d : Fin 32) : queryRight y (ix3 i j d) = y (ix3 i j ⟨32 + d.val, by omega⟩) := by
  pointwise [queryRight]
theorem queryTable_val (t : FVec Ideal S33280x1x32 .f32) (i : Fin 33280) (j : Fin 16) (d : Fin 32) : queryTable t (ix3 i j d) = t (ix3 i 0 d) := by
  pointwise [queryTable]

theorem keysOf_val (u : FVec Ideal S33280x1536 .f32) (i : Fin 33280) (j : Fin 4) (d : Fin 64) :
    keysOf u (ix3 i j d) = Qkv.head ⟨16 + j.val, by omega⟩ (fun e => u (ix2 i e)) d := by
  unfold Qkv.head
  pointwise [keysOf]
  exact congrArg (fun z => u (ix2 i z)) (Fin.ext (by show 1024 + (j.val * 64 + d.val) = 64 * (16 + j.val) + d.val; omega))

theorem keyNorm_val (x : FVec Ideal S33280x4x64 .f32) (g : FVec Ideal S64 .f32) (i : Fin 33280) (j : Fin 4) (d : Fin 64) :
    keyNorm x g (ix3 i j d) = Qkv.headNorm (fun e => x (ix3 i j e)) (fun e => g (ix1 e)) d := by
  unfold Qkv.headNorm
  pointwise [keyNorm]

theorem keyTurned_val (a b p q : FVec Ideal S33280x4x32 .f32) (i : Fin 33280) (j : Fin 4) (d : Fin 64) :
    keyTurned a b p q (ix3 i j d) = if h : d.val < 32 then a (ix3 i j ⟨d.val, h⟩) * p (ix3 i j ⟨d.val, h⟩) - b (ix3 i j ⟨d.val, h⟩) * q (ix3 i j ⟨d.val, h⟩)
      else a (ix3 i j ⟨d.val - 32, by omega⟩) * q (ix3 i j ⟨d.val - 32, by omega⟩) + b (ix3 i j ⟨d.val - 32, by omega⟩) * p (ix3 i j ⟨d.val - 32, by omega⟩) := by
  pointwise [keyTurned]

theorem keyLeft_val (y : FVec Ideal S33280x4x64 .f32) (i : Fin 33280) (j : Fin 4) (d : Fin 32) : keyLeft y (ix3 i j d) = y (ix3 i j ⟨d.val, by omega⟩) := by
  pointwise [keyLeft]
theorem keyRight_val (y : FVec Ideal S33280x4x64 .f32) (i : Fin 33280) (j : Fin 4) (d : Fin 32) : keyRight y (ix3 i j d) = y (ix3 i j ⟨32 + d.val, by omega⟩) := by
  pointwise [keyRight]
theorem keyTable_val (t : FVec Ideal S33280x1x32 .f32) (i : Fin 33280) (j : Fin 4) (d : Fin 32) : keyTable t (ix3 i j d) = t (ix3 i 0 d) := by
  pointwise [keyTable]

/-- The two halves rotated, from the halves of one head. -/
theorem rope_halves (y : Fin 64 → EReal) (c s : Fin 32 → EReal) (d : Fin 64) :
    (if h : d.val < 32 then y ⟨d.val, by omega⟩ * c ⟨d.val, h⟩ - y ⟨32 + d.val, by omega⟩ * s ⟨d.val, h⟩
      else y ⟨d.val - 32, by omega⟩ * s ⟨d.val - 32, by omega⟩ + y ⟨32 + (d.val - 32), by omega⟩ * c ⟨d.val - 32, by omega⟩) = Qkv.rope y c s d := by
  unfold Qkv.rope
  split <;> rename_i h
  · simp only [Nat.add_comm 32]
  · have e : (⟨32 + (d.val - 32), by omega⟩ : Fin 64) = d := Fin.ext (by show 32 + (d.val - 32) = d.val; omega)
    rw [e]

theorem queryRope_val (y : FVec Ideal S33280x16x64 .f32) (p q : FVec Ideal S33280x1x32 .f32) (i : Fin 33280) (j : Fin 16) (d : Fin 64) :
    queryRope y p q (ix3 i j d) = Qkv.rope (fun e => y (ix3 i j e)) (fun e => p (ix3 i 0 e)) (fun e => q (ix3 i 0 e)) d := by
  unfold queryRope
  rw [queryTurned_val, ← rope_halves]
  simp only [queryLeft_val, queryRight_val, queryTable_val]

theorem keyRope_val (y : FVec Ideal S33280x4x64 .f32) (p q : FVec Ideal S33280x1x32 .f32) (i : Fin 33280) (j : Fin 4) (d : Fin 64) :
    keyRope y p q (ix3 i j d) = Qkv.rope (fun e => y (ix3 i j e)) (fun e => p (ix3 i 0 e)) (fun e => q (ix3 i 0 e)) d := by
  unfold keyRope
  rw [keyTurned_val, ← rope_halves]
  simp only [keyLeft_val, keyRight_val, keyTable_val]

/-- The softmax's scale, and the factor that takes its exponentials to base two, are one factor. -/
theorem scale : Ideal.ofBits .f32 0x3E000000#32 * Ideal.ofBits .f32 0x3FB8AA3B#32 = Ideal.ofBits .f32 0x3E38AA3B#32 := by
  have h0 : Ideal.ofBits .f32 0x3E000000#32 = ((1 / 8 : ℝ) : EReal) := by
    simp [Ideal.ofBits, Ideal.ieee]
    norm_num
    rw [← EReal.coe_mul]
    norm_num
  have h1 : Ideal.ofBits .f32 0x3FB8AA3B#32 = ((12102203 / 8388608 : ℝ) : EReal) := by
    simp [Ideal.ofBits, Ideal.ieee]
    norm_num
    rw [← EReal.coe_mul]
    norm_num
  have h2 : Ideal.ofBits .f32 0x3E38AA3B#32 = ((12102203 / 67108864 : ℝ) : EReal) := by
    simp [Ideal.ofBits, Ideal.ieee]
    norm_num
    rw [← EReal.coe_mul]
    norm_num
  rw [h0, h1, h2, ← EReal.coe_mul]
  norm_num

theorem queryStored_val (y : FVec Ideal S33280x16x64 .f32) (e : Fin 1024) (i : Fin 33280) :
    queryStored y (ix2 e i) = y (ix3 i (⟨e.val / 64, by omega⟩ : Fin 16) (⟨e.val % 64, by omega⟩ : Fin 64)) * Ideal.ofBits .f32 0x3E38AA3B#32 := by
  rw [← scale, ← mul_assoc]
  pointwise [queryStored]

theorem keyStored_val (y : FVec Ideal S33280x4x64 .f32) (b : Fin 130) (i e : Fin 256) :
    keyStored y (ix3 b i e) = y (ix3 (Qkv.rowIn b i) (⟨e.val / 64, by omega⟩ : Fin 4) (⟨e.val % 64, by omega⟩ : Fin 64)) := by
  unfold Qkv.rowIn
  pointwise [keyStored]
  simp only [Nat.mul_comm b.val 256]

theorem valuesOf_val (u : FVec Ideal S33280x1536 .f32) (j : Fin 4) (b : Fin 130) (d : Fin 64) (i : Fin 256) :
    valuesOf u (ix4 j b d i) = Qkv.head ⟨20 + j.val, by omega⟩ (fun e => u (ix2 (Qkv.rowIn b i) e)) d := by
  unfold Qkv.head Qkv.rowIn
  pointwise [valuesOf]
  exact congrArg₂ (fun r z => u (ix2 r z)) (Fin.ext (by show b.val * 256 + i.val = 256 * b.val + i.val; omega))
    (Fin.ext (by show 1280 + (j.val * 64 + d.val) = 64 * (20 + j.val) + d.val; omega))

theorem valueStored_val (v : FVec Ideal S4x130x64x256 .f32) (j : Fin 4) (b : Fin 130) (d : Fin 80) (i : Fin 256) :
    valueStored v (ix4 j b d i) = if h : d.val < 64 then v (ix4 j b ⟨d.val, h⟩ i) else if d.val = 64 then 1 else 0 := by
  pointwise [valueStored]
  split
  · rfl
  · have e : d.val - 64 < 1 ↔ d.val = 64 := by omega
    simp only [e, dite_eq_ite]

/-! ## The three results -/

section agree

variable (m : (ℓ : Loc Cert.Kernel5Ideal.nD Cert.Kernel5Ideal.τ Cert.Kernel5Ideal.sig) → Buf (Elt Ideal) ℓ)
  (m' : (ℓ : Loc nD τ sig) → Buf (Elt Ideal) ℓ) (c : Dev nD)
  (h0 : m' ((c.tc : Thread nD τ).loc main_arg0) = m ((c.tc : Thread Cert.Kernel5Ideal.nD Cert.Kernel5Ideal.τ).loc Cert.Kernel5Ideal.main_arg0))
  (h1 : m' ((c.tc : Thread nD τ).loc main_arg1) = m ((c.tc : Thread Cert.Kernel5Ideal.nD Cert.Kernel5Ideal.τ).loc Cert.Kernel5Ideal.main_arg1))
  (h2 : m' ((c.tc : Thread nD τ).loc main_arg2) = m ((c.tc : Thread Cert.Kernel5Ideal.nD Cert.Kernel5Ideal.τ).loc Cert.Kernel5Ideal.main_arg2))
  (h3 : m' ((c.tc : Thread nD τ).loc main_arg3) = m ((c.tc : Thread Cert.Kernel5Ideal.nD Cert.Kernel5Ideal.τ).loc Cert.Kernel5Ideal.main_arg3))
  (h4 : m' ((c.tc : Thread nD τ).loc main_arg4) = m ((c.tc : Thread Cert.Kernel5Ideal.nD Cert.Kernel5Ideal.τ).loc Cert.Kernel5Ideal.main_arg4))
  (h5 : m' ((c.tc : Thread nD τ).loc main_arg5) = m ((c.tc : Thread Cert.Kernel5Ideal.nD Cert.Kernel5Ideal.τ).loc Cert.Kernel5Ideal.main_arg5))
  (h6 : m' ((c.tc : Thread nD τ).loc main_arg6) = m ((c.tc : Thread Cert.Kernel5Ideal.nD Cert.Kernel5Ideal.τ).loc Cert.Kernel5Ideal.main_arg6))

include h0 h1 h2 in
theorem features_agree (i : Fin 33280) : (fun e => features m' c (ix2 i e)) = Qkv.features m c i := by
  funext e
  unfold features
  rw [h0, h1, h2, product_val]
  simp only [normed_val]
  rfl

include h0 h1 h2 h3 h5 h6 in
/-- The queries are the kernel's, the arguments being the same. -/
theorem queries_agree : Value.res_main_v86 (F := Ideal) m' c = Qkv.queries m c := by
  rw [queries_eq]
  funext y
  obtain ⟨e, i, rfl⟩ : ∃ (e : Fin 1024) (i : Fin 33280), y = ix2 e i := ⟨y 0, y 1, by funext a; fin_cases a <;> rfl⟩
  unfold queries
  rw [h3, h5, h6, queryStored_val, queryRope_val]
  simp only [queryNorm_val, queriesOf_val, table_val, features_agree m m' c h0 h1 h2]
  rfl

include h0 h1 h2 h4 h5 h6 in
/-- The keys are the kernel's. -/
theorem keys_agree : Value.res_main_v88 (F := Ideal) m' c = Qkv.keys m c := by
  rw [keys_eq]
  funext y
  obtain ⟨b, i, e, rfl⟩ : ∃ (b : Fin 130) (i e : Fin 256), y = ix3 b i e := ⟨y 0, y 1, y 2, by funext a; fin_cases a <;> rfl⟩
  unfold keys
  rw [h4, h5, h6, keyStored_val, keyRope_val]
  simp only [keyNorm_val, keysOf_val, table_val, features_agree m m' c h0 h1 h2]
  rfl

include h0 h1 h2 in
/-- The values are the kernel's. -/
theorem values_agree : values m' c = Qkv.values m c := by
  funext y
  obtain ⟨j, b, d, i, rfl⟩ : ∃ (j : Fin 4) (b : Fin 130) (d : Fin 80) (i : Fin 256), y = ix4 j b d i :=
    ⟨y 0, y 1, y 2, y 3, by funext a; fin_cases a <;> rfl⟩
  unfold values
  rw [valueStored_val]
  simp only [valuesOf_val, features_agree m m' c h0 h1 h2]
  rfl

end agree

end Cert.Proof.QkvRef

end
-- ==== Proof.ScanFrame.lean ====
/-
  `Kernel6`'s run with nothing said of its result: the body, at any point of the grid, runs on its eleven staging buffers
  and its three scratch buffers held whole and hands all of them back, the inputs as they were; the launch turns that
  into the termination of @main with its arguments unchanged and every counter at zero. Windows 0, 1 and 2 read one
  array, so each holds its share of it.
-/
module

public import proofs.«01_k».proof.Proof.Gen.Kernel6.Frame
public import proofs.«01_k».proof.Proof.Gen.Kernel6.Loops
public import proofs.«01_k».proof.Proof.Gen.Kernel6.Points

@[expose] public section

set_option maxRecDepth 16384

noncomputable section

namespace Cert.Proof.ScanBits

open Cert.Kernel6 Cert.Kernel6.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UR sig nD τ) ℕ

/-- Memref `M` on core `c` held whole at some contents. -/
abbrev some' (c : Dev nD) {S : Shape} {e : EltTy} (M : Memref sig .tc .vmem S e) : sProp 𝕄 :=
  iprop(∃ f : Buf (Elt F) (M.view.loc (c : Thread nD τ)), M.view.loc (c : Thread nD τ) ↦[M.view.set]{fullShare} f)

/-- The first branch's condition: the point is not its batch's first. -/
abbrev c1 (i : grid0.Coords) : Prop :=
  Scalar.cmpi .ne (Scalar.extui (Scalar.xori (Scalar.cmpi .eq (BitVec.ofNat 32 (i 1).val) 0#32) 1#1) : BitVec 32) 0#32 = 1#1
/-- The second and the third branch's: it is. -/
abbrev c2 (i : grid0.Coords) : Prop :=
  Scalar.cmpi .ne (Scalar.extui (Scalar.cmpi .eq (BitVec.ofNat 32 (i 1).val) 0#32) : BitVec 32) 0#32 = 1#1

set_option maxHeartbeats 8000000 in
/-- The body at a point's coordinates `i`, on any whole memrefs. -/
theorem bodyRun (c : Dev nD) (i : grid0.Coords)
    (arg2 : Memref sig .tc .vmem S256x1024 .f32) (harg2 : arg2.IsWhole)
    (arg3 : Memref sig .tc .vmem S8x1024 .f32) (harg3 : arg3.IsWhole)
    (arg4 : Memref sig .tc .vmem S8x1024 .f32) (harg4 : arg4.IsWhole)
    (arg5 : Memref sig .tc .vmem S4x1024 .f32) (harg5 : arg5.IsWhole)
    (arg6 : Memref sig .tc .vmem S1x1024 .f32) (harg6 : arg6.IsWhole)
    (arg7 : Memref sig .tc .vmem S4x256x256 .bf16) (harg7 : arg7.IsWhole)
    (arg8 : Memref sig .tc .vmem S4x256x256 .bf16) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S1x1024 .f32) (harg11 : arg11.IsWhole)
    (arg12 : Memref sig .tc .vmem S256x1024 .f32) (harg12 : arg12.IsWhole)
    (arg13 : Memref sig .tc .vmem S256x1024 .f32) (harg13 : arg13.IsWhole)
    (arg14 : Memref sig .tc .vmem S256x1024 .f32) (harg14 : arg14.IsWhole)
    (arg15 : Memref sig .tc .vmem S1x1024 .f32) (harg15 : arg15.IsWhole)
    (Y2 : S256x1024.Idx → Elt F .f32)
    (Y3 : S8x1024.Idx → Elt F .f32)
    (Y4 : S8x1024.Idx → Elt F .f32)
    (Y5 : S4x1024.Idx → Elt F .f32)
    (Y6 : S1x1024.Idx → Elt F .f32)
    (Y7 : S4x256x256.Idx → Elt F .bf16)
    (Y8 : S4x256x256.Idx → Elt F .bf16)
    (Y9 : S1x1024.Idx → Elt F .f32)
    (Y10 : S1x1024.Idx → Elt F .f32)
    (Y11 : S1x1024.Idx → Elt F .f32)
    (Q : PUnit → sProp 𝕄) :
    iprop(owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ some' c arg12 ∗ some' c arg13 ∗ some' c arg14 ∗ some' c arg15
      ∗ (iprop(owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ some' c arg12 ∗ some' c arg13 ∗ some' c arg14 ∗ some' c arg15) -∗ Q ⟨⟩))
    ⊢ wp frame (wpE (defs₀ (F := F)) Variants.none (c : Thread nD τ) none) Set.univ
        (cc0_scan_fwd (F := F) i arg2 harg2 arg3 harg3 arg4 harg4 arg5 harg5 arg6 harg6 arg7 harg7 arg8 harg8 arg9 harg9 arg10 harg10 arg11 harg11 arg12 harg12 arg13 harg13 arg14 harg14 arg15 harg15) Q := by
  unfold owns some'
  by_cases hc1 : c1 i <;> by_cases hc2 : c2 i
  all_goals
    iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, ⟨%f12, H12⟩, ⟨%f13, H13⟩, ⟨%f14, H14⟩, ⟨%f15, H15⟩, Hk⟩
    sl_unfold [cc0_scan_fwd]
    sl_exec (disch := first | sl_exact hc1 | sl_exact hc2)
    sl_step
    iapply Hk
    isplitl [H2]
    · iexists X2; isplitr [H2]; · ipureintro; exact h2
      iexact H2
    isplitl [H3]
    · iexists X3; isplitr [H3]; · ipureintro; exact h3
      iexact H3
    isplitl [H4]
    · iexists X4; isplitr [H4]; · ipureintro; exact h4
      iexact H4
    isplitl [H5]
    · iexists X5; isplitr [H5]; · ipureintro; exact h5
      iexact H5
    isplitl [H6]
    · iexists X6; isplitr [H6]; · ipureintro; exact h6
      iexact H6
    isplitl [H7]
    · iexists X7; isplitr [H7]; · ipureintro; exact h7
      iexact H7
    isplitl [H8]
    · iexists X8; isplitr [H8]; · ipureintro; exact h8
      iexact H8
    isplitl [H9]
    · iexists X9; isplitr [H9]; · ipureintro; exact h9
      iexact H9
    isplitl [H10]
    · iexists X10; isplitr [H10]; · ipureintro; exact h10
      iexact H10
    isplitl [H11]
    · iexists X11; isplitr [H11]; · ipureintro; exact h11
      iexact H11
    isplitl [H12]; · iexists _; iexact H12
    isplitl [H13]; · iexists _; iexact H13
    isplitl [H14]; · iexists _; iexact H14
    iexists _; iexact H15

/-! ## The launch -/

variable (m : (ℓ : Loc nD τ sig) → Buf (Elt F) ℓ) (ρ : Dev nD → PrngReg)

/-- The kernel's variants: none, its body calls nothing. -/
abbrev 𝒱₀ : Variants := Variants.none

/-- The pipeline's proof data: every input buffer stays at its block, the output buffer is not described, and between
    points the scratch holds anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Dat.unnamed ⟨10, h⟩ t
  Φ _ := Pipeline.ΦA spec0 c
  q w := Pipeline.shareOf spec0 w
  owed _ := 0

/-- The window whose contents are not described: the output's. -/
abbrev fgt : Fin cfg0.W → Bool := fun w => w.val == 10

theorem defs₀_row (t : Fin cfg0.N) : defs₀ (F := F) .tc cfg0.body (cfg0.bodyArgs t (cfg0.slots t)) = bodyAt0 t := by
  unfold defs₀; rw [Defs.onTc_tc]

/-- A whole scratch buffer's points-to in the form the body takes it. -/
theorem some'_whole (c : Dev nD) {S : Shape} {e : EltTy} (M : Memref sig .tc .vmem S e) (h : M.view.set = Finset.univ) :
    (some' (F := F) c M : sProp 𝕄) = iprop(∃ f : Buf (Elt F) (M.view.loc (c : Thread nD τ)), M.view.loc (c : Thread nD τ) ↦{fullShare} f) := by
  unfold some'; rw [h]

set_option maxHeartbeats 2000000 in
theorem body_obligation (c : Dev nD) : BodyObligationLoose (dats (F := F) m 0 c) (defs₀ (F := F)) 𝒱₀ () Set.univ fgt := fun t => by
  rw [bigSep_W0, bigSep_W0, defs₀_row]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA
  rw [scopedRest0_eq]
  show iprop(((_ ∗ _ ∗ _) ∗ _) ∗ _ ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ X, owns (c : Thread nD τ) (st0_10 t) fullShare X))
    ⊢ wp frame (wpE (defs₀ (F := F)) 𝒱₀ (c : Thread nD τ) none) Set.univ (bodyAt0 t) fun _ => iprop(((_ ∗ _ ∗ _) ∗ _) ∗ _ ∗
      owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ (∃ X, owns (c : Thread nD τ) (st0_10 t) fullShare X))
  iintro ⟨⟨⟨S0, S1, S2⟩, Hg⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%X, H10⟩⟩
  rw [before0_0_of m (dats m 0 c) rfl (fun _ => rfl), before0_1_of m (dats m 0 c) rfl (fun _ => rfl), before0_2_of m (dats m 0 c) rfl (fun _ => rfl), before0_3_of m (dats m 0 c) rfl (fun _ => rfl), before0_4_of m (dats m 0 c) rfl (fun _ => rfl), before0_5_of m (dats m 0 c) rfl (fun _ => rfl), before0_6_of m (dats m 0 c) rfl (fun _ => rfl), before0_7_of m (dats m 0 c) rfl (fun _ => rfl), before0_8_of m (dats m 0 c) rfl (fun _ => rfl), before0_9_of m (dats m 0 c) rfl (fun _ => rfl)]
  iapply (bodyRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10))
    (Memref.whole cc0_scratch0) (Memref.isWhole_whole _) (Memref.whole cc0_scratch1) (Memref.isWhole_whole _)
    (Memref.whole cc0_scratch2) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) _)
  rw [some'_whole c (Memref.whole cc0_scratch0) (View.set_whole _), some'_whole c (Memref.whole cc0_scratch1) (View.set_whole _),
    some'_whole c (Memref.whole cc0_scratch2) (View.set_whole _)]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns
    icases H10 with ⟨%f, -, H10⟩
    iexists f; iexact H10
  isplitl [S0]; · iexact S0
  isplitl [S1]; · iexact S1
  isplitl [S2]; · iexact S2
  iintro ⟨H0, H1, H2, H3, H4, H5, H6, H7, H8, H9, ⟨%f, H10⟩, S0, S1, S2⟩
  isplitl [S0 S1 S2 Hg]
  · isplitr [Hg]
    · isplitl [S0]; · iexact S0
      isplitl [S1]; · iexact S1
      iexact S2
    iexact Hg
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _
  iapply (owns_intro (c : Thread nD τ) (st0_10 t) fullShare f)
  iexact H10

/-- The buffers the lines after the region write. -/
abbrev T : Finset (Ref sig .tc) := {main_v7, main_v8, main_v9, main_v10}

theorem sfx_T : ∀ ops ∈ ([hostOps1] : List (List (HloOp τ sig (Elt F)))), ∀ op ∈ ops, ∀ b : Ref sig .tc,
    Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl | rfl | rfl | rfl
  all_goals
    simp only [StableHlo.unary_writes, StableHlo.binary_writes, StableHlo.reshape_writes, Finset.mem_singleton] at hb
    have hb' := Proc.devRef_injective _ hb
    subst hb'
    decide

/-- Every execution of @main ends with the eight argument arrays as they were and every counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  Pipeline.θ_run_frame_around_T_forget_shared cfgs (dats m) 0 launch₀0 defs₀ 𝒱₀ fgt T m ρ main (hbody := body_obligation m)
    (hq := fun _ _ _ => rfl) (howed := fun _ _ => rfl) (V₀ := V0 m) (opss := [hostOps1]) (hsub := sfx_sub) (hfresh := sfx_fresh)
    (hkeep := sfx_keeps) (hT := sfx_T) (hmain := hmain m 𝒱₀) (hA := fun _ _ => rfl) (hΦ := fun _ _ => rfl) (Q' := _)
    (hQ' := fun r (h : _ ∧ _) => ⟨fun c => ⟨(h.1.arr_in c 0 rfl).trans (V_main_arg0 m c), (h.1.arr_in c 3 rfl).trans (V_main_arg1 m c),
      ((h.1 c).2 main_arg2 (by decide)).trans (V_main_arg2 m c),
      ((h.1 c).2 main_arg3 (by decide)).trans (V_main_arg3 m c),
      ((h.1 c).2 main_arg4 (by decide)).trans (V_main_arg4 m c),
      ((h.1 c).2 main_arg5 (by decide)).trans (V_main_arg5 m c),
      ((h.1 c).2 main_arg6 (by decide)).trans (V_main_arg6 m c),
      ((h.1 c).2 main_arg7 (by decide)).trans (V_main_arg7 m c)⟩, h.2⟩)

end Cert.Proof.ScanBits

end
-- ==== Proof.ScanBody.lean ====
/-
  `Kernel6Ideal`'s body at a point: what it leaves in its output buffer and its three scratch buffers. A batch's first
  point and the others take different branches, so each has a run of its own.
-/
module

public import proofs.«01_k».proof.Proof.Gen.Kernel6Ideal.Frame
public import proofs.«01_k».proof.Proof.Gen.Kernel6Ideal.Loops
public import proofs.«01_k».proof.Proof.Gen.Kernel6Ideal.Points
public import proofs.«01_k».proof.Proof.Gen.Kernel6Ideal.Skeleton

@[expose] public section

set_option maxRecDepth 16384

noncomputable section

namespace Cert.Proof.Scan

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Memref `M` on core `c` held whole at contents `f`. -/
abbrev pt (c : Dev nD) {S : Shape} {e : EltTy} (M : Memref sig .tc .vmem S e) (f : BufTy.Contents (Elt F) M.view.ty) : sProp 𝕄 :=
  M.view.loc (c : Thread nD τ) ↦[M.view.set]{fullShare} f

/-- The first branch's condition: the point is not its batch's first. -/
abbrev c1 (i : grid0.Coords) : Prop :=
  Scalar.cmpi .ne (Scalar.extui (Scalar.xori (Scalar.cmpi .eq (BitVec.ofNat 32 (i 1).val) 0#32) 1#1) : BitVec 32) 0#32 = 1#1
/-- The second and the third branch's: it is. -/
abbrev c2 (i : grid0.Coords) : Prop :=
  Scalar.cmpi .ne (Scalar.extui (Scalar.cmpi .eq (BitVec.ofNat 32 (i 1).val) 0#32) : BitVec 32) 0#32 = 1#1

set_option maxHeartbeats 8000000 in
/-- The run at a point that is not its batch's first. -/
@[irreducible] def runTok (c : Dev nD) (i : grid0.Coords)
    (arg2 : Memref sig .tc .vmem S256x1024 .f32) (harg2 : arg2.IsWhole)
    (arg3 : Memref sig .tc .vmem S8x1024 .f32) (harg3 : arg3.IsWhole)
    (arg4 : Memref sig .tc .vmem S8x1024 .f32) (harg4 : arg4.IsWhole)
    (arg5 : Memref sig .tc .vmem S4x1024 .f32) (harg5 : arg5.IsWhole)
    (arg6 : Memref sig .tc .vmem S1x1024 .f32) (harg6 : arg6.IsWhole)
    (arg7 : Memref sig .tc .vmem S4x256x256 .bf16) (harg7 : arg7.IsWhole)
    (arg8 : Memref sig .tc .vmem S4x256x256 .bf16) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S1x1024 .f32) (harg11 : arg11.IsWhole)
    (arg12 : Memref sig .tc .vmem S256x1024 .f32) (harg12 : arg12.IsWhole)
    (arg13 : Memref sig .tc .vmem S256x1024 .f32) (harg13 : arg13.IsWhole)
    (arg14 : Memref sig .tc .vmem S256x1024 .f32) (harg14 : arg14.IsWhole)
    (arg15 : Memref sig .tc .vmem S1x1024 .f32) (harg15 : arg15.IsWhole)
    (X2 : BufTy.Contents (Elt F) arg2.view.ty)
    (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X8 : BufTy.Contents (Elt F) arg8.view.ty)
    (X9 : BufTy.Contents (Elt F) arg9.view.ty)
    (X10 : BufTy.Contents (Elt F) arg10.view.ty)
    (X11 : BufTy.Contents (Elt F) arg11.view.ty)
    (X12 : BufTy.Contents (Elt F) arg12.view.ty)
    (X13 : BufTy.Contents (Elt F) arg13.view.ty)
    (X14 : BufTy.Contents (Elt F) arg14.view.ty)
    (X15 : BufTy.Contents (Elt F) arg15.view.ty)
    (hc1 : c1 i) (hc2 : ¬ c2 i) :
    Σ' (R12 : BufTy.Contents (Elt F) arg12.view.ty) (R13 : BufTy.Contents (Elt F) arg13.view.ty) (R14 : BufTy.Contents (Elt F) arg14.view.ty), { R15 : BufTy.Contents (Elt F) arg15.view.ty //
      ∀ (Q : PUnit → sProp 𝕄),
      iprop(pt c arg2 X2 ∗ pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 X13 ∗ pt c arg14 X14 ∗ pt c arg15 X15
        ∗ (iprop(pt c arg2 X2 ∗ pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 R12 ∗ pt c arg13 R13 ∗ pt c arg14 R14 ∗ pt c arg15 R15) -∗ Q ⟨⟩))
      ⊢ wp frame (wpE (defs₀ (F := F)) Variants.none (c : Thread nD τ) none) Set.univ
          (cc0_scan_fwd (F := F) i arg2 harg2 arg3 harg3 arg4 harg4 arg5 harg5 arg6 harg6 arg7 harg7 arg8 harg8 arg9 harg9 arg10 harg10 arg11 harg11 arg12 harg12 arg13 harg13 arg14 harg14 arg15 harg15) Q } := by
  refine ⟨?_, ?_, ?_, ?_, fun Q => ?run⟩
  case run =>
    unfold pt
    iintro ⟨H2, H3, H4, H5, H6, H7, H8, H9, H10, H11, H12, H13, H14, H15, Hk⟩
    sl_unfold [cc0_scan_fwd]
    sl_exec (disch := first | sl_exact hc1 | sl_exact hc2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

set_option maxHeartbeats 8000000 in
/-- The run at a batch's first point. -/
@[irreducible] def runTail (c : Dev nD) (i : grid0.Coords)
    (arg2 : Memref sig .tc .vmem S256x1024 .f32) (harg2 : arg2.IsWhole)
    (arg3 : Memref sig .tc .vmem S8x1024 .f32) (harg3 : arg3.IsWhole)
    (arg4 : Memref sig .tc .vmem S8x1024 .f32) (harg4 : arg4.IsWhole)
    (arg5 : Memref sig .tc .vmem S4x1024 .f32) (harg5 : arg5.IsWhole)
    (arg6 : Memref sig .tc .vmem S1x1024 .f32) (harg6 : arg6.IsWhole)
    (arg7 : Memref sig .tc .vmem S4x256x256 .bf16) (harg7 : arg7.IsWhole)
    (arg8 : Memref sig .tc .vmem S4x256x256 .bf16) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S1x1024 .f32) (harg11 : arg11.IsWhole)
    (arg12 : Memref sig .tc .vmem S256x1024 .f32) (harg12 : arg12.IsWhole)
    (arg13 : Memref sig .tc .vmem S256x1024 .f32) (harg13 : arg13.IsWhole)
    (arg14 : Memref sig .tc .vmem S256x1024 .f32) (harg14 : arg14.IsWhole)
    (arg15 : Memref sig .tc .vmem S1x1024 .f32) (harg15 : arg15.IsWhole)
    (X2 : BufTy.Contents (Elt F) arg2.view.ty)
    (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X8 : BufTy.Contents (Elt F) arg8.view.ty)
    (X9 : BufTy.Contents (Elt F) arg9.view.ty)
    (X10 : BufTy.Contents (Elt F) arg10.view.ty)
    (X11 : BufTy.Contents (Elt F) arg11.view.ty)
    (X12 : BufTy.Contents (Elt F) arg12.view.ty)
    (X13 : BufTy.Contents (Elt F) arg13.view.ty)
    (X14 : BufTy.Contents (Elt F) arg14.view.ty)
    (X15 : BufTy.Contents (Elt F) arg15.view.ty)
    (hc1 : ¬ c1 i) (hc2 : c2 i) :
    Σ' (R12 : BufTy.Contents (Elt F) arg12.view.ty) (R13 : BufTy.Contents (Elt F) arg13.view.ty) (R14 : BufTy.Contents (Elt F) arg14.view.ty), { R15 : BufTy.Contents (Elt F) arg15.view.ty //
      ∀ (Q : PUnit → sProp 𝕄),
      iprop(pt c arg2 X2 ∗ pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 X13 ∗ pt c arg14 X14 ∗ pt c arg15 X15
        ∗ (iprop(pt c arg2 X2 ∗ pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 R12 ∗ pt c arg13 R13 ∗ pt c arg14 R14 ∗ pt c arg15 R15) -∗ Q ⟨⟩))
      ⊢ wp frame (wpE (defs₀ (F := F)) Variants.none (c : Thread nD τ) none) Set.univ
          (cc0_scan_fwd (F := F) i arg2 harg2 arg3 harg3 arg4 harg4 arg5 harg5 arg6 harg6 arg7 harg7 arg8 harg8 arg9 harg9 arg10 harg10 arg11 harg11 arg12 harg12 arg13 harg13 arg14 harg14 arg15 harg15) Q } := by
  refine ⟨?_, ?_, ?_, ?_, fun Q => ?run⟩
  case run =>
    unfold pt
    iintro ⟨H2, H3, H4, H5, H6, H7, H8, H9, H10, H11, H12, H13, H14, H15, Hk⟩
    sl_unfold [cc0_scan_fwd]
    sl_exec (disch := first | sl_exact hc1 | sl_exact hc2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Proof.Scan

end
-- ==== Proof.ScanValue.lean ====
/-
  `Kernel6Ideal`'s body at a point, as values: the two coefficient tiles it computes, and the 256 steps of the recurrence
  over them.
-/
module

public import proofs.«01_k».proof.Proof.ScanBody
public import Idealize.ShloMosaic.Lib.Pipeline.ValueKit
public import Idealize.ShloMosaic.Lib.VecWindow
public import Idealize.ShloMosaic.Lib.WritesUnit

@[expose] public section

set_option maxRecDepth 16384

noncomputable section

namespace Cert.Proof.Scan

open Cert.Kernel6Ideal Cert.Kernel6Ideal.Gen
open Idealize.ShloMosaic Idealize.ShloMosaic.TcCoe Idealize.ShloMosaic.Tactic
open Idealize.ShloMosaic.ScalarOps

variable {F : FTy → Type} [FloatOps F] [Named F]

/-! ## The coefficients of a tile -/

/-- Head 0's gate matrix. -/
def w0 (Y : Vec F S4x256x256 .bf16) : Vec F S1x256x256 .bf16 := fun j =>
  Y ((Rect.unit (s := S4x256x256) ![0, 0, 0] S1x256x256.size inb_S4x256x256_S1x256x256_0_0_0).toLoadRect.idx j)

/-- Head 1's gate matrix. -/
def w1 (Y : Vec F S4x256x256 .bf16) : Vec F S1x256x256 .bf16 := fun j =>
  Y ((Rect.unit (s := S4x256x256) ![1, 0, 0] S1x256x256.size inb_S4x256x256_S1x256x256_1_0_0).toLoadRect.idx j)

/-- Head 2's gate matrix. -/
def w2 (Y : Vec F S4x256x256 .bf16) : Vec F S1x256x256 .bf16 := fun j =>
  Y ((Rect.unit (s := S4x256x256) ![2, 0, 0] S1x256x256.size inb_S4x256x256_S1x256x256_2_0_0).toLoadRect.idx j)

/-- Head 3's gate matrix. -/
def w3 (Y : Vec F S4x256x256 .bf16) : Vec F S1x256x256 .bf16 := fun j =>
  Y ((Rect.unit (s := S4x256x256) ![3, 0, 0] S1x256x256.size inb_S4x256x256_S1x256x256_3_0_0).toLoadRect.idx j)

/-- The convolved tile of a point that is not its batch's first. -/
def xcTok (i : grid0.Coords) (x : Vec F S256x1024 .f32) (p n : Vec F S8x1024 .f32) (cw : Vec F S4x1024 .f32) (cb : Vec F S1x1024 .f32) :
    FVec F S256x1024 .f32 :=
  k0_pay9 (Scalar.cmpi .sgt (BitVec.ofNat 32 (i 1).val) 0#32) (Scalar.cmpi .slt (BitVec.ofNat 32 (i 1).val) 64#32) p n x cw cb

/-- The decay rate of each channel. -/
def rateL (l : Vec F S1x1024 .f32) : FVec F S1x1024 .f32 :=
  k0_pay13 (k0_pay10 l) (Scalar.ofBits .f32 0x00000000#32) (k0_pay11 l) k0_pay12

def aTok (xc : FVec F S256x1024 .f32) (wr : Vec F S4x256x256 .bf16) (br l : Vec F S1x1024 .f32) : FVec F S256x1024 .f32 :=
  k0_pay3 xc (rateL l) (k0_pay15 xc (w0 wr)) (k0_pay18 xc (w1 wr)) (k0_pay21 xc (w2 wr)) (w3 wr) br

def bTok (xc : FVec F S256x1024 .f32) (wr wi : Vec F S4x256x256 .bf16) (br bi l : Vec F S1x1024 .f32) : FVec F S256x1024 .f32 :=
  k0_pay4 xc (rateL l) (k0_pay15 xc (w0 wr)) (k0_pay16 xc (w0 wi)) (k0_pay18 xc (w1 wr)) (k0_pay19 xc (w1 wi)) (k0_pay20 xc)
    (k0_pay21 xc (w2 wr)) (w2 wi) (w3 wr) (w3 wi) br bi

/-- The convolved tile of a batch's first point. -/
def xcTail (x : Vec F S256x1024 .f32) (n : Vec F S8x1024 .f32) (cw : Vec F S4x1024 .f32) (cb : Vec F S1x1024 .f32) : FVec F S256x1024 .f32 :=
  k0_pay22 x n cw cb

def rateT (l : Vec F S1x1024 .f32) : FVec F S1x1024 .f32 := k0_pay28 (k0_pay24 l) (k0_pay25 l) (k0_pay26 l) (k0_pay27 l)

def aTail (xc : FVec F S256x1024 .f32) (wr : Vec F S4x256x256 .bf16) (br l : Vec F S1x1024 .f32) : FVec F S256x1024 .f32 :=
  k0_pay42 (rateT l) (k0_pay30 xc (w0 wr)) (k0_pay33 xc (w1 wr)) (k0_pay36 xc (w2 wr)) (k0_pay38 xc) (w3 wr) br

def bTail (xc : FVec F S256x1024 .f32) (wr wi : Vec F S4x256x256 .bf16) (br bi l : Vec F S1x1024 .f32) : FVec F S256x1024 .f32 :=
  k0_pay5 (k0_pay43 xc (rateT l) (k0_pay30 xc (w0 wr)) (k0_pay31 xc (w0 wi)) (k0_pay33 xc (w1 wr)) (k0_pay34 xc (w1 wi)) (k0_pay36 xc (w2 wr))
    (k0_pay37 xc (w2 wi)) (k0_pay38 xc) (w3 wr) (w3 wi) br bi)

/-! ## The recurrence over a tile -/

/-- Row `k` of a tile. -/
def row (A : Vec F S256x1024 .f32) (k : ℕ) : Vec F S1x1024 .f32 := fun y => A (ix2 ⟨k % 256, Nat.mod_lt _ (by decide)⟩ (y (1 : Fin 2)))

/-- The carried row before step `k`, from `h` at the start. -/
def hseq (A B : Vec F S256x1024 .f32) (h : Vec F S1x1024 .f32) : ℕ → Vec F S1x1024 .f32
  | 0 => h
  | k + 1 => k0_pay7 (hseq A B h k) (row A k) (row B k)

theorem off1_eq : ∀ k : Fin k0_t1_loop.trips, k0_off1 k = ![k.val, 0] := by decide +kernel

theorem trips_le : k0_t1_loop.trips = 256 := by decide +kernel

theorem readAt_row {M : Memref sig .tc .vmem S256x1024 .f32} (X : BufTy.Contents (Elt F) M.view.ty) (A : Vec F S256x1024 .f32)
    (h : M.view.read (Elt F) X = A) (k : Fin k0_t1_loop.trips) :
    View.readAt (Elt F) M.view (Rect.unit (s := S256x1024) (k0_off1 k) S1x1024.size (k0_off1_inb k)).toLoadRect X = row A k.val := by
  have hk : k.val < 256 := trips_le ▸ k.isLt
  subst h
  funext y
  unfold row
  refine congrArg (M.view.read (Elt F) X) (funext fun a => Fin.ext ?_)
  have h0 : (y (0 : Fin 2)).val = 0 := by have : (y (0 : Fin 2)).val < 1 := (y (0 : Fin 2)).isLt; omega
  refine Fin.cases ?_ (fun a => Fin.cases ?_ (fun a => a.elim0) a) a
  · show k0_off1 k 0 + 1 * (y (0 : Fin 2)).val = k.val % 256
    rw [congrFun (off1_eq k) 0]
    show k.val + 1 * (y (0 : Fin 2)).val = k.val % 256
    omega
  · show k0_off1 k 1 + 1 * (y (1 : Fin 2)).val = (y (1 : Fin 2)).val
    rw [congrFun (off1_eq k) 1]
    show 0 + 1 * (y (1 : Fin 2)).val = (y (1 : Fin 2)).val
    omega

section

variable (c : Dev nD) (i : grid0.Coords)
  (arg2 : Memref sig .tc .vmem S256x1024 .f32) (harg2 : arg2.IsWhole)
  (arg3 : Memref sig .tc .vmem S8x1024 .f32) (harg3 : arg3.IsWhole)
  (arg4 : Memref sig .tc .vmem S8x1024 .f32) (harg4 : arg4.IsWhole)
  (arg5 : Memref sig .tc .vmem S4x1024 .f32) (harg5 : arg5.IsWhole)
  (arg6 : Memref sig .tc .vmem S1x1024 .f32) (harg6 : arg6.IsWhole)
  (arg7 : Memref sig .tc .vmem S4x256x256 .bf16) (harg7 : arg7.IsWhole)
  (arg8 : Memref sig .tc .vmem S4x256x256 .bf16) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1x1024 .f32) (harg11 : arg11.IsWhole)
  (arg12 : Memref sig .tc .vmem S256x1024 .f32) (harg12 : arg12.IsWhole)
  (arg13 : Memref sig .tc .vmem S256x1024 .f32) (harg13 : arg13.IsWhole)
  (arg14 : Memref sig .tc .vmem S256x1024 .f32) (harg14 : arg14.IsWhole)
  (arg15 : Memref sig .tc .vmem S1x1024 .f32) (harg15 : arg15.IsWhole)
  (X13 : BufTy.Contents (Elt F) arg13.view.ty) (X14 : BufTy.Contents (Elt F) arg14.view.ty) (h : Vec F S1x1024 .f32)
  (G : BufTy.Contents (Elt F) arg12.view.ty)

theorem tripR_eq (k : Fin k0_t1_loop.trips) (acc : Vec F S1x1024 .f32) :
    tripR_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X13 X14 k acc
      = k0_pay7 acc (View.readAt (Elt F) arg13.view (Rect.unit (s := S256x1024) (k0_off1 k) S1x1024.size (k0_off1_inb k)).toLoadRect X13)
          (View.readAt (Elt F) arg14.view (Rect.unit (s := S256x1024) (k0_off1 k) S1x1024.size (k0_off1_inb k)).toLoadRect X14) := by
  unfold tripR_k0_t1 trip_k0_t1; rfl

theorem tripL_eq (k : Fin k0_t1_loop.trips) (acc : Vec F S1x1024 .f32) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X13 X14 k acc
      = [⟨Rect.unit (s := S256x1024) (k0_off1 k) S1x1024.size (k0_off1_inb k), k0_pay7 acc (View.readAt (Elt F) arg13.view (Rect.unit (s := S256x1024) (k0_off1 k) S1x1024.size (k0_off1_inb k)).toLoadRect X13)
          (View.readAt (Elt F) arg14.view (Rect.unit (s := S256x1024) (k0_off1 k) S1x1024.size (k0_off1_inb k)).toLoadRect X14)⟩] := by
  unfold tripL_k0_t1 trip_k0_t1; rfl

variable {X13 X14} {A B : Vec F S256x1024 .f32} (hA : arg13.view.read (Elt F) X13 = A) (hB : arg14.view.read (Elt F) X14 = B)

include hA hB

theorem st_fst : ∀ k : ℕ, k ≤ 256 →
    (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X13 X14 h k).1 = hseq A B h k
  | 0, _ => rfl
  | k + 1, hk => by
    have hk' : k < k0_t1_loop.trips := by rw [trips_le]; omega
    rw [show k + 1 = (⟨k, hk'⟩ : Fin k0_t1_loop.trips).val + 1 from rfl, st_k0_t1_succ]
    show tripR_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X13 X14 ⟨k, hk'⟩ _ = _
    rw [tripR_eq, readAt_row X13 A hA, readAt_row X14 B hB, st_fst k (by omega)]
    rfl

theorem st_snd : ∀ k : ℕ, k ≤ 256 → ∀ r : Fin 256, r.val < k → ∀ d : Fin 1024,
    arg12.view.read (Elt F) (arg12.view.writes (Elt F) G (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X13 X14 h k).2) (ix2 r d)
      = hseq A B h (r.val + 1) (ix2 0 d)
  | 0, _, r, hr, _ => absurd hr (Nat.not_lt_zero _)
  | k + 1, hk, r, hr, d => by
    have hk' : k < k0_t1_loop.trips := by rw [trips_le]; omega
    rw [show (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X13 X14 h (k + 1)).2
        = tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X13 X14 ⟨k, hk'⟩ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X13 X14 h k).1
          ++ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X13 X14 h k).2 from by
      rw [show k + 1 = (⟨k, hk'⟩ : Fin k0_t1_loop.trips).val + 1 from rfl, st_k0_t1_succ]]
    rw [tripL_eq, readAt_row X13 A hA, readAt_row X14 B hB, st_fst _ _ arg2 harg2 arg3 harg3 arg4 harg4 arg5 harg5 arg6 harg6 arg7 harg7 arg8 harg8 arg9 harg9 arg10 harg10 arg11 harg11 arg12 harg12 arg13 harg13 arg14 harg14 arg15 harg15 _ hA hB k (by omega), List.singleton_append]
    by_cases e : r.val = k
    · have := View.read_writes_cons_unit_of_mem arg12.view G (k0_off1_inb ⟨k, hk'⟩) (k0_pay7 (hseq A B h k) (row A k) (row B k))
        (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X13 X14 h k).2 (ix2 r d) (ix2 0 d) (off1_eq ⟨k, hk'⟩) (fun a => by
          refine Fin.cases ?_ (fun a => Fin.cases ?_ (fun a => a.elim0) a) a
          · show r.val = k + 0
            omega
          · show d.val = 0 + d.val
            omega)
      refine this.trans ?_
      rw [e]; rfl
    · rw [View.read_writes_cons_unit_of_not_mem arg12.view G (k0_off1_inb ⟨k, hk'⟩) _ _ (ix2 r d) (off1_eq ⟨k, hk'⟩) (0 : Fin 2)
        (Or.inl (by show r.val < k; omega))]
      exact st_snd k (by omega) r (by omega) d

end

/-! ## What the runs leave -/

section

variable (c : Dev nD) (i : grid0.Coords)
  (arg2 : Memref sig .tc .vmem S256x1024 .f32) (harg2 : arg2.IsWhole)
  (arg3 : Memref sig .tc .vmem S8x1024 .f32) (harg3 : arg3.IsWhole)
  (arg4 : Memref sig .tc .vmem S8x1024 .f32) (harg4 : arg4.IsWhole)
  (arg5 : Memref sig .tc .vmem S4x1024 .f32) (harg5 : arg5.IsWhole)
  (arg6 : Memref sig .tc .vmem S1x1024 .f32) (harg6 : arg6.IsWhole)
  (arg7 : Memref sig .tc .vmem S4x256x256 .bf16) (harg7 : arg7.IsWhole)
  (arg8 : Memref sig .tc .vmem S4x256x256 .bf16) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1x1024 .f32) (harg11 : arg11.IsWhole)
  (arg12 : Memref sig .tc .vmem S256x1024 .f32) (harg12 : arg12.IsWhole)
  (arg13 : Memref sig .tc .vmem S256x1024 .f32) (harg13 : arg13.IsWhole)
  (arg14 : Memref sig .tc .vmem S256x1024 .f32) (harg14 : arg14.IsWhole)
  (arg15 : Memref sig .tc .vmem S1x1024 .f32) (harg15 : arg15.IsWhole)
  (X2 : BufTy.Contents (Elt F) arg2.view.ty)
  (X3 : BufTy.Contents (Elt F) arg3.view.ty)
  (X4 : BufTy.Contents (Elt F) arg4.view.ty)
  (X5 : BufTy.Contents (Elt F) arg5.view.ty)
  (X6 : BufTy.Contents (Elt F) arg6.view.ty)
  (X7 : BufTy.Contents (Elt F) arg7.view.ty)
  (X8 : BufTy.Contents (Elt F) arg8.view.ty)
  (X9 : BufTy.Contents (Elt F) arg9.view.ty)
  (X10 : BufTy.Contents (Elt F) arg10.view.ty)
  (X11 : BufTy.Contents (Elt F) arg11.view.ty)
  (X12 : BufTy.Contents (Elt F) arg12.view.ty)
  (X13 : BufTy.Contents (Elt F) arg13.view.ty)
  (X14 : BufTy.Contents (Elt F) arg14.view.ty)
  (X15 : BufTy.Contents (Elt F) arg15.view.ty)
  {Y2 : Vec F S256x1024 .f32} (h2 : arg2.view.read (Elt F) X2 = Y2)
  {Y3 : Vec F S8x1024 .f32} (h3 : arg3.view.read (Elt F) X3 = Y3)
  {Y4 : Vec F S8x1024 .f32} (h4 : arg4.view.read (Elt F) X4 = Y4)
  {Y5 : Vec F S4x1024 .f32} (h5 : arg5.view.read (Elt F) X5 = Y5)
  {Y6 : Vec F S1x1024 .f32} (h6 : arg6.view.read (Elt F) X6 = Y6)
  {Y7 : Vec F S4x256x256 .bf16} (h7 : arg7.view.read (Elt F) X7 = Y7)
  {Y8 : Vec F S4x256x256 .bf16} (h8 : arg8.view.read (Elt F) X8 = Y8)
  {Y9 : Vec F S1x1024 .f32} (h9 : arg9.view.read (Elt F) X9 = Y9)
  {Y10 : Vec F S1x1024 .f32} (h10 : arg10.view.read (Elt F) X10 = Y10)
  {Y11 : Vec F S1x1024 .f32} (h11 : arg11.view.read (Elt F) X11 = Y11)
  {h : Vec F S1x1024 .f32}

theorem H13_Tok : runTok.sl.H13_1 i arg2 arg3 arg4 arg5 arg6 arg7 arg9 arg11 X2 X3 X4 X5 X6 X7 X9 X11
    = [⟨Rect.unit (s := S256x1024) ![0, 0] S256x1024.size inb_S256x1024_S256x1024_0_0, aTok (xcTok i (View.readAt (Elt F) arg2.view (Rect.unit (s := S256x1024) ![0, 0] S256x1024.size inb_S256x1024_S256x1024_0_0).toLoadRect X2) (View.readAt (Elt F) arg3.view (Rect.unit (s := S8x1024) ![0, 0] S8x1024.size inb_S8x1024_S8x1024_0_0).toLoadRect X3) (View.readAt (Elt F) arg4.view (Rect.unit (s := S8x1024) ![0, 0] S8x1024.size inb_S8x1024_S8x1024_0_0).toLoadRect X4) (View.readAt (Elt F) arg5.view (Rect.unit (s := S4x1024) ![0, 0] S4x1024.size inb_S4x1024_S4x1024_0_0).toLoadRect X5) (View.readAt (Elt F) arg6.view (Rect.unit (s := S1x1024) ![0, 0] S1x1024.size inb_S1x1024_S1x1024_0_0).toLoadRect X6)) (arg7.view.read (Elt F) X7) (View.readAt (Elt F) arg9.view (Rect.unit (s := S1x1024) ![0, 0] S1x1024.size inb_S1x1024_S1x1024_0_0).toLoadRect X9) (View.readAt (Elt F) arg11.view (Rect.unit (s := S1x1024) ![0, 0] S1x1024.size inb_S1x1024_S1x1024_0_0).toLoadRect X11)⟩] := rfl

theorem H14_Tok : runTok.sl.H14_1 i arg2 arg3 arg4 arg5 arg6 arg7 arg8 arg9 arg10 arg11 X2 X3 X4 X5 X6 X7 X8 X9 X10 X11
    = [⟨Rect.unit (s := S256x1024) ![0, 0] S256x1024.size inb_S256x1024_S256x1024_0_0, bTok (xcTok i (View.readAt (Elt F) arg2.view (Rect.unit (s := S256x1024) ![0, 0] S256x1024.size inb_S256x1024_S256x1024_0_0).toLoadRect X2) (View.readAt (Elt F) arg3.view (Rect.unit (s := S8x1024) ![0, 0] S8x1024.size inb_S8x1024_S8x1024_0_0).toLoadRect X3) (View.readAt (Elt F) arg4.view (Rect.unit (s := S8x1024) ![0, 0] S8x1024.size inb_S8x1024_S8x1024_0_0).toLoadRect X4) (View.readAt (Elt F) arg5.view (Rect.unit (s := S4x1024) ![0, 0] S4x1024.size inb_S4x1024_S4x1024_0_0).toLoadRect X5) (View.readAt (Elt F) arg6.view (Rect.unit (s := S1x1024) ![0, 0] S1x1024.size inb_S1x1024_S1x1024_0_0).toLoadRect X6)) (arg7.view.read (Elt F) X7) (arg8.view.read (Elt F) X8) (View.readAt (Elt F) arg9.view (Rect.unit (s := S1x1024) ![0, 0] S1x1024.size inb_S1x1024_S1x1024_0_0).toLoadRect X9) (View.readAt (Elt F) arg10.view (Rect.unit (s := S1x1024) ![0, 0] S1x1024.size inb_S1x1024_S1x1024_0_0).toLoadRect X10) (View.readAt (Elt F) arg11.view (Rect.unit (s := S1x1024) ![0, 0] S1x1024.size inb_S1x1024_S1x1024_0_0).toLoadRect X11)⟩] := rfl

include h2 h3 h4 h5 h6 h7 h9 h11 in
set_option maxHeartbeats 4000000 in
theorem read13_Tok (hc1 : c1 i) (hc2 : ¬ c2 i) :
    arg13.view.read (Elt F) (runTok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.1 = aTok (xcTok i Y2 Y3 Y4 Y5 Y6) Y7 Y9 Y11 := by
  rw [show (runTok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.1 = arg13.view.writes (Elt F) arg13.view.junk (runTok.sl.H13_1 i arg2 arg3 arg4 arg5 arg6 arg7 arg9 arg11 X2 X3 X4 X5 X6 X7 X9 X11) from by
    unfold runTok; dsimp only, H13_Tok]
  rw [View.read_writes_full, View.readAt_full arg2.view X2, View.readAt_full arg3.view X3, View.readAt_full arg4.view X4, View.readAt_full arg5.view X5, View.readAt_full arg6.view X6, View.readAt_full arg9.view X9, View.readAt_full arg11.view X11, h2, h3, h4, h5, h6, h7, h9, h11]

include h2 h3 h4 h5 h6 h7 h8 h9 h10 h11 in
set_option maxHeartbeats 4000000 in
theorem read14_Tok (hc1 : c1 i) (hc2 : ¬ c2 i) :
    arg14.view.read (Elt F) (runTok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.2.1 = bTok (xcTok i Y2 Y3 Y4 Y5 Y6) Y7 Y8 Y9 Y10 Y11 := by
  rw [show (runTok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.2.1 = arg14.view.writes (Elt F) arg14.view.junk (runTok.sl.H14_1 i arg2 arg3 arg4 arg5 arg6 arg7 arg8 arg9 arg10 arg11 X2 X3 X4 X5 X6 X7 X8 X9 X10 X11) from by
    unfold runTok; dsimp only, H14_Tok]
  rw [View.read_writes_full, View.readAt_full arg2.view X2, View.readAt_full arg3.view X3, View.readAt_full arg4.view X4, View.readAt_full arg5.view X5, View.readAt_full arg6.view X6, View.readAt_full arg9.view X9, View.readAt_full arg10.view X10, View.readAt_full arg11.view X11, h2, h3, h4, h5, h6, h7, h8, h9, h10, h11]

include h2 h3 h4 h5 h6 h7 h8 h9 h10 h11 in
set_option maxHeartbeats 4000000 in
theorem read12_Tok (hc1 : c1 i) (hc2 : ¬ c2 i) (h15 : arg15.view.read (Elt F) X15 = h) (r : Fin 256) (d : Fin 1024) :
    arg12.view.read (Elt F) (runTok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).1 (ix2 r d)
      = hseq (aTok (xcTok i Y2 Y3 Y4 Y5 Y6) Y7 Y9 Y11) (bTok (xcTok i Y2 Y3 Y4 Y5 Y6) Y7 Y8 Y9 Y10 Y11) h (r.val + 1) (ix2 0 d) := by
  have e13 := read13_Tok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 h2 h3 h4 h5 h6 h7 h9 h11 hc1 hc2
  have e14 := read14_Tok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 h2 h3 h4 h5 h6 h7 h8 h9 h10 h11 hc1 hc2
  rw [show (runTok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).1 = arg12.view.writes (Elt F) X12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (runTok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.1 (runTok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.2.1 (View.readAt (Elt F) arg15.view (Rect.unit (s := S1x1024) ![0, 0] S1x1024.size inb_S1x1024_S1x1024_0_0).toLoadRect X15) k0_t1_loop.trips).2 from by
    unfold runTok; dsimp only]
  rw [st_snd c i arg2 harg2 arg3 harg3 arg4 harg4 arg5 harg5 arg6 harg6 arg7 harg7 arg8 harg8 arg9 harg9 arg10 harg10 arg11 harg11 arg12 harg12 arg13 harg13 arg14 harg14 arg15 harg15 _ _ e13 e14 _ (by rw [trips_le]) r (by rw [trips_le]; exact r.isLt) d]
  rw [View.readAt_full, h15]

include h2 h3 h4 h5 h6 h7 h8 h9 h10 h11 in
set_option maxHeartbeats 4000000 in
theorem read15_Tok (hc1 : c1 i) (hc2 : ¬ c2 i) (h15 : arg15.view.read (Elt F) X15 = h) :
    arg15.view.read (Elt F) (runTok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.2.2.1
      = k0_pay8 (hseq (aTok (xcTok i Y2 Y3 Y4 Y5 Y6) Y7 Y9 Y11) (bTok (xcTok i Y2 Y3 Y4 Y5 Y6) Y7 Y8 Y9 Y10 Y11) h 256) := by
  have e13 := read13_Tok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 h2 h3 h4 h5 h6 h7 h9 h11 hc1 hc2
  have e14 := read14_Tok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 h2 h3 h4 h5 h6 h7 h8 h9 h10 h11 hc1 hc2
  have e : ∃ G L, (runTok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.2.2.1 = arg15.view.writes (Elt F) G (⟨Rect.unit (s := S1x1024) ![0, 0] S1x1024.size inb_S1x1024_S1x1024_0_0,
      k0_pay8 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (runTok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.1 (runTok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.2.1 (View.readAt (Elt F) arg15.view (Rect.unit (s := S1x1024) ![0, 0] S1x1024.size inb_S1x1024_S1x1024_0_0).toLoadRect X15) k0_t1_loop.trips).1⟩ :: L) := by
    unfold runTok; dsimp only; exact ⟨_, _, rfl⟩
  obtain ⟨G, L, e⟩ := e
  rw [e, View.read_writes_full, st_fst c i arg2 harg2 arg3 harg3 arg4 harg4 arg5 harg5 arg6 harg6 arg7 harg7 arg8 harg8 arg9 harg9 arg10 harg10 arg11 harg11 arg12 harg12 arg13 harg13 arg14 harg14 arg15 harg15 _ e13 e14 _ (by rw [trips_le]), trips_le]
  rw [View.readAt_full, h15]

theorem H13_Tail : runTail.sl.H13_1 arg2 arg4 arg5 arg6 arg7 arg9 arg11 X2 X4 X5 X6 X7 X9 X11
    = [⟨Rect.unit (s := S256x1024) ![0, 0] S256x1024.size inb_S256x1024_S256x1024_0_0, aTail (xcTail (View.readAt (Elt F) arg2.view (Rect.unit (s := S256x1024) ![0, 0] S256x1024.size inb_S256x1024_S256x1024_0_0).toLoadRect X2) (View.readAt (Elt F) arg4.view (Rect.unit (s := S8x1024) ![0, 0] S8x1024.size inb_S8x1024_S8x1024_0_0).toLoadRect X4) (View.readAt (Elt F) arg5.view (Rect.unit (s := S4x1024) ![0, 0] S4x1024.size inb_S4x1024_S4x1024_0_0).toLoadRect X5) (View.readAt (Elt F) arg6.view (Rect.unit (s := S1x1024) ![0, 0] S1x1024.size inb_S1x1024_S1x1024_0_0).toLoadRect X6)) (arg7.view.read (Elt F) X7) (View.readAt (Elt F) arg9.view (Rect.unit (s := S1x1024) ![0, 0] S1x1024.size inb_S1x1024_S1x1024_0_0).toLoadRect X9) (View.readAt (Elt F) arg11.view (Rect.unit (s := S1x1024) ![0, 0] S1x1024.size inb_S1x1024_S1x1024_0_0).toLoadRect X11)⟩] := rfl

theorem H14_Tail : runTail.sl.H14_1 arg2 arg4 arg5 arg6 arg7 arg8 arg9 arg10 arg11 X2 X4 X5 X6 X7 X8 X9 X10 X11
    = [⟨Rect.unit (s := S256x1024) ![0, 0] S256x1024.size inb_S256x1024_S256x1024_0_0, bTail (xcTail (View.readAt (Elt F) arg2.view (Rect.unit (s := S256x1024) ![0, 0] S256x1024.size inb_S256x1024_S256x1024_0_0).toLoadRect X2) (View.readAt (Elt F) arg4.view (Rect.unit (s := S8x1024) ![0, 0] S8x1024.size inb_S8x1024_S8x1024_0_0).toLoadRect X4) (View.readAt (Elt F) arg5.view (Rect.unit (s := S4x1024) ![0, 0] S4x1024.size inb_S4x1024_S4x1024_0_0).toLoadRect X5) (View.readAt (Elt F) arg6.view (Rect.unit (s := S1x1024) ![0, 0] S1x1024.size inb_S1x1024_S1x1024_0_0).toLoadRect X6)) (arg7.view.read (Elt F) X7) (arg8.view.read (Elt F) X8) (View.readAt (Elt F) arg9.view (Rect.unit (s := S1x1024) ![0, 0] S1x1024.size inb_S1x1024_S1x1024_0_0).toLoadRect X9) (View.readAt (Elt F) arg10.view (Rect.unit (s := S1x1024) ![0, 0] S1x1024.size inb_S1x1024_S1x1024_0_0).toLoadRect X10) (View.readAt (Elt F) arg11.view (Rect.unit (s := S1x1024) ![0, 0] S1x1024.size inb_S1x1024_S1x1024_0_0).toLoadRect X11)⟩] := rfl

include h2 h4 h5 h6 h7 h9 h11 in
set_option maxHeartbeats 4000000 in
theorem read13_Tail (hc1 : ¬ c1 i) (hc2 : c2 i) :
    arg13.view.read (Elt F) (runTail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.1 = aTail (xcTail Y2 Y4 Y5 Y6) Y7 Y9 Y11 := by
  rw [show (runTail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.1 = arg13.view.writes (Elt F) arg13.view.junk (runTail.sl.H13_1 arg2 arg4 arg5 arg6 arg7 arg9 arg11 X2 X4 X5 X6 X7 X9 X11) from by
    unfold runTail; dsimp only, H13_Tail]
  rw [View.read_writes_full, View.readAt_full arg2.view X2, View.readAt_full arg4.view X4, View.readAt_full arg5.view X5, View.readAt_full arg6.view X6, View.readAt_full arg9.view X9, View.readAt_full arg11.view X11, h2, h4, h5, h6, h7, h9, h11]

include h2 h4 h5 h6 h7 h8 h9 h10 h11 in
set_option maxHeartbeats 4000000 in
theorem read14_Tail (hc1 : ¬ c1 i) (hc2 : c2 i) :
    arg14.view.read (Elt F) (runTail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.2.1 = bTail (xcTail Y2 Y4 Y5 Y6) Y7 Y8 Y9 Y10 Y11 := by
  rw [show (runTail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.2.1 = arg14.view.writes (Elt F) arg14.view.junk (runTail.sl.H14_1 arg2 arg4 arg5 arg6 arg7 arg8 arg9 arg10 arg11 X2 X4 X5 X6 X7 X8 X9 X10 X11) from by
    unfold runTail; dsimp only, H14_Tail]
  rw [View.read_writes_full, View.readAt_full arg2.view X2, View.readAt_full arg4.view X4, View.readAt_full arg5.view X5, View.readAt_full arg6.view X6, View.readAt_full arg9.view X9, View.readAt_full arg10.view X10, View.readAt_full arg11.view X11, h2, h4, h5, h6, h7, h8, h9, h10, h11]

include h2 h4 h5 h6 h7 h8 h9 h10 h11 in
set_option maxHeartbeats 4000000 in
theorem read12_Tail (hc1 : ¬ c1 i) (hc2 : c2 i)  (r : Fin 256) (d : Fin 1024) :
    arg12.view.read (Elt F) (runTail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).1 (ix2 r d)
      = hseq (aTail (xcTail Y2 Y4 Y5 Y6) Y7 Y9 Y11) (bTail (xcTail Y2 Y4 Y5 Y6) Y7 Y8 Y9 Y10 Y11) k0_pay6 (r.val + 1) (ix2 0 d) := by
  have e13 := read13_Tail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 h2 h4 h5 h6 h7 h9 h11 hc1 hc2
  have e14 := read14_Tail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 h2 h4 h5 h6 h7 h8 h9 h10 h11 hc1 hc2
  rw [show (runTail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).1 = arg12.view.writes (Elt F) X12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (runTail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.1 (runTail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.2.1 (runTail.sl.v11 (F := F) arg15) k0_t1_loop.trips).2 from by
    unfold runTail; dsimp only]
  rw [st_snd c i arg2 harg2 arg3 harg3 arg4 harg4 arg5 harg5 arg6 harg6 arg7 harg7 arg8 harg8 arg9 harg9 arg10 harg10 arg11 harg11 arg12 harg12 arg13 harg13 arg14 harg14 arg15 harg15 _ _ e13 e14 _ (by rw [trips_le]) r (by rw [trips_le]; exact r.isLt) d]
  rw [show runTail.sl.v11 (F := F) arg15 = k0_pay6 from View.readCov_full _ _ _ _ _]

include h2 h4 h5 h6 h7 h8 h9 h10 h11 in
set_option maxHeartbeats 4000000 in
theorem read15_Tail (hc1 : ¬ c1 i) (hc2 : c2 i)  :
    arg15.view.read (Elt F) (runTail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.2.2.1
      = k0_pay8 (hseq (aTail (xcTail Y2 Y4 Y5 Y6) Y7 Y9 Y11) (bTail (xcTail Y2 Y4 Y5 Y6) Y7 Y8 Y9 Y10 Y11) k0_pay6 256) := by
  have e13 := read13_Tail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 h2 h4 h5 h6 h7 h9 h11 hc1 hc2
  have e14 := read14_Tail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 h2 h4 h5 h6 h7 h8 h9 h10 h11 hc1 hc2
  have e : ∃ G L, (runTail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.2.2.1 = arg15.view.writes (Elt F) G (⟨Rect.unit (s := S1x1024) ![0, 0] S1x1024.size inb_S1x1024_S1x1024_0_0,
      k0_pay8 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (runTail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.1 (runTail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2).2.2.1 (runTail.sl.v11 (F := F) arg15) k0_t1_loop.trips).1⟩ :: L) := by
    unfold runTail; dsimp only; exact ⟨_, _, rfl⟩
  obtain ⟨G, L, e⟩ := e
  rw [e, View.read_writes_full, st_fst c i arg2 harg2 arg3 harg3 arg4 harg4 arg5 harg5 arg6 harg6 arg7 harg7 arg8 harg8 arg9 harg9 arg10 harg10 arg11 harg11 arg12 harg12 arg13 harg13 arg14 harg14 arg15 harg15 _ e13 e14 _ (by rw [trips_le]), trips_le]
  rw [show runTail.sl.v11 (F := F) arg15 = k0_pay6 from View.readCov_full _ _ _ _ _]

end

end Cert.Proof.Scan

end
-- ==== Proof.ScanStep.lean ====
/-
  `Kernel6Ideal`'s body at a point, over blocks: what it leaves, as values of the blocks it is given.
-/
module

public import proofs.«01_k».proof.Proof.ScanValue

@[expose] public section

set_option maxRecDepth 16384

noncomputable section

namespace Cert.Proof.Scan

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Memref `M` held whole at contents that read `Y`. -/
def rd (c : Dev nD) {S : Shape} {e : EltTy} (M : Memref sig .tc .vmem S e) (Y : S.Idx → Elt F e) : sProp 𝕄 :=
  iprop(∃ f, ⌜M.view.read (Elt F) f = Y⌝ ∗ pt c M f)

/-- Memref `M` held whole. -/
def anyOf (c : Dev nD) {S : Shape} {e : EltTy} (M : Memref sig .tc .vmem S e) : sProp 𝕄 := iprop(∃ f, pt (F := F) c M f)

/-- The tile of the rows carried, one a step. -/
def rows (A B : Vec F S256x1024 .f32) (h : Vec F S1x1024 .f32) : Vec F S256x1024 .f32 := fun y =>
  hseq A B h ((y (0 : Fin 2)).val + 1) (ix2 0 (y (1 : Fin 2)))

theorem read_rows {M : Memref sig .tc .vmem S256x1024 .f32} (X : BufTy.Contents (Elt F) M.view.ty) (A B : Vec F S256x1024 .f32) (h : Vec F S1x1024 .f32)
    (hX : ∀ (r : Fin 256) (d : Fin 1024), M.view.read (Elt F) X (ix2 r d) = hseq A B h (r.val + 1) (ix2 0 d)) :
    M.view.read (Elt F) X = rows A B h := by
  funext y
  unfold rows
  obtain ⟨r, d, rfl⟩ : ∃ (r : Fin 256) (d : Fin 1024), y = ix2 r d :=
    ⟨y (0 : Fin 2), y (1 : Fin 2), funext fun a => Fin.cases rfl (fun a => Fin.cases rfl (fun a => a.elim0) a) a⟩
  exact hX r d

theorem unpack {A B C D : Type} {P : A → B → C → D → Prop} {S : A → D → Prop} (R : Σ' (a : A) (b : B) (c : C), {d : D // P a b c d})
    (h : S R.1 R.2.2.2.1) : ∃ a b c d, S a d ∧ P a b c d := ⟨_, _, _, _, h, R.2.2.2.2⟩

section

variable (c : Dev nD) (i : grid0.Coords)
  (arg2 : Memref sig .tc .vmem S256x1024 .f32) (harg2 : arg2.IsWhole)
  (arg3 : Memref sig .tc .vmem S8x1024 .f32) (harg3 : arg3.IsWhole)
  (arg4 : Memref sig .tc .vmem S8x1024 .f32) (harg4 : arg4.IsWhole)
  (arg5 : Memref sig .tc .vmem S4x1024 .f32) (harg5 : arg5.IsWhole)
  (arg6 : Memref sig .tc .vmem S1x1024 .f32) (harg6 : arg6.IsWhole)
  (arg7 : Memref sig .tc .vmem S4x256x256 .bf16) (harg7 : arg7.IsWhole)
  (arg8 : Memref sig .tc .vmem S4x256x256 .bf16) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1x1024 .f32) (harg11 : arg11.IsWhole)
  (arg12 : Memref sig .tc .vmem S256x1024 .f32) (harg12 : arg12.IsWhole)
  (arg13 : Memref sig .tc .vmem S256x1024 .f32) (harg13 : arg13.IsWhole)
  (arg14 : Memref sig .tc .vmem S256x1024 .f32) (harg14 : arg14.IsWhole)
  (arg15 : Memref sig .tc .vmem S1x1024 .f32) (harg15 : arg15.IsWhole)
  (Y2 : Vec F S256x1024 .f32)
  (Y3 : Vec F S8x1024 .f32)
  (Y4 : Vec F S8x1024 .f32)
  (Y5 : Vec F S4x1024 .f32)
  (Y6 : Vec F S1x1024 .f32)
  (Y7 : Vec F S4x256x256 .bf16)
  (Y8 : Vec F S4x256x256 .bf16)
  (Y9 : Vec F S1x1024 .f32)
  (Y10 : Vec F S1x1024 .f32)
  (Y11 : Vec F S1x1024 .f32)
  (h : Vec F S1x1024 .f32)

set_option maxHeartbeats 4000000 in
theorem stepTok (hc1 : c1 i) (hc2 : ¬ c2 i) (Q : PUnit → sProp 𝕄) :
    iprop(rd c arg2 Y2 ∗ rd c arg3 Y3 ∗ rd c arg4 Y4 ∗ rd c arg5 Y5 ∗ rd c arg6 Y6 ∗ rd c arg7 Y7 ∗ rd c arg8 Y8 ∗ rd c arg9 Y9 ∗ rd c arg10 Y10 ∗ rd c arg11 Y11 ∗ anyOf c arg12 ∗ anyOf c arg13 ∗ anyOf c arg14 ∗ rd c arg15 h
      ∗ (iprop(rd c arg2 Y2 ∗ rd c arg3 Y3 ∗ rd c arg4 Y4 ∗ rd c arg5 Y5 ∗ rd c arg6 Y6 ∗ rd c arg7 Y7 ∗ rd c arg8 Y8 ∗ rd c arg9 Y9 ∗ rd c arg10 Y10 ∗ rd c arg11 Y11 ∗ rd c arg12 (rows (aTok (xcTok i Y2 Y3 Y4 Y5 Y6) Y7 Y9 Y11) (bTok (xcTok i Y2 Y3 Y4 Y5 Y6) Y7 Y8 Y9 Y10 Y11) h) ∗ anyOf c arg13 ∗ anyOf c arg14 ∗ rd c arg15 (k0_pay8 (hseq (aTok (xcTok i Y2 Y3 Y4 Y5 Y6) Y7 Y9 Y11) (bTok (xcTok i Y2 Y3 Y4 Y5 Y6) Y7 Y8 Y9 Y10 Y11) h 256))) -∗ Q ⟨⟩))
    ⊢ wp frame (wpE (defs₀ (F := F)) Variants.none (c : Thread nD τ) none) Set.univ (cc0_scan_fwd i arg2 harg2 arg3 harg3 arg4 harg4 arg5 harg5 arg6 harg6 arg7 harg7 arg8 harg8 arg9 harg9 arg10 harg10 arg11 harg11 arg12 harg12 arg13 harg13 arg14 harg14 arg15 harg15) Q := by
  unfold rd anyOf
  iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, ⟨%X12, H12⟩, ⟨%X13, H13⟩, ⟨%X14, H14⟩, ⟨%X15, %h15, H15⟩, HQ⟩
  obtain ⟨r12, r13, r14, r15, ⟨e12, e15⟩, run⟩ := unpack (S := fun r12 r15 => arg12.view.read (Elt F) r12 = rows (aTok (xcTok i Y2 Y3 Y4 Y5 Y6) Y7 Y9 Y11) (bTok (xcTok i Y2 Y3 Y4 Y5 Y6) Y7 Y8 Y9 Y10 Y11) h
      ∧ arg15.view.read (Elt F) r15 = k0_pay8 (hseq (aTok (xcTok i Y2 Y3 Y4 Y5 Y6) Y7 Y9 Y11) (bTok (xcTok i Y2 Y3 Y4 Y5 Y6) Y7 Y8 Y9 Y10 Y11) h 256)) (runTok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2)
    ⟨read_rows _ _ _ _ fun r d => read12_Tok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 h2 h3 h4 h5 h6 h7 h8 h9 h10 h11 hc1 hc2 h15 r d,
      read15_Tok c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 h2 h3 h4 h5 h6 h7 h8 h9 h10 h11 hc1 hc2 h15⟩
  iapply (run Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H2, H3, H4, H5, H6, H7, H8, H9, H10, H11, H12, H13, H14, H15⟩
  iapply HQ
  isplitl [H2]
  · iexists X2; isplitr [H2]; · ipureintro; exact h2
    iexact H2
  isplitl [H3]
  · iexists X3; isplitr [H3]; · ipureintro; exact h3
    iexact H3
  isplitl [H4]
  · iexists X4; isplitr [H4]; · ipureintro; exact h4
    iexact H4
  isplitl [H5]
  · iexists X5; isplitr [H5]; · ipureintro; exact h5
    iexact H5
  isplitl [H6]
  · iexists X6; isplitr [H6]; · ipureintro; exact h6
    iexact H6
  isplitl [H7]
  · iexists X7; isplitr [H7]; · ipureintro; exact h7
    iexact H7
  isplitl [H8]
  · iexists X8; isplitr [H8]; · ipureintro; exact h8
    iexact H8
  isplitl [H9]
  · iexists X9; isplitr [H9]; · ipureintro; exact h9
    iexact H9
  isplitl [H10]
  · iexists X10; isplitr [H10]; · ipureintro; exact h10
    iexact H10
  isplitl [H11]
  · iexists X11; isplitr [H11]; · ipureintro; exact h11
    iexact H11
  isplitl [H12]
  · iexists r12; isplitr [H12]; · ipureintro; exact e12
    iexact H12
  isplitl [H13]; · iexists r13; iexact H13
  isplitl [H14]; · iexists r14; iexact H14
  iexists r15; isplitr [H15]; · ipureintro; exact e15
  iexact H15

set_option maxHeartbeats 4000000 in
theorem stepTail (hc1 : ¬ c1 i) (hc2 : c2 i) (Q : PUnit → sProp 𝕄) :
    iprop(rd c arg2 Y2 ∗ rd c arg3 Y3 ∗ rd c arg4 Y4 ∗ rd c arg5 Y5 ∗ rd c arg6 Y6 ∗ rd c arg7 Y7 ∗ rd c arg8 Y8 ∗ rd c arg9 Y9 ∗ rd c arg10 Y10 ∗ rd c arg11 Y11 ∗ anyOf c arg12 ∗ anyOf c arg13 ∗ anyOf c arg14 ∗ anyOf c arg15
      ∗ (iprop(rd c arg2 Y2 ∗ rd c arg3 Y3 ∗ rd c arg4 Y4 ∗ rd c arg5 Y5 ∗ rd c arg6 Y6 ∗ rd c arg7 Y7 ∗ rd c arg8 Y8 ∗ rd c arg9 Y9 ∗ rd c arg10 Y10 ∗ rd c arg11 Y11 ∗ rd c arg12 (rows (aTail (xcTail Y2 Y4 Y5 Y6) Y7 Y9 Y11) (bTail (xcTail Y2 Y4 Y5 Y6) Y7 Y8 Y9 Y10 Y11) k0_pay6) ∗ anyOf c arg13 ∗ anyOf c arg14 ∗ rd c arg15 (k0_pay8 (hseq (aTail (xcTail Y2 Y4 Y5 Y6) Y7 Y9 Y11) (bTail (xcTail Y2 Y4 Y5 Y6) Y7 Y8 Y9 Y10 Y11) k0_pay6 256))) -∗ Q ⟨⟩))
    ⊢ wp frame (wpE (defs₀ (F := F)) Variants.none (c : Thread nD τ) none) Set.univ (cc0_scan_fwd i arg2 harg2 arg3 harg3 arg4 harg4 arg5 harg5 arg6 harg6 arg7 harg7 arg8 harg8 arg9 harg9 arg10 harg10 arg11 harg11 arg12 harg12 arg13 harg13 arg14 harg14 arg15 harg15) Q := by
  unfold rd anyOf
  iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, ⟨%X12, H12⟩, ⟨%X13, H13⟩, ⟨%X14, H14⟩, ⟨%X15, H15⟩, HQ⟩
  obtain ⟨r12, r13, r14, r15, ⟨e12, e15⟩, run⟩ := unpack (S := fun r12 r15 => arg12.view.read (Elt F) r12 = rows (aTail (xcTail Y2 Y4 Y5 Y6) Y7 Y9 Y11) (bTail (xcTail Y2 Y4 Y5 Y6) Y7 Y8 Y9 Y10 Y11) k0_pay6
      ∧ arg15.view.read (Elt F) r15 = k0_pay8 (hseq (aTail (xcTail Y2 Y4 Y5 Y6) Y7 Y9 Y11) (bTail (xcTail Y2 Y4 Y5 Y6) Y7 Y8 Y9 Y10 Y11) k0_pay6 256)) (runTail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 hc1 hc2)
    ⟨read_rows _ _ _ _ fun r d => read12_Tail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 h2 h4 h5 h6 h7 h8 h9 h10 h11 hc1 hc2 r d,
      read15_Tail c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 X11 X12 X13 X14 X15 h2 h4 h5 h6 h7 h8 h9 h10 h11 hc1 hc2⟩
  iapply (run Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H2, H3, H4, H5, H6, H7, H8, H9, H10, H11, H12, H13, H14, H15⟩
  iapply HQ
  isplitl [H2]
  · iexists X2; isplitr [H2]; · ipureintro; exact h2
    iexact H2
  isplitl [H3]
  · iexists X3; isplitr [H3]; · ipureintro; exact h3
    iexact H3
  isplitl [H4]
  · iexists X4; isplitr [H4]; · ipureintro; exact h4
    iexact H4
  isplitl [H5]
  · iexists X5; isplitr [H5]; · ipureintro; exact h5
    iexact H5
  isplitl [H6]
  · iexists X6; isplitr [H6]; · ipureintro; exact h6
    iexact H6
  isplitl [H7]
  · iexists X7; isplitr [H7]; · ipureintro; exact h7
    iexact H7
  isplitl [H8]
  · iexists X8; isplitr [H8]; · ipureintro; exact h8
    iexact H8
  isplitl [H9]
  · iexists X9; isplitr [H9]; · ipureintro; exact h9
    iexact H9
  isplitl [H10]
  · iexists X10; isplitr [H10]; · ipureintro; exact h10
    iexact H10
  isplitl [H11]
  · iexists X11; isplitr [H11]; · ipureintro; exact h11
    iexact H11
  isplitl [H12]
  · iexists r12; isplitr [H12]; · ipureintro; exact e12
    iexact H12
  isplitl [H13]; · iexists r13; iexact H13
  isplitl [H14]; · iexists r14; iexact H14
  iexists r15; isplitr [H15]; · ipureintro; exact e15
  iexact H15

end

end Cert.Proof.Scan

end
-- ==== Proof.ScanRun.lean ====
/-
  `Kernel6Ideal`'s run: at every grid point the body leaves its output block at the recurrence over that point's
  coefficients, from the row the point before left in the carry scratch, or from zero at a batch's first point.
-/
module

public import proofs.«01_k».proof.Proof.Gen.Kernel6Ideal.Frame
public import proofs.«01_k».proof.Proof.Gen.Kernel6Ideal.Points
public import proofs.«01_k».proof.Proof.ScanStep
public import Idealize.ShloMosaic.Lib.Pipeline.ValueKit

@[expose] public section

set_option maxRecDepth 16384

noncomputable section

namespace Cert.Proof.Scan

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg) (c : Dev nD)

/-- The convolved tile of point `t`, when it is its batch's first. -/
def xcF (t : Fin cfg0.N) : FVec Ideal S256x1024 .f32 := xcTail (F := Ideal) (iblk m c 0 t) (iblk m c 2 t) (iblk m c 3 t) (iblk m c 4 t)

/-- The convolved tile of point `t`, when it is not. -/
def xcR (t : Fin cfg0.N) : FVec Ideal S256x1024 .f32 :=
  xcTok (F := Ideal) (grid0.coords t) (iblk m c 0 t) (iblk m c 1 t) (iblk m c 2 t) (iblk m c 3 t) (iblk m c 4 t)

/-- The multipliers of point `t`. -/
def aAt (t : Fin cfg0.N) : FVec Ideal S256x1024 .f32 :=
  if t.val % 65 = 0 then aTail (F := Ideal) (xcF m c t) (iblk m c 5 t) (iblk m c 7 t) (iblk m c 9 t)
  else aTok (F := Ideal) (xcR m c t) (iblk m c 5 t) (iblk m c 7 t) (iblk m c 9 t)

/-- The additions of point `t`. -/
def bAt (t : Fin cfg0.N) : FVec Ideal S256x1024 .f32 :=
  if t.val % 65 = 0 then bTail (F := Ideal) (xcF m c t) (iblk m c 5 t) (iblk m c 6 t) (iblk m c 7 t) (iblk m c 8 t) (iblk m c 9 t)
  else bTok (F := Ideal) (xcR m c t) (iblk m c 5 t) (iblk m c 6 t) (iblk m c 7 t) (iblk m c 8 t) (iblk m c 9 t)

/-- Point `n` of the grid. -/
def tn (n : ℕ) : Fin cfg0.N := ⟨n % 130, lt_of_lt_of_eq (Nat.mod_lt _ (by decide)) N_0.symm⟩

theorem tn_val (t : Fin cfg0.N) : tn t.val = t := Fin.ext (Nat.mod_eq_of_lt (lt_of_lt_of_eq t.isLt N_0))

/-- The row the points before point `n` leave in the carry scratch. -/
def carry : ℕ → Vec Ideal S1x1024 .f32
  | 0 => k0_pay6 (F := Ideal)
  | n + 1 => k0_pay8 (F := Ideal) (hseq (F := Ideal) (aAt m c (tn n)) (bAt m c (tn n)) (if n % 65 = 0 then k0_pay6 (F := Ideal) else carry n) 256)

/-- The row point `n` starts from. -/
def start (n : ℕ) : Vec Ideal S1x1024 .f32 := if n % 65 = 0 then k0_pay6 (F := Ideal) else carry m c n

theorem carry_succ (t : Fin cfg0.N) : carry m c (t.val + 1) = k0_pay8 (F := Ideal) (hseq (F := Ideal) (aAt m c t) (bAt m c t) (start m c t.val) 256) := by
  unfold start
  rw [carry, tn_val]

/-- The output block of point `t`. -/
def oblk (t : Fin cfg0.N) : S256x1024.Idx → EReal := rows (F := Ideal) (aAt m c t) (bAt m c t) (start m c t.val)

theorem c1_iff : ∀ t : Fin grid0.N, c1 (grid0.coords t) ↔ t.val % 65 ≠ 0 := by decide +kernel
theorem c2_iff : ∀ t : Fin grid0.N, c2 (grid0.coords t) ↔ t.val % 65 = 0 := by decide +kernel

/-! ## The launch -/

/-- Between points: every scratch holds something, and the carry scratch, inside a batch, the carried row. -/
def inv (n : ℕ) : sProp 𝕄 := iprop(
  (anyOf (F := Ideal) c (Memref.whole cc0_scratch0) ∗ anyOf (F := Ideal) c (Memref.whole cc0_scratch1)
    ∗ (if n % 65 = 0 then anyOf (F := Ideal) c (Memref.whole cc0_scratch2) else rd (F := Ideal) c (Memref.whole cc0_scratch2) (carry m c n)))
  ∗ ∃ r, prngReg c r)

theorem rd_any {S : Shape} {e : EltTy} (M : Memref sig .tc .vmem S e) (Y : S.Idx → Elt Ideal e) : (rd (F := Ideal) c M Y : sProp 𝕄) ⊢ anyOf (F := Ideal) c M := by
  unfold rd anyOf
  iintro ⟨%f, -, H⟩
  iexists f; iexact H

/-- What a point leaves in the carry scratch is what the next takes. -/
theorem carry_next (n : ℕ) : (rd (F := Ideal) c (Memref.whole cc0_scratch2) (carry m c n) : sProp 𝕄)
    ⊢ (if n % 65 = 0 then anyOf (F := Ideal) c (Memref.whole cc0_scratch2) else rd (F := Ideal) c (Memref.whole cc0_scratch2) (carry m c n)) := by
  split
  · exact rd_any c _ _
  · iintro H; iexact H

theorem carry_any (n : ℕ) : (if n % 65 = 0 then anyOf (F := Ideal) c (Memref.whole cc0_scratch2) else rd (F := Ideal) c (Memref.whole cc0_scratch2) (carry m c n) : sProp 𝕄)
    ⊢ anyOf (F := Ideal) c (Memref.whole cc0_scratch2) := by
  split
  · iintro H; iexact H
  · exact rd_any c _ _

theorem any_whole {S : Shape} {e : EltTy} (M : Memref sig .tc .vmem S e) (h : M.view.set = Finset.univ) :
    (anyOf (F := Ideal) c M : sProp 𝕄) = iprop(∃ f : Buf (Elt Ideal) (M.view.loc (c : Thread nD τ)), M.view.loc (c : Thread nD τ) ↦{fullShare} f) := by
  unfold anyOf pt; rw [h]

theorem owns_rd {S : Shape} {e : EltTy} (M : Memref sig .tc .vmem S e) (Y : S.Idx → Elt Ideal e) :
    (owns (c : Thread nD τ) M fullShare Y : sProp 𝕄) = rd (F := Ideal) c M Y := rfl

/-- The pipeline's proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => oblk m c t
  Φ t := inv m c t.val
  q w := Pipeline.shareOf spec0 w
  owed _ := 0

theorem defs₀_row (t : Fin cfg0.N) : defs₀ (F := Ideal) .tc cfg0.body (cfg0.bodyArgs t (cfg0.slots t)) = bodyAt0 t := by
  unfold defs₀; rw [Defs.onTc_tc]

theorem after0 (t : Fin cfg0.N) : (dats m 0 c).after 0 t = iblk m c 0 t := rfl
theorem after1 (t : Fin cfg0.N) : (dats m 0 c).after 1 t = iblk m c 1 t := rfl
theorem after2 (t : Fin cfg0.N) : (dats m 0 c).after 2 t = iblk m c 2 t := rfl
theorem after3 (t : Fin cfg0.N) : (dats m 0 c).after 3 t = iblk m c 3 t := rfl
theorem after4 (t : Fin cfg0.N) : (dats m 0 c).after 4 t = iblk m c 4 t := rfl
theorem after5 (t : Fin cfg0.N) : (dats m 0 c).after 5 t = iblk m c 5 t := rfl
theorem after6 (t : Fin cfg0.N) : (dats m 0 c).after 6 t = iblk m c 6 t := rfl
theorem after7 (t : Fin cfg0.N) : (dats m 0 c).after 7 t = iblk m c 7 t := rfl
theorem after8 (t : Fin cfg0.N) : (dats m 0 c).after 8 t = iblk m c 8 t := rfl
theorem after9 (t : Fin cfg0.N) : (dats m 0 c).after 9 t = iblk m c 9 t := rfl
theorem after10 (t : Fin cfg0.N) : (dats m 0 c).after 10 t = oblk m c t := rfl

set_option maxHeartbeats 4000000 in
theorem body_obligation : BodyObligationLoose (dats m 0 c) (defs₀ (F := Ideal)) Variants.none () Set.univ := fun t => by
  rw [bigSep_W0, bigSep_W0, defs₀_row]
  rw [show (dats m 0 c).Φ t.castSucc = inv m c t.val from rfl, show (dats m 0 c).Φ t.succ = inv m c (t.val + 1) from rfl,
    show (dats m 0 c).owesAt () t.succ = (dats m 0 c).owesAt () t.castSucc from rfl]
  rw [after0, after1, after2, after3, after4, after5, after6, after7, after8, after9, after10]
  generalize hi : oblk m c t = O
  show iprop(inv m c t.val ∗ _ ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)))
    ⊢ wp frame (wpE (defs₀ (F := Ideal)) Variants.none (c : Thread nD τ) none) Set.univ (bodyAt0 t) fun _ => iprop(inv m c (t.val + 1) ∗ _ ∗
      owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (O))
  subst hi
  simp only [owns_rd]
  unfold inv
  by_cases hc : t.val % 65 = 0
  · have hc1 : ¬ c1 (grid0.coords t) := fun h => (c1_iff t).mp h hc
    have hc2 : c2 (grid0.coords t) := (c2_iff t).mpr hc
    rw [if_pos hc]
    have ea : aAt m c t = aTail (F := Ideal) (xcF m c t) (iblk m c 5 t) (iblk m c 7 t) (iblk m c 9 t) := if_pos hc
    have eb : bAt m c t = bTail (F := Ideal) (xcF m c t) (iblk m c 5 t) (iblk m c 6 t) (iblk m c 7 t) (iblk m c 8 t) (iblk m c 9 t) := if_pos hc
    have es : start m c t.val = k0_pay6 (F := Ideal) := if_pos hc
    rw [show oblk m c t = rows (F := Ideal) (aAt m c t) (bAt m c t) (start m c t.val) from rfl, ea, eb, es]
    have ec := carry_succ m c t
    rw [ea, eb, es] at ec
    iintro ⟨⟨⟨S0, S1, S2⟩, Hg⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    rw [before0_0_of m (dats m 0 c) rfl (fun _ => rfl), before0_1_of m (dats m 0 c) rfl (fun _ => rfl), before0_2_of m (dats m 0 c) rfl (fun _ => rfl), before0_3_of m (dats m 0 c) rfl (fun _ => rfl), before0_4_of m (dats m 0 c) rfl (fun _ => rfl), before0_5_of m (dats m 0 c) rfl (fun _ => rfl), before0_6_of m (dats m 0 c) rfl (fun _ => rfl), before0_7_of m (dats m 0 c) rfl (fun _ => rfl), before0_8_of m (dats m 0 c) rfl (fun _ => rfl), before0_9_of m (dats m 0 c) rfl (fun _ => rfl)]
    iapply (stepTail (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) hc1 hc2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (rd_any c _ _); iexact H10
    isplitl [S0]; · iexact S0
    isplitl [S1]; · iexact S1
    isplitl [S2]; · iexact S2
    iintro ⟨H0, H1, H2, H3, H4, H5, H6, H7, H8, H9, H10, S0, S1, S2⟩
    isplitl [S0 S1 S2 Hg]
    · isplitr [Hg]
      · isplitl [S0]; · iexact S0
        isplitl [S1]; · iexact S1
        iapply (carry_next m c _)
        rw [ec]
        iexact S2
      iexact Hg
    isplitl [Howes]; · iexact Howes
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hc1 : c1 (grid0.coords t) := (c1_iff t).mpr hc
    have hc2 : ¬ c2 (grid0.coords t) := fun h => hc ((c2_iff t).mp h)
    rw [if_neg hc]
    have ea : aAt m c t = aTok (F := Ideal) (xcR m c t) (iblk m c 5 t) (iblk m c 7 t) (iblk m c 9 t) := if_neg hc
    have eb : bAt m c t = bTok (F := Ideal) (xcR m c t) (iblk m c 5 t) (iblk m c 6 t) (iblk m c 7 t) (iblk m c 8 t) (iblk m c 9 t) := if_neg hc
    have es : start m c t.val = carry m c t.val := if_neg hc
    rw [show oblk m c t = rows (F := Ideal) (aAt m c t) (bAt m c t) (start m c t.val) from rfl, ea, eb, es]
    have ec := carry_succ m c t
    rw [ea, eb, es] at ec
    iintro ⟨⟨⟨S0, S1, S2⟩, Hg⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    rw [before0_0_of m (dats m 0 c) rfl (fun _ => rfl), before0_1_of m (dats m 0 c) rfl (fun _ => rfl), before0_2_of m (dats m 0 c) rfl (fun _ => rfl), before0_3_of m (dats m 0 c) rfl (fun _ => rfl), before0_4_of m (dats m 0 c) rfl (fun _ => rfl), before0_5_of m (dats m 0 c) rfl (fun _ => rfl), before0_6_of m (dats m 0 c) rfl (fun _ => rfl), before0_7_of m (dats m 0 c) rfl (fun _ => rfl), before0_8_of m (dats m 0 c) rfl (fun _ => rfl), before0_9_of m (dats m 0 c) rfl (fun _ => rfl)]
    iapply (stepTok (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (carry m c t.val) hc1 hc2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (rd_any c _ _); iexact H10
    isplitl [S0]; · iexact S0
    isplitl [S1]; · iexact S1
    isplitl [S2]; · iexact S2
    iintro ⟨H0, H1, H2, H3, H4, H5, H6, H7, H8, H9, H10, S0, S1, S2⟩
    isplitl [S0 S1 S2 Hg]
    · isplitr [Hg]
      · isplitl [S0]; · iexact S0
        isplitl [S1]; · iexact S1
        iapply (carry_next m c _)
        rw [ec]
        iexact S2
      iexact Hg
    isplitl [Howes]; · iexact Howes
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem phi_eq : (Pipeline.ΦA spec0 c : sProp 𝕄) = iprop((anyOf (F := Ideal) c (Memref.whole cc0_scratch0) ∗ anyOf (F := Ideal) c (Memref.whole cc0_scratch1)
    ∗ anyOf (F := Ideal) c (Memref.whole cc0_scratch2)) ∗ ∃ r, prngReg c r) := by
  unfold Pipeline.ΦA
  rw [scopedRest0_eq, any_whole c (Memref.whole cc0_scratch0) (View.set_whole _), any_whole c (Memref.whole cc0_scratch1) (View.set_whole _),
    any_whole c (Memref.whole cc0_scratch2) (View.set_whole _)]

theorem inv_in : Pipeline.ΦA spec0 c ⊢ inv m c 0 := by
  rw [phi_eq]
  unfold inv
  rw [if_pos rfl]

theorem inv_out (n : ℕ) : inv m c n ⊢ Pipeline.ΦA spec0 c := by
  rw [phi_eq]
  unfold inv
  iintro ⟨⟨S0, S1, S2⟩, Hg⟩
  isplitr [Hg]
  · isplitl [S0]; · iexact S0
    isplitl [S1]; · iexact S1
    iapply (carry_any m c n)
    iexact S2
  iexact Hg

end Cert.Proof.Scan

end
-- ==== Proof.ScanCoef.lean ====
/-
  `Kernel6Ideal`'s coefficient tiles at an index.
-/
module

public import proofs.«01_k».proof.Proof.ScanValue
public import Idealize.ShloMosaic.Lib.Pipeline.ValueKit

@[expose] public section

set_option maxRecDepth 16384

noncomputable section

namespace Cert.Proof.Scan

open Cert.Kernel6Ideal Cert.Kernel6Ideal.Gen
open Idealize.ShloMosaic Idealize.ShloMosaic.TcCoe Idealize.ShloMosaic.Tactic

/-- A channel's product with its head's matrix: `x` the head's 1024 channels of a row. -/
def dots (x : Fin 1024 → EReal) (W : Fin 4 → Fin 256 → Fin 256 → EReal) (d : Fin 1024) : EReal :=
  ∑ k : Fin 256, x ⟨256 * (d.val / 256) + k.val, by omega⟩ * W ⟨d.val / 256, by omega⟩ k ⟨d.val % 256, Nat.mod_lt _ (by decide)⟩

/-- The kernel's rate: `-8 / ln 2`. -/
abbrev rateC : EReal := Named.named (F := Ideal) κ "rate" (φ := .f32) 0xC138AA3B#32

/-- The softplus of a negated channel. -/
def sp (l : EReal) : EReal := max (-l) 0 + Ideal.log1p (Ideal.exp (-(max (-l) (-(-l)))))

theorem pay7_val (h a b : FVec Ideal S1x1024 .f32) (d : Fin 1024) : k0_pay7 (F := Ideal) h a b (ix2 0 d) = a (ix2 0 d) * h (ix2 0 d) + b (ix2 0 d) := by
  pointwise [k0_pay7]

theorem pay6_val (d : Fin 1024) : k0_pay6 (F := Ideal) (ix2 0 d) = 0 := by
  pointwise [k0_pay6]

theorem pay8_eq (h : FVec Ideal S1x1024 .f32) : k0_pay8 (F := Ideal) h = h := by
  funext y
  pointwise [k0_pay8]

theorem rateL_val (l : FVec Ideal S1x1024 .f32) (d : Fin 1024) : rateL (F := Ideal) l (ix2 0 d) = rateC * sp (l (ix2 0 d)) := by
  unfold sp
  pointwise [rateL, k0_pay13, k0_pay10, k0_pay11, k0_pay12]
  simp only [ne_eq, not_true_eq_false, if_false, zero_sub]
  rfl

theorem rateT_eq (l : FVec Ideal S1x1024 .f32) : rateT (F := Ideal) l = rateL (F := Ideal) l := rfl

section

variable (xc : FVec Ideal S256x1024 .f32) (wr wi : FVec Ideal S4x256x256 .bf16) (br bi l : FVec Ideal S1x1024 .f32)

theorem dots_split (x : Fin 1024 → EReal) (W : Fin 4 → Fin 256 → Fin 256 → EReal) (d : Fin 1024) :
    (if h : d.val < 256 then ∑ k : Fin 256, x ⟨k.val, by omega⟩ * W 0 k ⟨d.val, h⟩
      else if h : d.val - 256 < 256 then ∑ k : Fin 256, x ⟨256 + k.val, by omega⟩ * W 1 k ⟨d.val - 256, h⟩
      else if h : d.val - 256 - 256 < 256 then ∑ k : Fin 256, x ⟨512 + k.val, by omega⟩ * W 2 k ⟨d.val - 256 - 256, h⟩
      else ∑ k : Fin 256, x ⟨768 + k.val, by omega⟩ * W 3 k ⟨d.val - 256 - 256 - 256, by omega⟩) = dots x W d := by
  have key : ∀ (g : Fin 4) (o : ℕ) (j : Fin 256) (ho : ∀ k : Fin 256, o + k.val < 1024), d.val / 256 = g.val → o = 256 * g.val → d.val % 256 = j.val →
      ∑ k : Fin 256, x ⟨o + k.val, ho k⟩ * W g k j = dots x W d := by
    intro g o j ho h1 h2 h3
    subst h2
    unfold dots
    refine Finset.sum_congr rfl fun k _ => ?_
    have e1 : (⟨d.val / 256, by omega⟩ : Fin 4) = g := Fin.ext h1
    have e2 : (⟨d.val % 256, Nat.mod_lt _ (by decide)⟩ : Fin 256) = j := Fin.ext h3
    rw [e1, e2]
    congr 2
    exact Fin.ext (by dsimp only; omega)
  have hd := d.isLt
  split
  · rename_i h
    refine Eq.trans ?_ (key 0 0 ⟨d.val, h⟩ (fun k => by omega) (by simp; omega) rfl (by dsimp only; omega))
    refine Finset.sum_congr rfl fun k _ => ?_
    congr 2
    exact Fin.ext (by simp)
  split
  · rename_i h h'
    exact key 1 256 _ (fun k => by omega) (by simp; omega) rfl (by dsimp only; omega)
  split
  · exact key 2 512 _ (fun k => by omega) (by simp; omega) rfl (by dsimp only; omega)
  · exact key 3 768 _ (fun k => by omega) (by simp; omega) rfl (by dsimp only; omega)

/-- The two tokens' gates of a row and their coefficients. -/
def coefA (x : Fin 1024 → EReal) (W : Fin 4 → Fin 256 → Fin 256 → EReal) (b l : Fin 1024 → EReal) (d : Fin 1024) : EReal :=
  Ideal.exp2 (Ideal.logistic (dots x W d + b d) * (rateC * sp (l d)))

def coefB (x : Fin 1024 → EReal) (Wr Wi : Fin 4 → Fin 256 → Fin 256 → EReal) (br bi l : Fin 1024 → EReal) (d : Fin 1024) : EReal :=
  Ideal.sqrt (1 - coefA x Wr br l d * coefA x Wr br l d) * Ideal.logistic (dots x Wi d + bi d) * x d

/-- A row of a tile. -/
abbrev rowOf (x : FVec Ideal S256x1024 .f32) (r : Fin 256) : Fin 1024 → EReal := fun e => x (ix2 r e)
abbrev matOf (W : FVec Ideal S4x256x256 .bf16) : Fin 4 → Fin 256 → Fin 256 → EReal := fun g k j => W (ix3 g k j)
abbrev vecOf (b : FVec Ideal S1x1024 .f32) : Fin 1024 → EReal := fun e => b (ix2 0 e)

theorem aTok_val (r : Fin 256) (d : Fin 1024) : aTok (F := Ideal) xc wr br l (ix2 r d) = coefA (rowOf xc r) (matOf wr) (vecOf br) (vecOf l) d := by
  unfold coefA
  rw [← dots_split, ← rateL_val]
  pointwise [aTok, k0_pay3, k0_pay2, k0_pay15, k0_pay18, k0_pay21, k0_pay14, k0_pay17, k0_pay20, k0_pay1, w0, w1, w2, w3]
  rfl

theorem bTok_val (r : Fin 256) (d : Fin 1024) :
    bTok (F := Ideal) xc wr wi br bi l (ix2 r d) = coefB (rowOf xc r) (matOf wr) (matOf wi) (vecOf br) (vecOf bi) (vecOf l) d := by
  unfold coefB coefA
  rw [← dots_split, ← dots_split, ← rateL_val]
  pointwise [bTok, k0_pay4, k0_pay2, k0_pay15, k0_pay18, k0_pay21, k0_pay14, k0_pay17, k0_pay20, k0_pay1, k0_pay16, k0_pay19, w0, w1, w2, w3]
  all_goals rfl

theorem sel_row (n : ℕ) (hn : n < 256) (a b : EReal) : Scalar.select (IntOp.cmpi CmpIPredicate.slt (BitVec.ofNat 32 n) 16#32) a b = if n < 16 then a else b := by
  have h : ∀ k : Fin 256, IntOp.cmpi CmpIPredicate.slt (BitVec.ofNat 32 k.val) 16#32 = if k.val < 16 then 1#1 else 0#1 := by decide +kernel
  rw [show n = (⟨n, hn⟩ : Fin 256).val from rfl, h]
  split <;> rfl

theorem aTail_val (r : Fin 256) (d : Fin 1024) :
    aTail (F := Ideal) xc wr br l (ix2 r d) = if r.val < 16 then coefA (rowOf xc r) (matOf wr) (vecOf br) (vecOf l) d else 1 := by
  unfold coefA
  rw [← dots_split, ← rateL_val, ← rateT_eq]
  pointwise [aTail, k0_pay42, k0_pay40, k0_pay39, k0_pay41, k0_pay30, k0_pay33, k0_pay36, k0_pay38, k0_pay29, k0_pay32, k0_pay35, w0, w1, w2, w3]
  rw [sel_row _ r.isLt]
  rfl

theorem bTail_val (r : Fin 256) (d : Fin 1024) :
    bTail (F := Ideal) xc wr wi br bi l (ix2 r d)
      = if r.val < 16 then coefB (rowOf xc r) (matOf wr) (matOf wi) (vecOf br) (vecOf bi) (vecOf l) d else 0 := by
  unfold coefB coefA
  rw [← dots_split, ← dots_split, ← rateL_val, ← rateT_eq]
  pointwise [bTail, k0_pay5, k0_pay43, k0_pay40, k0_pay39, k0_pay41, k0_pay30, k0_pay33, k0_pay36, k0_pay38, k0_pay29, k0_pay32, k0_pay35, k0_pay31, k0_pay34, k0_pay37, w0, w1, w2, w3]
  rw [sel_row _ r.isLt]
  rfl

/-- A condition on a grid coordinate, as a proposition. -/
theorem sel_gt (n : ℕ) (hn : n < 65) (a b : EReal) : Scalar.select (Scalar.cmpi CmpIPredicate.sgt (BitVec.ofNat 32 n) 0#32) a b = if 0 < n then a else b := by
  have h : ∀ k : Fin 65, Scalar.cmpi CmpIPredicate.sgt (BitVec.ofNat 32 k.val) 0#32 = if 0 < k.val then 1#1 else 0#1 := by decide +kernel
  rw [show n = (⟨n, hn⟩ : Fin 65).val from rfl, h]
  split <;> rfl

theorem sel_lt (n : ℕ) (hn : n < 65) (a b : EReal) : Scalar.select (Scalar.cmpi CmpIPredicate.slt (BitVec.ofNat 32 n) 64#32) a b = if n < 64 then a else b := by
  have h : ∀ k : Fin 65, Scalar.cmpi CmpIPredicate.slt (BitVec.ofNat 32 k.val) 64#32 = if k.val < 64 then 1#1 else 0#1 := by decide +kernel
  rw [show n = (⟨n, hn⟩ : Fin 65).val from rfl, h]
  split <;> rfl

/-- A channel of the 272 rows a token tile's convolution reads. -/
def padTok (j : ℕ) (x : FVec Ideal S256x1024 .bf16) (p n : FVec Ideal S8x1024 .bf16) (d : Fin 1024) (q : ℕ) : EReal :=
  if q < 8 then (if 0 < j then p (ix2 ⟨q % 8, Nat.mod_lt _ (by decide)⟩ d) else 0)
  else if q - 8 < 256 then x (ix2 ⟨(q - 8) % 256, Nat.mod_lt _ (by decide)⟩ d)
  else if j < 64 then n (ix2 ⟨(q - 8 - 256) % 8, Nat.mod_lt _ (by decide)⟩ d) else 0

/-- A channel of the 272 rows the tail tile's convolution reads. -/
def padTail (x : FVec Ideal S256x1024 .bf16) (n : FVec Ideal S8x1024 .bf16) (d : Fin 1024) (q : ℕ) : EReal :=
  if q < 8 then 0
  else if q - 8 < 256 then
    if q - 8 < 16 then x (ix2 ⟨(q - 8) % 256, Nat.mod_lt _ (by decide)⟩ d)
    else if q - 8 - 16 < 8 then n (ix2 ⟨(q - 8 - 16) % 8, Nat.mod_lt _ (by decide)⟩ d)
    else x (ix2 ⟨(24 + (q - 8 - 16 - 8)) % 256, Nat.mod_lt _ (by decide)⟩ d)
  else 0

/-- The convolution of four taps. -/
def conv (f : ℕ → EReal) (cw : FVec Ideal S4x1024 .f32) (cb : FVec Ideal S1x1024 .f32) (d : Fin 1024) (q : ℕ) : EReal :=
  cb (ix2 0 d) + f q * cw (ix2 0 d) + f (q + 1) * cw (ix2 1 d) + f (q + 2) * cw (ix2 2 d) + f (q + 3) * cw (ix2 3 d)

theorem conv_of {f : ℕ → EReal} {cw : FVec Ideal S4x1024 .f32} {cb : FVec Ideal S1x1024 .f32} {d : Fin 1024} {q : ℕ} {a0 a1 a2 a3 : EReal}
    (h0 : a0 = f q) (h1 : a1 = f (q + 1)) (h2 : a2 = f (q + 2)) (h3 : a3 = f (q + 3)) :
    cb (ix2 0 d) + a0 * cw (ix2 0 d) + a1 * cw (ix2 1 d) + a2 * cw (ix2 2 d) + a3 * cw (ix2 3 d) = conv f cw cb d q := by
  subst h0; subst h1; subst h2; subst h3; rfl

theorem padTok_of (j : ℕ) (hj : j < 65) (x : FVec Ideal S256x1024 .bf16) (p n : FVec Ideal S8x1024 .bf16) (d : Fin 1024) (q' q : ℕ) (e : q' = q) (hq : q' < 272) :
    (if h : q' < 8 then Scalar.select (Scalar.cmpi CmpIPredicate.sgt (BitVec.ofNat 32 j) 0#32) (p (ix2 ⟨q', h⟩ d)) (0 : EReal)
      else if h : q' - 8 < 256 then x (ix2 ⟨q' - 8, h⟩ d)
      else Scalar.select (Scalar.cmpi CmpIPredicate.slt (BitVec.ofNat 32 j) 64#32) (n (ix2 ⟨q' - 8 - 256, by omega⟩ d)) 0) = padTok j x p n d q := by
  subst e
  unfold padTok
  split
  · rename_i h
    rw [sel_gt _ hj]
    simp only [Nat.mod_eq_of_lt h]
  split
  · rename_i h
    simp only [Nat.mod_eq_of_lt h]
  · rw [sel_lt _ hj]
    simp only [Nat.mod_eq_of_lt (show q' - 8 - 256 < 8 by omega)]

theorem padTail_of (x : FVec Ideal S256x1024 .bf16) (n : FVec Ideal S8x1024 .bf16) (d : Fin 1024) (q' q : ℕ) (e : q' = q) (hq : q' < 272) :
    (if h : q' < 8 then (0 : EReal)
      else if h : q' - 8 < 256 then
        if h_1 : q' - 8 < 16 then x (ix2 ⟨q' - 8, h⟩ d)
        else if h_2 : q' - 8 - 16 < 8 then n (ix2 ⟨q' - 8 - 16, h_2⟩ d)
        else x (ix2 ⟨24 + (q' - 8 - 16 - 8), by omega⟩ d)
      else 0) = padTail x n d q := by
  subst e
  unfold padTail
  split
  · rfl
  split
  · rename_i h
    split
    · simp only [Nat.mod_eq_of_lt h]
    split
    · rename_i h2
      simp only [Nat.mod_eq_of_lt h2]
    · simp only [Nat.mod_eq_of_lt (show 24 + (q' - 8 - 16 - 8) < 256 by omega)]
  · rfl

theorem xcTok_val (i : (k : Fin 2) → Fin (grid0.bound k)) (x : FVec Ideal S256x1024 .bf16) (p n : FVec Ideal S8x1024 .bf16) (cw : FVec Ideal S4x1024 .f32) (cb : FVec Ideal S1x1024 .f32) (r : Fin 256) (d : Fin 1024) :
    xcTok (F := Ideal) i x p n cw cb (ix2 r d) = conv (padTok (i 1).val x p n d) cw cb d (r.val + 6) := by
  have hj : (i 1).val < 65 := (i 1).isLt
  have hr := r.isLt
  pointwise [xcTok, k0_pay9]
  refine conv_of ?_ ?_ ?_ ?_
  · exact padTok_of _ hj x p n d _ _ (by omega) (by omega)
  · exact padTok_of _ hj x p n d _ _ (by omega) (by omega)
  · unfold padTok
    rw [if_neg (by omega), if_pos (by omega)]
    congr 2
    exact Fin.ext (by dsimp only; omega)
  · exact padTok_of _ hj x p n d _ _ (by omega) (by omega)

theorem xcTail_val (x : FVec Ideal S256x1024 .bf16) (n : FVec Ideal S8x1024 .bf16) (cw : FVec Ideal S4x1024 .f32) (cb : FVec Ideal S1x1024 .f32) (r : Fin 256) (d : Fin 1024) :
    xcTail (F := Ideal) x n cw cb (ix2 r d) = conv (padTail x n d) cw cb d (r.val + 6) := by
  have hr := r.isLt
  pointwise [xcTail, k0_pay22]
  refine conv_of ?_ ?_ ?_ ?_
  · exact padTail_of x n d _ _ (by omega) (by omega)
  · exact padTail_of x n d _ _ (by omega) (by omega)
  · unfold padTail
    have e : r.val + 6 + 2 - 8 = r.val := by omega
    rw [if_neg (show ¬ r.val + 6 + 2 < 8 by omega), if_pos (show r.val + 6 + 2 - 8 < 256 by omega)]
    simp only [e]
    split
    · simp only [Nat.mod_eq_of_lt hr]
    split
    · rename_i h2
      simp only [Nat.mod_eq_of_lt h2]
    · simp only [Nat.mod_eq_of_lt (show 24 + (r.val - 16 - 8) < 256 by omega)]
  · exact padTail_of x n d _ _ (by omega) (by omega)

end

end Cert.Proof.Scan

end
-- ==== Proof.ScanSpec.lean ====
/-
  The recurrence as mathematics: the padded tokens, the convolution, the gates, the coefficients and the states.
-/
module

public import proofs.«01_k».proof.Proof.ScanCoef

@[expose] public section

set_option maxRecDepth 16384

noncomputable section

namespace Cert.Proof.Scan

open Idealize.ShloMosaic Idealize.ShloMosaic.TcCoe Idealize.ShloMosaic.Tactic

/-- The arguments by row and channel. -/
structure Par where
  X : ℕ → Fin 1024 → EReal
  cw : Fin 4 → Fin 1024 → EReal
  cb : Fin 1024 → EReal
  Wr : Fin 4 → Fin 256 → Fin 256 → EReal
  Wi : Fin 4 → Fin 256 → Fin 256 → EReal
  br : Fin 1024 → EReal
  bi : Fin 1024 → EReal
  l : Fin 1024 → EReal

namespace Par

variable (P : Par) (bt : ℕ)

/-- The padded tokens of a batch: two zeros, the sixteen first, the others, zero. -/
def pd (d : Fin 1024) (u : ℕ) : EReal :=
  if u < 2 then 0 else if u < 18 then P.X (16640 * bt + 16384 + (u - 2)) d else if u < 16402 then P.X (16640 * bt + (u - 18)) d else 0

def xc (t : ℕ) (d : Fin 1024) : EReal :=
  P.cb d + P.pd bt d t * P.cw 0 d + P.pd bt d (t + 1) * P.cw 1 d + P.pd bt d (t + 2) * P.cw 2 d + P.pd bt d (t + 3) * P.cw 3 d

def a (t : ℕ) (d : Fin 1024) : EReal := coefA (P.xc bt t) P.Wr P.br P.l d
def b (t : ℕ) (d : Fin 1024) : EReal := coefB (P.xc bt t) P.Wr P.Wi P.br P.bi P.l d

/-- The states. -/
def H : ℕ → Fin 1024 → EReal
  | 0, _ => 0
  | t + 1, d => P.a bt t d * H t d + P.b bt t d

end Par

/-! ## The two forms of a coefficient -/

theorem rate_eq : rateC = ((-8 * (Real.log 2)⁻¹ : ℝ) : EReal) := by
  unfold rateC
  rfl

theorem exp2_ln (x : EReal) : Ideal.exp2 (x * (((Real.log 2)⁻¹ : ℝ) : EReal)) = Ideal.exp x := by
  have h2 : (0 : ℝ) < Real.log 2 := Real.log_pos (by norm_num)
  have hi : (0 : ℝ) < (Real.log 2)⁻¹ := inv_pos.mpr h2
  induction x with
  | bot => rw [EReal.bot_mul_coe_of_pos hi]; rfl
  | top => rw [EReal.top_mul_coe_of_pos hi]; rfl
  | coe r =>
    rw [← EReal.coe_mul]
    have : (2 : ℝ) ^ (r * (Real.log 2)⁻¹) = Real.exp r := by
      rw [Real.rpow_def_of_pos (by norm_num)]
      congr 1
      field_simp
    exact congrArg Real.toEReal this

theorem exp_two (x : EReal) : Ideal.exp (2 * x) = Ideal.exp x * Ideal.exp x := by
  induction x with
  | bot => rw [show (2 : EReal) = ((2 : ℝ) : EReal) from rfl, EReal.coe_mul_bot_of_pos (by norm_num)]; exact (mul_zero (0 : EReal)).symm
  | top => rw [show (2 : EReal) = ((2 : ℝ) : EReal) from rfl, EReal.coe_mul_top_of_pos (by norm_num)]; exact (EReal.top_mul_top).symm
  | coe r =>
    rw [show (2 : EReal) = ((2 : ℝ) : EReal) from rfl, ← EReal.coe_mul]
    refine (congrArg Real.toEReal ?_ : ((Real.exp (2 * r) : ℝ) : EReal) = ((Real.exp r * Real.exp r : ℝ) : EReal)).trans (EReal.coe_mul _ _)
    rw [← Real.exp_add, two_mul]

theorem neg_sub_one (x : EReal) : -(x - 1) = 1 - x := by
  rw [EReal.neg_sub (Or.inr (by decide)) (Or.inr (by decide)), sub_eq_add_neg, add_comm]

/-- The coefficient by the base-two exponential is the natural one's. -/
theorem a_form (g s : EReal) : Ideal.exp2 (g * (rateC * s)) = Ideal.exp (((-8 : ℝ) : EReal) * g * s) := by
  rw [rate_eq, EReal.coe_mul, ← exp2_ln]
  congr 1
  ac_rfl

end Cert.Proof.Scan

end
-- ==== Proof.ScanBlocks.lean ====
/-
  `Kernel6Ideal`'s windows at an index, of the arguments.
-/
module

public import proofs.«01_k».proof.Proof.ScanRun
public import proofs.«01_k».proof.Proof.ScanSpec

@[expose] public section

set_option maxRecDepth 16384

noncomputable section

namespace Cert.Proof.Scan

open Cert.Kernel6Ideal Cert.Kernel6Ideal.Gen
open Idealize.ShloMosaic Idealize.ShloMosaic.TcCoe Idealize.ShloMosaic.Tactic
open Idealize.ShloMosaic.Pipeline (Dat)

variable (m : (ℓ : Loc nD τ sig) → Buf (Elt Ideal) ℓ) (c : Dev nD) (t : Fin cfg0.N)

/-- The arguments. -/
def par : Par where
  X := fun R d => m ((c.tc : Thread nD τ).loc main_arg0) (ix2 ⟨R % 33280, Nat.mod_lt _ (by decide)⟩ d)
  cw := fun k d => m ((c.tc : Thread nD τ).loc main_arg1) (ix2 k d)
  cb := fun d => m ((c.tc : Thread nD τ).loc main_arg2) (ix1 d)
  Wr := fun g k j => m ((c.tc : Thread nD τ).loc main_arg3) (ix3 g k j)
  Wi := fun g k j => m ((c.tc : Thread nD τ).loc main_arg4) (ix3 g k j)
  br := fun d => m ((c.tc : Thread nD τ).loc main_arg5) (ix1 d)
  bi := fun d => m ((c.tc : Thread nD τ).loc main_arg6) (ix1 d)
  l := fun d => m ((c.tc : Thread nD τ).loc main_arg7) (ix1 d)

theorem V_v0 : V m c main_v0 = shapeCast S1x1024 (m ((c.tc : Thread nD τ).loc main_arg2)) shapeCasts_S1024_S1x1024 := by
  simp only [V, V0, List.flatten_cons, List.flatten_nil, List.append_nil, hostOps0]
  after_results
  rfl
theorem V_v1 : V m c main_v1 = truncf (F := Ideal) .bf16 (m ((c.tc : Thread nD τ).loc main_arg3)) bitsLt_bf16_f32 := by
  simp only [V, V0, List.flatten_cons, List.flatten_nil, List.append_nil, hostOps0]
  after_results
theorem V_v2 : V m c main_v2 = truncf (F := Ideal) .bf16 (m ((c.tc : Thread nD τ).loc main_arg4)) bitsLt_bf16_f32 := by
  simp only [V, V0, List.flatten_cons, List.flatten_nil, List.append_nil, hostOps0]
  after_results
theorem V_v3 : V m c main_v3 = shapeCast S1x1024 (m ((c.tc : Thread nD τ).loc main_arg5)) shapeCasts_S1024_S1x1024 := by
  simp only [V, V0, List.flatten_cons, List.flatten_nil, List.append_nil, hostOps0]
  after_results
  rfl
theorem V_v4 : V m c main_v4 = shapeCast S1x1024 (m ((c.tc : Thread nD τ).loc main_arg6)) shapeCasts_S1024_S1x1024 := by
  simp only [V, V0, List.flatten_cons, List.flatten_nil, List.append_nil, hostOps0]
  after_results
  rfl
theorem V_v5 : V m c main_v5 = shapeCast S1x1024 (m ((c.tc : Thread nD τ).loc main_arg7)) shapeCasts_S1024_S1x1024 := by
  simp only [V, V0, List.flatten_cons, List.flatten_nil, List.append_nil, hostOps0]
  after_results
  rfl

theorem idx0_0 : ∀ t : Fin grid0.N, win0_0.index t = ![65 * (t.val / 65) + (t.val + 64) % 65, 0] := by decide +kernel
theorem idx0_1 : ∀ t : Fin grid0.N, win0_1.index t = ![2080 * (t.val / 65) + if t.val % 65 ≤ 1 then 2049 else 32 * (t.val % 65 - 1) - 1, 0] := by decide +kernel
theorem idx0_2 : ∀ t : Fin grid0.N, win0_2.index t = ![2080 * (t.val / 65) + if t.val % 65 = 0 then 0 else 32 * min (t.val % 65) 63, 0] := by decide +kernel
theorem idx0_3 : ∀ t : Fin grid0.N, win0_3.index t = ![0, 0] := by decide +kernel
theorem idx0_4 : ∀ t : Fin grid0.N, win0_4.index t = ![0, 0] := by decide +kernel
theorem idx0_5 : ∀ t : Fin grid0.N, win0_5.index t = ![0, 0, 0] := by decide +kernel
theorem idx0_6 : ∀ t : Fin grid0.N, win0_6.index t = ![0, 0, 0] := by decide +kernel
theorem idx0_7 : ∀ t : Fin grid0.N, win0_7.index t = ![0, 0] := by decide +kernel
theorem idx0_8 : ∀ t : Fin grid0.N, win0_8.index t = ![0, 0] := by decide +kernel
theorem idx0_9 : ∀ t : Fin grid0.N, win0_9.index t = ![0, 0] := by decide +kernel

theorem X_of (n : ℕ) (R : Fin 33280) (h : R.val = n) (d : Fin 1024) : m ((c.tc : Thread nD τ).loc main_arg0) (ix2 R d) = (par m c).X n d := by
  subst h
  unfold par
  simp only [Nat.mod_eq_of_lt R.isLt]

theorem i0 (r : Fin 256) (d : Fin 1024) (n : ℕ) (hn : n = 256 * (65 * (t.val / 65) + (t.val + 64) % 65) + r.val) :
    iblk m c 0 t (ix2 r d) = (par m c).X n d := by
  have ht : t.val < 130 := lt_of_lt_of_eq t.isLt N_0
  have hr := r.isLt
  subst hn
  rw [← X_of m c _ ⟨256 * (65 * (t.val / 65) + (t.val + 64) % 65) + r.val, by omega⟩ rfl d, ← V_main_arg0 m c]
  blk_ext! [iblk, V, idx0_0]

theorem i1 (r : Fin 8) (d : Fin 1024) (n : ℕ)
    (hn : n = 8 * (2080 * (t.val / 65) + if t.val % 65 ≤ 1 then 2049 else 32 * (t.val % 65 - 1) - 1) + r.val) :
    iblk m c 1 t (ix2 r d) = (par m c).X n d := by
  have ht : t.val < 130 := lt_of_lt_of_eq t.isLt N_0
  have hr := r.isLt
  have hb : n < 33280 := by split at hn <;> omega
  subst hn
  rw [← X_of m c _ ⟨_, hb⟩ rfl d, ← V_main_arg0 m c]
  blk_ext! [iblk, V, idx0_1]

theorem i2 (r : Fin 8) (d : Fin 1024) (n : ℕ)
    (hn : n = 8 * (2080 * (t.val / 65) + if t.val % 65 = 0 then 0 else 32 * min (t.val % 65) 63) + r.val) :
    iblk m c 2 t (ix2 r d) = (par m c).X n d := by
  have ht : t.val < 130 := lt_of_lt_of_eq t.isLt N_0
  have hr := r.isLt
  have hb : n < 33280 := by split at hn <;> omega
  subst hn
  rw [← X_of m c _ ⟨_, hb⟩ rfl d, ← V_main_arg0 m c]
  blk_ext! [iblk, V, idx0_2]

theorem i3 (k : Fin 4) (d : Fin 1024) : iblk m c 3 t (ix2 k d) = (par m c).cw k d := by
  unfold par
  rw [← V_main_arg1 m c]
  blk_ext! [iblk, V, idx0_3]

theorem vec_of (v : FVec Ideal S1024 .f32) (d : Fin 1024) : shapeCast S1x1024 v shapeCasts_S1024_S1x1024 (ix2 0 d) = v (ix1 d) := by
  pointwise []

theorem i4 (d : Fin 1024) : iblk m c 4 t (ix2 0 d) = (par m c).cb d := by
  unfold par
  refine Eq.trans (b := V m c main_v0 (ix2 0 d)) ?_ (by rw [V_v0]; exact vec_of _ d)
  blk_ext! [iblk, V, idx0_4]

theorem i5 (g : Fin 4) (k j : Fin 256) : iblk m c 5 t (ix3 g k j) = (par m c).Wr g k j := by
  unfold par
  refine Eq.trans (b := V m c main_v1 (ix3 g k j)) ?_ (by rw [V_v1]; rfl)
  blk_ext! [iblk, V, idx0_5]

theorem i6 (g : Fin 4) (k j : Fin 256) : iblk m c 6 t (ix3 g k j) = (par m c).Wi g k j := by
  unfold par
  refine Eq.trans (b := V m c main_v2 (ix3 g k j)) ?_ (by rw [V_v2]; rfl)
  blk_ext! [iblk, V, idx0_6]

theorem i7 (d : Fin 1024) : iblk m c 7 t (ix2 0 d) = (par m c).br d := by
  unfold par
  refine Eq.trans (b := V m c main_v3 (ix2 0 d)) ?_ (by rw [V_v3]; exact vec_of _ d)
  blk_ext! [iblk, V, idx0_7]

theorem i8 (d : Fin 1024) : iblk m c 8 t (ix2 0 d) = (par m c).bi d := by
  unfold par
  refine Eq.trans (b := V m c main_v4 (ix2 0 d)) ?_ (by rw [V_v4]; exact vec_of _ d)
  blk_ext! [iblk, V, idx0_8]

theorem i9 (d : Fin 1024) : iblk m c 9 t (ix2 0 d) = (par m c).l d := by
  unfold par
  refine Eq.trans (b := V m c main_v5 (ix2 0 d)) ?_ (by rw [V_v5]; exact vec_of _ d)
  blk_ext! [iblk, V, idx0_9]

end Cert.Proof.Scan

end
-- ==== Proof.ScanResult.lean ====
/-
  `Kernel6Ideal`'s result: the tokens in order, each from the block of the grid point that holds it.
-/
module

public import proofs.«01_k».proof.Proof.ScanRun

@[expose] public section

set_option maxRecDepth 16384

noncomputable section

namespace Cert.Proof.Scan

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable (m : (ℓ : Loc nD τ sig) → Buf (Elt Ideal) ℓ) (ρ : Dev nD → PrngReg) (c : Dev nD)

/-! ## The output array -/

theorem idx0_10 : ∀ t : Fin grid0.N, win0_10.index t = ![65 * (t.val / 65) + (t.val + 64) % 65, 0] := by decide +kernel

/-- The array the region writes: row `R` is of the point that holds it. -/
def arr6 : S33280x1024.Idx → EReal := fun y =>
  oblk m c (tn (65 * ((y (0 : Fin 2)).val / 16640) + ((y (0 : Fin 2)).val / 256 % 65 + 1) % 65))
    (ix2 ⟨(y (0 : Fin 2)).val % 256, Nat.mod_lt _ (by decide)⟩ ⟨(y (1 : Fin 2)).val % 1024, Nat.mod_lt _ (by decide)⟩)

theorem arr_out : (dats m 0 c).arrAt 10 cfg0.N = arr6 m c := by
  refine (dats m 0 c).arrAt_eq_of_covers 10 _ (by decide +kernel) fun t hf y => ?_
  have y0 : (y (0 : Fin 2)).val < 256 := (y (0 : Fin 2)).isLt
  have y1 : (y (1 : Fin 2)).val < 1024 := (y (1 : Fin 2)).isLt
  have ht : t.val < 130 := lt_of_lt_of_eq t.isLt N_0
  have h : ∀ (n : ℕ) (a : Fin 256) (b : Fin 1024), n = t.val → a.val = (y (0 : Fin 2)).val → b.val = (y (1 : Fin 2)).val →
      oblk m c t y = oblk m c (tn n) (ix2 a b) := by
    intro n a b hn ha hb
    subst hn
    rw [tn_val]
    refine congrArg _ (funext fun x => Fin.ext ?_)
    fin_cases x
    · exact ha.symm
    · exact hb.symm
  rw [after10]
  unfold arr6
  blk_simp [idx0_10]
  refine h _ _ _ ?_ ?_ ?_
  · omega
  · dsimp only; omega
  · dsimp only; omega

/-- The result: the last tile's first sixteen rows, then the rest. -/
def result : S2x16400x1024.Idx → EReal :=
  concatenate S2x16400x1024 1
    [⟨S2x16x1024, extractStridedSlice S2x16x1024 ![0, 16384, 0] (shapeCast S2x16640x1024 (arr6 m c) shapeCasts_S33280x1024_S2x16640x1024) slices_S2x16640x1024_S2x16x1024_0_16384_0⟩,
      ⟨S2x16384x1024, extractStridedSlice S2x16384x1024 ![0, 0, 0] (shapeCast S2x16640x1024 (arr6 m c) shapeCasts_S33280x1024_S2x16640x1024) slices_S2x16640x1024_S2x16384x1024_0_0_0⟩]
    concatenates_S2x16x1024_S2x16384x1024_S2x16400x1024_d1

theorem tail_v10 : Pipeline.afterTail₀ cfgs (dats m) 0 (V0 m) [hostOps1] c main_v10 = result m c := by
  have h6 := Pipeline.withArrays_arr_shared (cfgs (0 : Fin 1)).spec c (V0 m c) (fun w => (dats m 0 c).arrAt w (cfgs (0 : Fin 1)).N)
    ((dats m 0 c).arrAt_sharedIn (by decide) (V0 m c) (fun _ => rfl) _) 10
  rw [show (dats m 0 c).arrAt 10 (cfgs (0 : Fin 1)).N = arr6 m c from arr_out m c] at h6
  unfold Pipeline.afterTail₀
  generalize Pipeline.withArrays (cfgs (0 : Fin 1)).spec c (V0 m c) (fun w => (dats m 0 c).arrAt w (cfgs (0 : Fin 1)).N) = W at h6
  unfold result
  rw [← h6]
  simp only [List.flatten_cons, List.flatten_nil, List.append_nil, hostOps1]
  after_results
  rfl

/-- Every execution ends with the arguments as they were, the result at `result`, every counter at zero. -/
theorem run_main :
    θ_run defs (onTc (τ := τ) (main (F := Ideal))) ⟨m, fun _ => 0, ρ⟩ (fun r => (∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  Pipeline.θ_run_frame_around_track_shared cfgs (dats m) 0 launch₀0 defs₀ Variants.none m ρ main (hbody := fun c => body_obligation m c)
    (hq := fun _ _ _ => rfl) (howed := fun _ _ => rfl) (V₀ := V0 m) (opss := [hostOps1]) (hsub := sfx_sub) (hfresh := sfx_fresh)
    (hkeep := sfx_keeps) (hmain := hmain m Variants.none) (hA := fun _ _ => rfl) (hin := fun c => inv_in m c) (hout := fun c => inv_out m c _) (Q' := _)
    (hQ' := fun r (h : _ ∧ _) => ⟨fun c => ⟨((h.1 c).2 main_v10 (Pipeline.mem_restRefs_of main_v10 (by decide) (by decide))).trans (tail_v10 m c),
      ((h.1 c).1 2).trans ((dats m 0 c).arrAt_in 2 rfl _ |>.trans (V_main_arg0 m c)),
      ((h.1 c).1 3).trans ((dats m 0 c).arrAt_in 3 rfl _ |>.trans (V_main_arg1 m c)),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c),
      ((h.1 c).2 main_arg6 (Pipeline.mem_restRefs_of main_arg6 (by decide) (by decide))).trans (W_main_arg6 m (dats m) c),
      ((h.1 c).2 main_arg7 (Pipeline.mem_restRefs_of main_arg7 (by decide) (by decide))).trans (W_main_arg7 m (dats m) c)⟩, h.2⟩)

end Cert.Proof.Scan

end
-- ==== Proof.ScanAgree.lean ====
/-
  `Kernel6Ideal`'s result is the states of the recurrence.
-/
module

public import proofs.«01_k».proof.Proof.ScanBlocks
public import proofs.«01_k».proof.Proof.ScanResult

@[expose] public section

set_option maxRecDepth 16384

noncomputable section

namespace Cert.Proof.Scan

open Cert.Kernel6Ideal Cert.Kernel6Ideal.Gen
open Idealize.ShloMosaic Idealize.ShloMosaic.TcCoe Idealize.ShloMosaic.Tactic
open Idealize.ShloMosaic.Pipeline (Dat)

variable (m : (ℓ : Loc nD τ sig) → Buf (Elt Ideal) ℓ) (c : Dev nD) (t : Fin cfg0.N)

theorem coord1 : ∀ t : Fin grid0.N, ((grid0.coords t) 1).val = t.val % 65 := by decide +kernel

/-- A token tile's padded rows. -/
theorem padTok_eq (hj : t.val % 65 ≠ 0) (d : Fin 1024) (q : ℕ) (h6 : 6 ≤ q) (hq : q ≤ 264) :
    padTok (t.val % 65) (iblk m c 0 t) (iblk m c 1 t) (iblk m c 2 t) d q = (par m c).pd (t.val / 65) d (256 * (t.val % 65 - 1) + 10 + q) := by
  have ht : t.val < 130 := lt_of_lt_of_eq t.isLt N_0
  have hm : t.val % 65 < 65 := Nat.mod_lt _ (by decide)
  unfold padTok Par.pd
  rw [if_neg (show ¬ 256 * (t.val % 65 - 1) + 10 + q < 2 by omega)]
  by_cases h8 : q < 8
  · rw [if_pos h8, if_pos (show 0 < t.val % 65 by omega)]
    by_cases h1 : t.val % 65 ≤ 1
    · rw [if_pos (show 256 * (t.val % 65 - 1) + 10 + q < 18 by omega)]
      exact i1 m c t _ d _ (by rw [if_pos h1]; dsimp only; omega)
    · rw [if_neg (show ¬ 256 * (t.val % 65 - 1) + 10 + q < 18 by omega), if_pos (show 256 * (t.val % 65 - 1) + 10 + q < 16402 by omega)]
      exact i1 m c t _ d _ (by rw [if_neg h1]; dsimp only; omega)
  · rw [if_neg h8, if_neg (show ¬ 256 * (t.val % 65 - 1) + 10 + q < 18 by omega)]
    by_cases h256 : q - 8 < 256
    · rw [if_pos h256, if_pos (show 256 * (t.val % 65 - 1) + 10 + q < 16402 by omega)]
      exact i0 m c t _ d _ (by dsimp only; omega)
    · rw [if_neg h256]
      by_cases h64 : t.val % 65 < 64
      · rw [if_pos h64, if_pos (show 256 * (t.val % 65 - 1) + 10 + q < 16402 by omega)]
        exact i2 m c t _ d _ (by rw [if_neg hj, Nat.min_eq_left (by omega)]; dsimp only; omega)
      · rw [if_neg h64, if_neg (show ¬ 256 * (t.val % 65 - 1) + 10 + q < 16402 by omega)]

/-- The first tile's padded rows. -/
theorem padTail_eq (hj : t.val % 65 = 0) (d : Fin 1024) (q : ℕ) (h6 : 6 ≤ q) (hq : q ≤ 24) :
    padTail (iblk m c 0 t) (iblk m c 2 t) d q = (par m c).pd (t.val / 65) d (q - 6) := by
  have ht : t.val < 130 := lt_of_lt_of_eq t.isLt N_0
  unfold padTail Par.pd
  by_cases h8 : q < 8
  · rw [if_pos h8, if_pos (show q - 6 < 2 by omega)]
  · rw [if_neg h8, if_pos (show q - 8 < 256 by omega), if_neg (show ¬ q - 6 < 2 by omega)]
    by_cases h16 : q - 8 < 16
    · rw [if_pos h16, if_pos (show q - 6 < 18 by omega)]
      exact i0 m c t _ d _ (by dsimp only; omega)
    · rw [if_neg h16, if_pos (show q - 8 - 16 < 8 by omega), if_neg (show ¬ q - 6 < 18 by omega), if_pos (show q - 6 < 16402 by omega)]
      exact i2 m c t _ d _ (by rw [if_pos hj]; dsimp only; omega)

theorem conv_eq (f : ℕ → EReal) (P : Par) (bt q u : ℕ) (cw : FVec Ideal S4x1024 .f32) (cb : FVec Ideal S1x1024 .f32) (d : Fin 1024)
    (hcw : ∀ k, cw (ix2 k d) = P.cw k d) (hcb : cb (ix2 0 d) = P.cb d) (hf : ∀ i, i < 4 → f (q + i) = P.pd bt d (u + i)) :
    conv f cw cb d q = P.xc bt u d := by
  unfold conv Par.xc
  rw [hcw, hcw, hcw, hcw, hcb, ← hf 1 (by decide), ← hf 2 (by decide), ← hf 3 (by decide)]
  have := hf 0 (by decide)
  rw [Nat.add_zero, Nat.add_zero] at this
  rw [this]

theorem xcR_eq (hj : t.val % 65 ≠ 0) (r : Fin 256) (d : Fin 1024) : xcR m c t (ix2 r d) = (par m c).xc (t.val / 65) (16 + 256 * (t.val % 65 - 1) + r.val) d := by
  have hr := r.isLt
  unfold xcR
  rw [xcTok_val, coord1]
  refine conv_eq _ _ _ _ _ _ _ d (fun k => i3 m c t k d) (i4 m c t d) fun i hi => ?_
  rw [padTok_eq m c t hj d _ (by omega) (by omega)]
  congr 1
  omega

theorem xcF_eq (hj : t.val % 65 = 0) (r : Fin 256) (hr : r.val < 16) (d : Fin 1024) : xcF m c t (ix2 r d) = (par m c).xc (t.val / 65) r.val d := by
  unfold xcF
  rw [xcTail_val]
  refine conv_eq _ _ _ _ _ _ _ d (fun k => i3 m c t k d) (i4 m c t d) fun i hi => ?_
  rw [padTail_eq m c t hj d _ (by omega) (by omega)]
  congr 1
  omega

theorem hWr : matOf (iblk m c 5 t) = (par m c).Wr := funext fun g => funext fun k => funext fun j => i5 m c t g k j
theorem hWi : matOf (iblk m c 6 t) = (par m c).Wi := funext fun g => funext fun k => funext fun j => i6 m c t g k j
theorem hbr : vecOf (iblk m c 7 t) = (par m c).br := funext fun d => i7 m c t d
theorem hbi : vecOf (iblk m c 8 t) = (par m c).bi := funext fun d => i8 m c t d
theorem hl : vecOf (iblk m c 9 t) = (par m c).l := funext fun d => i9 m c t d

theorem aAt_tok (hj : t.val % 65 ≠ 0) (r : Fin 256) (d : Fin 1024) : aAt m c t (ix2 r d) = (par m c).a (t.val / 65) (16 + 256 * (t.val % 65 - 1) + r.val) d := by
  unfold aAt Par.a
  rw [if_neg hj, aTok_val, hWr, hbr, hl, show rowOf (xcR m c t) r = _ from funext fun e => xcR_eq m c t hj r e]

theorem bAt_tok (hj : t.val % 65 ≠ 0) (r : Fin 256) (d : Fin 1024) : bAt m c t (ix2 r d) = (par m c).b (t.val / 65) (16 + 256 * (t.val % 65 - 1) + r.val) d := by
  unfold bAt Par.b
  rw [if_neg hj, bTok_val, hWr, hWi, hbr, hbi, hl, show rowOf (xcR m c t) r = _ from funext fun e => xcR_eq m c t hj r e]

theorem aAt_tail (hj : t.val % 65 = 0) (r : Fin 256) (d : Fin 1024) : aAt m c t (ix2 r d) = if r.val < 16 then (par m c).a (t.val / 65) r.val d else 1 := by
  unfold aAt Par.a
  rw [if_pos hj, aTail_val, hWr, hbr, hl]
  split
  · rename_i h
    rw [show rowOf (xcF m c t) r = _ from funext fun e => xcF_eq m c t hj r h e]
  · rfl

theorem bAt_tail (hj : t.val % 65 = 0) (r : Fin 256) (d : Fin 1024) : bAt m c t (ix2 r d) = if r.val < 16 then (par m c).b (t.val / 65) r.val d else 0 := by
  unfold bAt Par.b
  rw [if_pos hj, bTail_val, hWr, hWi, hbr, hbi, hl]
  split
  · rename_i h
    rw [show rowOf (xcF m c t) r = _ from funext fun e => xcF_eq m c t hj r h e]
  · rfl

/-! ## The states -/

theorem hseq_succ (A B : FVec Ideal S256x1024 .f32) (h : FVec Ideal S1x1024 .f32) (k : ℕ) (hk : k < 256) (d : Fin 1024) :
    hseq (F := Ideal) A B h (k + 1) (ix2 0 d) = A (ix2 ⟨k, hk⟩ d) * hseq (F := Ideal) A B h k (ix2 0 d) + B (ix2 ⟨k, hk⟩ d) := by
  rw [hseq, pay7_val]
  unfold row
  simp only [Nat.mod_eq_of_lt hk]
  rfl

theorem H_succ (P : Par) (bt u : ℕ) (d : Fin 1024) : P.H bt (u + 1) d = P.a bt u d * P.H bt u d + P.b bt u d := rfl
theorem H_zero (P : Par) (bt : ℕ) (d : Fin 1024) : P.H bt 0 d = 0 := rfl
theorem hseq_zero (A B : FVec Ideal S256x1024 .f32) (h : FVec Ideal S1x1024 .f32) : hseq (F := Ideal) A B h 0 = h := rfl

theorem seq_tok (hj : t.val % 65 ≠ 0) (h : FVec Ideal S1x1024 .f32) (d : Fin 1024) (hh : h (ix2 0 d) = (par m c).H (t.val / 65) (16 + 256 * (t.val % 65 - 1)) d) :
    ∀ k, k ≤ 256 → hseq (F := Ideal) (aAt m c t) (bAt m c t) h k (ix2 0 d) = (par m c).H (t.val / 65) (16 + 256 * (t.val % 65 - 1) + k) d
  | 0, _ => by rw [hseq_zero, Nat.add_zero]; exact hh
  | k + 1, hk => by
    rw [hseq_succ _ _ _ k hk, seq_tok hj h d hh k (by omega), aAt_tok m c t hj, bAt_tok m c t hj, ← Nat.add_assoc, H_succ]

theorem seq_tail (hj : t.val % 65 = 0) (h : FVec Ideal S1x1024 .f32) (d : Fin 1024) (hh : h (ix2 0 d) = 0) :
    ∀ k, k ≤ 256 → hseq (F := Ideal) (aAt m c t) (bAt m c t) h k (ix2 0 d) = (par m c).H (t.val / 65) (min k 16) d
  | 0, _ => by rw [hseq_zero, Nat.zero_min, H_zero]; exact hh
  | k + 1, hk => by
    rw [hseq_succ _ _ _ k hk, seq_tail hj h d hh k (by omega), aAt_tail m c t hj, bAt_tail m c t hj]
    dsimp only
    by_cases h16 : k < 16
    · rw [if_pos h16, if_pos h16, Nat.min_eq_left (by omega), Nat.min_eq_left (by omega), H_succ]
    · rw [if_neg h16, if_neg h16, one_mul, add_zero, Nat.min_eq_right (by omega), Nat.min_eq_right (by omega)]

theorem H_congr (P : Par) {bt bt' u u' : ℕ} (hb : bt = bt') (hu : u = u') (d : Fin 1024) : P.H bt u d = P.H bt' u' d := by rw [hb, hu]

theorem start_zero (n : ℕ) (hn : n % 65 = 0) (d : Fin 1024) : start m c n (ix2 0 d) = 0 := by
  unfold start
  rw [if_pos hn]
  exact pay6_val d

/-- The carried row after a point, of the row it starts from. -/
theorem carry_tail (hj : t.val % 65 = 0) (d : Fin 1024) : carry m c (t.val + 1) (ix2 0 d) = (par m c).H (t.val / 65) 16 d := by
  rw [carry_succ, pay8_eq, seq_tail m c t hj _ d (start_zero m c t.val hj d) 256 (le_refl _)]
  exact H_congr _ rfl (Nat.min_eq_right (by decide)) d

theorem carry_tok (hj : t.val % 65 ≠ 0) (d : Fin 1024) (hh : start m c t.val (ix2 0 d) = (par m c).H (t.val / 65) (16 + 256 * (t.val % 65 - 1)) d) :
    carry m c (t.val + 1) (ix2 0 d) = (par m c).H (t.val / 65) (16 + 256 * (t.val % 65)) d := by
  rw [carry_succ, pay8_eq, seq_tok m c t hj _ d hh 256 (le_refl _)]
  exact H_congr _ rfl (by omega) d

theorem start_eq (d : Fin 1024) : ∀ (n : ℕ) (_ : n < 130) (_ : n % 65 ≠ 0), start m c n (ix2 0 d) = (par m c).H (n / 65) (16 + 256 * (n % 65 - 1)) d := by
  intro n
  induction n with
  | zero => exact fun _ h => absurd (Nat.zero_mod _) h
  | succ n ih =>
    intro hn h
    have hs : start m c (n + 1) = carry m c (n + 1) := if_neg h
    rw [hs]
    have hN : n < cfg0.N := lt_of_lt_of_eq (by omega) N_0.symm
    by_cases h0 : n % 65 = 0
    · exact (carry_tail m c ⟨n, hN⟩ h0 d).trans (H_congr _ (by dsimp only; omega) (by omega) d)
    · exact (carry_tok m c ⟨n, hN⟩ h0 d (ih (by omega) h0)).trans (H_congr _ (by dsimp only; omega) (by dsimp only; omega) d)

theorem oblk_eq (n : ℕ) (hn : n < 130) (r : Fin 256) (d : Fin 1024) (bt u : ℕ) (hb : n / 65 = bt)
    (hu : (n % 65 = 0 ∧ r.val < 16 ∧ u = r.val + 1) ∨ (n % 65 ≠ 0 ∧ u = 16 + 256 * (n % 65 - 1) + r.val + 1)) :
    oblk m c (tn n) (ix2 r d) = (par m c).H bt u d := by
  subst hb
  have hr := r.isLt
  have ev : (tn n).val = n := Nat.mod_eq_of_lt hn
  have e : oblk m c (tn n) (ix2 r d) = hseq (F := Ideal) (aAt m c (tn n)) (bAt m c (tn n)) (start m c (tn n).val) (r.val + 1) (ix2 0 d) := rfl
  rw [e]
  rcases hu with ⟨h0, h16, hu⟩ | ⟨h0, hu⟩
  · rw [seq_tail m c (tn n) (by rw [ev]; exact h0) _ d (start_zero m c _ (by rw [ev]; exact h0) d) _ (by omega), ev]
    exact H_congr _ rfl (by omega) d
  · rw [seq_tok m c (tn n) (by rw [ev]; exact h0) _ d (start_eq m c d _ (by rw [ev]; exact hn) (by rw [ev]; exact h0)) _ (by omega), ev]
    exact H_congr _ rfl (by omega) d

end Cert.Proof.Scan

end
-- ==== Proof.ScanReference.lean ====
/-
  `Reference6Ideal`'s coefficients, and the loop's entry in them.
-/
module

public import proofs.«01_k».proof.Proof.Gen.Reference6Ideal.Run
public import Idealize.ShloMosaic.Lib.Pipeline.ValueKit
public import proofs.«01_k».proof.Proof.ScanSpec

@[expose] public section

set_option maxRecDepth 16384

noncomputable section

namespace Cert.Proof.ScanRef

open Cert.Reference6Ideal Cert.Reference6Ideal.Gen Cert.Reference6Ideal.Value
open Cert.Proof.Scan (Par)
open Idealize.ShloMosaic Idealize.ShloMosaic.TcCoe Idealize.ShloMosaic.Tactic
open Idealize.ShloMosaic.StableHlo

variable (x : FVec Ideal S33280x1024 .f32) (cw : FVec Ideal S4x1024 .f32) (v : FVec Ideal S1024 .f32) (w : FVec Ideal S4x256x256 .f32)

/-- The tokens: the last sixteen rows that hold any first. -/
def xs : FVec Ideal S2x16400x1024 .f32 :=
  concatenate S2x16400x1024 1
    [⟨S2x16x1024, extractStridedSlice S2x16x1024 ![0, 16384, 0] (shapeCast S2x16640x1024 x shapeCasts_S33280x1024_S2x16640x1024) slices_S2x16640x1024_S2x16x1024_0_16384_0⟩,
      ⟨S2x16384x1024, extractStridedSlice S2x16384x1024 ![0, 0, 0] (shapeCast S2x16640x1024 x shapeCasts_S33280x1024_S2x16640x1024) slices_S2x16640x1024_S2x16384x1024_0_0_0⟩]
    concatenates_S2x16x1024_S2x16384x1024_S2x16400x1024_d1

def padded : FVec Ideal S2x16403x1024 .f32 :=
  pad S2x16403x1024 ![0, 2, 0] ![0, 1, 0] ![0, 0, 0] (xs x) (sitofp .f32 (constantI S_ 32 0#32)) pads_S2x16400x1024_S2x16403x1024_000_210_000 h_S_

/-- A vector over the channels at every token. -/
def bcv : FVec Ideal S2x16400x1024 .f32 :=
  broadcastInDim S2x16400x1024 ![0, 1, 2] bcast_S1x1x1024_S2x16400x1024_0_1_2 (broadcastInDim S1x1x1024 ![2] bcast_S1024_S1x1x1024_2 v)

/-- A number at every token and channel. -/
def num (b : BitVec 32) : FVec Ideal S2x16400x1024 .f32 := broadcastInDim S2x16400x1024 ![] bcast_S_S2x16400x1024 (constant S_ .f32 b)

def xcv : FVec Ideal S2x16400x1024 .f32 :=
  addf (bcv v) (addf (addf (addf (addf (num 0x00000000#32)
    (mulf (extractStridedSlice S2x16400x1024 ![0, 0, 0] (padded x) slices_S2x16403x1024_S2x16400x1024_0_0_0)
      (bcv (shapeCast S1024 (extractStridedSlice S1x1024 ![0, 0] cw slices_S4x1024_S1x1024_0_0) shapeCasts_S1x1024_S1024))))
    (mulf (extractStridedSlice S2x16400x1024 ![0, 1, 0] (padded x) slices_S2x16403x1024_S2x16400x1024_0_1_0)
      (bcv (shapeCast S1024 (extractStridedSlice S1x1024 ![1, 0] cw slices_S4x1024_S1x1024_1_0) shapeCasts_S1x1024_S1024))))
    (mulf (extractStridedSlice S2x16400x1024 ![0, 2, 0] (padded x) slices_S2x16403x1024_S2x16400x1024_0_2_0)
      (bcv (shapeCast S1024 (extractStridedSlice S1x1024 ![2, 0] cw slices_S4x1024_S1x1024_2_0) shapeCasts_S1x1024_S1024))))
    (mulf (extractStridedSlice S2x16400x1024 ![0, 3, 0] (padded x) slices_S2x16403x1024_S2x16400x1024_0_3_0)
      (bcv (shapeCast S1024 (extractStridedSlice S1x1024 ![3, 0] cw slices_S4x1024_S1x1024_3_0) shapeCasts_S1x1024_S1024))))

/-- The heads' products. -/
def prod (xc : FVec Ideal S2x16400x1024 .f32) : FVec Ideal S2x16400x1024 .f32 :=
  shapeCast S2x16400x1024 (transpose S2x16400x4x256 [2, 3, 0, 1] (Host.dotGeneral (F := Ideal) dot_S4x256x256_S2x16400x4x256_S4x256x2x16400_1_3_2_01_0_2 none w
    (shapeCast S2x16400x4x256 xc shapeCasts_S2x16400x1024_S2x16400x4x256)) transposes_S4x256x2x16400_S2x16400x4x256_2_3_0_1) shapeCasts_S2x16400x4x256_S2x16400x1024

/-- A gate from its products and offsets. -/
def gate (p : FVec Ideal S2x16400x1024 .f32) (v : FVec Ideal S1024 .f32) : FVec Ideal S2x16400x1024 .f32 :=
  Host.divf (num 0x3F800000#32) (addf (num 0x3F800000#32) (Host.exp (Host.negf (addf p (bcv v)))))

def soft : FVec Ideal S1024 .f32 :=
  let z : FVec Ideal S1024 .f32 := broadcastInDim S1024 ![] bcast_S_S1024 (constant S_ .f32 0x00000000#32)
  select (cmpf .une (subf (Host.negf v) z) (subf (Host.negf v) z)) (addf (Host.negf v) z)
    (addf (maximumf (Host.negf v) z) (Host.log1p (Host.exp (Host.negf (Host.absf (subf (Host.negf v) z))))))

def logA (g : FVec Ideal S2x16400x1024 .f32) : FVec Ideal S2x16400x1024 .f32 := mulf (mulf (num 0xC1000000#32) g) (bcv (soft v))

def coA (l : FVec Ideal S2x16400x1024 .f32) : FVec Ideal S2x16400x1024 .f32 := Host.exp l

def coB (l g xc : FVec Ideal S2x16400x1024 .f32) : FVec Ideal S2x16400x1024 .f32 :=
  mulf (mulf (Host.sqrt (Host.negf (Host.expm1 (mulf (num 0x40000000#32) l)))) g) xc

section

variable (m : (ℓ : Loc nD τ sig) → Buf (Elt Ideal) ℓ) (c : Dev nD)

/-- The parts at the program's arguments. -/
def xcM : FVec Ideal S2x16400x1024 .f32 := xcv (m ((c.tc : Thread nD τ).loc main_arg0)) (m ((c.tc : Thread nD τ).loc main_arg1)) (m ((c.tc : Thread nD τ).loc main_arg2))
def logM : FVec Ideal S2x16400x1024 .f32 :=
  logA (m ((c.tc : Thread nD τ).loc main_arg7)) (gate (prod (m ((c.tc : Thread nD τ).loc main_arg3)) (xcM m c)) (m ((c.tc : Thread nD τ).loc main_arg5)))
def coBM : FVec Ideal S2x16400x1024 .f32 := coB (logM m c) (gate (prod (m ((c.tc : Thread nD τ).loc main_arg4)) (xcM m c)) (m ((c.tc : Thread nD τ).loc main_arg6))) (xcM m c)

theorem entry0 : entryContents preI m c (Proc.devRef .tc main_v81_0) = transpose S16400x2x1024 [1, 0, 2] (coA (logM m c)) transposes_S2x16400x1024_S16400x2x1024_1_0_2 := by
  simp only [entryContents, afterL_cons, afterL_nil]
  after_reads_simp
  rfl

theorem entry1 : entryContents preI m c (Proc.devRef .tc main_v81_1) = transpose S16400x2x1024 [1, 0, 2] (coBM m c) transposes_S2x16400x1024_S16400x2x1024_1_0_2 := by
  simp only [entryContents, afterL_cons, afterL_nil]
  after_reads_simp
  rfl

theorem entry3 (bt : Fin 2) (d : Fin 1024) : entryContents preI m c (Proc.devRef .tc main_v81_3) (ix2 bt d) = (0 : EReal) := by
  have h : entryContents preI m c (Proc.devRef .tc main_v81_3) = broadcastInDim S2x1024 ![] bcast_S_S2x1024 (constant (F := Ideal) S_ .f32 0x00000000#32) := by
    simp only [entryContents, afterL_cons, afterL_nil]
    after_reads_simp
    rfl
  rw [h]
  pointwise []

/-! ## The parts at an index -/

/-- The arguments. -/
def par : Par where
  X := fun R d => m ((c.tc : Thread nD τ).loc main_arg0) (ix2 ⟨R % 33280, Nat.mod_lt _ (by decide)⟩ d)
  cw := fun k d => m ((c.tc : Thread nD τ).loc main_arg1) (ix2 k d)
  cb := fun d => m ((c.tc : Thread nD τ).loc main_arg2) (ix1 d)
  Wr := fun g k j => m ((c.tc : Thread nD τ).loc main_arg3) (ix3 g k j)
  Wi := fun g k j => m ((c.tc : Thread nD τ).loc main_arg4) (ix3 g k j)
  br := fun d => m ((c.tc : Thread nD τ).loc main_arg5) (ix1 d)
  bi := fun d => m ((c.tc : Thread nD τ).loc main_arg6) (ix1 d)
  l := fun d => m ((c.tc : Thread nD τ).loc main_arg7) (ix1 d)

theorem X_of (n : ℕ) (R : Fin 33280) (h : R.val = n) (d : Fin 1024) : m ((c.tc : Thread nD τ).loc main_arg0) (ix2 R d) = (par m c).X n d := by
  subst h
  unfold par
  simp only [Nat.mod_eq_of_lt R.isLt]

theorem xs_val (bt : Fin 2) (t : Fin 16400) (d : Fin 1024) :
    xs (m ((c.tc : Thread nD τ).loc main_arg0)) (ix3 bt t d) = if t.val < 16 then (par m c).X (16640 * bt.val + 16384 + t.val) d else (par m c).X (16640 * bt.val + (t.val - 16)) d := by
  pointwise [xs]
  split
  · exact X_of m c _ _ (by dsimp only; omega) d
  · exact X_of m c _ _ (by dsimp only; omega) d

theorem padded_val (bt : Fin 2) (t : Fin 16403) (d : Fin 1024) : padded (m ((c.tc : Thread nD τ).loc main_arg0)) (ix3 bt t d) = (par m c).pd bt.val d t.val := by
  have ht := t.isLt
  have e : padded (m ((c.tc : Thread nD τ).loc main_arg0)) (ix3 bt t d)
      = if h : 2 ≤ t.val ∧ t.val - 2 < 16400 then xs (m ((c.tc : Thread nD τ).loc main_arg0)) (ix3 bt ⟨t.val - 2, h.2⟩ d) else (0 : EReal) := by
    pointwise [padded]
    rw [show (FloatOps.sitofp (F := Ideal) (w := 32) .f32 0#32 : EReal) = 0 by simp [FloatOps.sitofp]]
  rw [e]
  unfold Par.pd
  split
  · rename_i h
    rw [xs_val, if_neg (show ¬ t.val < 2 by omega)]
    dsimp only
    by_cases h18 : t.val < 18
    · rw [if_pos (show t.val - 2 < 16 by omega), if_pos h18]
    · rw [if_neg (show ¬ t.val - 2 < 16 by omega), if_neg h18, if_pos (show t.val < 16402 by omega), Nat.sub_sub]
  · rename_i h
    by_cases h2 : t.val < 2
    · rw [if_pos h2]
    · rw [if_neg h2, if_neg (show ¬ t.val < 18 by omega), if_neg (show ¬ t.val < 16402 by omega)]

theorem xcv_val (x : FVec Ideal S33280x1024 .f32) (cw : FVec Ideal S4x1024 .f32) (v : FVec Ideal S1024 .f32) (bt : Fin 2) (t : Fin 16400) (d : Fin 1024) :
    xcv x cw v (ix3 bt t d) = v (ix1 d)
      + (padded x (ix3 bt ⟨t.val, by omega⟩ d) * cw (ix2 0 d) + padded x (ix3 bt ⟨1 + t.val, by omega⟩ d) * cw (ix2 1 d)
        + padded x (ix3 bt ⟨2 + t.val, by omega⟩ d) * cw (ix2 2 d) + padded x (ix3 bt ⟨3 + t.val, by omega⟩ d) * cw (ix2 3 d)) := by
  pointwise [xcv, bcv, num]

theorem xc_val (bt : Fin 2) (t : Fin 16400) (d : Fin 1024) : xcM m c (ix3 bt t d) = (par m c).xc bt.val t.val d := by
  unfold xcM
  rw [xcv_val]
  simp only [padded_val]
  rw [Nat.add_comm 1, Nat.add_comm 2, Nat.add_comm 3]
  unfold Par.xc
  simp only [add_assoc]
  rfl

theorem prod_val (w : FVec Ideal S4x256x256 .f32) (bt : Fin 2) (t : Fin 16400) (d : Fin 1024) :
    prod w (xcM m c) (ix3 bt t d) = Scan.dots ((par m c).xc bt.val t.val) (fun g k j => w (ix3 g k j)) d := by
  have e : prod w (xcM m c) (ix3 bt t d) = ∑ x : Fin 256, w (ix3 ⟨d.val / 256, by omega⟩ x ⟨d.val % 256, by omega⟩) * xcM m c (ix3 bt t ⟨d.val / 256 * 256 + x.val, by omega⟩) := by
    pointwise [prod]
  rw [e]
  unfold Scan.dots
  refine Finset.sum_congr rfl fun k _ => ?_
  rw [xc_val, mul_comm]
  congr 2
  exact Fin.ext (by dsimp only; omega)

theorem gate_val (p : FVec Ideal S2x16400x1024 .f32) (v : FVec Ideal S1024 .f32) (bt : Fin 2) (t : Fin 16400) (d : Fin 1024) :
    gate p v (ix3 bt t d) = Ideal.logistic (p (ix3 bt t d) + v (ix1 d)) := by
  unfold Ideal.logistic
  pointwise [gate, num, bcv]

theorem soft_val (v : FVec Ideal S1024 .f32) (d : Fin 1024) : soft v (ix1 d) = Scan.sp (v (ix1 d)) := by
  unfold Scan.sp
  pointwise [soft]
  simp only [ne_eq, not_true_eq_false, if_false]
  rfl

theorem eight : Ideal.ofBits FTy.f32 3238002688#32 = ((-8 : ℝ) : EReal) := by
  simp [Ideal.ofBits, Ideal.ieee]
  norm_num
  rw [← EReal.coe_mul]
  norm_num

theorem two : Ideal.ofBits FTy.f32 1073741824#32 = (2 : EReal) := by
  simp [Ideal.ofBits, Ideal.ieee]
  norm_num
  rw [← EReal.coe_mul]
  norm_num
  rfl

theorem log_val (bt : Fin 2) (t : Fin 16400) (d : Fin 1024) :
    Ideal.exp (logM m c (ix3 bt t d)) = (par m c).a bt.val t.val d := by
  have e : logM m c (ix3 bt t d) = Ideal.ofBits FTy.f32 3238002688#32
      * gate (prod (m ((c.tc : Thread nD τ).loc main_arg3)) (xcM m c)) (m ((c.tc : Thread nD τ).loc main_arg5)) (ix3 bt t d)
      * soft (m ((c.tc : Thread nD τ).loc main_arg7)) (ix1 d) := by
    unfold logM
    pointwise [logA, num, bcv]
  rw [e, eight, gate_val, prod_val, soft_val, ← Scan.a_form]
  rfl

theorem coA_val (bt : Fin 2) (t : Fin 16400) (d : Fin 1024) : coA (logM m c) (ix3 bt t d) = (par m c).a bt.val t.val d :=
  log_val m c bt t d

theorem coB_val (bt : Fin 2) (t : Fin 16400) (d : Fin 1024) : coBM m c (ix3 bt t d) = (par m c).b bt.val t.val d := by
  have e : coBM m c (ix3 bt t d) = Ideal.sqrt (-(Ideal.exp (Ideal.ofBits FTy.f32 1073741824#32 * logM m c (ix3 bt t d)) - 1))
      * gate (prod (m ((c.tc : Thread nD τ).loc main_arg4)) (xcM m c)) (m ((c.tc : Thread nD τ).loc main_arg6)) (ix3 bt t d) * xcM m c (ix3 bt t d) := by
    unfold coBM
    pointwise [coB, num]
  rw [e, two, Scan.exp_two, log_val, gate_val, prod_val, xc_val, Scan.neg_sub_one]
  rfl

theorem tr_val (p : FVec Ideal S2x16400x1024 .f32) (bt : Fin 2) (t : Fin 16400) (d : Fin 1024) :
    transpose S16400x2x1024 [1, 0, 2] p transposes_S2x16400x1024_S16400x2x1024_1_0_2 (ix3 t bt d) = p (ix3 bt t d) := by
  pointwise []

end

end Cert.Proof.ScanRef

end
-- ==== Proof.ScanLoop.lean ====
/-
  `Reference6Ideal`'s loop: after `k` trips the first `k` states are stored, and the carry is the `k`-th.
-/
module

public import proofs.«01_k».proof.Proof.ScanReference

@[expose] public section

set_option maxRecDepth 16384

noncomputable section

namespace Cert.Proof.ScanRef

open Cert.Reference6Ideal Cert.Reference6Ideal.Gen Cert.Reference6Ideal.Value
open Cert.Proof.Scan (Par)
open Idealize.ShloMosaic Idealize.ShloMosaic.TcCoe Idealize.ShloMosaic.Tactic
open Idealize.ShloMosaic.StableHlo

variable (m : (ℓ : Loc nD τ sig) → Buf (Elt Ideal) ℓ) (c : Dev nD)

abbrev stAt (k : ℕ) : Valuation τ sig (Elt Ideal) := STEP^[k] (entryContents preI m c)

theorem st_succ (k : ℕ) : stAt m c (k + 1) = STEP (stAt m c k) := Function.iterate_succ_apply' _ _ _

theorem st_ctr : ∀ k, stAt m c k (Proc.devRef .tc main_v81_2) = fun _ => Scf.iv 0#32 1#32 k
  | 0 => by rw [show stAt m c 0 = entryContents preI m c from rfl, ctr_entry, Scf.iv_zero]
  | k + 1 => by
    rw [st_succ, STEP_main_v81_2]
    unfold step_main_v81_2
    rw [st_ctr k, Scf.iv_succ]
    rfl

theorem st_0 : ∀ k, stAt m c k (Proc.devRef .tc main_v81_0) = entryContents preI m c (Proc.devRef .tc main_v81_0)
  | 0 => rfl
  | k + 1 => by rw [st_succ, STEP_main_v81_0, st_0 k]

theorem st_1 : ∀ k, stAt m c k (Proc.devRef .tc main_v81_1) = entryContents preI m c (Proc.devRef .tc main_v81_1)
  | 0 => rfl
  | k + 1 => by rw [st_succ, STEP_main_v81_1, st_1 k]

/-- The start of a trip's row, as the loop computes it. -/
abbrev at3 (u : (⟨S_, .i32⟩ : BufTy).Contents (Elt Ideal)) : Fin 3 → ℤ :=
  fun k => (((![u, constantI S_ 32 0#32, constantI S_ 32 0#32] : Fin 3 → (⟨S_, .i32⟩ : BufTy).Contents (Elt Ideal))) k (Shape.Idx.first h_S_)).toInt

theorem iv_toInt (k : ℕ) (hk : k < 16400) : (Scf.iv 0#32 1#32 k : BitVec 32).toInt = (k : ℤ) := by
  have e : (Scf.iv 0#32 1#32 k : BitVec 32) = BitVec.ofNat 32 k := by simp [Scf.iv]
  rw [e, BitVec.toInt_eq_toNat_cond, BitVec.toNat_ofNat, Nat.mod_eq_of_lt (by omega), if_pos (by omega)]

theorem clamp0 (s : Fin 3 → ℤ) (k : Fin 16400) (h0 : s 0 = (k.val : ℤ)) : Host.clampedStart S16400x2x1024 S1x2x1024 rfl s 0 = k.val :=
  Host.clampedStart_of_le (s := S16400x2x1024) (t := S1x2x1024) rfl s 0 k.val h0 (Nat.succ_le_of_lt k.isLt)

theorem clamp1 (s : Fin 3 → ℤ) (h1 : s 1 = 0) : Host.clampedStart S16400x2x1024 S1x2x1024 rfl s 1 = 0 :=
  Host.clampedStart_of_le (s := S16400x2x1024) (t := S1x2x1024) rfl s 1 0 h1 (by decide)

theorem clamp2 (s : Fin 3 → ℤ) (h2 : s 2 = 0) : Host.clampedStart S16400x2x1024 S1x2x1024 rfl s 2 = 0 :=
  Host.clampedStart_of_le (s := S16400x2x1024) (t := S1x2x1024) rfl s 2 0 h2 (by decide)

theorem slice_val (p : FVec Ideal S16400x2x1024 .f32) (s : Fin 3 → ℤ) (k : Fin 16400) (h0 : s 0 = (k.val : ℤ)) (h1 : s 1 = 0) (h2 : s 2 = 0) (bt : Fin 2) (d : Fin 1024) :
    shapeCast S2x1024 (Host.dynamicSlice S1x2x1024 p s sliceFits_S16400x2x1024_S1x2x1024) shapeCasts_S1x2x1024_S2x1024 (ix2 bt d) = p (ix3 k bt d) := by
  have e0 := clamp0 s k h0
  have e1 := clamp1 s h1
  have e2 := clamp2 s h2
  pointwise []
  simp only [e0, e1, e2, Nat.zero_add]

theorem update_val (p : FVec Ideal S16400x2x1024 .f32) (q : FVec Ideal S2x1024 .f32) (s : Fin 3 → ℤ) (k r : Fin 16400) (h0 : s 0 = (k.val : ℤ)) (h1 : s 1 = 0) (h2 : s 2 = 0) (bt : Fin 2) (d : Fin 1024) :
    Host.dynamicUpdateSlice p (broadcastInDim S1x2x1024 ![1, 2] bcast_S2x1024_S1x2x1024_1_2 q) s updateFits_S16400x2x1024_S1x2x1024 (ix3 r bt d) = if r = k then q (ix2 bt d) else p (ix3 r bt d) := by
  have e0 := clamp0 s k h0
  have e1 := clamp1 s h1
  have e2 := clamp2 s h2
  pointwise []
  simp only [e0, e1, e2, Nat.zero_add, Nat.sub_zero]
  by_cases h : r = k
  · subst h
    rw [dif_pos ⟨⟨le_refl _, by omega⟩, ⟨Nat.zero_le _, bt.isLt⟩, Nat.zero_le _, d.isLt⟩, if_pos rfl]
  · rw [dif_neg (fun h' => h (Fin.ext (by omega))), if_neg h]

/-- A trip's new row. -/
theorem new_val (k : Fin 16400) (bt : Fin 2) (d : Fin 1024) :
    res_main_while0b_v86 (stAt m c k.val) (ix2 bt d)
      = (par m c).a bt.val k.val d * (stAt m c k.val (Proc.devRef .tc main_v81_3) : FVec Ideal S2x1024 .f32) (ix2 bt d) + (par m c).b bt.val k.val d := by
  have hs : (stAt m c k.val (Proc.devRef .tc main_v81_2)) = fun _ => Scf.iv 0#32 1#32 k.val := st_ctr m c k.val
  unfold res_main_while0b_v86
  rw [st_0, st_1, entry0, entry1, hs]
  have h := fun (p : FVec Ideal S16400x2x1024 .f32) => slice_val p (at3 (fun _ => Scf.iv 0#32 1#32 k.val)) k (iv_toInt k.val k.isLt) rfl rfl bt d
  refine (congrArg₂ (· + ·) (congrArg (· * _) ((h _).trans ?_)) ((h _).trans ?_))
  · rw [tr_val, coA_val]
  · rw [tr_val, coB_val]

theorem st_3 : ∀ (k : ℕ) (_ : k ≤ 16400) (bt : Fin 2) (d : Fin 1024), (stAt m c k (Proc.devRef .tc main_v81_3) : FVec Ideal S2x1024 .f32) (ix2 bt d) = (par m c).H bt.val k d
  | 0, _, bt, d => entry3 m c bt d
  | k + 1, hk, bt, d => by
    rw [st_succ, STEP_main_v81_3]
    exact (new_val m c ⟨k, hk⟩ bt d).trans (by rw [st_3 k (by omega) bt d]; rfl)

theorem st_4 : ∀ (k : ℕ) (_ : k ≤ 16400) (r : Fin 16400) (_ : r.val < k) (bt : Fin 2) (d : Fin 1024),
    (stAt m c k (Proc.devRef .tc main_v81_4) : FVec Ideal S16400x2x1024 .f32) (ix3 r bt d) = (par m c).H bt.val (r.val + 1) d
  | 0, _, r, hr, bt, d => absurd hr (Nat.not_lt_zero _)
  | k + 1, hk, r, hr, bt, d => by
    rw [st_succ, STEP_main_v81_4]
    unfold step_main_v81_4
    rw [st_ctr]
    refine (update_val _ _ (at3 (fun _ => Scf.iv 0#32 1#32 k)) ⟨k, hk⟩ r (iv_toInt k hk) rfl rfl bt d).trans ?_
    by_cases h : r = ⟨k, hk⟩
    · rw [if_pos h]
      subst h
      exact (new_val m c ⟨k, hk⟩ bt d).trans (by rw [st_3 m c k (by omega) bt d]; rfl)
    · rw [if_neg h]
      exact st_4 k (by omega) r (by have : r.val ≠ k := fun e => h (Fin.ext e); omega) bt d

/-- The reference's result: the states after each token. -/
theorem out_val (bt : Fin 2) (t : Fin 16400) (d : Fin 1024) :
    (out_main_v82 (STEP^[16400] (entryContents preI m c)) : FVec Ideal S2x16400x1024 .f32) (ix3 bt t d) = (par m c).H bt.val (t.val + 1) d := by
  have e : ∀ p : FVec Ideal S16400x2x1024 .f32, transpose S2x16400x1024 [1, 0, 2] p transposes_S16400x2x1024_S2x16400x1024_1_0_2 (ix3 bt t d) = p (ix3 t bt d) := by
    intro p
    pointwise []
  unfold out_main_v82
  exact (e _).trans (st_4 m c 16400 (le_refl _) t t.isLt bt d)

end Cert.Proof.ScanRef

end
-- ==== Proof.ScanTokens.lean ====
/-
  The scan's result at an index, on both sides, and that the two are equal.
-/
module

public import proofs.«01_k».proof.Proof.ScanAgree
public import proofs.«01_k».proof.Proof.ScanLoop

@[expose] public section

set_option maxRecDepth 16384

noncomputable section

namespace Cert.Proof.Scan

open Cert.Kernel6Ideal Cert.Kernel6Ideal.Gen
open Idealize.ShloMosaic Idealize.ShloMosaic.TcCoe Idealize.ShloMosaic.Tactic

variable (m : (ℓ : Loc nD τ sig) → Buf (Elt Ideal) ℓ) (c : Dev nD)

/-- The tokens of an array of tiles. -/
def tokens (p : FVec Ideal S33280x1024 .f32) : FVec Ideal S2x16400x1024 .f32 :=
  concatenate S2x16400x1024 1
    [⟨S2x16x1024, extractStridedSlice S2x16x1024 ![0, 16384, 0] (shapeCast S2x16640x1024 p shapeCasts_S33280x1024_S2x16640x1024) slices_S2x16640x1024_S2x16x1024_0_16384_0⟩,
      ⟨S2x16384x1024, extractStridedSlice S2x16384x1024 ![0, 0, 0] (shapeCast S2x16640x1024 p shapeCasts_S33280x1024_S2x16640x1024) slices_S2x16640x1024_S2x16384x1024_0_0_0⟩]
    concatenates_S2x16x1024_S2x16384x1024_S2x16400x1024_d1

theorem tokens_val (p : FVec Ideal S33280x1024 .f32) (bt : Fin 2) (t : Fin 16400) (d : Fin 1024) :
    tokens p (ix3 bt t d) = if h : t.val < 16 then p (ix2 ⟨bt.val * 16640 + (16384 + t.val), by omega⟩ d) else p (ix2 ⟨bt.val * 16640 + (t.val - 16), by omega⟩ d) := by
  pointwise [tokens]

theorem arr6_val (R : Fin 33280) (d : Fin 1024) (bt u : ℕ) (hb : R.val / 16640 = bt)
    (hu : (R.val % 16640 / 256 = 64 ∧ R.val % 256 < 16 ∧ u = R.val % 256 + 1) ∨ (R.val % 16640 / 256 ≠ 64 ∧ u = 16 + R.val % 16640 + 1)) :
    arr6 m c (ix2 R d) = (par m c).H bt u d := by
  have hR := R.isLt
  have e : arr6 m c (ix2 R d) = oblk m c (tn (65 * (R.val / 16640) + (R.val / 256 % 65 + 1) % 65))
      (ix2 ⟨R.val % 256, Nat.mod_lt _ (by decide)⟩ ⟨d.val % 1024, Nat.mod_lt _ (by decide)⟩) := rfl
  have ed : (⟨d.val % 1024, Nat.mod_lt _ (by decide)⟩ : Fin 1024) = d := Fin.ext (Nat.mod_eq_of_lt d.isLt)
  rw [e, ed]
  refine oblk_eq m c _ (by omega) _ d bt u (by omega) ?_
  dsimp only
  omega

theorem result_val (bt : Fin 2) (s : Fin 16400) (d : Fin 1024) : result m c (ix3 bt s d) = (par m c).H bt.val (s.val + 1) d := by
  have hb := bt.isLt
  have hs := s.isLt
  refine (tokens_val (arr6 m c) bt s d).trans ?_
  split
  · exact arr6_val m c _ d _ _ (by dsimp only; omega) (by dsimp only; omega)
  · exact arr6_val m c _ d _ _ (by dsimp only; omega) (by dsimp only; omega)

end Cert.Proof.Scan

namespace Cert.Proof.ScanRef

open Idealize.ShloMosaic Idealize.ShloMosaic.TcCoe Idealize.ShloMosaic.Tactic Idealize.ShloMosaic.StableHlo

/-- The two results, from equal arguments. -/
theorem results_eq (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD)
    (h0 : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0))
    (h1 : m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1))
    (h2 : m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2))
    (h3 : m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3))
    (h4 : m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4))
    (h5 : m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5))
    (h6 : m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6))
    (h7 : m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) :
    Cert.Reference6Ideal.Value.out_main_v82 (F := Ideal) (Cert.Reference6Ideal.Value.STEP^[16400] (entryContents Cert.Reference6Ideal.Value.preI m' c)) = Scan.result m c := by
  have hp : par m' c = Scan.par m c := by
    unfold par Scan.par
    rw [h0, h1, h2, h3, h4, h5, h6, h7]
  funext y
  obtain ⟨bt, s, d, rfl⟩ : ∃ (bt : Fin 2) (s : Fin 16400) (d : Fin 1024), y = ix3 bt s d := ⟨y 0, y 1, y 2, by funext k; fin_cases k <;> rfl⟩
  exact (out_val m' c bt s d).trans ((congrArg (fun P => Scan.Par.H P bt.val (s.val + 1) d) hp).trans (Scan.result_val m c bt s d).symm)

end Cert.Proof.ScanRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.KernelFrame
public import proofs.«01_k».proof.Proof.Algebraic
public import proofs.«01_k».proof.Proof.FfnReference
public import proofs.«01_k».proof.Proof.ProjReference
public import proofs.«01_k».proof.Proof.RecInReference
public import proofs.«01_k».proof.Proof.QkvReference
public import proofs.«01_k».proof.Proof.Gen.Kernel6
public import proofs.«01_k».proof.Proof.Gen.Kernel6.Skeleton
public import proofs.«01_k».proof.Proof.Gen.Kernel6.Loops
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.ScanFrame
public import proofs.«01_k».proof.Proof.ScanTokens
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run, with its counters: it has none. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩) (Cert.ReferenceIdeal.Value.run m g)

/-- The half step's reference, likewise. -/
theorem reference2_run (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run _ _ _).mono (fun r h => ⟨fun c => (h c).2, sem_eq_zero_of_no_sems (by decide) r.2⟩) (Cert.Reference2Ideal.Value.run m g)

/-- The projection's and half step's reference, likewise. -/
theorem reference3_run (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0) :=
  (θ_run _ _ _).mono (fun r h => ⟨fun c => (h c).2, sem_eq_zero_of_no_sems (by decide) r.2⟩) (Cert.Reference3Ideal.Value.run m g)

/-- The recurrent input's reference, likewise. -/
theorem reference4_run (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0) :=
  (θ_run _ _ _).mono (fun r h => ⟨fun c => (h c).2.2, sem_eq_zero_of_no_sems (by decide) r.2⟩) (Cert.Reference4Ideal.Value.run m g)

/-- The attention input's reference, likewise. -/
theorem reference5_run (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0) :=
  (θ_run _ _ _).mono (fun r h => ⟨fun c => (h c).2.2.2, sem_eq_zero_of_no_sems (by decide) r.2⟩) (Cert.Reference5Ideal.Value.run m g)

/-- The scan's reference, likewise. -/
theorem reference6_run (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0) :=
  (θ_run _ _ _).mono (fun r h => ⟨fun c => (h c).2, sem_eq_zero_of_no_sems (by decide) r.2⟩) (Cert.Reference6Ideal.Value.run m g)

theorem claim : Cert.Claim := by
  refine ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, pre_facts, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m g _ => Bits.quiescent m g
  · exact fun m g _ => (θ_run _ _ _).mono (fun r h => ⟨fun c => (h.1 c).2, h.2⟩) (Attn.run_main m g)
  · exact fun m g _ => (θ_run _ _ _).mono (fun r h => ⟨fun c => (h.1 c).2, h.2⟩) (Attn.run_main m g)
  · exact fun m g _ => reference_run m g
  · exact fun m g _ => reference_run m g
  · exact fun m g _ => Cert.Kernel2.Gen.frame m g
  · exact fun m g _ => Cert.Kernel2Ideal.Gen.frame m g
  · exact fun m g _ => reference2_run m g
  · exact fun m g _ => Cert.Kernel3.Gen.frame m g
  · exact fun m g _ => Cert.Kernel3Ideal.Gen.frame m g
  · exact fun m g _ => reference3_run m g
  · exact fun m g _ => Cert.Kernel4.Gen.frame m g
  · exact fun m g _ => Cert.Kernel4Ideal.Gen.frame m g
  · exact fun m g _ => reference4_run m g
  · exact fun m g _ => Cert.Kernel5.Gen.frame m g
  · exact fun m g _ => Cert.Kernel5Ideal.Gen.frame m g
  · exact fun m g _ => reference5_run m g
  · exact fun m g _ => ScanBits.quiescent m g
  · exact fun m g _ => (θ_run _ _ _).mono (fun r h => ⟨fun c => (h.1 c).2, h.2⟩) (Scan.run_main m g)
  · exact fun m g _ => reference6_run m g
  · exact IdealRules.named_const.statement _ _ _ _ _ rfl
  · intro m g m' g' hpre hag
    refine ⟨fun c => Attn.result m c, (θ_run _ _ _).mono (fun r h => h.1) (Attn.run_main m g), ?_⟩
    refine (θ_run _ _ _).mono (fun r h c => ⟨(h c).1.trans ?_, (h c).2⟩) (Cert.ReferenceIdeal.Value.run m' g')
    exact results_eq m m' pre_facts hpre c (hag c).1 (hag c).2.1 (hag c).2.2
  · trivial
  · intro m g m' g' hpre hag
    refine ⟨fun c => Ffn.result m c, (θ_run _ _ _).mono (fun r h c => ⟨(h c).1.trans (Ffn.arr_out m c), (h c).2⟩) (Cert.Kernel2Ideal.Value.run_blocks m g), ?_⟩
    refine (θ_run _ _ _).mono (fun r h c => ⟨(h c).1.trans ?_, (h c).2⟩) (Cert.Reference2Ideal.Value.run m' g')
    obtain ⟨h0, h1, h2, h3, h4⟩ := hag c
    exact FfnRef.results_eq m m' c h0 h1 h2 h3 h4
  · trivial
  · intro m g m' g' hpre hag
    refine ⟨fun c => ProjFfn.result m c, (θ_run _ _ _).mono (fun r h c => ⟨(h c).1.trans (ProjFfn.arr_out m c), (h c).2⟩) (Cert.Kernel3Ideal.Value.run_blocks m g), ?_⟩
    refine (θ_run _ _ _).mono (fun r h c => ⟨(h c).1.trans ?_, (h c).2⟩) (Cert.Reference3Ideal.Value.run m' g')
    obtain ⟨h0, h1, h2, h3, h4, h5, h6, h7⟩ := hag c
    exact ProjRef.results_eq m m' c h0 h1 h2 h3 h4 h5 h6 h7
  · trivial
  · intro m g m' g' hpre hag
    refine ⟨fun c => RecIn.gates m c, fun c => RecIn.branches m c,
      (θ_run _ _ _).mono (fun r h c => ⟨(h c).1.trans (RecIn.arr_gate m c), (h c).2.1.trans (RecIn.arr_branch m c), (h c).2.2⟩) (Cert.Kernel4Ideal.Value.run_blocks m g), ?_⟩
    refine (θ_run _ _ _).mono (fun r h c => ?_) (Cert.Reference4Ideal.Value.run m' g')
    obtain ⟨h0, h1, h2⟩ := hag c
    exact ⟨(h c).1.trans (RecInRef.gates_agree m m' c h0 h1 h2), (h c).2.1.trans (RecInRef.branches_agree m m' c h0 h1 h2), (h c).2.2⟩
  · trivial
  · intro m g m' g' hpre hag
    refine ⟨fun c => Qkv.queries m c, fun c => Qkv.keys m c, fun c => Qkv.values m c,
      (θ_run _ _ _).mono (fun r h c => ⟨(h c).1.trans (Qkv.arr_queries m c), (h c).2.1.trans (Qkv.arr_keys m c), (h c).2.2.1.trans (Qkv.arr_values m c), (h c).2.2.2⟩)
        (Cert.Kernel5Ideal.Value.run_blocks m g), ?_⟩
    refine (θ_run _ _ _).mono (fun r h c => ?_) (Cert.Reference5Ideal.Value.run m' g')
    obtain ⟨h0, h1, h2, h3, h4, h5, h6⟩ := hag c
    exact ⟨(h c).1.trans (QkvRef.queries_agree m m' c h0 h1 h2 h3 h5 h6), (h c).2.1.trans (QkvRef.keys_agree m m' c h0 h1 h2 h4 h5 h6),
      (h c).2.2.1.trans (QkvRef.values_agree m m' c h0 h1 h2), (h c).2.2.2⟩
  · exact IdealRules.named_const.statement _ _ _ _ _ rfl
  · intro m g m' g' hpre hag
    refine ⟨fun c => Scan.result m c, (θ_run _ _ _).mono (fun r h => h.1) (Scan.run_main m g), ?_⟩
    refine (θ_run _ _ _).mono (fun r h c => ⟨(h c).1.trans ?_, (h c).2⟩) (Cert.Reference6Ideal.Value.run m' g')
    obtain ⟨h0, h1, h2, h3, h4, h5, h6, h7⟩ := hag c
    exact ScanRef.results_eq m m' c h0 h1 h2 h3 h4 h5 h6 h7

end Cert.Proof

end
